-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx0 (m : (ℓ : Loc Cert.DownDx0.nD Cert.DownDx0.τ Cert.DownDx0.sig) → Buf (Elt Bits) ℓ) : Prop :=
  True

def Pre_DownDx0Ideal (m : (ℓ : Loc Cert.DownDx0Ideal.nD Cert.DownDx0Ideal.τ Cert.DownDx0Ideal.sig) → Buf (Elt Ideal) ℓ) : Prop :=
  True

def Pre_DownDx0RefIdeal (m : (ℓ : Loc Cert.DownDx0RefIdeal.nD Cert.DownDx0RefIdeal.τ Cert.DownDx0RefIdeal.sig) → Buf (Elt Ideal) ℓ) : Prop :=
  True

def Pre_UpDx0 (m : (ℓ : Loc Cert.UpDx0.nD Cert.UpDx0.τ Cert.UpDx0.sig) → Buf (Elt Bits) ℓ) : Prop :=
  True

def Pre_UpDx0Ideal (m : (ℓ : Loc Cert.UpDx0Ideal.nD Cert.UpDx0Ideal.τ Cert.UpDx0Ideal.sig) → Buf (Elt Ideal) ℓ) : Prop :=
  True

def Pre_UpDx0RefIdeal (m : (ℓ : Loc Cert.UpDx0RefIdeal.nD Cert.UpDx0RefIdeal.τ Cert.UpDx0RefIdeal.sig) → Buf (Elt Ideal) ℓ) : Prop :=
  True

def Pre_MlpUp0 (m : (ℓ : Loc Cert.MlpUp0.nD Cert.MlpUp0.τ Cert.MlpUp0.sig) → Buf (Elt Bits) ℓ) : Prop :=
  True

def Pre_MlpUp0Ideal (m : (ℓ : Loc Cert.MlpUp0Ideal.nD Cert.MlpUp0Ideal.τ Cert.MlpUp0Ideal.sig) → Buf (Elt Ideal) ℓ) : Prop :=
  True

def Pre_MlpUp0RefIdeal (m : (ℓ : Loc Cert.MlpUp0RefIdeal.nD Cert.MlpUp0RefIdeal.τ Cert.MlpUp0RefIdeal.sig) → Buf (Elt Ideal) ℓ) : Prop :=
  True

def Pre_MlpUp1 (m : (ℓ : Loc Cert.MlpUp1.nD Cert.MlpUp1.τ Cert.MlpUp1.sig) → Buf (Elt Bits) ℓ) : Prop :=
  True

def Pre_MlpUp1Ideal (m : (ℓ : Loc Cert.MlpUp1Ideal.nD Cert.MlpUp1Ideal.τ Cert.MlpUp1Ideal.sig) → Buf (Elt Ideal) ℓ) : Prop :=
  True

def Pre_MlpUp1RefIdeal (m : (ℓ : Loc Cert.MlpUp1RefIdeal.nD Cert.MlpUp1RefIdeal.τ Cert.MlpUp1RefIdeal.sig) → Buf (Elt Ideal) ℓ) : Prop :=
  True

def Pre_MlpDown0 (m : (ℓ : Loc Cert.MlpDown0.nD Cert.MlpDown0.τ Cert.MlpDown0.sig) → Buf (Elt Bits) ℓ) : Prop :=
  True

def Pre_MlpDown0Ideal (m : (ℓ : Loc Cert.MlpDown0Ideal.nD Cert.MlpDown0Ideal.τ Cert.MlpDown0Ideal.sig) → Buf (Elt Ideal) ℓ) : Prop :=
  True

def Pre_MlpDown0RefIdeal (m : (ℓ : Loc Cert.MlpDown0RefIdeal.nD Cert.MlpDown0RefIdeal.τ Cert.MlpDown0RefIdeal.sig) → Buf (Elt Ideal) ℓ) : Prop :=
  True

def Pre_MlpDown1 (m : (ℓ : Loc Cert.MlpDown1.nD Cert.MlpDown1.τ Cert.MlpDown1.sig) → Buf (Elt Bits) ℓ) : Prop :=
  True

def Pre_MlpDown1Ideal (m : (ℓ : Loc Cert.MlpDown1Ideal.nD Cert.MlpDown1Ideal.τ Cert.MlpDown1Ideal.sig) → Buf (Elt Ideal) ℓ) : Prop :=
  True

def Pre_MlpDown1RefIdeal (m : (ℓ : Loc Cert.MlpDown1RefIdeal.nD Cert.MlpDown1RefIdeal.τ Cert.MlpDown1RefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvInDx (m : (ℓ : Loc Cert.ConvInDx.nD Cert.ConvInDx.τ Cert.ConvInDx.sig) → Buf (Elt Bits) ℓ) : Prop :=
  True

def Pre_ConvInDxIdeal (m : (ℓ : Loc Cert.ConvInDxIdeal.nD Cert.ConvInDxIdeal.τ Cert.ConvInDxIdeal.sig) → Buf (Elt Ideal) ℓ) : Prop :=
  True

def Pre_ConvInDxRefIdeal (m : (ℓ : Loc Cert.ConvInDxRefIdeal.nD Cert.ConvInDxRefIdeal.τ Cert.ConvInDxRefIdeal.sig) → Buf (Elt Ideal) ℓ) : Prop :=
  True

def Pre_ConvInDw (m : (ℓ : Loc Cert.ConvInDw.nD Cert.ConvInDw.τ Cert.ConvInDw.sig) → Buf (Elt Bits) ℓ) : Prop :=
  True

def Pre_ConvInDwIdeal (m : (ℓ : Loc Cert.ConvInDwIdeal.nD Cert.ConvInDwIdeal.τ Cert.ConvInDwIdeal.sig) → Buf (Elt Ideal) ℓ) : Prop :=
  True

def Pre_ConvInDwRefIdeal (m : (ℓ : Loc Cert.ConvInDwRefIdeal.nD Cert.ConvInDwRefIdeal.τ Cert.ConvInDwRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatRefIdeal (m : (ℓ : Loc Cert.LatRefIdeal.nD Cert.LatRefIdeal.τ Cert.LatRefIdeal.sig) → Buf (Elt Ideal) ℓ) : Prop :=
  True

def Pre_LatDx (m : (ℓ : Loc Cert.LatDx.nD Cert.LatDx.τ Cert.LatDx.sig) → Buf (Elt Bits) ℓ) : Prop :=
  True

def Pre_LatDxIdeal (m : (ℓ : Loc Cert.LatDxIdeal.nD Cert.LatDxIdeal.τ Cert.LatDxIdeal.sig) → Buf (Elt Ideal) ℓ) : Prop :=
  True

def Pre_LatDxRefIdeal (m : (ℓ : Loc Cert.LatDxRefIdeal.nD Cert.LatDxRefIdeal.τ Cert.LatDxRefIdeal.sig) → Buf (Elt Ideal) ℓ) : Prop :=
  True

def Pre_LatDw (m : (ℓ : Loc Cert.LatDw.nD Cert.LatDw.τ Cert.LatDw.sig) → Buf (Elt Bits) ℓ) : Prop :=
  True

def Pre_LatDwIdeal (m : (ℓ : Loc Cert.LatDwIdeal.nD Cert.LatDwIdeal.τ Cert.LatDwIdeal.sig) → Buf (Elt Ideal) ℓ) : Prop :=
  True

def Pre_LatDwRefIdeal (m : (ℓ : Loc Cert.LatDwRefIdeal.nD Cert.LatDwRefIdeal.τ Cert.LatDwRefIdeal.sig) → Buf (Elt Ideal) ℓ) : Prop :=
  True

def Pre_Bound (m : (ℓ : Loc Cert.Bound.nD Cert.Bound.τ Cert.Bound.sig) → Buf (Elt Bits) ℓ) : Prop :=
  True

def Pre_BoundIdeal (m : (ℓ : Loc Cert.BoundIdeal.nD Cert.BoundIdeal.τ Cert.BoundIdeal.sig) → Buf (Elt Ideal) ℓ) : Prop :=
  True

def Pre_BoundRefIdeal (m : (ℓ : Loc Cert.BoundRefIdeal.nD Cert.BoundRefIdeal.τ Cert.BoundRefIdeal.sig) → Buf (Elt Ideal) ℓ) : Prop :=
  True

def Pre_Bound0 (m : (ℓ : Loc Cert.Bound0.nD Cert.Bound0.τ Cert.Bound0.sig) → Buf (Elt Bits) ℓ) : Prop :=
  True

def Pre_Bound0Ideal (m : (ℓ : Loc Cert.Bound0Ideal.nD Cert.Bound0Ideal.τ Cert.Bound0Ideal.sig) → Buf (Elt Ideal) ℓ) : Prop :=
  True

def Pre_Bound0RefIdeal (m : (ℓ : Loc Cert.Bound0RefIdeal.nD Cert.Bound0RefIdeal.τ Cert.Bound0RefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Fwd0 (m : (ℓ : Loc Cert.Fwd0.nD Cert.Fwd0.τ Cert.Fwd0.sig) → Buf (Elt Bits) ℓ) : Prop :=
  True

def Pre_Fwd0Ideal (m : (ℓ : Loc Cert.Fwd0Ideal.nD Cert.Fwd0Ideal.τ Cert.Fwd0Ideal.sig) → Buf (Elt Ideal) ℓ) : Prop :=
  True

def Pre_Fwd0RefIdeal (m : (ℓ : Loc Cert.Fwd0RefIdeal.nD Cert.Fwd0RefIdeal.τ Cert.Fwd0RefIdeal.sig) → Buf (Elt Ideal) ℓ) : Prop :=
  True

def Pre_Attn [hPre_triangle : Cert.Pre_triangle.Facts] (m : (ℓ : Loc Cert.Attn.nD Cert.Attn.τ Cert.Attn.sig) → Buf (Elt Bits) ℓ) : Prop :=
  ∀ c : Dev Cert.Attn.nD,
    (Cert.Pre_triangle.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4))) = (fun _ => 1#1)

def Pre_AttnIdeal [hPre_triangle : Cert.Pre_triangle.Facts] (m : (ℓ : Loc Cert.AttnIdeal.nD Cert.AttnIdeal.τ Cert.AttnIdeal.sig) → Buf (Elt Ideal) ℓ) : Prop :=
  ∀ c : Dev Cert.AttnIdeal.nD,
    (Cert.Pre_triangle.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_MlaQ (m : (ℓ : Loc Cert.MlaQ.nD Cert.MlaQ.τ Cert.MlaQ.sig) → Buf (Elt Bits) ℓ) : Prop :=
  True

def Pre_MlaQIdeal (m : (ℓ : Loc Cert.MlaQIdeal.nD Cert.MlaQIdeal.τ Cert.MlaQIdeal.sig) → Buf (Elt Ideal) ℓ) : Prop :=
  True

def Pre_MlaQRefIdeal (m : (ℓ : Loc Cert.MlaQRefIdeal.nD Cert.MlaQRefIdeal.τ Cert.MlaQRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx0 [hDownDx0 : Cert.DownDx0.Facts] : Prop :=
  ∀ (m : (ℓ : Loc Cert.DownDx0.nD Cert.DownDx0.τ Cert.DownDx0.sig) → Buf (Elt Bits) ℓ) (g : Dev Cert.DownDx0.nD → PrngReg), Pre_DownDx0 m →
    θ_run (Cert.DownDx0.defs (F := Bits)) (onTc (τ := Cert.DownDx0.τ) (Cert.DownDx0.main (F := Bits))) ⟨m, fun _ => 0, g⟩ (fun r => (∀ c : Dev Cert.DownDx0.nD,
      r.2.mem ((c.tc : Thread Cert.DownDx0.nD Cert.DownDx0.τ).loc Cert.DownDx0.main_arg0) = m ((c.tc : Thread Cert.DownDx0.nD Cert.DownDx0.τ).loc Cert.DownDx0.main_arg0)
      ∧ r.2.mem ((c.tc : Thread Cert.DownDx0.nD Cert.DownDx0.τ).loc Cert.DownDx0.main_arg1) = m ((c.tc : Thread Cert.DownDx0.nD Cert.DownDx0.τ).loc Cert.DownDx0.main_arg1)
      ∧ r.2.mem ((c.tc : Thread Cert.DownDx0.nD Cert.DownDx0.τ).loc Cert.DownDx0.main_arg2) = m ((c.tc : Thread Cert.DownDx0.nD Cert.DownDx0.τ).loc Cert.DownDx0.main_arg2))
      ∧ r.2.sem = fun _ => 0)

def quiescent_DownDx0Ideal [hDownDx0Ideal : Cert.DownDx0Ideal.Facts] : Prop :=
  ∀ (m : (ℓ : Loc Cert.DownDx0Ideal.nD Cert.DownDx0Ideal.τ Cert.DownDx0Ideal.sig) → Buf (Elt Ideal) ℓ) (g : Dev Cert.DownDx0Ideal.nD → PrngReg), Pre_DownDx0Ideal m →
    θ_run (Cert.DownDx0Ideal.defs (F := Ideal)) (onTc (τ := Cert.DownDx0Ideal.τ) (Cert.DownDx0Ideal.main (F := Ideal))) ⟨m, fun _ => 0, g⟩ (fun r => (∀ c : Dev Cert.DownDx0Ideal.nD,
      r.2.mem ((c.tc : Thread Cert.DownDx0Ideal.nD Cert.DownDx0Ideal.τ).loc Cert.DownDx0Ideal.main_arg0) = m ((c.tc : Thread Cert.DownDx0Ideal.nD Cert.DownDx0Ideal.τ).loc Cert.DownDx0Ideal.main_arg0)
      ∧ r.2.mem ((c.tc : Thread Cert.DownDx0Ideal.nD Cert.DownDx0Ideal.τ).loc Cert.DownDx0Ideal.main_arg1) = m ((c.tc : Thread Cert.DownDx0Ideal.nD Cert.DownDx0Ideal.τ).loc Cert.DownDx0Ideal.main_arg1)
      ∧ r.2.mem ((c.tc : Thread Cert.DownDx0Ideal.nD Cert.DownDx0Ideal.τ).loc Cert.DownDx0Ideal.main_arg2) = m ((c.tc : Thread Cert.DownDx0Ideal.nD Cert.DownDx0Ideal.τ).loc Cert.DownDx0Ideal.main_arg2))
      ∧ r.2.sem = fun _ => 0)

def quiescent_DownDx0RefIdeal [hDownDx0RefIdeal : Cert.DownDx0RefIdeal.Facts] : Prop :=
  ∀ (m : (ℓ : Loc Cert.DownDx0RefIdeal.nD Cert.DownDx0RefIdeal.τ Cert.DownDx0RefIdeal.sig) → Buf (Elt Ideal) ℓ) (g : Dev Cert.DownDx0RefIdeal.nD → PrngReg), Pre_DownDx0RefIdeal m →
    θ_run (Cert.DownDx0RefIdeal.defs (F := Ideal)) (onTc (τ := Cert.DownDx0RefIdeal.τ) (Cert.DownDx0RefIdeal.main (F := Ideal))) ⟨m, fun _ => 0, g⟩ (fun r => (∀ c : Dev Cert.DownDx0RefIdeal.nD,
      r.2.mem ((c.tc : Thread Cert.DownDx0RefIdeal.nD Cert.DownDx0RefIdeal.τ).loc Cert.DownDx0RefIdeal.main_arg0) = m ((c.tc : Thread Cert.DownDx0RefIdeal.nD Cert.DownDx0RefIdeal.τ).loc Cert.DownDx0RefIdeal.main_arg0)
      ∧ r.2.mem ((c.tc : Thread Cert.DownDx0RefIdeal.nD Cert.DownDx0RefIdeal.τ).loc Cert.DownDx0RefIdeal.main_arg1) = m ((c.tc : Thread Cert.DownDx0RefIdeal.nD Cert.DownDx0RefIdeal.τ).loc Cert.DownDx0RefIdeal.main_arg1)
      ∧ r.2.mem ((c.tc : Thread Cert.DownDx0RefIdeal.nD Cert.DownDx0RefIdeal.τ).loc Cert.DownDx0RefIdeal.main_arg2) = m ((c.tc : Thread Cert.DownDx0RefIdeal.nD Cert.DownDx0RefIdeal.τ).loc Cert.DownDx0RefIdeal.main_arg2))
      ∧ r.2.sem = fun _ => 0)

def quiescent_UpDx0 [hUpDx0 : Cert.UpDx0.Facts] : Prop :=
  ∀ (m : (ℓ : Loc Cert.UpDx0.nD Cert.UpDx0.τ Cert.UpDx0.sig) → Buf (Elt Bits) ℓ) (g : Dev Cert.UpDx0.nD → PrngReg), Pre_UpDx0 m →
    θ_run (Cert.UpDx0.defs (F := Bits)) (onTc (τ := Cert.UpDx0.τ) (Cert.UpDx0.main (F := Bits))) ⟨m, fun _ => 0, g⟩ (fun r => (∀ c : Dev Cert.UpDx0.nD,
      r.2.mem ((c.tc : Thread Cert.UpDx0.nD Cert.UpDx0.τ).loc Cert.UpDx0.main_arg0) = m ((c.tc : Thread Cert.UpDx0.nD Cert.UpDx0.τ).loc Cert.UpDx0.main_arg0)
      ∧ r.2.mem ((c.tc : Thread Cert.UpDx0.nD Cert.UpDx0.τ).loc Cert.UpDx0.main_arg1) = m ((c.tc : Thread Cert.UpDx0.nD Cert.UpDx0.τ).loc Cert.UpDx0.main_arg1))
      ∧ r.2.sem = fun _ => 0)

def quiescent_UpDx0Ideal [hUpDx0Ideal : Cert.UpDx0Ideal.Facts] : Prop :=
  ∀ (m : (ℓ : Loc Cert.UpDx0Ideal.nD Cert.UpDx0Ideal.τ Cert.UpDx0Ideal.sig) → Buf (Elt Ideal) ℓ) (g : Dev Cert.UpDx0Ideal.nD → PrngReg), Pre_UpDx0Ideal m →
    θ_run (Cert.UpDx0Ideal.defs (F := Ideal)) (onTc (τ := Cert.UpDx0Ideal.τ) (Cert.UpDx0Ideal.main (F := Ideal))) ⟨m, fun _ => 0, g⟩ (fun r => (∀ c : Dev Cert.UpDx0Ideal.nD,
      r.2.mem ((c.tc : Thread Cert.UpDx0Ideal.nD Cert.UpDx0Ideal.τ).loc Cert.UpDx0Ideal.main_arg0) = m ((c.tc : Thread Cert.UpDx0Ideal.nD Cert.UpDx0Ideal.τ).loc Cert.UpDx0Ideal.main_arg0)
      ∧ r.2.mem ((c.tc : Thread Cert.UpDx0Ideal.nD Cert.UpDx0Ideal.τ).loc Cert.UpDx0Ideal.main_arg1) = m ((c.tc : Thread Cert.UpDx0Ideal.nD Cert.UpDx0Ideal.τ).loc Cert.UpDx0Ideal.main_arg1))
      ∧ r.2.sem = fun _ => 0)

def quiescent_UpDx0RefIdeal [hUpDx0RefIdeal : Cert.UpDx0RefIdeal.Facts] : Prop :=
  ∀ (m : (ℓ : Loc Cert.UpDx0RefIdeal.nD Cert.UpDx0RefIdeal.τ Cert.UpDx0RefIdeal.sig) → Buf (Elt Ideal) ℓ) (g : Dev Cert.UpDx0RefIdeal.nD → PrngReg), Pre_UpDx0RefIdeal m →
    θ_run (Cert.UpDx0RefIdeal.defs (F := Ideal)) (onTc (τ := Cert.UpDx0RefIdeal.τ) (Cert.UpDx0RefIdeal.main (F := Ideal))) ⟨m, fun _ => 0, g⟩ (fun r => (∀ c : Dev Cert.UpDx0RefIdeal.nD,
      r.2.mem ((c.tc : Thread Cert.UpDx0RefIdeal.nD Cert.UpDx0RefIdeal.τ).loc Cert.UpDx0RefIdeal.main_arg0) = m ((c.tc : Thread Cert.UpDx0RefIdeal.nD Cert.UpDx0RefIdeal.τ).loc Cert.UpDx0RefIdeal.main_arg0)
      ∧ r.2.mem ((c.tc : Thread Cert.UpDx0RefIdeal.nD Cert.UpDx0RefIdeal.τ).loc Cert.UpDx0RefIdeal.main_arg1) = m ((c.tc : Thread Cert.UpDx0RefIdeal.nD Cert.UpDx0RefIdeal.τ).loc Cert.UpDx0RefIdeal.main_arg1))
      ∧ r.2.sem = fun _ => 0)

def quiescent_MlpUp0 [hMlpUp0 : Cert.MlpUp0.Facts] : Prop :=
  ∀ (m : (ℓ : Loc Cert.MlpUp0.nD Cert.MlpUp0.τ Cert.MlpUp0.sig) → Buf (Elt Bits) ℓ) (g : Dev Cert.MlpUp0.nD → PrngReg), Pre_MlpUp0 m →
    θ_run (Cert.MlpUp0.defs (F := Bits)) (onTc (τ := Cert.MlpUp0.τ) (Cert.MlpUp0.main (F := Bits))) ⟨m, fun _ => 0, g⟩ (fun r => (∀ c : Dev Cert.MlpUp0.nD,
      r.2.mem ((c.tc : Thread Cert.MlpUp0.nD Cert.MlpUp0.τ).loc Cert.MlpUp0.main_arg0) = m ((c.tc : Thread Cert.MlpUp0.nD Cert.MlpUp0.τ).loc Cert.MlpUp0.main_arg0)
      ∧ r.2.mem ((c.tc : Thread Cert.MlpUp0.nD Cert.MlpUp0.τ).loc Cert.MlpUp0.main_arg1) = m ((c.tc : Thread Cert.MlpUp0.nD Cert.MlpUp0.τ).loc Cert.MlpUp0.main_arg1))
      ∧ r.2.sem = fun _ => 0)

def quiescent_MlpUp0Ideal [hMlpUp0Ideal : Cert.MlpUp0Ideal.Facts] : Prop :=
  ∀ (m : (ℓ : Loc Cert.MlpUp0Ideal.nD Cert.MlpUp0Ideal.τ Cert.MlpUp0Ideal.sig) → Buf (Elt Ideal) ℓ) (g : Dev Cert.MlpUp0Ideal.nD → PrngReg), Pre_MlpUp0Ideal m →
    θ_run (Cert.MlpUp0Ideal.defs (F := Ideal)) (onTc (τ := Cert.MlpUp0Ideal.τ) (Cert.MlpUp0Ideal.main (F := Ideal))) ⟨m, fun _ => 0, g⟩ (fun r => (∀ c : Dev Cert.MlpUp0Ideal.nD,
      r.2.mem ((c.tc : Thread Cert.MlpUp0Ideal.nD Cert.MlpUp0Ideal.τ).loc Cert.MlpUp0Ideal.main_arg0) = m ((c.tc : Thread Cert.MlpUp0Ideal.nD Cert.MlpUp0Ideal.τ).loc Cert.MlpUp0Ideal.main_arg0)
      ∧ r.2.mem ((c.tc : Thread Cert.MlpUp0Ideal.nD Cert.MlpUp0Ideal.τ).loc Cert.MlpUp0Ideal.main_arg1) = m ((c.tc : Thread Cert.MlpUp0Ideal.nD Cert.MlpUp0Ideal.τ).loc Cert.MlpUp0Ideal.main_arg1))
      ∧ r.2.sem = fun _ => 0)

def quiescent_MlpUp0RefIdeal [hMlpUp0RefIdeal : Cert.MlpUp0RefIdeal.Facts] : Prop :=
  ∀ (m : (ℓ : Loc Cert.MlpUp0RefIdeal.nD Cert.MlpUp0RefIdeal.τ Cert.MlpUp0RefIdeal.sig) → Buf (Elt Ideal) ℓ) (g : Dev Cert.MlpUp0RefIdeal.nD → PrngReg), Pre_MlpUp0RefIdeal m →
    θ_run (Cert.MlpUp0RefIdeal.defs (F := Ideal)) (onTc (τ := Cert.MlpUp0RefIdeal.τ) (Cert.MlpUp0RefIdeal.main (F := Ideal))) ⟨m, fun _ => 0, g⟩ (fun r => (∀ c : Dev Cert.MlpUp0RefIdeal.nD,
      r.2.mem ((c.tc : Thread Cert.MlpUp0RefIdeal.nD Cert.MlpUp0RefIdeal.τ).loc Cert.MlpUp0RefIdeal.main_arg0) = m ((c.tc : Thread Cert.MlpUp0RefIdeal.nD Cert.MlpUp0RefIdeal.τ).loc Cert.MlpUp0RefIdeal.main_arg0)
      ∧ r.2.mem ((c.tc : Thread Cert.MlpUp0RefIdeal.nD Cert.MlpUp0RefIdeal.τ).loc Cert.MlpUp0RefIdeal.main_arg1) = m ((c.tc : Thread Cert.MlpUp0RefIdeal.nD Cert.MlpUp0RefIdeal.τ).loc Cert.MlpUp0RefIdeal.main_arg1))
      ∧ r.2.sem = fun _ => 0)

def quiescent_MlpUp1 [hMlpUp1 : Cert.MlpUp1.Facts] : Prop :=
  ∀ (m : (ℓ : Loc Cert.MlpUp1.nD Cert.MlpUp1.τ Cert.MlpUp1.sig) → Buf (Elt Bits) ℓ) (g : Dev Cert.MlpUp1.nD → PrngReg), Pre_MlpUp1 m →
    θ_run (Cert.MlpUp1.defs (F := Bits)) (onTc (τ := Cert.MlpUp1.τ) (Cert.MlpUp1.main (F := Bits))) ⟨m, fun _ => 0, g⟩ (fun r => (∀ c : Dev Cert.MlpUp1.nD,
      r.2.mem ((c.tc : Thread Cert.MlpUp1.nD Cert.MlpUp1.τ).loc Cert.MlpUp1.main_arg0) = m ((c.tc : Thread Cert.MlpUp1.nD Cert.MlpUp1.τ).loc Cert.MlpUp1.main_arg0)
      ∧ r.2.mem ((c.tc : Thread Cert.MlpUp1.nD Cert.MlpUp1.τ).loc Cert.MlpUp1.main_arg1) = m ((c.tc : Thread Cert.MlpUp1.nD Cert.MlpUp1.τ).loc Cert.MlpUp1.main_arg1))
      ∧ r.2.sem = fun _ => 0)

def quiescent_MlpUp1Ideal [hMlpUp1Ideal : Cert.MlpUp1Ideal.Facts] : Prop :=
  ∀ (m : (ℓ : Loc Cert.MlpUp1Ideal.nD Cert.MlpUp1Ideal.τ Cert.MlpUp1Ideal.sig) → Buf (Elt Ideal) ℓ) (g : Dev Cert.MlpUp1Ideal.nD → PrngReg), Pre_MlpUp1Ideal m →
    θ_run (Cert.MlpUp1Ideal.defs (F := Ideal)) (onTc (τ := Cert.MlpUp1Ideal.τ) (Cert.MlpUp1Ideal.main (F := Ideal))) ⟨m, fun _ => 0, g⟩ (fun r => (∀ c : Dev Cert.MlpUp1Ideal.nD,
      r.2.mem ((c.tc : Thread Cert.MlpUp1Ideal.nD Cert.MlpUp1Ideal.τ).loc Cert.MlpUp1Ideal.main_arg0) = m ((c.tc : Thread Cert.MlpUp1Ideal.nD Cert.MlpUp1Ideal.τ).loc Cert.MlpUp1Ideal.main_arg0)
      ∧ r.2.mem ((c.tc : Thread Cert.MlpUp1Ideal.nD Cert.MlpUp1Ideal.τ).loc Cert.MlpUp1Ideal.main_arg1) = m ((c.tc : Thread Cert.MlpUp1Ideal.nD Cert.MlpUp1Ideal.τ).loc Cert.MlpUp1Ideal.main_arg1))
      ∧ r.2.sem = fun _ => 0)

def quiescent_MlpUp1RefIdeal [hMlpUp1RefIdeal : Cert.MlpUp1RefIdeal.Facts] : Prop :=
  ∀ (m : (ℓ : Loc Cert.MlpUp1RefIdeal.nD Cert.MlpUp1RefIdeal.τ Cert.MlpUp1RefIdeal.sig) → Buf (Elt Ideal) ℓ) (g : Dev Cert.MlpUp1RefIdeal.nD → PrngReg), Pre_MlpUp1RefIdeal m →
    θ_run (Cert.MlpUp1RefIdeal.defs (F := Ideal)) (onTc (τ := Cert.MlpUp1RefIdeal.τ) (Cert.MlpUp1RefIdeal.main (F := Ideal))) ⟨m, fun _ => 0, g⟩ (fun r => (∀ c : Dev Cert.MlpUp1RefIdeal.nD,
      r.2.mem ((c.tc : Thread Cert.MlpUp1RefIdeal.nD Cert.MlpUp1RefIdeal.τ).loc Cert.MlpUp1RefIdeal.main_arg0) = m ((c.tc : Thread Cert.MlpUp1RefIdeal.nD Cert.MlpUp1RefIdeal.τ).loc Cert.MlpUp1RefIdeal.main_arg0)
      ∧ r.2.mem ((c.tc : Thread Cert.MlpUp1RefIdeal.nD Cert.MlpUp1RefIdeal.τ).loc Cert.MlpUp1RefIdeal.main_arg1) = m ((c.tc : Thread Cert.MlpUp1RefIdeal.nD Cert.MlpUp1RefIdeal.τ).loc Cert.MlpUp1RefIdeal.main_arg1))
      ∧ r.2.sem = fun _ => 0)

def quiescent_MlpDown0 [hMlpDown0 : Cert.MlpDown0.Facts] : Prop :=
  ∀ (m : (ℓ : Loc Cert.MlpDown0.nD Cert.MlpDown0.τ Cert.MlpDown0.sig) → Buf (Elt Bits) ℓ) (g : Dev Cert.MlpDown0.nD → PrngReg), Pre_MlpDown0 m →
    θ_run (Cert.MlpDown0.defs (F := Bits)) (onTc (τ := Cert.MlpDown0.τ) (Cert.MlpDown0.main (F := Bits))) ⟨m, fun _ => 0, g⟩ (fun r => (∀ c : Dev Cert.MlpDown0.nD,
      r.2.mem ((c.tc : Thread Cert.MlpDown0.nD Cert.MlpDown0.τ).loc Cert.MlpDown0.main_arg0) = m ((c.tc : Thread Cert.MlpDown0.nD Cert.MlpDown0.τ).loc Cert.MlpDown0.main_arg0)
      ∧ r.2.mem ((c.tc : Thread Cert.MlpDown0.nD Cert.MlpDown0.τ).loc Cert.MlpDown0.main_arg1) = m ((c.tc : Thread Cert.MlpDown0.nD Cert.MlpDown0.τ).loc Cert.MlpDown0.main_arg1))
      ∧ r.2.sem = fun _ => 0)

def quiescent_MlpDown0Ideal [hMlpDown0Ideal : Cert.MlpDown0Ideal.Facts] : Prop :=
  ∀ (m : (ℓ : Loc Cert.MlpDown0Ideal.nD Cert.MlpDown0Ideal.τ Cert.MlpDown0Ideal.sig) → Buf (Elt Ideal) ℓ) (g : Dev Cert.MlpDown0Ideal.nD → PrngReg), Pre_MlpDown0Ideal m →
    θ_run (Cert.MlpDown0Ideal.defs (F := Ideal)) (onTc (τ := Cert.MlpDown0Ideal.τ) (Cert.MlpDown0Ideal.main (F := Ideal))) ⟨m, fun _ => 0, g⟩ (fun r => (∀ c : Dev Cert.MlpDown0Ideal.nD,
      r.2.mem ((c.tc : Thread Cert.MlpDown0Ideal.nD Cert.MlpDown0Ideal.τ).loc Cert.MlpDown0Ideal.main_arg0) = m ((c.tc : Thread Cert.MlpDown0Ideal.nD Cert.MlpDown0Ideal.τ).loc Cert.MlpDown0Ideal.main_arg0)
      ∧ r.2.mem ((c.tc : Thread Cert.MlpDown0Ideal.nD Cert.MlpDown0Ideal.τ).loc Cert.MlpDown0Ideal.main_arg1) = m ((c.tc : Thread Cert.MlpDown0Ideal.nD Cert.MlpDown0Ideal.τ).loc Cert.MlpDown0Ideal.main_arg1))
      ∧ r.2.sem = fun _ => 0)

def quiescent_MlpDown0RefIdeal [hMlpDown0RefIdeal : Cert.MlpDown0RefIdeal.Facts] : Prop :=
  ∀ (m : (ℓ : Loc Cert.MlpDown0RefIdeal.nD Cert.MlpDown0RefIdeal.τ Cert.MlpDown0RefIdeal.sig) → Buf (Elt Ideal) ℓ) (g : Dev Cert.MlpDown0RefIdeal.nD → PrngReg), Pre_MlpDown0RefIdeal m →
    θ_run (Cert.MlpDown0RefIdeal.defs (F := Ideal)) (onTc (τ := Cert.MlpDown0RefIdeal.τ) (Cert.MlpDown0RefIdeal.main (F := Ideal))) ⟨m, fun _ => 0, g⟩ (fun r => (∀ c : Dev Cert.MlpDown0RefIdeal.nD,
      r.2.mem ((c.tc : Thread Cert.MlpDown0RefIdeal.nD Cert.MlpDown0RefIdeal.τ).loc Cert.MlpDown0RefIdeal.main_arg0) = m ((c.tc : Thread Cert.MlpDown0RefIdeal.nD Cert.MlpDown0RefIdeal.τ).loc Cert.MlpDown0RefIdeal.main_arg0)
      ∧ r.2.mem ((c.tc : Thread Cert.MlpDown0RefIdeal.nD Cert.MlpDown0RefIdeal.τ).loc Cert.MlpDown0RefIdeal.main_arg1) = m ((c.tc : Thread Cert.MlpDown0RefIdeal.nD Cert.MlpDown0RefIdeal.τ).loc Cert.MlpDown0RefIdeal.main_arg1))
      ∧ r.2.sem = fun _ => 0)

def quiescent_MlpDown1 [hMlpDown1 : Cert.MlpDown1.Facts] : Prop :=
  ∀ (m : (ℓ : Loc Cert.MlpDown1.nD Cert.MlpDown1.τ Cert.MlpDown1.sig) → Buf (Elt Bits) ℓ) (g : Dev Cert.MlpDown1.nD → PrngReg), Pre_MlpDown1 m →
    θ_run (Cert.MlpDown1.defs (F := Bits)) (onTc (τ := Cert.MlpDown1.τ) (Cert.MlpDown1.main (F := Bits))) ⟨m, fun _ => 0, g⟩ (fun r => (∀ c : Dev Cert.MlpDown1.nD,
      r.2.mem ((c.tc : Thread Cert.MlpDown1.nD Cert.MlpDown1.τ).loc Cert.MlpDown1.main_arg0) = m ((c.tc : Thread Cert.MlpDown1.nD Cert.MlpDown1.τ).loc Cert.MlpDown1.main_arg0)
      ∧ r.2.mem ((c.tc : Thread Cert.MlpDown1.nD Cert.MlpDown1.τ).loc Cert.MlpDown1.main_arg1) = m ((c.tc : Thread Cert.MlpDown1.nD Cert.MlpDown1.τ).loc Cert.MlpDown1.main_arg1))
      ∧ r.2.sem = fun _ => 0)

def quiescent_MlpDown1Ideal [hMlpDown1Ideal : Cert.MlpDown1Ideal.Facts] : Prop :=
  ∀ (m : (ℓ : Loc Cert.MlpDown1Ideal.nD Cert.MlpDown1Ideal.τ Cert.MlpDown1Ideal.sig) → Buf (Elt Ideal) ℓ) (g : Dev Cert.MlpDown1Ideal.nD → PrngReg), Pre_MlpDown1Ideal m →
    θ_run (Cert.MlpDown1Ideal.defs (F := Ideal)) (onTc (τ := Cert.MlpDown1Ideal.τ) (Cert.MlpDown1Ideal.main (F := Ideal))) ⟨m, fun _ => 0, g⟩ (fun r => (∀ c : Dev Cert.MlpDown1Ideal.nD,
      r.2.mem ((c.tc : Thread Cert.MlpDown1Ideal.nD Cert.MlpDown1Ideal.τ).loc Cert.MlpDown1Ideal.main_arg0) = m ((c.tc : Thread Cert.MlpDown1Ideal.nD Cert.MlpDown1Ideal.τ).loc Cert.MlpDown1Ideal.main_arg0)
      ∧ r.2.mem ((c.tc : Thread Cert.MlpDown1Ideal.nD Cert.MlpDown1Ideal.τ).loc Cert.MlpDown1Ideal.main_arg1) = m ((c.tc : Thread Cert.MlpDown1Ideal.nD Cert.MlpDown1Ideal.τ).loc Cert.MlpDown1Ideal.main_arg1))
      ∧ r.2.sem = fun _ => 0)

def quiescent_MlpDown1RefIdeal [hMlpDown1RefIdeal : Cert.MlpDown1RefIdeal.Facts] : Prop :=
  ∀ (m : (ℓ : Loc Cert.MlpDown1RefIdeal.nD Cert.MlpDown1RefIdeal.τ Cert.MlpDown1RefIdeal.sig) → Buf (Elt Ideal) ℓ) (g : Dev Cert.MlpDown1RefIdeal.nD → PrngReg), Pre_MlpDown1RefIdeal m →
    θ_run (Cert.MlpDown1RefIdeal.defs (F := Ideal)) (onTc (τ := Cert.MlpDown1RefIdeal.τ) (Cert.MlpDown1RefIdeal.main (F := Ideal))) ⟨m, fun _ => 0, g⟩ (fun r => (∀ c : Dev Cert.MlpDown1RefIdeal.nD,
      r.2.mem ((c.tc : Thread Cert.MlpDown1RefIdeal.nD Cert.MlpDown1RefIdeal.τ).loc Cert.MlpDown1RefIdeal.main_arg0) = m ((c.tc : Thread Cert.MlpDown1RefIdeal.nD Cert.MlpDown1RefIdeal.τ).loc Cert.MlpDown1RefIdeal.main_arg0)
      ∧ r.2.mem ((c.tc : Thread Cert.MlpDown1RefIdeal.nD Cert.MlpDown1RefIdeal.τ).loc Cert.MlpDown1RefIdeal.main_arg1) = m ((c.tc : Thread Cert.MlpDown1RefIdeal.nD Cert.MlpDown1RefIdeal.τ).loc Cert.MlpDown1RefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1))
      ∧ r.2.sem = fun _ => 0)

def quiescent_ConvInDx [hConvInDx : Cert.ConvInDx.Facts] : Prop :=
  ∀ (m : (ℓ : Loc Cert.ConvInDx.nD Cert.ConvInDx.τ Cert.ConvInDx.sig) → Buf (Elt Bits) ℓ) (g : Dev Cert.ConvInDx.nD → PrngReg), Pre_ConvInDx m →
    θ_run (Cert.ConvInDx.defs (F := Bits)) (onTc (τ := Cert.ConvInDx.τ) (Cert.ConvInDx.main (F := Bits))) ⟨m, fun _ => 0, g⟩ (fun r => (∀ c : Dev Cert.ConvInDx.nD,
      r.2.mem ((c.tc : Thread Cert.ConvInDx.nD Cert.ConvInDx.τ).loc Cert.ConvInDx.main_arg0) = m ((c.tc : Thread Cert.ConvInDx.nD Cert.ConvInDx.τ).loc Cert.ConvInDx.main_arg0)
      ∧ r.2.mem ((c.tc : Thread Cert.ConvInDx.nD Cert.ConvInDx.τ).loc Cert.ConvInDx.main_arg1) = m ((c.tc : Thread Cert.ConvInDx.nD Cert.ConvInDx.τ).loc Cert.ConvInDx.main_arg1))
      ∧ r.2.sem = fun _ => 0)

def quiescent_ConvInDxIdeal [hConvInDxIdeal : Cert.ConvInDxIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg), Pre_ConvInDxIdeal m →
    θ_run (Cert.ConvInDxIdeal.defs (F := Ideal)) (onTc (τ := Cert.ConvInDxIdeal.τ) (Cert.ConvInDxIdeal.main (F := Ideal))) ⟨m, fun _ => 0, g⟩ (fun r => (∀ c : Dev Cert.ConvInDxIdeal.nD,
      r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
      ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1))
      ∧ r.2.sem = fun _ => 0)

def quiescent_ConvInDxRefIdeal [hConvInDxRefIdeal : Cert.ConvInDxRefIdeal.Facts] : Prop :=
  ∀ (m : (ℓ : Loc Cert.ConvInDxRefIdeal.nD Cert.ConvInDxRefIdeal.τ Cert.ConvInDxRefIdeal.sig) → Buf (Elt Ideal) ℓ) (g : Dev Cert.ConvInDxRefIdeal.nD → PrngReg), Pre_ConvInDxRefIdeal m →
    θ_run (Cert.ConvInDxRefIdeal.defs (F := Ideal)) (onTc (τ := Cert.ConvInDxRefIdeal.τ) (Cert.ConvInDxRefIdeal.main (F := Ideal))) ⟨m, fun _ => 0, g⟩ (fun r => (∀ c : Dev Cert.ConvInDxRefIdeal.nD,
      r.2.mem ((c.tc : Thread Cert.ConvInDxRefIdeal.nD Cert.ConvInDxRefIdeal.τ).loc Cert.ConvInDxRefIdeal.main_arg0) = m ((c.tc : Thread Cert.ConvInDxRefIdeal.nD Cert.ConvInDxRefIdeal.τ).loc Cert.ConvInDxRefIdeal.main_arg0)
      ∧ r.2.mem ((c.tc : Thread Cert.ConvInDxRefIdeal.nD Cert.ConvInDxRefIdeal.τ).loc Cert.ConvInDxRefIdeal.main_arg1) = m ((c.tc : Thread Cert.ConvInDxRefIdeal.nD Cert.ConvInDxRefIdeal.τ).loc Cert.ConvInDxRefIdeal.main_arg1))
      ∧ r.2.sem = fun _ => 0)

def quiescent_ConvInDw [hConvInDw : Cert.ConvInDw.Facts] : Prop :=
  ∀ (m : (ℓ : Loc Cert.ConvInDw.nD Cert.ConvInDw.τ Cert.ConvInDw.sig) → Buf (Elt Bits) ℓ) (g : Dev Cert.ConvInDw.nD → PrngReg), Pre_ConvInDw m →
    θ_run (Cert.ConvInDw.defs (F := Bits)) (onTc (τ := Cert.ConvInDw.τ) (Cert.ConvInDw.main (F := Bits))) ⟨m, fun _ => 0, g⟩ (fun r => (∀ c : Dev Cert.ConvInDw.nD,
      r.2.mem ((c.tc : Thread Cert.ConvInDw.nD Cert.ConvInDw.τ).loc Cert.ConvInDw.main_arg0) = m ((c.tc : Thread Cert.ConvInDw.nD Cert.ConvInDw.τ).loc Cert.ConvInDw.main_arg0)
      ∧ r.2.mem ((c.tc : Thread Cert.ConvInDw.nD Cert.ConvInDw.τ).loc Cert.ConvInDw.main_arg1) = m ((c.tc : Thread Cert.ConvInDw.nD Cert.ConvInDw.τ).loc Cert.ConvInDw.main_arg1))
      ∧ r.2.sem = fun _ => 0)

def quiescent_ConvInDwIdeal [hConvInDwIdeal : Cert.ConvInDwIdeal.Facts] : Prop :=
  ∀ (m : (ℓ : Loc Cert.ConvInDwIdeal.nD Cert.ConvInDwIdeal.τ Cert.ConvInDwIdeal.sig) → Buf (Elt Ideal) ℓ) (g : Dev Cert.ConvInDwIdeal.nD → PrngReg), Pre_ConvInDwIdeal m →
    θ_run (Cert.ConvInDwIdeal.defs (F := Ideal)) (onTc (τ := Cert.ConvInDwIdeal.τ) (Cert.ConvInDwIdeal.main (F := Ideal))) ⟨m, fun _ => 0, g⟩ (fun r => (∀ c : Dev Cert.ConvInDwIdeal.nD,
      r.2.mem ((c.tc : Thread Cert.ConvInDwIdeal.nD Cert.ConvInDwIdeal.τ).loc Cert.ConvInDwIdeal.main_arg0) = m ((c.tc : Thread Cert.ConvInDwIdeal.nD Cert.ConvInDwIdeal.τ).loc Cert.ConvInDwIdeal.main_arg0)
      ∧ r.2.mem ((c.tc : Thread Cert.ConvInDwIdeal.nD Cert.ConvInDwIdeal.τ).loc Cert.ConvInDwIdeal.main_arg1) = m ((c.tc : Thread Cert.ConvInDwIdeal.nD Cert.ConvInDwIdeal.τ).loc Cert.ConvInDwIdeal.main_arg1))
      ∧ r.2.sem = fun _ => 0)

def quiescent_ConvInDwRefIdeal [hConvInDwRefIdeal : Cert.ConvInDwRefIdeal.Facts] : Prop :=
  ∀ (m : (ℓ : Loc Cert.ConvInDwRefIdeal.nD Cert.ConvInDwRefIdeal.τ Cert.ConvInDwRefIdeal.sig) → Buf (Elt Ideal) ℓ) (g : Dev Cert.ConvInDwRefIdeal.nD → PrngReg), Pre_ConvInDwRefIdeal m →
    θ_run (Cert.ConvInDwRefIdeal.defs (F := Ideal)) (onTc (τ := Cert.ConvInDwRefIdeal.τ) (Cert.ConvInDwRefIdeal.main (F := Ideal))) ⟨m, fun _ => 0, g⟩ (fun r => (∀ c : Dev Cert.ConvInDwRefIdeal.nD,
      r.2.mem ((c.tc : Thread Cert.ConvInDwRefIdeal.nD Cert.ConvInDwRefIdeal.τ).loc Cert.ConvInDwRefIdeal.main_arg0) = m ((c.tc : Thread Cert.ConvInDwRefIdeal.nD Cert.ConvInDwRefIdeal.τ).loc Cert.ConvInDwRefIdeal.main_arg0)
      ∧ r.2.mem ((c.tc : Thread Cert.ConvInDwRefIdeal.nD Cert.ConvInDwRefIdeal.τ).loc Cert.ConvInDwRefIdeal.main_arg1) = m ((c.tc : Thread Cert.ConvInDwRefIdeal.nD Cert.ConvInDwRefIdeal.τ).loc Cert.ConvInDwRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1))
      ∧ r.2.sem = fun _ => 0)

def quiescent_LatDx [hLatDx : Cert.LatDx.Facts] : Prop :=
  ∀ (m : (ℓ : Loc Cert.LatDx.nD Cert.LatDx.τ Cert.LatDx.sig) → Buf (Elt Bits) ℓ) (g : Dev Cert.LatDx.nD → PrngReg), Pre_LatDx m →
    θ_run (Cert.LatDx.defs (F := Bits)) (onTc (τ := Cert.LatDx.τ) (Cert.LatDx.main (F := Bits))) ⟨m, fun _ => 0, g⟩ (fun r => (∀ c : Dev Cert.LatDx.nD,
      r.2.mem ((c.tc : Thread Cert.LatDx.nD Cert.LatDx.τ).loc Cert.LatDx.main_arg0) = m ((c.tc : Thread Cert.LatDx.nD Cert.LatDx.τ).loc Cert.LatDx.main_arg0)
      ∧ r.2.mem ((c.tc : Thread Cert.LatDx.nD Cert.LatDx.τ).loc Cert.LatDx.main_arg1) = m ((c.tc : Thread Cert.LatDx.nD Cert.LatDx.τ).loc Cert.LatDx.main_arg1))
      ∧ r.2.sem = fun _ => 0)

def quiescent_LatDxIdeal [hLatDxIdeal : Cert.LatDxIdeal.Facts] : Prop :=
  ∀ (m : (ℓ : Loc Cert.LatDxIdeal.nD Cert.LatDxIdeal.τ Cert.LatDxIdeal.sig) → Buf (Elt Ideal) ℓ) (g : Dev Cert.LatDxIdeal.nD → PrngReg), Pre_LatDxIdeal m →
    θ_run (Cert.LatDxIdeal.defs (F := Ideal)) (onTc (τ := Cert.LatDxIdeal.τ) (Cert.LatDxIdeal.main (F := Ideal))) ⟨m, fun _ => 0, g⟩ (fun r => (∀ c : Dev Cert.LatDxIdeal.nD,
      r.2.mem ((c.tc : Thread Cert.LatDxIdeal.nD Cert.LatDxIdeal.τ).loc Cert.LatDxIdeal.main_arg0) = m ((c.tc : Thread Cert.LatDxIdeal.nD Cert.LatDxIdeal.τ).loc Cert.LatDxIdeal.main_arg0)
      ∧ r.2.mem ((c.tc : Thread Cert.LatDxIdeal.nD Cert.LatDxIdeal.τ).loc Cert.LatDxIdeal.main_arg1) = m ((c.tc : Thread Cert.LatDxIdeal.nD Cert.LatDxIdeal.τ).loc Cert.LatDxIdeal.main_arg1))
      ∧ r.2.sem = fun _ => 0)

def quiescent_LatDxRefIdeal [hLatDxRefIdeal : Cert.LatDxRefIdeal.Facts] : Prop :=
  ∀ (m : (ℓ : Loc Cert.LatDxRefIdeal.nD Cert.LatDxRefIdeal.τ Cert.LatDxRefIdeal.sig) → Buf (Elt Ideal) ℓ) (g : Dev Cert.LatDxRefIdeal.nD → PrngReg), Pre_LatDxRefIdeal m →
    θ_run (Cert.LatDxRefIdeal.defs (F := Ideal)) (onTc (τ := Cert.LatDxRefIdeal.τ) (Cert.LatDxRefIdeal.main (F := Ideal))) ⟨m, fun _ => 0, g⟩ (fun r => (∀ c : Dev Cert.LatDxRefIdeal.nD,
      r.2.mem ((c.tc : Thread Cert.LatDxRefIdeal.nD Cert.LatDxRefIdeal.τ).loc Cert.LatDxRefIdeal.main_arg0) = m ((c.tc : Thread Cert.LatDxRefIdeal.nD Cert.LatDxRefIdeal.τ).loc Cert.LatDxRefIdeal.main_arg0)
      ∧ r.2.mem ((c.tc : Thread Cert.LatDxRefIdeal.nD Cert.LatDxRefIdeal.τ).loc Cert.LatDxRefIdeal.main_arg1) = m ((c.tc : Thread Cert.LatDxRefIdeal.nD Cert.LatDxRefIdeal.τ).loc Cert.LatDxRefIdeal.main_arg1))
      ∧ r.2.sem = fun _ => 0)

def quiescent_LatDw [hLatDw : Cert.LatDw.Facts] : Prop :=
  ∀ (m : (ℓ : Loc Cert.LatDw.nD Cert.LatDw.τ Cert.LatDw.sig) → Buf (Elt Bits) ℓ) (g : Dev Cert.LatDw.nD → PrngReg), Pre_LatDw m →
    θ_run (Cert.LatDw.defs (F := Bits)) (onTc (τ := Cert.LatDw.τ) (Cert.LatDw.main (F := Bits))) ⟨m, fun _ => 0, g⟩ (fun r => (∀ c : Dev Cert.LatDw.nD,
      r.2.mem ((c.tc : Thread Cert.LatDw.nD Cert.LatDw.τ).loc Cert.LatDw.main_arg0) = m ((c.tc : Thread Cert.LatDw.nD Cert.LatDw.τ).loc Cert.LatDw.main_arg0)
      ∧ r.2.mem ((c.tc : Thread Cert.LatDw.nD Cert.LatDw.τ).loc Cert.LatDw.main_arg1) = m ((c.tc : Thread Cert.LatDw.nD Cert.LatDw.τ).loc Cert.LatDw.main_arg1))
      ∧ r.2.sem = fun _ => 0)

def quiescent_LatDwIdeal [hLatDwIdeal : Cert.LatDwIdeal.Facts] : Prop :=
  ∀ (m : (ℓ : Loc Cert.LatDwIdeal.nD Cert.LatDwIdeal.τ Cert.LatDwIdeal.sig) → Buf (Elt Ideal) ℓ) (g : Dev Cert.LatDwIdeal.nD → PrngReg), Pre_LatDwIdeal m →
    θ_run (Cert.LatDwIdeal.defs (F := Ideal)) (onTc (τ := Cert.LatDwIdeal.τ) (Cert.LatDwIdeal.main (F := Ideal))) ⟨m, fun _ => 0, g⟩ (fun r => (∀ c : Dev Cert.LatDwIdeal.nD,
      r.2.mem ((c.tc : Thread Cert.LatDwIdeal.nD Cert.LatDwIdeal.τ).loc Cert.LatDwIdeal.main_arg0) = m ((c.tc : Thread Cert.LatDwIdeal.nD Cert.LatDwIdeal.τ).loc Cert.LatDwIdeal.main_arg0)
      ∧ r.2.mem ((c.tc : Thread Cert.LatDwIdeal.nD Cert.LatDwIdeal.τ).loc Cert.LatDwIdeal.main_arg1) = m ((c.tc : Thread Cert.LatDwIdeal.nD Cert.LatDwIdeal.τ).loc Cert.LatDwIdeal.main_arg1))
      ∧ r.2.sem = fun _ => 0)

def quiescent_LatDwRefIdeal [hLatDwRefIdeal : Cert.LatDwRefIdeal.Facts] : Prop :=
  ∀ (m : (ℓ : Loc Cert.LatDwRefIdeal.nD Cert.LatDwRefIdeal.τ Cert.LatDwRefIdeal.sig) → Buf (Elt Ideal) ℓ) (g : Dev Cert.LatDwRefIdeal.nD → PrngReg), Pre_LatDwRefIdeal m →
    θ_run (Cert.LatDwRefIdeal.defs (F := Ideal)) (onTc (τ := Cert.LatDwRefIdeal.τ) (Cert.LatDwRefIdeal.main (F := Ideal))) ⟨m, fun _ => 0, g⟩ (fun r => (∀ c : Dev Cert.LatDwRefIdeal.nD,
      r.2.mem ((c.tc : Thread Cert.LatDwRefIdeal.nD Cert.LatDwRefIdeal.τ).loc Cert.LatDwRefIdeal.main_arg0) = m ((c.tc : Thread Cert.LatDwRefIdeal.nD Cert.LatDwRefIdeal.τ).loc Cert.LatDwRefIdeal.main_arg0)
      ∧ r.2.mem ((c.tc : Thread Cert.LatDwRefIdeal.nD Cert.LatDwRefIdeal.τ).loc Cert.LatDwRefIdeal.main_arg1) = m ((c.tc : Thread Cert.LatDwRefIdeal.nD Cert.LatDwRefIdeal.τ).loc Cert.LatDwRefIdeal.main_arg1))
      ∧ r.2.sem = fun _ => 0)

def quiescent_Bound [hBound : Cert.Bound.Facts] : Prop :=
  ∀ (m : (ℓ : Loc Cert.Bound.nD Cert.Bound.τ Cert.Bound.sig) → Buf (Elt Bits) ℓ) (g : Dev Cert.Bound.nD → PrngReg), Pre_Bound m →
    θ_run (Cert.Bound.defs (F := Bits)) (onTc (τ := Cert.Bound.τ) (Cert.Bound.main (F := Bits))) ⟨m, fun _ => 0, g⟩ (fun r => (∀ c : Dev Cert.Bound.nD,
      r.2.mem ((c.tc : Thread Cert.Bound.nD Cert.Bound.τ).loc Cert.Bound.main_arg0) = m ((c.tc : Thread Cert.Bound.nD Cert.Bound.τ).loc Cert.Bound.main_arg0)
      ∧ r.2.mem ((c.tc : Thread Cert.Bound.nD Cert.Bound.τ).loc Cert.Bound.main_arg1) = m ((c.tc : Thread Cert.Bound.nD Cert.Bound.τ).loc Cert.Bound.main_arg1)
      ∧ r.2.mem ((c.tc : Thread Cert.Bound.nD Cert.Bound.τ).loc Cert.Bound.main_arg2) = m ((c.tc : Thread Cert.Bound.nD Cert.Bound.τ).loc Cert.Bound.main_arg2)
      ∧ r.2.mem ((c.tc : Thread Cert.Bound.nD Cert.Bound.τ).loc Cert.Bound.main_arg3) = m ((c.tc : Thread Cert.Bound.nD Cert.Bound.τ).loc Cert.Bound.main_arg3)
      ∧ r.2.mem ((c.tc : Thread Cert.Bound.nD Cert.Bound.τ).loc Cert.Bound.main_arg4) = m ((c.tc : Thread Cert.Bound.nD Cert.Bound.τ).loc Cert.Bound.main_arg4)
      ∧ r.2.mem ((c.tc : Thread Cert.Bound.nD Cert.Bound.τ).loc Cert.Bound.main_arg5) = m ((c.tc : Thread Cert.Bound.nD Cert.Bound.τ).loc Cert.Bound.main_arg5)
      ∧ r.2.mem ((c.tc : Thread Cert.Bound.nD Cert.Bound.τ).loc Cert.Bound.main_arg6) = m ((c.tc : Thread Cert.Bound.nD Cert.Bound.τ).loc Cert.Bound.main_arg6)
      ∧ r.2.mem ((c.tc : Thread Cert.Bound.nD Cert.Bound.τ).loc Cert.Bound.main_arg7) = m ((c.tc : Thread Cert.Bound.nD Cert.Bound.τ).loc Cert.Bound.main_arg7))
      ∧ r.2.sem = fun _ => 0)

def quiescent_BoundIdeal [hBoundIdeal : Cert.BoundIdeal.Facts] : Prop :=
  ∀ (m : (ℓ : Loc Cert.BoundIdeal.nD Cert.BoundIdeal.τ Cert.BoundIdeal.sig) → Buf (Elt Ideal) ℓ) (g : Dev Cert.BoundIdeal.nD → PrngReg), Pre_BoundIdeal m →
    θ_run (Cert.BoundIdeal.defs (F := Ideal)) (onTc (τ := Cert.BoundIdeal.τ) (Cert.BoundIdeal.main (F := Ideal))) ⟨m, fun _ => 0, g⟩ (fun r => (∀ c : Dev Cert.BoundIdeal.nD,
      r.2.mem ((c.tc : Thread Cert.BoundIdeal.nD Cert.BoundIdeal.τ).loc Cert.BoundIdeal.main_arg0) = m ((c.tc : Thread Cert.BoundIdeal.nD Cert.BoundIdeal.τ).loc Cert.BoundIdeal.main_arg0)
      ∧ r.2.mem ((c.tc : Thread Cert.BoundIdeal.nD Cert.BoundIdeal.τ).loc Cert.BoundIdeal.main_arg1) = m ((c.tc : Thread Cert.BoundIdeal.nD Cert.BoundIdeal.τ).loc Cert.BoundIdeal.main_arg1)
      ∧ r.2.mem ((c.tc : Thread Cert.BoundIdeal.nD Cert.BoundIdeal.τ).loc Cert.BoundIdeal.main_arg2) = m ((c.tc : Thread Cert.BoundIdeal.nD Cert.BoundIdeal.τ).loc Cert.BoundIdeal.main_arg2)
      ∧ r.2.mem ((c.tc : Thread Cert.BoundIdeal.nD Cert.BoundIdeal.τ).loc Cert.BoundIdeal.main_arg3) = m ((c.tc : Thread Cert.BoundIdeal.nD Cert.BoundIdeal.τ).loc Cert.BoundIdeal.main_arg3)
      ∧ r.2.mem ((c.tc : Thread Cert.BoundIdeal.nD Cert.BoundIdeal.τ).loc Cert.BoundIdeal.main_arg4) = m ((c.tc : Thread Cert.BoundIdeal.nD Cert.BoundIdeal.τ).loc Cert.BoundIdeal.main_arg4)
      ∧ r.2.mem ((c.tc : Thread Cert.BoundIdeal.nD Cert.BoundIdeal.τ).loc Cert.BoundIdeal.main_arg5) = m ((c.tc : Thread Cert.BoundIdeal.nD Cert.BoundIdeal.τ).loc Cert.BoundIdeal.main_arg5)
      ∧ r.2.mem ((c.tc : Thread Cert.BoundIdeal.nD Cert.BoundIdeal.τ).loc Cert.BoundIdeal.main_arg6) = m ((c.tc : Thread Cert.BoundIdeal.nD Cert.BoundIdeal.τ).loc Cert.BoundIdeal.main_arg6)
      ∧ r.2.mem ((c.tc : Thread Cert.BoundIdeal.nD Cert.BoundIdeal.τ).loc Cert.BoundIdeal.main_arg7) = m ((c.tc : Thread Cert.BoundIdeal.nD Cert.BoundIdeal.τ).loc Cert.BoundIdeal.main_arg7))
      ∧ r.2.sem = fun _ => 0)

def quiescent_BoundRefIdeal [hBoundRefIdeal : Cert.BoundRefIdeal.Facts] : Prop :=
  ∀ (m : (ℓ : Loc Cert.BoundRefIdeal.nD Cert.BoundRefIdeal.τ Cert.BoundRefIdeal.sig) → Buf (Elt Ideal) ℓ) (g : Dev Cert.BoundRefIdeal.nD → PrngReg), Pre_BoundRefIdeal m →
    θ_run (Cert.BoundRefIdeal.defs (F := Ideal)) (onTc (τ := Cert.BoundRefIdeal.τ) (Cert.BoundRefIdeal.main (F := Ideal))) ⟨m, fun _ => 0, g⟩ (fun r => (∀ c : Dev Cert.BoundRefIdeal.nD,
      r.2.mem ((c.tc : Thread Cert.BoundRefIdeal.nD Cert.BoundRefIdeal.τ).loc Cert.BoundRefIdeal.main_arg0) = m ((c.tc : Thread Cert.BoundRefIdeal.nD Cert.BoundRefIdeal.τ).loc Cert.BoundRefIdeal.main_arg0)
      ∧ r.2.mem ((c.tc : Thread Cert.BoundRefIdeal.nD Cert.BoundRefIdeal.τ).loc Cert.BoundRefIdeal.main_arg1) = m ((c.tc : Thread Cert.BoundRefIdeal.nD Cert.BoundRefIdeal.τ).loc Cert.BoundRefIdeal.main_arg1)
      ∧ r.2.mem ((c.tc : Thread Cert.BoundRefIdeal.nD Cert.BoundRefIdeal.τ).loc Cert.BoundRefIdeal.main_arg2) = m ((c.tc : Thread Cert.BoundRefIdeal.nD Cert.BoundRefIdeal.τ).loc Cert.BoundRefIdeal.main_arg2)
      ∧ r.2.mem ((c.tc : Thread Cert.BoundRefIdeal.nD Cert.BoundRefIdeal.τ).loc Cert.BoundRefIdeal.main_arg3) = m ((c.tc : Thread Cert.BoundRefIdeal.nD Cert.BoundRefIdeal.τ).loc Cert.BoundRefIdeal.main_arg3)
      ∧ r.2.mem ((c.tc : Thread Cert.BoundRefIdeal.nD Cert.BoundRefIdeal.τ).loc Cert.BoundRefIdeal.main_arg4) = m ((c.tc : Thread Cert.BoundRefIdeal.nD Cert.BoundRefIdeal.τ).loc Cert.BoundRefIdeal.main_arg4)
      ∧ r.2.mem ((c.tc : Thread Cert.BoundRefIdeal.nD Cert.BoundRefIdeal.τ).loc Cert.BoundRefIdeal.main_arg5) = m ((c.tc : Thread Cert.BoundRefIdeal.nD Cert.BoundRefIdeal.τ).loc Cert.BoundRefIdeal.main_arg5)
      ∧ r.2.mem ((c.tc : Thread Cert.BoundRefIdeal.nD Cert.BoundRefIdeal.τ).loc Cert.BoundRefIdeal.main_arg6) = m ((c.tc : Thread Cert.BoundRefIdeal.nD Cert.BoundRefIdeal.τ).loc Cert.BoundRefIdeal.main_arg6)
      ∧ r.2.mem ((c.tc : Thread Cert.BoundRefIdeal.nD Cert.BoundRefIdeal.τ).loc Cert.BoundRefIdeal.main_arg7) = m ((c.tc : Thread Cert.BoundRefIdeal.nD Cert.BoundRefIdeal.τ).loc Cert.BoundRefIdeal.main_arg7))
      ∧ r.2.sem = fun _ => 0)

def quiescent_Bound0 [hBound0 : Cert.Bound0.Facts] : Prop :=
  ∀ (m : (ℓ : Loc Cert.Bound0.nD Cert.Bound0.τ Cert.Bound0.sig) → Buf (Elt Bits) ℓ) (g : Dev Cert.Bound0.nD → PrngReg), Pre_Bound0 m →
    θ_run (Cert.Bound0.defs (F := Bits)) (onTc (τ := Cert.Bound0.τ) (Cert.Bound0.main (F := Bits))) ⟨m, fun _ => 0, g⟩ (fun r => (∀ c : Dev Cert.Bound0.nD,
      r.2.mem ((c.tc : Thread Cert.Bound0.nD Cert.Bound0.τ).loc Cert.Bound0.main_arg0) = m ((c.tc : Thread Cert.Bound0.nD Cert.Bound0.τ).loc Cert.Bound0.main_arg0)
      ∧ r.2.mem ((c.tc : Thread Cert.Bound0.nD Cert.Bound0.τ).loc Cert.Bound0.main_arg1) = m ((c.tc : Thread Cert.Bound0.nD Cert.Bound0.τ).loc Cert.Bound0.main_arg1)
      ∧ r.2.mem ((c.tc : Thread Cert.Bound0.nD Cert.Bound0.τ).loc Cert.Bound0.main_arg2) = m ((c.tc : Thread Cert.Bound0.nD Cert.Bound0.τ).loc Cert.Bound0.main_arg2)
      ∧ r.2.mem ((c.tc : Thread Cert.Bound0.nD Cert.Bound0.τ).loc Cert.Bound0.main_arg3) = m ((c.tc : Thread Cert.Bound0.nD Cert.Bound0.τ).loc Cert.Bound0.main_arg3)
      ∧ r.2.mem ((c.tc : Thread Cert.Bound0.nD Cert.Bound0.τ).loc Cert.Bound0.main_arg4) = m ((c.tc : Thread Cert.Bound0.nD Cert.Bound0.τ).loc Cert.Bound0.main_arg4))
      ∧ r.2.sem = fun _ => 0)

def quiescent_Bound0Ideal [hBound0Ideal : Cert.Bound0Ideal.Facts] : Prop :=
  ∀ (m : (ℓ : Loc Cert.Bound0Ideal.nD Cert.Bound0Ideal.τ Cert.Bound0Ideal.sig) → Buf (Elt Ideal) ℓ) (g : Dev Cert.Bound0Ideal.nD → PrngReg), Pre_Bound0Ideal m →
    θ_run (Cert.Bound0Ideal.defs (F := Ideal)) (onTc (τ := Cert.Bound0Ideal.τ) (Cert.Bound0Ideal.main (F := Ideal))) ⟨m, fun _ => 0, g⟩ (fun r => (∀ c : Dev Cert.Bound0Ideal.nD,
      r.2.mem ((c.tc : Thread Cert.Bound0Ideal.nD Cert.Bound0Ideal.τ).loc Cert.Bound0Ideal.main_arg0) = m ((c.tc : Thread Cert.Bound0Ideal.nD Cert.Bound0Ideal.τ).loc Cert.Bound0Ideal.main_arg0)
      ∧ r.2.mem ((c.tc : Thread Cert.Bound0Ideal.nD Cert.Bound0Ideal.τ).loc Cert.Bound0Ideal.main_arg1) = m ((c.tc : Thread Cert.Bound0Ideal.nD Cert.Bound0Ideal.τ).loc Cert.Bound0Ideal.main_arg1)
      ∧ r.2.mem ((c.tc : Thread Cert.Bound0Ideal.nD Cert.Bound0Ideal.τ).loc Cert.Bound0Ideal.main_arg2) = m ((c.tc : Thread Cert.Bound0Ideal.nD Cert.Bound0Ideal.τ).loc Cert.Bound0Ideal.main_arg2)
      ∧ r.2.mem ((c.tc : Thread Cert.Bound0Ideal.nD Cert.Bound0Ideal.τ).loc Cert.Bound0Ideal.main_arg3) = m ((c.tc : Thread Cert.Bound0Ideal.nD Cert.Bound0Ideal.τ).loc Cert.Bound0Ideal.main_arg3)
      ∧ r.2.mem ((c.tc : Thread Cert.Bound0Ideal.nD Cert.Bound0Ideal.τ).loc Cert.Bound0Ideal.main_arg4) = m ((c.tc : Thread Cert.Bound0Ideal.nD Cert.Bound0Ideal.τ).loc Cert.Bound0Ideal.main_arg4))
      ∧ r.2.sem = fun _ => 0)

def quiescent_Bound0RefIdeal [hBound0RefIdeal : Cert.Bound0RefIdeal.Facts] : Prop :=
  ∀ (m : (ℓ : Loc Cert.Bound0RefIdeal.nD Cert.Bound0RefIdeal.τ Cert.Bound0RefIdeal.sig) → Buf (Elt Ideal) ℓ) (g : Dev Cert.Bound0RefIdeal.nD → PrngReg), Pre_Bound0RefIdeal m →
    θ_run (Cert.Bound0RefIdeal.defs (F := Ideal)) (onTc (τ := Cert.Bound0RefIdeal.τ) (Cert.Bound0RefIdeal.main (F := Ideal))) ⟨m, fun _ => 0, g⟩ (fun r => (∀ c : Dev Cert.Bound0RefIdeal.nD,
      r.2.mem ((c.tc : Thread Cert.Bound0RefIdeal.nD Cert.Bound0RefIdeal.τ).loc Cert.Bound0RefIdeal.main_arg0) = m ((c.tc : Thread Cert.Bound0RefIdeal.nD Cert.Bound0RefIdeal.τ).loc Cert.Bound0RefIdeal.main_arg0)
      ∧ r.2.mem ((c.tc : Thread Cert.Bound0RefIdeal.nD Cert.Bound0RefIdeal.τ).loc Cert.Bound0RefIdeal.main_arg1) = m ((c.tc : Thread Cert.Bound0RefIdeal.nD Cert.Bound0RefIdeal.τ).loc Cert.Bound0RefIdeal.main_arg1)
      ∧ r.2.mem ((c.tc : Thread Cert.Bound0RefIdeal.nD Cert.Bound0RefIdeal.τ).loc Cert.Bound0RefIdeal.main_arg2) = m ((c.tc : Thread Cert.Bound0RefIdeal.nD Cert.Bound0RefIdeal.τ).loc Cert.Bound0RefIdeal.main_arg2)
      ∧ r.2.mem ((c.tc : Thread Cert.Bound0RefIdeal.nD Cert.Bound0RefIdeal.τ).loc Cert.Bound0RefIdeal.main_arg3) = m ((c.tc : Thread Cert.Bound0RefIdeal.nD Cert.Bound0RefIdeal.τ).loc Cert.Bound0RefIdeal.main_arg3)
      ∧ r.2.mem ((c.tc : Thread Cert.Bound0RefIdeal.nD Cert.Bound0RefIdeal.τ).loc Cert.Bound0RefIdeal.main_arg4) = m ((c.tc : Thread Cert.Bound0RefIdeal.nD Cert.Bound0RefIdeal.τ).loc Cert.Bound0RefIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6))
      ∧ r.2.sem = fun _ => 0)

def quiescent_Fwd0 [hFwd0 : Cert.Fwd0.Facts] : Prop :=
  ∀ (m : (ℓ : Loc Cert.Fwd0.nD Cert.Fwd0.τ Cert.Fwd0.sig) → Buf (Elt Bits) ℓ) (g : Dev Cert.Fwd0.nD → PrngReg), Pre_Fwd0 m →
    θ_run (Cert.Fwd0.defs (F := Bits)) (onTc (τ := Cert.Fwd0.τ) (Cert.Fwd0.main (F := Bits))) ⟨m, fun _ => 0, g⟩ (fun r => (∀ c : Dev Cert.Fwd0.nD,
      r.2.mem ((c.tc : Thread Cert.Fwd0.nD Cert.Fwd0.τ).loc Cert.Fwd0.main_arg0) = m ((c.tc : Thread Cert.Fwd0.nD Cert.Fwd0.τ).loc Cert.Fwd0.main_arg0)
      ∧ r.2.mem ((c.tc : Thread Cert.Fwd0.nD Cert.Fwd0.τ).loc Cert.Fwd0.main_arg1) = m ((c.tc : Thread Cert.Fwd0.nD Cert.Fwd0.τ).loc Cert.Fwd0.main_arg1)
      ∧ r.2.mem ((c.tc : Thread Cert.Fwd0.nD Cert.Fwd0.τ).loc Cert.Fwd0.main_arg2) = m ((c.tc : Thread Cert.Fwd0.nD Cert.Fwd0.τ).loc Cert.Fwd0.main_arg2)
      ∧ r.2.mem ((c.tc : Thread Cert.Fwd0.nD Cert.Fwd0.τ).loc Cert.Fwd0.main_arg3) = m ((c.tc : Thread Cert.Fwd0.nD Cert.Fwd0.τ).loc Cert.Fwd0.main_arg3))
      ∧ r.2.sem = fun _ => 0)

def quiescent_Fwd0Ideal [hFwd0Ideal : Cert.Fwd0Ideal.Facts] : Prop :=
  ∀ (m : (ℓ : Loc Cert.Fwd0Ideal.nD Cert.Fwd0Ideal.τ Cert.Fwd0Ideal.sig) → Buf (Elt Ideal) ℓ) (g : Dev Cert.Fwd0Ideal.nD → PrngReg), Pre_Fwd0Ideal m →
    θ_run (Cert.Fwd0Ideal.defs (F := Ideal)) (onTc (τ := Cert.Fwd0Ideal.τ) (Cert.Fwd0Ideal.main (F := Ideal))) ⟨m, fun _ => 0, g⟩ (fun r => (∀ c : Dev Cert.Fwd0Ideal.nD,
      r.2.mem ((c.tc : Thread Cert.Fwd0Ideal.nD Cert.Fwd0Ideal.τ).loc Cert.Fwd0Ideal.main_arg0) = m ((c.tc : Thread Cert.Fwd0Ideal.nD Cert.Fwd0Ideal.τ).loc Cert.Fwd0Ideal.main_arg0)
      ∧ r.2.mem ((c.tc : Thread Cert.Fwd0Ideal.nD Cert.Fwd0Ideal.τ).loc Cert.Fwd0Ideal.main_arg1) = m ((c.tc : Thread Cert.Fwd0Ideal.nD Cert.Fwd0Ideal.τ).loc Cert.Fwd0Ideal.main_arg1)
      ∧ r.2.mem ((c.tc : Thread Cert.Fwd0Ideal.nD Cert.Fwd0Ideal.τ).loc Cert.Fwd0Ideal.main_arg2) = m ((c.tc : Thread Cert.Fwd0Ideal.nD Cert.Fwd0Ideal.τ).loc Cert.Fwd0Ideal.main_arg2)
      ∧ r.2.mem ((c.tc : Thread Cert.Fwd0Ideal.nD Cert.Fwd0Ideal.τ).loc Cert.Fwd0Ideal.main_arg3) = m ((c.tc : Thread Cert.Fwd0Ideal.nD Cert.Fwd0Ideal.τ).loc Cert.Fwd0Ideal.main_arg3))
      ∧ r.2.sem = fun _ => 0)

def quiescent_Fwd0RefIdeal [hFwd0RefIdeal : Cert.Fwd0RefIdeal.Facts] : Prop :=
  ∀ (m : (ℓ : Loc Cert.Fwd0RefIdeal.nD Cert.Fwd0RefIdeal.τ Cert.Fwd0RefIdeal.sig) → Buf (Elt Ideal) ℓ) (g : Dev Cert.Fwd0RefIdeal.nD → PrngReg), Pre_Fwd0RefIdeal m →
    θ_run (Cert.Fwd0RefIdeal.defs (F := Ideal)) (onTc (τ := Cert.Fwd0RefIdeal.τ) (Cert.Fwd0RefIdeal.main (F := Ideal))) ⟨m, fun _ => 0, g⟩ (fun r => (∀ c : Dev Cert.Fwd0RefIdeal.nD,
      r.2.mem ((c.tc : Thread Cert.Fwd0RefIdeal.nD Cert.Fwd0RefIdeal.τ).loc Cert.Fwd0RefIdeal.main_arg0) = m ((c.tc : Thread Cert.Fwd0RefIdeal.nD Cert.Fwd0RefIdeal.τ).loc Cert.Fwd0RefIdeal.main_arg0)
      ∧ r.2.mem ((c.tc : Thread Cert.Fwd0RefIdeal.nD Cert.Fwd0RefIdeal.τ).loc Cert.Fwd0RefIdeal.main_arg1) = m ((c.tc : Thread Cert.Fwd0RefIdeal.nD Cert.Fwd0RefIdeal.τ).loc Cert.Fwd0RefIdeal.main_arg1)
      ∧ r.2.mem ((c.tc : Thread Cert.Fwd0RefIdeal.nD Cert.Fwd0RefIdeal.τ).loc Cert.Fwd0RefIdeal.main_arg2) = m ((c.tc : Thread Cert.Fwd0RefIdeal.nD Cert.Fwd0RefIdeal.τ).loc Cert.Fwd0RefIdeal.main_arg2)
      ∧ r.2.mem ((c.tc : Thread Cert.Fwd0RefIdeal.nD Cert.Fwd0RefIdeal.τ).loc Cert.Fwd0RefIdeal.main_arg3) = m ((c.tc : Thread Cert.Fwd0RefIdeal.nD Cert.Fwd0RefIdeal.τ).loc Cert.Fwd0RefIdeal.main_arg3))
      ∧ r.2.sem = fun _ => 0)

def quiescent_Attn [hAttn : Cert.Attn.Facts] [hPre_triangle : Cert.Pre_triangle.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] [hPre_triangle : Cert.Pre_triangle.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_MlaQ [hMlaQ : Cert.MlaQ.Facts] : Prop :=
  ∀ (m : (ℓ : Loc Cert.MlaQ.nD Cert.MlaQ.τ Cert.MlaQ.sig) → Buf (Elt Bits) ℓ) (g : Dev Cert.MlaQ.nD → PrngReg), Pre_MlaQ m →
    θ_run (Cert.MlaQ.defs (F := Bits)) (onTc (τ := Cert.MlaQ.τ) (Cert.MlaQ.main (F := Bits))) ⟨m, fun _ => 0, g⟩ (fun r => (∀ c : Dev Cert.MlaQ.nD,
      r.2.mem ((c.tc : Thread Cert.MlaQ.nD Cert.MlaQ.τ).loc Cert.MlaQ.main_arg0) = m ((c.tc : Thread Cert.MlaQ.nD Cert.MlaQ.τ).loc Cert.MlaQ.main_arg0)
      ∧ r.2.mem ((c.tc : Thread Cert.MlaQ.nD Cert.MlaQ.τ).loc Cert.MlaQ.main_arg1) = m ((c.tc : Thread Cert.MlaQ.nD Cert.MlaQ.τ).loc Cert.MlaQ.main_arg1)
      ∧ r.2.mem ((c.tc : Thread Cert.MlaQ.nD Cert.MlaQ.τ).loc Cert.MlaQ.main_arg2) = m ((c.tc : Thread Cert.MlaQ.nD Cert.MlaQ.τ).loc Cert.MlaQ.main_arg2)
      ∧ r.2.mem ((c.tc : Thread Cert.MlaQ.nD Cert.MlaQ.τ).loc Cert.MlaQ.main_arg3) = m ((c.tc : Thread Cert.MlaQ.nD Cert.MlaQ.τ).loc Cert.MlaQ.main_arg3))
      ∧ r.2.sem = fun _ => 0)

def quiescent_MlaQIdeal [hMlaQIdeal : Cert.MlaQIdeal.Facts] : Prop :=
  ∀ (m : (ℓ : Loc Cert.MlaQIdeal.nD Cert.MlaQIdeal.τ Cert.MlaQIdeal.sig) → Buf (Elt Ideal) ℓ) (g : Dev Cert.MlaQIdeal.nD → PrngReg), Pre_MlaQIdeal m →
    θ_run (Cert.MlaQIdeal.defs (F := Ideal)) (onTc (τ := Cert.MlaQIdeal.τ) (Cert.MlaQIdeal.main (F := Ideal))) ⟨m, fun _ => 0, g⟩ (fun r => (∀ c : Dev Cert.MlaQIdeal.nD,
      r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
      ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
      ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2)
      ∧ r.2.mem ((c.tc : Thread Cert.MlaQIdeal.nD Cert.MlaQIdeal.τ).loc Cert.MlaQIdeal.main_arg3) = m ((c.tc : Thread Cert.MlaQIdeal.nD Cert.MlaQIdeal.τ).loc Cert.MlaQIdeal.main_arg3))
      ∧ r.2.sem = fun _ => 0)

def quiescent_MlaQRefIdeal [hMlaQRefIdeal : Cert.MlaQRefIdeal.Facts] : Prop :=
  ∀ (m : (ℓ : Loc Cert.MlaQRefIdeal.nD Cert.MlaQRefIdeal.τ Cert.MlaQRefIdeal.sig) → Buf (Elt Ideal) ℓ) (g : Dev Cert.MlaQRefIdeal.nD → PrngReg), Pre_MlaQRefIdeal m →
    θ_run (Cert.MlaQRefIdeal.defs (F := Ideal)) (onTc (τ := Cert.MlaQRefIdeal.τ) (Cert.MlaQRefIdeal.main (F := Ideal))) ⟨m, fun _ => 0, g⟩ (fun r => (∀ c : Dev Cert.MlaQRefIdeal.nD,
      r.2.mem ((c.tc : Thread Cert.MlaQRefIdeal.nD Cert.MlaQRefIdeal.τ).loc Cert.MlaQRefIdeal.main_arg0) = m ((c.tc : Thread Cert.MlaQRefIdeal.nD Cert.MlaQRefIdeal.τ).loc Cert.MlaQRefIdeal.main_arg0)
      ∧ r.2.mem ((c.tc : Thread Cert.MlaQRefIdeal.nD Cert.MlaQRefIdeal.τ).loc Cert.MlaQRefIdeal.main_arg1) = m ((c.tc : Thread Cert.MlaQRefIdeal.nD Cert.MlaQRefIdeal.τ).loc Cert.MlaQRefIdeal.main_arg1)
      ∧ r.2.mem ((c.tc : Thread Cert.MlaQRefIdeal.nD Cert.MlaQRefIdeal.τ).loc Cert.MlaQRefIdeal.main_arg2) = m ((c.tc : Thread Cert.MlaQRefIdeal.nD Cert.MlaQRefIdeal.τ).loc Cert.MlaQRefIdeal.main_arg2)
      ∧ r.2.mem ((c.tc : Thread Cert.MlaQRefIdeal.nD Cert.MlaQRefIdeal.τ).loc Cert.MlaQRefIdeal.main_arg3) = m ((c.tc : Thread Cert.MlaQRefIdeal.nD Cert.MlaQRefIdeal.τ).loc Cert.MlaQRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v4)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v4) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v16) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v4)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v4) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v7) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx0_DownDx0Ideal : Prop :=
  True

def algebraic_DownDx0Ideal_DownDx0RefIdeal [hDownDx0Ideal : Cert.DownDx0Ideal.Facts] [hDownDx0RefIdeal : Cert.DownDx0RefIdeal.Facts] : Prop :=
  ∀ (m : (ℓ : Loc Cert.DownDx0Ideal.nD Cert.DownDx0Ideal.τ Cert.DownDx0Ideal.sig) → Buf (Elt Ideal) ℓ) (g : Dev Cert.DownDx0Ideal.nD → PrngReg)
    (m' : (ℓ : Loc Cert.DownDx0RefIdeal.nD Cert.DownDx0RefIdeal.τ Cert.DownDx0RefIdeal.sig) → Buf (Elt Ideal) ℓ) (g' : Dev Cert.DownDx0RefIdeal.nD → PrngReg), Pre_DownDx0Ideal m →
    (∀ c : Dev Cert.DownDx0Ideal.nD,
      m' ((c.tc : Thread Cert.DownDx0RefIdeal.nD Cert.DownDx0RefIdeal.τ).loc Cert.DownDx0RefIdeal.main_arg0) = m ((c.tc : Thread Cert.DownDx0Ideal.nD Cert.DownDx0Ideal.τ).loc Cert.DownDx0Ideal.main_arg0)
      ∧ m' ((c.tc : Thread Cert.DownDx0RefIdeal.nD Cert.DownDx0RefIdeal.τ).loc Cert.DownDx0RefIdeal.main_arg1) = m ((c.tc : Thread Cert.DownDx0Ideal.nD Cert.DownDx0Ideal.τ).loc Cert.DownDx0Ideal.main_arg1)
      ∧ m' ((c.tc : Thread Cert.DownDx0RefIdeal.nD Cert.DownDx0RefIdeal.τ).loc Cert.DownDx0RefIdeal.main_arg2) = m ((c.tc : Thread Cert.DownDx0Ideal.nD Cert.DownDx0Ideal.τ).loc Cert.DownDx0Ideal.main_arg2)) →
    ∃ (v0 : (c : Dev Cert.DownDx0Ideal.nD) → Buf (Elt Ideal) ((c.tc : Thread Cert.DownDx0Ideal.nD Cert.DownDx0Ideal.τ).loc Cert.DownDx0Ideal.main_v4)),
      θ_run (Cert.DownDx0Ideal.defs (F := Ideal)) (onTc (τ := Cert.DownDx0Ideal.τ) (Cert.DownDx0Ideal.main (F := Ideal))) ⟨m, fun _ => 0, g⟩ (fun r => ∀ c : Dev Cert.DownDx0Ideal.nD,
          r.2.mem ((c.tc : Thread Cert.DownDx0Ideal.nD Cert.DownDx0Ideal.τ).loc Cert.DownDx0Ideal.main_v4) = v0 c
          ∧ r.2.mem ((c.tc : Thread Cert.DownDx0Ideal.nD Cert.DownDx0Ideal.τ).loc Cert.DownDx0Ideal.main_arg0) = m ((c.tc : Thread Cert.DownDx0Ideal.nD Cert.DownDx0Ideal.τ).loc Cert.DownDx0Ideal.main_arg0)
          ∧ r.2.mem ((c.tc : Thread Cert.DownDx0Ideal.nD Cert.DownDx0Ideal.τ).loc Cert.DownDx0Ideal.main_arg1) = m ((c.tc : Thread Cert.DownDx0Ideal.nD Cert.DownDx0Ideal.τ).loc Cert.DownDx0Ideal.main_arg1)
          ∧ r.2.mem ((c.tc : Thread Cert.DownDx0Ideal.nD Cert.DownDx0Ideal.τ).loc Cert.DownDx0Ideal.main_arg2) = m ((c.tc : Thread Cert.DownDx0Ideal.nD Cert.DownDx0Ideal.τ).loc Cert.DownDx0Ideal.main_arg2))
      ∧ θ_run (Cert.DownDx0RefIdeal.defs (F := Ideal)) (onTc (τ := Cert.DownDx0RefIdeal.τ) (Cert.DownDx0RefIdeal.main (F := Ideal))) ⟨m', fun _ => 0, g'⟩ (fun r => ∀ c : Dev Cert.DownDx0RefIdeal.nD,
          r.2.mem ((c.tc : Thread Cert.DownDx0RefIdeal.nD Cert.DownDx0RefIdeal.τ).loc Cert.DownDx0RefIdeal.main_v16) = v0 c
          ∧ r.2.mem ((c.tc : Thread Cert.DownDx0RefIdeal.nD Cert.DownDx0RefIdeal.τ).loc Cert.DownDx0RefIdeal.main_arg0) = m' ((c.tc : Thread Cert.DownDx0RefIdeal.nD Cert.DownDx0RefIdeal.τ).loc Cert.DownDx0RefIdeal.main_arg0)
          ∧ r.2.mem ((c.tc : Thread Cert.DownDx0RefIdeal.nD Cert.DownDx0RefIdeal.τ).loc Cert.DownDx0RefIdeal.main_arg1) = m' ((c.tc : Thread Cert.DownDx0RefIdeal.nD Cert.DownDx0RefIdeal.τ).loc Cert.DownDx0RefIdeal.main_arg1)
          ∧ r.2.mem ((c.tc : Thread Cert.DownDx0RefIdeal.nD Cert.DownDx0RefIdeal.τ).loc Cert.DownDx0RefIdeal.main_arg2) = m' ((c.tc : Thread Cert.DownDx0RefIdeal.nD Cert.DownDx0RefIdeal.τ).loc Cert.DownDx0RefIdeal.main_arg2))

def preserves_UpDx0_UpDx0Ideal : Prop :=
  True

def algebraic_UpDx0Ideal_UpDx0RefIdeal [hUpDx0Ideal : Cert.UpDx0Ideal.Facts] [hUpDx0RefIdeal : Cert.UpDx0RefIdeal.Facts] : Prop :=
  ∀ (m : (ℓ : Loc Cert.UpDx0Ideal.nD Cert.UpDx0Ideal.τ Cert.UpDx0Ideal.sig) → Buf (Elt Ideal) ℓ) (g : Dev Cert.UpDx0Ideal.nD → PrngReg)
    (m' : (ℓ : Loc Cert.UpDx0RefIdeal.nD Cert.UpDx0RefIdeal.τ Cert.UpDx0RefIdeal.sig) → Buf (Elt Ideal) ℓ) (g' : Dev Cert.UpDx0RefIdeal.nD → PrngReg), Pre_UpDx0Ideal m →
    (∀ c : Dev Cert.UpDx0Ideal.nD,
      m' ((c.tc : Thread Cert.UpDx0RefIdeal.nD Cert.UpDx0RefIdeal.τ).loc Cert.UpDx0RefIdeal.main_arg0) = m ((c.tc : Thread Cert.UpDx0Ideal.nD Cert.UpDx0Ideal.τ).loc Cert.UpDx0Ideal.main_arg0)
      ∧ m' ((c.tc : Thread Cert.UpDx0RefIdeal.nD Cert.UpDx0RefIdeal.τ).loc Cert.UpDx0RefIdeal.main_arg1) = m ((c.tc : Thread Cert.UpDx0Ideal.nD Cert.UpDx0Ideal.τ).loc Cert.UpDx0Ideal.main_arg1)) →
    ∃ (v0 : (c : Dev Cert.UpDx0Ideal.nD) → Buf (Elt Ideal) ((c.tc : Thread Cert.UpDx0Ideal.nD Cert.UpDx0Ideal.τ).loc Cert.UpDx0Ideal.main_v0)),
      θ_run (Cert.UpDx0Ideal.defs (F := Ideal)) (onTc (τ := Cert.UpDx0Ideal.τ) (Cert.UpDx0Ideal.main (F := Ideal))) ⟨m, fun _ => 0, g⟩ (fun r => ∀ c : Dev Cert.UpDx0Ideal.nD,
          r.2.mem ((c.tc : Thread Cert.UpDx0Ideal.nD Cert.UpDx0Ideal.τ).loc Cert.UpDx0Ideal.main_v0) = v0 c
          ∧ r.2.mem ((c.tc : Thread Cert.UpDx0Ideal.nD Cert.UpDx0Ideal.τ).loc Cert.UpDx0Ideal.main_arg0) = m ((c.tc : Thread Cert.UpDx0Ideal.nD Cert.UpDx0Ideal.τ).loc Cert.UpDx0Ideal.main_arg0)
          ∧ r.2.mem ((c.tc : Thread Cert.UpDx0Ideal.nD Cert.UpDx0Ideal.τ).loc Cert.UpDx0Ideal.main_arg1) = m ((c.tc : Thread Cert.UpDx0Ideal.nD Cert.UpDx0Ideal.τ).loc Cert.UpDx0Ideal.main_arg1))
      ∧ θ_run (Cert.UpDx0RefIdeal.defs (F := Ideal)) (onTc (τ := Cert.UpDx0RefIdeal.τ) (Cert.UpDx0RefIdeal.main (F := Ideal))) ⟨m', fun _ => 0, g'⟩ (fun r => ∀ c : Dev Cert.UpDx0RefIdeal.nD,
          r.2.mem ((c.tc : Thread Cert.UpDx0RefIdeal.nD Cert.UpDx0RefIdeal.τ).loc Cert.UpDx0RefIdeal.main_v7) = v0 c
          ∧ r.2.mem ((c.tc : Thread Cert.UpDx0RefIdeal.nD Cert.UpDx0RefIdeal.τ).loc Cert.UpDx0RefIdeal.main_arg0) = m' ((c.tc : Thread Cert.UpDx0RefIdeal.nD Cert.UpDx0RefIdeal.τ).loc Cert.UpDx0RefIdeal.main_arg0)
          ∧ r.2.mem ((c.tc : Thread Cert.UpDx0RefIdeal.nD Cert.UpDx0RefIdeal.τ).loc Cert.UpDx0RefIdeal.main_arg1) = m' ((c.tc : Thread Cert.UpDx0RefIdeal.nD Cert.UpDx0RefIdeal.τ).loc Cert.UpDx0RefIdeal.main_arg1))

def preserves_MlpUp0_MlpUp0Ideal : Prop :=
  True

def algebraic_MlpUp0Ideal_MlpUp0RefIdeal [hMlpUp0Ideal : Cert.MlpUp0Ideal.Facts] [hMlpUp0RefIdeal : Cert.MlpUp0RefIdeal.Facts] : Prop :=
  ∀ (m : (ℓ : Loc Cert.MlpUp0Ideal.nD Cert.MlpUp0Ideal.τ Cert.MlpUp0Ideal.sig) → Buf (Elt Ideal) ℓ) (g : Dev Cert.MlpUp0Ideal.nD → PrngReg)
    (m' : (ℓ : Loc Cert.MlpUp0RefIdeal.nD Cert.MlpUp0RefIdeal.τ Cert.MlpUp0RefIdeal.sig) → Buf (Elt Ideal) ℓ) (g' : Dev Cert.MlpUp0RefIdeal.nD → PrngReg), Pre_MlpUp0Ideal m →
    (∀ c : Dev Cert.MlpUp0Ideal.nD,
      m' ((c.tc : Thread Cert.MlpUp0RefIdeal.nD Cert.MlpUp0RefIdeal.τ).loc Cert.MlpUp0RefIdeal.main_arg0) = m ((c.tc : Thread Cert.MlpUp0Ideal.nD Cert.MlpUp0Ideal.τ).loc Cert.MlpUp0Ideal.main_arg0)
      ∧ m' ((c.tc : Thread Cert.MlpUp0RefIdeal.nD Cert.MlpUp0RefIdeal.τ).loc Cert.MlpUp0RefIdeal.main_arg1) = m ((c.tc : Thread Cert.MlpUp0Ideal.nD Cert.MlpUp0Ideal.τ).loc Cert.MlpUp0Ideal.main_arg1)) →
    ∃ (v0 : (c : Dev Cert.MlpUp0Ideal.nD) → Buf (Elt Ideal) ((c.tc : Thread Cert.MlpUp0Ideal.nD Cert.MlpUp0Ideal.τ).loc Cert.MlpUp0Ideal.main_v0_0)) (v1 : (c : Dev Cert.MlpUp0Ideal.nD) → Buf (Elt Ideal) ((c.tc : Thread Cert.MlpUp0Ideal.nD Cert.MlpUp0Ideal.τ).loc Cert.MlpUp0Ideal.main_v0_1)),
      θ_run (Cert.MlpUp0Ideal.defs (F := Ideal)) (onTc (τ := Cert.MlpUp0Ideal.τ) (Cert.MlpUp0Ideal.main (F := Ideal))) ⟨m, fun _ => 0, g⟩ (fun r => ∀ c : Dev Cert.MlpUp0Ideal.nD,
          r.2.mem ((c.tc : Thread Cert.MlpUp0Ideal.nD Cert.MlpUp0Ideal.τ).loc Cert.MlpUp0Ideal.main_v0_0) = v0 c
          ∧ r.2.mem ((c.tc : Thread Cert.MlpUp0Ideal.nD Cert.MlpUp0Ideal.τ).loc Cert.MlpUp0Ideal.main_v0_1) = v1 c
          ∧ r.2.mem ((c.tc : Thread Cert.MlpUp0Ideal.nD Cert.MlpUp0Ideal.τ).loc Cert.MlpUp0Ideal.main_arg0) = m ((c.tc : Thread Cert.MlpUp0Ideal.nD Cert.MlpUp0Ideal.τ).loc Cert.MlpUp0Ideal.main_arg0)
          ∧ r.2.mem ((c.tc : Thread Cert.MlpUp0Ideal.nD Cert.MlpUp0Ideal.τ).loc Cert.MlpUp0Ideal.main_arg1) = m ((c.tc : Thread Cert.MlpUp0Ideal.nD Cert.MlpUp0Ideal.τ).loc Cert.MlpUp0Ideal.main_arg1))
      ∧ θ_run (Cert.MlpUp0RefIdeal.defs (F := Ideal)) (onTc (τ := Cert.MlpUp0RefIdeal.τ) (Cert.MlpUp0RefIdeal.main (F := Ideal))) ⟨m', fun _ => 0, g'⟩ (fun r => ∀ c : Dev Cert.MlpUp0RefIdeal.nD,
          r.2.mem ((c.tc : Thread Cert.MlpUp0RefIdeal.nD Cert.MlpUp0RefIdeal.τ).loc Cert.MlpUp0RefIdeal.main_v6) = v0 c
          ∧ r.2.mem ((c.tc : Thread Cert.MlpUp0RefIdeal.nD Cert.MlpUp0RefIdeal.τ).loc Cert.MlpUp0RefIdeal.main_v8) = v1 c
          ∧ r.2.mem ((c.tc : Thread Cert.MlpUp0RefIdeal.nD Cert.MlpUp0RefIdeal.τ).loc Cert.MlpUp0RefIdeal.main_arg0) = m' ((c.tc : Thread Cert.MlpUp0RefIdeal.nD Cert.MlpUp0RefIdeal.τ).loc Cert.MlpUp0RefIdeal.main_arg0)
          ∧ r.2.mem ((c.tc : Thread Cert.MlpUp0RefIdeal.nD Cert.MlpUp0RefIdeal.τ).loc Cert.MlpUp0RefIdeal.main_arg1) = m' ((c.tc : Thread Cert.MlpUp0RefIdeal.nD Cert.MlpUp0RefIdeal.τ).loc Cert.MlpUp0RefIdeal.main_arg1))

def preserves_MlpUp1_MlpUp1Ideal : Prop :=
  True

def algebraic_MlpUp1Ideal_MlpUp1RefIdeal [hMlpUp1Ideal : Cert.MlpUp1Ideal.Facts] [hMlpUp1RefIdeal : Cert.MlpUp1RefIdeal.Facts] : Prop :=
  ∀ (m : (ℓ : Loc Cert.MlpUp1Ideal.nD Cert.MlpUp1Ideal.τ Cert.MlpUp1Ideal.sig) → Buf (Elt Ideal) ℓ) (g : Dev Cert.MlpUp1Ideal.nD → PrngReg)
    (m' : (ℓ : Loc Cert.MlpUp1RefIdeal.nD Cert.MlpUp1RefIdeal.τ Cert.MlpUp1RefIdeal.sig) → Buf (Elt Ideal) ℓ) (g' : Dev Cert.MlpUp1RefIdeal.nD → PrngReg), Pre_MlpUp1Ideal m →
    (∀ c : Dev Cert.MlpUp1Ideal.nD,
      m' ((c.tc : Thread Cert.MlpUp1RefIdeal.nD Cert.MlpUp1RefIdeal.τ).loc Cert.MlpUp1RefIdeal.main_arg0) = m ((c.tc : Thread Cert.MlpUp1Ideal.nD Cert.MlpUp1Ideal.τ).loc Cert.MlpUp1Ideal.main_arg0)
      ∧ m' ((c.tc : Thread Cert.MlpUp1RefIdeal.nD Cert.MlpUp1RefIdeal.τ).loc Cert.MlpUp1RefIdeal.main_arg1) = m ((c.tc : Thread Cert.MlpUp1Ideal.nD Cert.MlpUp1Ideal.τ).loc Cert.MlpUp1Ideal.main_arg1)) →
    ∃ (v0 : (c : Dev Cert.MlpUp1Ideal.nD) → Buf (Elt Ideal) ((c.tc : Thread Cert.MlpUp1Ideal.nD Cert.MlpUp1Ideal.τ).loc Cert.MlpUp1Ideal.main_v0_0)) (v1 : (c : Dev Cert.MlpUp1Ideal.nD) → Buf (Elt Ideal) ((c.tc : Thread Cert.MlpUp1Ideal.nD Cert.MlpUp1Ideal.τ).loc Cert.MlpUp1Ideal.main_v0_1)),
      θ_run (Cert.MlpUp1Ideal.defs (F := Ideal)) (onTc (τ := Cert.MlpUp1Ideal.τ) (Cert.MlpUp1Ideal.main (F := Ideal))) ⟨m, fun _ => 0, g⟩ (fun r => ∀ c : Dev Cert.MlpUp1Ideal.nD,
          r.2.mem ((c.tc : Thread Cert.MlpUp1Ideal.nD Cert.MlpUp1Ideal.τ).loc Cert.MlpUp1Ideal.main_v0_0) = v0 c
          ∧ r.2.mem ((c.tc : Thread Cert.MlpUp1Ideal.nD Cert.MlpUp1Ideal.τ).loc Cert.MlpUp1Ideal.main_v0_1) = v1 c
          ∧ r.2.mem ((c.tc : Thread Cert.MlpUp1Ideal.nD Cert.MlpUp1Ideal.τ).loc Cert.MlpUp1Ideal.main_arg0) = m ((c.tc : Thread Cert.MlpUp1Ideal.nD Cert.MlpUp1Ideal.τ).loc Cert.MlpUp1Ideal.main_arg0)
          ∧ r.2.mem ((c.tc : Thread Cert.MlpUp1Ideal.nD Cert.MlpUp1Ideal.τ).loc Cert.MlpUp1Ideal.main_arg1) = m ((c.tc : Thread Cert.MlpUp1Ideal.nD Cert.MlpUp1Ideal.τ).loc Cert.MlpUp1Ideal.main_arg1))
      ∧ θ_run (Cert.MlpUp1RefIdeal.defs (F := Ideal)) (onTc (τ := Cert.MlpUp1RefIdeal.τ) (Cert.MlpUp1RefIdeal.main (F := Ideal))) ⟨m', fun _ => 0, g'⟩ (fun r => ∀ c : Dev Cert.MlpUp1RefIdeal.nD,
          r.2.mem ((c.tc : Thread Cert.MlpUp1RefIdeal.nD Cert.MlpUp1RefIdeal.τ).loc Cert.MlpUp1RefIdeal.main_v6) = v0 c
          ∧ r.2.mem ((c.tc : Thread Cert.MlpUp1RefIdeal.nD Cert.MlpUp1RefIdeal.τ).loc Cert.MlpUp1RefIdeal.main_v8) = v1 c
          ∧ r.2.mem ((c.tc : Thread Cert.MlpUp1RefIdeal.nD Cert.MlpUp1RefIdeal.τ).loc Cert.MlpUp1RefIdeal.main_arg0) = m' ((c.tc : Thread Cert.MlpUp1RefIdeal.nD Cert.MlpUp1RefIdeal.τ).loc Cert.MlpUp1RefIdeal.main_arg0)
          ∧ r.2.mem ((c.tc : Thread Cert.MlpUp1RefIdeal.nD Cert.MlpUp1RefIdeal.τ).loc Cert.MlpUp1RefIdeal.main_arg1) = m' ((c.tc : Thread Cert.MlpUp1RefIdeal.nD Cert.MlpUp1RefIdeal.τ).loc Cert.MlpUp1RefIdeal.main_arg1))

def preserves_MlpDown0_MlpDown0Ideal : Prop :=
  True

def algebraic_MlpDown0Ideal_MlpDown0RefIdeal [hMlpDown0Ideal : Cert.MlpDown0Ideal.Facts] [hMlpDown0RefIdeal : Cert.MlpDown0RefIdeal.Facts] : Prop :=
  ∀ (m : (ℓ : Loc Cert.MlpDown0Ideal.nD Cert.MlpDown0Ideal.τ Cert.MlpDown0Ideal.sig) → Buf (Elt Ideal) ℓ) (g : Dev Cert.MlpDown0Ideal.nD → PrngReg)
    (m' : (ℓ : Loc Cert.MlpDown0RefIdeal.nD Cert.MlpDown0RefIdeal.τ Cert.MlpDown0RefIdeal.sig) → Buf (Elt Ideal) ℓ) (g' : Dev Cert.MlpDown0RefIdeal.nD → PrngReg), Pre_MlpDown0Ideal m →
    (∀ c : Dev Cert.MlpDown0Ideal.nD,
      m' ((c.tc : Thread Cert.MlpDown0RefIdeal.nD Cert.MlpDown0RefIdeal.τ).loc Cert.MlpDown0RefIdeal.main_arg0) = m ((c.tc : Thread Cert.MlpDown0Ideal.nD Cert.MlpDown0Ideal.τ).loc Cert.MlpDown0Ideal.main_arg0)
      ∧ m' ((c.tc : Thread Cert.MlpDown0RefIdeal.nD Cert.MlpDown0RefIdeal.τ).loc Cert.MlpDown0RefIdeal.main_arg1) = m ((c.tc : Thread Cert.MlpDown0Ideal.nD Cert.MlpDown0Ideal.τ).loc Cert.MlpDown0Ideal.main_arg1)) →
    ∃ (v0 : (c : Dev Cert.MlpDown0Ideal.nD) → Buf (Elt Ideal) ((c.tc : Thread Cert.MlpDown0Ideal.nD Cert.MlpDown0Ideal.τ).loc Cert.MlpDown0Ideal.main_v0)),
      θ_run (Cert.MlpDown0Ideal.defs (F := Ideal)) (onTc (τ := Cert.MlpDown0Ideal.τ) (Cert.MlpDown0Ideal.main (F := Ideal))) ⟨m, fun _ => 0, g⟩ (fun r => ∀ c : Dev Cert.MlpDown0Ideal.nD,
          r.2.mem ((c.tc : Thread Cert.MlpDown0Ideal.nD Cert.MlpDown0Ideal.τ).loc Cert.MlpDown0Ideal.main_v0) = v0 c
          ∧ r.2.mem ((c.tc : Thread Cert.MlpDown0Ideal.nD Cert.MlpDown0Ideal.τ).loc Cert.MlpDown0Ideal.main_arg0) = m ((c.tc : Thread Cert.MlpDown0Ideal.nD Cert.MlpDown0Ideal.τ).loc Cert.MlpDown0Ideal.main_arg0)
          ∧ r.2.mem ((c.tc : Thread Cert.MlpDown0Ideal.nD Cert.MlpDown0Ideal.τ).loc Cert.MlpDown0Ideal.main_arg1) = m ((c.tc : Thread Cert.MlpDown0Ideal.nD Cert.MlpDown0Ideal.τ).loc Cert.MlpDown0Ideal.main_arg1))
      ∧ θ_run (Cert.MlpDown0RefIdeal.defs (F := Ideal)) (onTc (τ := Cert.MlpDown0RefIdeal.τ) (Cert.MlpDown0RefIdeal.main (F := Ideal))) ⟨m', fun _ => 0, g'⟩ (fun r => ∀ c : Dev Cert.MlpDown0RefIdeal.nD,
          r.2.mem ((c.tc : Thread Cert.MlpDown0RefIdeal.nD Cert.MlpDown0RefIdeal.τ).loc Cert.MlpDown0RefIdeal.main_v5) = v0 c
          ∧ r.2.mem ((c.tc : Thread Cert.MlpDown0RefIdeal.nD Cert.MlpDown0RefIdeal.τ).loc Cert.MlpDown0RefIdeal.main_arg0) = m' ((c.tc : Thread Cert.MlpDown0RefIdeal.nD Cert.MlpDown0RefIdeal.τ).loc Cert.MlpDown0RefIdeal.main_arg0)
          ∧ r.2.mem ((c.tc : Thread Cert.MlpDown0RefIdeal.nD Cert.MlpDown0RefIdeal.τ).loc Cert.MlpDown0RefIdeal.main_arg1) = m' ((c.tc : Thread Cert.MlpDown0RefIdeal.nD Cert.MlpDown0RefIdeal.τ).loc Cert.MlpDown0RefIdeal.main_arg1))

def preserves_MlpDown1_MlpDown1Ideal : Prop :=
  True

def algebraic_MlpDown1Ideal_MlpDown1RefIdeal [hMlpDown1Ideal : Cert.MlpDown1Ideal.Facts] [hMlpDown1RefIdeal : Cert.MlpDown1RefIdeal.Facts] : Prop :=
  ∀ (m : (ℓ : Loc Cert.MlpDown1Ideal.nD Cert.MlpDown1Ideal.τ Cert.MlpDown1Ideal.sig) → Buf (Elt Ideal) ℓ) (g : Dev Cert.MlpDown1Ideal.nD → PrngReg)
    (m' : (ℓ : Loc Cert.MlpDown1RefIdeal.nD Cert.MlpDown1RefIdeal.τ Cert.MlpDown1RefIdeal.sig) → Buf (Elt Ideal) ℓ) (g' : Dev Cert.MlpDown1RefIdeal.nD → PrngReg), Pre_MlpDown1Ideal m →
    (∀ c : Dev Cert.MlpDown1Ideal.nD,
      m' ((c.tc : Thread Cert.MlpDown1RefIdeal.nD Cert.MlpDown1RefIdeal.τ).loc Cert.MlpDown1RefIdeal.main_arg0) = m ((c.tc : Thread Cert.MlpDown1Ideal.nD Cert.MlpDown1Ideal.τ).loc Cert.MlpDown1Ideal.main_arg0)
      ∧ m' ((c.tc : Thread Cert.MlpDown1RefIdeal.nD Cert.MlpDown1RefIdeal.τ).loc Cert.MlpDown1RefIdeal.main_arg1) = m ((c.tc : Thread Cert.MlpDown1Ideal.nD Cert.MlpDown1Ideal.τ).loc Cert.MlpDown1Ideal.main_arg1)) →
    ∃ (v0 : (c : Dev Cert.MlpDown1Ideal.nD) → Buf (Elt Ideal) ((c.tc : Thread Cert.MlpDown1Ideal.nD Cert.MlpDown1Ideal.τ).loc Cert.MlpDown1Ideal.main_v0)),
      θ_run (Cert.MlpDown1Ideal.defs (F := Ideal)) (onTc (τ := Cert.MlpDown1Ideal.τ) (Cert.MlpDown1Ideal.main (F := Ideal))) ⟨m, fun _ => 0, g⟩ (fun r => ∀ c : Dev Cert.MlpDown1Ideal.nD,
          r.2.mem ((c.tc : Thread Cert.MlpDown1Ideal.nD Cert.MlpDown1Ideal.τ).loc Cert.MlpDown1Ideal.main_v0) = v0 c
          ∧ r.2.mem ((c.tc : Thread Cert.MlpDown1Ideal.nD Cert.MlpDown1Ideal.τ).loc Cert.MlpDown1Ideal.main_arg0) = m ((c.tc : Thread Cert.MlpDown1Ideal.nD Cert.MlpDown1Ideal.τ).loc Cert.MlpDown1Ideal.main_arg0)
          ∧ r.2.mem ((c.tc : Thread Cert.MlpDown1Ideal.nD Cert.MlpDown1Ideal.τ).loc Cert.MlpDown1Ideal.main_arg1) = m ((c.tc : Thread Cert.MlpDown1Ideal.nD Cert.MlpDown1Ideal.τ).loc Cert.MlpDown1Ideal.main_arg1))
      ∧ θ_run (Cert.MlpDown1RefIdeal.defs (F := Ideal)) (onTc (τ := Cert.MlpDown1RefIdeal.τ) (Cert.MlpDown1RefIdeal.main (F := Ideal))) ⟨m', fun _ => 0, g'⟩ (fun r => ∀ c : Dev Cert.MlpDown1RefIdeal.nD,
          r.2.mem ((c.tc : Thread Cert.MlpDown1RefIdeal.nD Cert.MlpDown1RefIdeal.τ).loc Cert.MlpDown1RefIdeal.main_v5) = v0 c
          ∧ r.2.mem ((c.tc : Thread Cert.MlpDown1RefIdeal.nD Cert.MlpDown1RefIdeal.τ).loc Cert.MlpDown1RefIdeal.main_arg0) = m' ((c.tc : Thread Cert.MlpDown1RefIdeal.nD Cert.MlpDown1RefIdeal.τ).loc Cert.MlpDown1RefIdeal.main_arg0)
          ∧ r.2.mem ((c.tc : Thread Cert.MlpDown1RefIdeal.nD Cert.MlpDown1RefIdeal.τ).loc Cert.MlpDown1RefIdeal.main_arg1) = m' ((c.tc : Thread Cert.MlpDown1RefIdeal.nD Cert.MlpDown1RefIdeal.τ).loc Cert.MlpDown1RefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)) →
    ∃ (v0 : (c : Dev Cert.ConvInIdeal.nD) → Buf (Elt Ideal) ((c.tc : Thread Cert.ConvInIdeal.nD Cert.ConvInIdeal.τ).loc Cert.ConvInIdeal.main_v0)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v10) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1))

def preserves_ConvInDx_ConvInDxIdeal : Prop :=
  True

def algebraic_ConvInDxIdeal_ConvInDxRefIdeal [hConvInDxIdeal : Cert.ConvInDxIdeal.Facts] [hConvInDxRefIdeal : Cert.ConvInDxRefIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg)
    (m' : (ℓ : Loc Cert.ConvInDxRefIdeal.nD Cert.ConvInDxRefIdeal.τ Cert.ConvInDxRefIdeal.sig) → Buf (Elt Ideal) ℓ) (g' : Dev Cert.ConvInDxRefIdeal.nD → PrngReg), Pre_ConvInDxIdeal m →
    (∀ c : Dev Cert.ConvInDxIdeal.nD,
      m' ((c.tc : Thread Cert.ConvInDxRefIdeal.nD Cert.ConvInDxRefIdeal.τ).loc Cert.ConvInDxRefIdeal.main_arg0) = m ((c.tc : Thread Cert.ConvInDxIdeal.nD Cert.ConvInDxIdeal.τ).loc Cert.ConvInDxIdeal.main_arg0)
      ∧ m' ((c.tc : Thread Cert.ConvInDxRefIdeal.nD Cert.ConvInDxRefIdeal.τ).loc Cert.ConvInDxRefIdeal.main_arg1) = m ((c.tc : Thread Cert.ConvInDxIdeal.nD Cert.ConvInDxIdeal.τ).loc Cert.ConvInDxIdeal.main_arg1)) →
    ∃ (v0 : (c : Dev Cert.ConvInDxIdeal.nD) → Buf (Elt Ideal) ((c.tc : Thread Cert.ConvInDxIdeal.nD Cert.ConvInDxIdeal.τ).loc Cert.ConvInDxIdeal.main_v0)),
      θ_run (Cert.ConvInDxIdeal.defs (F := Ideal)) (onTc (τ := Cert.ConvInDxIdeal.τ) (Cert.ConvInDxIdeal.main (F := Ideal))) ⟨m, fun _ => 0, g⟩ (fun r => ∀ c : Dev Cert.ConvInDxIdeal.nD,
          r.2.mem ((c.tc : Thread Cert.ConvInDxIdeal.nD Cert.ConvInDxIdeal.τ).loc Cert.ConvInDxIdeal.main_v0) = v0 c
          ∧ r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
          ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1))
      ∧ θ_run (Cert.ConvInDxRefIdeal.defs (F := Ideal)) (onTc (τ := Cert.ConvInDxRefIdeal.τ) (Cert.ConvInDxRefIdeal.main (F := Ideal))) ⟨m', fun _ => 0, g'⟩ (fun r => ∀ c : Dev Cert.ConvInDxRefIdeal.nD,
          r.2.mem ((c.tc : Thread Cert.ConvInDxRefIdeal.nD Cert.ConvInDxRefIdeal.τ).loc Cert.ConvInDxRefIdeal.main_v23) = v0 c
          ∧ r.2.mem ((c.tc : Thread Cert.ConvInDxRefIdeal.nD Cert.ConvInDxRefIdeal.τ).loc Cert.ConvInDxRefIdeal.main_arg0) = m' ((c.tc : Thread Cert.ConvInDxRefIdeal.nD Cert.ConvInDxRefIdeal.τ).loc Cert.ConvInDxRefIdeal.main_arg0)
          ∧ r.2.mem ((c.tc : Thread Cert.ConvInDxRefIdeal.nD Cert.ConvInDxRefIdeal.τ).loc Cert.ConvInDxRefIdeal.main_arg1) = m' ((c.tc : Thread Cert.ConvInDxRefIdeal.nD Cert.ConvInDxRefIdeal.τ).loc Cert.ConvInDxRefIdeal.main_arg1))

def preserves_ConvInDw_ConvInDwIdeal : Prop :=
  True

def algebraic_ConvInDwIdeal_ConvInDwRefIdeal [hConvInDwIdeal : Cert.ConvInDwIdeal.Facts] [hConvInDwRefIdeal : Cert.ConvInDwRefIdeal.Facts] : Prop :=
  ∀ (m : (ℓ : Loc Cert.ConvInDwIdeal.nD Cert.ConvInDwIdeal.τ Cert.ConvInDwIdeal.sig) → Buf (Elt Ideal) ℓ) (g : Dev Cert.ConvInDwIdeal.nD → PrngReg)
    (m' : (ℓ : Loc Cert.ConvInDwRefIdeal.nD Cert.ConvInDwRefIdeal.τ Cert.ConvInDwRefIdeal.sig) → Buf (Elt Ideal) ℓ) (g' : Dev Cert.ConvInDwRefIdeal.nD → PrngReg), Pre_ConvInDwIdeal m →
    (∀ c : Dev Cert.ConvInDwIdeal.nD,
      m' ((c.tc : Thread Cert.ConvInDwRefIdeal.nD Cert.ConvInDwRefIdeal.τ).loc Cert.ConvInDwRefIdeal.main_arg0) = m ((c.tc : Thread Cert.ConvInDwIdeal.nD Cert.ConvInDwIdeal.τ).loc Cert.ConvInDwIdeal.main_arg0)
      ∧ m' ((c.tc : Thread Cert.ConvInDwRefIdeal.nD Cert.ConvInDwRefIdeal.τ).loc Cert.ConvInDwRefIdeal.main_arg1) = m ((c.tc : Thread Cert.ConvInDwIdeal.nD Cert.ConvInDwIdeal.τ).loc Cert.ConvInDwIdeal.main_arg1)) →
    ∃ (v0 : (c : Dev Cert.ConvInDwIdeal.nD) → Buf (Elt Ideal) ((c.tc : Thread Cert.ConvInDwIdeal.nD Cert.ConvInDwIdeal.τ).loc Cert.ConvInDwIdeal.main_v0)),
      θ_run (Cert.ConvInDwIdeal.defs (F := Ideal)) (onTc (τ := Cert.ConvInDwIdeal.τ) (Cert.ConvInDwIdeal.main (F := Ideal))) ⟨m, fun _ => 0, g⟩ (fun r => ∀ c : Dev Cert.ConvInDwIdeal.nD,
          r.2.mem ((c.tc : Thread Cert.ConvInDwIdeal.nD Cert.ConvInDwIdeal.τ).loc Cert.ConvInDwIdeal.main_v0) = v0 c
          ∧ r.2.mem ((c.tc : Thread Cert.ConvInDwIdeal.nD Cert.ConvInDwIdeal.τ).loc Cert.ConvInDwIdeal.main_arg0) = m ((c.tc : Thread Cert.ConvInDwIdeal.nD Cert.ConvInDwIdeal.τ).loc Cert.ConvInDwIdeal.main_arg0)
          ∧ r.2.mem ((c.tc : Thread Cert.ConvInDwIdeal.nD Cert.ConvInDwIdeal.τ).loc Cert.ConvInDwIdeal.main_arg1) = m ((c.tc : Thread Cert.ConvInDwIdeal.nD Cert.ConvInDwIdeal.τ).loc Cert.ConvInDwIdeal.main_arg1))
      ∧ θ_run (Cert.ConvInDwRefIdeal.defs (F := Ideal)) (onTc (τ := Cert.ConvInDwRefIdeal.τ) (Cert.ConvInDwRefIdeal.main (F := Ideal))) ⟨m', fun _ => 0, g'⟩ (fun r => ∀ c : Dev Cert.ConvInDwRefIdeal.nD,
          r.2.mem ((c.tc : Thread Cert.ConvInDwRefIdeal.nD Cert.ConvInDwRefIdeal.τ).loc Cert.ConvInDwRefIdeal.main_v24) = v0 c
          ∧ r.2.mem ((c.tc : Thread Cert.ConvInDwRefIdeal.nD Cert.ConvInDwRefIdeal.τ).loc Cert.ConvInDwRefIdeal.main_arg0) = m' ((c.tc : Thread Cert.ConvInDwRefIdeal.nD Cert.ConvInDwRefIdeal.τ).loc Cert.ConvInDwRefIdeal.main_arg0)
          ∧ r.2.mem ((c.tc : Thread Cert.ConvInDwRefIdeal.nD Cert.ConvInDwRefIdeal.τ).loc Cert.ConvInDwRefIdeal.main_arg1) = m' ((c.tc : Thread Cert.ConvInDwRefIdeal.nD Cert.ConvInDwRefIdeal.τ).loc Cert.ConvInDwRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v4) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v6) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_Lat_LatIdeal : Prop :=
  True

def algebraic_LatIdeal_LatRefIdeal [hLatIdeal : Cert.LatIdeal.Facts] [hLatRefIdeal : Cert.LatRefIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)) →
    ∃ (v0 : (c : Dev Cert.LatIdeal.nD) → Buf (Elt Ideal) ((c.tc : Thread Cert.LatIdeal.nD Cert.LatIdeal.τ).loc Cert.LatIdeal.main_v0)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v0) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v2) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1))

def preserves_LatDx_LatDxIdeal : Prop :=
  True

def algebraic_LatDxIdeal_LatDxRefIdeal [hLatDxIdeal : Cert.LatDxIdeal.Facts] [hLatDxRefIdeal : Cert.LatDxRefIdeal.Facts] : Prop :=
  ∀ (m : (ℓ : Loc Cert.LatDxIdeal.nD Cert.LatDxIdeal.τ Cert.LatDxIdeal.sig) → Buf (Elt Ideal) ℓ) (g : Dev Cert.LatDxIdeal.nD → PrngReg)
    (m' : (ℓ : Loc Cert.LatDxRefIdeal.nD Cert.LatDxRefIdeal.τ Cert.LatDxRefIdeal.sig) → Buf (Elt Ideal) ℓ) (g' : Dev Cert.LatDxRefIdeal.nD → PrngReg), Pre_LatDxIdeal m →
    (∀ c : Dev Cert.LatDxIdeal.nD,
      m' ((c.tc : Thread Cert.LatDxRefIdeal.nD Cert.LatDxRefIdeal.τ).loc Cert.LatDxRefIdeal.main_arg0) = m ((c.tc : Thread Cert.LatDxIdeal.nD Cert.LatDxIdeal.τ).loc Cert.LatDxIdeal.main_arg0)
      ∧ m' ((c.tc : Thread Cert.LatDxRefIdeal.nD Cert.LatDxRefIdeal.τ).loc Cert.LatDxRefIdeal.main_arg1) = m ((c.tc : Thread Cert.LatDxIdeal.nD Cert.LatDxIdeal.τ).loc Cert.LatDxIdeal.main_arg1)) →
    ∃ (v0 : (c : Dev Cert.LatDxIdeal.nD) → Buf (Elt Ideal) ((c.tc : Thread Cert.LatDxIdeal.nD Cert.LatDxIdeal.τ).loc Cert.LatDxIdeal.main_v0)),
      θ_run (Cert.LatDxIdeal.defs (F := Ideal)) (onTc (τ := Cert.LatDxIdeal.τ) (Cert.LatDxIdeal.main (F := Ideal))) ⟨m, fun _ => 0, g⟩ (fun r => ∀ c : Dev Cert.LatDxIdeal.nD,
          r.2.mem ((c.tc : Thread Cert.LatDxIdeal.nD Cert.LatDxIdeal.τ).loc Cert.LatDxIdeal.main_v0) = v0 c
          ∧ r.2.mem ((c.tc : Thread Cert.LatDxIdeal.nD Cert.LatDxIdeal.τ).loc Cert.LatDxIdeal.main_arg0) = m ((c.tc : Thread Cert.LatDxIdeal.nD Cert.LatDxIdeal.τ).loc Cert.LatDxIdeal.main_arg0)
          ∧ r.2.mem ((c.tc : Thread Cert.LatDxIdeal.nD Cert.LatDxIdeal.τ).loc Cert.LatDxIdeal.main_arg1) = m ((c.tc : Thread Cert.LatDxIdeal.nD Cert.LatDxIdeal.τ).loc Cert.LatDxIdeal.main_arg1))
      ∧ θ_run (Cert.LatDxRefIdeal.defs (F := Ideal)) (onTc (τ := Cert.LatDxRefIdeal.τ) (Cert.LatDxRefIdeal.main (F := Ideal))) ⟨m', fun _ => 0, g'⟩ (fun r => ∀ c : Dev Cert.LatDxRefIdeal.nD,
          r.2.mem ((c.tc : Thread Cert.LatDxRefIdeal.nD Cert.LatDxRefIdeal.τ).loc Cert.LatDxRefIdeal.main_v5) = v0 c
          ∧ r.2.mem ((c.tc : Thread Cert.LatDxRefIdeal.nD Cert.LatDxRefIdeal.τ).loc Cert.LatDxRefIdeal.main_arg0) = m' ((c.tc : Thread Cert.LatDxRefIdeal.nD Cert.LatDxRefIdeal.τ).loc Cert.LatDxRefIdeal.main_arg0)
          ∧ r.2.mem ((c.tc : Thread Cert.LatDxRefIdeal.nD Cert.LatDxRefIdeal.τ).loc Cert.LatDxRefIdeal.main_arg1) = m' ((c.tc : Thread Cert.LatDxRefIdeal.nD Cert.LatDxRefIdeal.τ).loc Cert.LatDxRefIdeal.main_arg1))

def preserves_LatDw_LatDwIdeal : Prop :=
  True

def algebraic_LatDwIdeal_LatDwRefIdeal [hLatDwIdeal : Cert.LatDwIdeal.Facts] [hLatDwRefIdeal : Cert.LatDwRefIdeal.Facts] : Prop :=
  ∀ (m : (ℓ : Loc Cert.LatDwIdeal.nD Cert.LatDwIdeal.τ Cert.LatDwIdeal.sig) → Buf (Elt Ideal) ℓ) (g : Dev Cert.LatDwIdeal.nD → PrngReg)
    (m' : (ℓ : Loc Cert.LatDwRefIdeal.nD Cert.LatDwRefIdeal.τ Cert.LatDwRefIdeal.sig) → Buf (Elt Ideal) ℓ) (g' : Dev Cert.LatDwRefIdeal.nD → PrngReg), Pre_LatDwIdeal m →
    (∀ c : Dev Cert.LatDwIdeal.nD,
      m' ((c.tc : Thread Cert.LatDwRefIdeal.nD Cert.LatDwRefIdeal.τ).loc Cert.LatDwRefIdeal.main_arg0) = m ((c.tc : Thread Cert.LatDwIdeal.nD Cert.LatDwIdeal.τ).loc Cert.LatDwIdeal.main_arg0)
      ∧ m' ((c.tc : Thread Cert.LatDwRefIdeal.nD Cert.LatDwRefIdeal.τ).loc Cert.LatDwRefIdeal.main_arg1) = m ((c.tc : Thread Cert.LatDwIdeal.nD Cert.LatDwIdeal.τ).loc Cert.LatDwIdeal.main_arg1)) →
    ∃ (v0 : (c : Dev Cert.LatDwIdeal.nD) → Buf (Elt Ideal) ((c.tc : Thread Cert.LatDwIdeal.nD Cert.LatDwIdeal.τ).loc Cert.LatDwIdeal.main_v0)),
      θ_run (Cert.LatDwIdeal.defs (F := Ideal)) (onTc (τ := Cert.LatDwIdeal.τ) (Cert.LatDwIdeal.main (F := Ideal))) ⟨m, fun _ => 0, g⟩ (fun r => ∀ c : Dev Cert.LatDwIdeal.nD,
          r.2.mem ((c.tc : Thread Cert.LatDwIdeal.nD Cert.LatDwIdeal.τ).loc Cert.LatDwIdeal.main_v0) = v0 c
          ∧ r.2.mem ((c.tc : Thread Cert.LatDwIdeal.nD Cert.LatDwIdeal.τ).loc Cert.LatDwIdeal.main_arg0) = m ((c.tc : Thread Cert.LatDwIdeal.nD Cert.LatDwIdeal.τ).loc Cert.LatDwIdeal.main_arg0)
          ∧ r.2.mem ((c.tc : Thread Cert.LatDwIdeal.nD Cert.LatDwIdeal.τ).loc Cert.LatDwIdeal.main_arg1) = m ((c.tc : Thread Cert.LatDwIdeal.nD Cert.LatDwIdeal.τ).loc Cert.LatDwIdeal.main_arg1))
      ∧ θ_run (Cert.LatDwRefIdeal.defs (F := Ideal)) (onTc (τ := Cert.LatDwRefIdeal.τ) (Cert.LatDwRefIdeal.main (F := Ideal))) ⟨m', fun _ => 0, g'⟩ (fun r => ∀ c : Dev Cert.LatDwRefIdeal.nD,
          r.2.mem ((c.tc : Thread Cert.LatDwRefIdeal.nD Cert.LatDwRefIdeal.τ).loc Cert.LatDwRefIdeal.main_v6) = v0 c
          ∧ r.2.mem ((c.tc : Thread Cert.LatDwRefIdeal.nD Cert.LatDwRefIdeal.τ).loc Cert.LatDwRefIdeal.main_arg0) = m' ((c.tc : Thread Cert.LatDwRefIdeal.nD Cert.LatDwRefIdeal.τ).loc Cert.LatDwRefIdeal.main_arg0)
          ∧ r.2.mem ((c.tc : Thread Cert.LatDwRefIdeal.nD Cert.LatDwRefIdeal.τ).loc Cert.LatDwRefIdeal.main_arg1) = m' ((c.tc : Thread Cert.LatDwRefIdeal.nD Cert.LatDwRefIdeal.τ).loc Cert.LatDwRefIdeal.main_arg1))

def preserves_Bound_BoundIdeal : Prop :=
  True

def algebraic_BoundIdeal_BoundRefIdeal [hBoundIdeal : Cert.BoundIdeal.Facts] [hBoundRefIdeal : Cert.BoundRefIdeal.Facts] : Prop :=
  ∀ (m : (ℓ : Loc Cert.BoundIdeal.nD Cert.BoundIdeal.τ Cert.BoundIdeal.sig) → Buf (Elt Ideal) ℓ) (g : Dev Cert.BoundIdeal.nD → PrngReg)
    (m' : (ℓ : Loc Cert.BoundRefIdeal.nD Cert.BoundRefIdeal.τ Cert.BoundRefIdeal.sig) → Buf (Elt Ideal) ℓ) (g' : Dev Cert.BoundRefIdeal.nD → PrngReg), Pre_BoundIdeal m →
    (∀ c : Dev Cert.BoundIdeal.nD,
      m' ((c.tc : Thread Cert.BoundRefIdeal.nD Cert.BoundRefIdeal.τ).loc Cert.BoundRefIdeal.main_arg0) = m ((c.tc : Thread Cert.BoundIdeal.nD Cert.BoundIdeal.τ).loc Cert.BoundIdeal.main_arg0)
      ∧ m' ((c.tc : Thread Cert.BoundRefIdeal.nD Cert.BoundRefIdeal.τ).loc Cert.BoundRefIdeal.main_arg1) = m ((c.tc : Thread Cert.BoundIdeal.nD Cert.BoundIdeal.τ).loc Cert.BoundIdeal.main_arg1)
      ∧ m' ((c.tc : Thread Cert.BoundRefIdeal.nD Cert.BoundRefIdeal.τ).loc Cert.BoundRefIdeal.main_arg2) = m ((c.tc : Thread Cert.BoundIdeal.nD Cert.BoundIdeal.τ).loc Cert.BoundIdeal.main_arg2)
      ∧ m' ((c.tc : Thread Cert.BoundRefIdeal.nD Cert.BoundRefIdeal.τ).loc Cert.BoundRefIdeal.main_arg3) = m ((c.tc : Thread Cert.BoundIdeal.nD Cert.BoundIdeal.τ).loc Cert.BoundIdeal.main_arg3)
      ∧ m' ((c.tc : Thread Cert.BoundRefIdeal.nD Cert.BoundRefIdeal.τ).loc Cert.BoundRefIdeal.main_arg4) = m ((c.tc : Thread Cert.BoundIdeal.nD Cert.BoundIdeal.τ).loc Cert.BoundIdeal.main_arg4)
      ∧ m' ((c.tc : Thread Cert.BoundRefIdeal.nD Cert.BoundRefIdeal.τ).loc Cert.BoundRefIdeal.main_arg5) = m ((c.tc : Thread Cert.BoundIdeal.nD Cert.BoundIdeal.τ).loc Cert.BoundIdeal.main_arg5)
      ∧ m' ((c.tc : Thread Cert.BoundRefIdeal.nD Cert.BoundRefIdeal.τ).loc Cert.BoundRefIdeal.main_arg6) = m ((c.tc : Thread Cert.BoundIdeal.nD Cert.BoundIdeal.τ).loc Cert.BoundIdeal.main_arg6)
      ∧ m' ((c.tc : Thread Cert.BoundRefIdeal.nD Cert.BoundRefIdeal.τ).loc Cert.BoundRefIdeal.main_arg7) = m ((c.tc : Thread Cert.BoundIdeal.nD Cert.BoundIdeal.τ).loc Cert.BoundIdeal.main_arg7)) →
    ∃ (v0 : (c : Dev Cert.BoundIdeal.nD) → Buf (Elt Ideal) ((c.tc : Thread Cert.BoundIdeal.nD Cert.BoundIdeal.τ).loc Cert.BoundIdeal.main_v0_0)) (v1 : (c : Dev Cert.BoundIdeal.nD) → Buf (Elt Ideal) ((c.tc : Thread Cert.BoundIdeal.nD Cert.BoundIdeal.τ).loc Cert.BoundIdeal.main_v0_1)) (v2 : (c : Dev Cert.BoundIdeal.nD) → Buf (Elt Ideal) ((c.tc : Thread Cert.BoundIdeal.nD Cert.BoundIdeal.τ).loc Cert.BoundIdeal.main_v0_2)),
      θ_run (Cert.BoundIdeal.defs (F := Ideal)) (onTc (τ := Cert.BoundIdeal.τ) (Cert.BoundIdeal.main (F := Ideal))) ⟨m, fun _ => 0, g⟩ (fun r => ∀ c : Dev Cert.BoundIdeal.nD,
          r.2.mem ((c.tc : Thread Cert.BoundIdeal.nD Cert.BoundIdeal.τ).loc Cert.BoundIdeal.main_v0_0) = v0 c
          ∧ r.2.mem ((c.tc : Thread Cert.BoundIdeal.nD Cert.BoundIdeal.τ).loc Cert.BoundIdeal.main_v0_1) = v1 c
          ∧ r.2.mem ((c.tc : Thread Cert.BoundIdeal.nD Cert.BoundIdeal.τ).loc Cert.BoundIdeal.main_v0_2) = v2 c
          ∧ r.2.mem ((c.tc : Thread Cert.BoundIdeal.nD Cert.BoundIdeal.τ).loc Cert.BoundIdeal.main_arg0) = m ((c.tc : Thread Cert.BoundIdeal.nD Cert.BoundIdeal.τ).loc Cert.BoundIdeal.main_arg0)
          ∧ r.2.mem ((c.tc : Thread Cert.BoundIdeal.nD Cert.BoundIdeal.τ).loc Cert.BoundIdeal.main_arg1) = m ((c.tc : Thread Cert.BoundIdeal.nD Cert.BoundIdeal.τ).loc Cert.BoundIdeal.main_arg1)
          ∧ r.2.mem ((c.tc : Thread Cert.BoundIdeal.nD Cert.BoundIdeal.τ).loc Cert.BoundIdeal.main_arg2) = m ((c.tc : Thread Cert.BoundIdeal.nD Cert.BoundIdeal.τ).loc Cert.BoundIdeal.main_arg2)
          ∧ r.2.mem ((c.tc : Thread Cert.BoundIdeal.nD Cert.BoundIdeal.τ).loc Cert.BoundIdeal.main_arg3) = m ((c.tc : Thread Cert.BoundIdeal.nD Cert.BoundIdeal.τ).loc Cert.BoundIdeal.main_arg3)
          ∧ r.2.mem ((c.tc : Thread Cert.BoundIdeal.nD Cert.BoundIdeal.τ).loc Cert.BoundIdeal.main_arg4) = m ((c.tc : Thread Cert.BoundIdeal.nD Cert.BoundIdeal.τ).loc Cert.BoundIdeal.main_arg4)
          ∧ r.2.mem ((c.tc : Thread Cert.BoundIdeal.nD Cert.BoundIdeal.τ).loc Cert.BoundIdeal.main_arg5) = m ((c.tc : Thread Cert.BoundIdeal.nD Cert.BoundIdeal.τ).loc Cert.BoundIdeal.main_arg5)
          ∧ r.2.mem ((c.tc : Thread Cert.BoundIdeal.nD Cert.BoundIdeal.τ).loc Cert.BoundIdeal.main_arg6) = m ((c.tc : Thread Cert.BoundIdeal.nD Cert.BoundIdeal.τ).loc Cert.BoundIdeal.main_arg6)
          ∧ r.2.mem ((c.tc : Thread Cert.BoundIdeal.nD Cert.BoundIdeal.τ).loc Cert.BoundIdeal.main_arg7) = m ((c.tc : Thread Cert.BoundIdeal.nD Cert.BoundIdeal.τ).loc Cert.BoundIdeal.main_arg7))
      ∧ θ_run (Cert.BoundRefIdeal.defs (F := Ideal)) (onTc (τ := Cert.BoundRefIdeal.τ) (Cert.BoundRefIdeal.main (F := Ideal))) ⟨m', fun _ => 0, g'⟩ (fun r => ∀ c : Dev Cert.BoundRefIdeal.nD,
          r.2.mem ((c.tc : Thread Cert.BoundRefIdeal.nD Cert.BoundRefIdeal.τ).loc Cert.BoundRefIdeal.main_v49) = v0 c
          ∧ r.2.mem ((c.tc : Thread Cert.BoundRefIdeal.nD Cert.BoundRefIdeal.τ).loc Cert.BoundRefIdeal.main_v92) = v1 c
          ∧ r.2.mem ((c.tc : Thread Cert.BoundRefIdeal.nD Cert.BoundRefIdeal.τ).loc Cert.BoundRefIdeal.main_v94) = v2 c
          ∧ r.2.mem ((c.tc : Thread Cert.BoundRefIdeal.nD Cert.BoundRefIdeal.τ).loc Cert.BoundRefIdeal.main_arg0) = m' ((c.tc : Thread Cert.BoundRefIdeal.nD Cert.BoundRefIdeal.τ).loc Cert.BoundRefIdeal.main_arg0)
          ∧ r.2.mem ((c.tc : Thread Cert.BoundRefIdeal.nD Cert.BoundRefIdeal.τ).loc Cert.BoundRefIdeal.main_arg1) = m' ((c.tc : Thread Cert.BoundRefIdeal.nD Cert.BoundRefIdeal.τ).loc Cert.BoundRefIdeal.main_arg1)
          ∧ r.2.mem ((c.tc : Thread Cert.BoundRefIdeal.nD Cert.BoundRefIdeal.τ).loc Cert.BoundRefIdeal.main_arg2) = m' ((c.tc : Thread Cert.BoundRefIdeal.nD Cert.BoundRefIdeal.τ).loc Cert.BoundRefIdeal.main_arg2)
          ∧ r.2.mem ((c.tc : Thread Cert.BoundRefIdeal.nD Cert.BoundRefIdeal.τ).loc Cert.BoundRefIdeal.main_arg3) = m' ((c.tc : Thread Cert.BoundRefIdeal.nD Cert.BoundRefIdeal.τ).loc Cert.BoundRefIdeal.main_arg3)
          ∧ r.2.mem ((c.tc : Thread Cert.BoundRefIdeal.nD Cert.BoundRefIdeal.τ).loc Cert.BoundRefIdeal.main_arg4) = m' ((c.tc : Thread Cert.BoundRefIdeal.nD Cert.BoundRefIdeal.τ).loc Cert.BoundRefIdeal.main_arg4)
          ∧ r.2.mem ((c.tc : Thread Cert.BoundRefIdeal.nD Cert.BoundRefIdeal.τ).loc Cert.BoundRefIdeal.main_arg5) = m' ((c.tc : Thread Cert.BoundRefIdeal.nD Cert.BoundRefIdeal.τ).loc Cert.BoundRefIdeal.main_arg5)
          ∧ r.2.mem ((c.tc : Thread Cert.BoundRefIdeal.nD Cert.BoundRefIdeal.τ).loc Cert.BoundRefIdeal.main_arg6) = m' ((c.tc : Thread Cert.BoundRefIdeal.nD Cert.BoundRefIdeal.τ).loc Cert.BoundRefIdeal.main_arg6)
          ∧ r.2.mem ((c.tc : Thread Cert.BoundRefIdeal.nD Cert.BoundRefIdeal.τ).loc Cert.BoundRefIdeal.main_arg7) = m' ((c.tc : Thread Cert.BoundRefIdeal.nD Cert.BoundRefIdeal.τ).loc Cert.BoundRefIdeal.main_arg7))

def preserves_Bound0_Bound0Ideal : Prop :=
  True

def algebraic_Bound0Ideal_Bound0RefIdeal [hBound0Ideal : Cert.Bound0Ideal.Facts] [hBound0RefIdeal : Cert.Bound0RefIdeal.Facts] : Prop :=
  ∀ (m : (ℓ : Loc Cert.Bound0Ideal.nD Cert.Bound0Ideal.τ Cert.Bound0Ideal.sig) → Buf (Elt Ideal) ℓ) (g : Dev Cert.Bound0Ideal.nD → PrngReg)
    (m' : (ℓ : Loc Cert.Bound0RefIdeal.nD Cert.Bound0RefIdeal.τ Cert.Bound0RefIdeal.sig) → Buf (Elt Ideal) ℓ) (g' : Dev Cert.Bound0RefIdeal.nD → PrngReg), Pre_Bound0Ideal m →
    (∀ c : Dev Cert.Bound0Ideal.nD,
      m' ((c.tc : Thread Cert.Bound0RefIdeal.nD Cert.Bound0RefIdeal.τ).loc Cert.Bound0RefIdeal.main_arg0) = m ((c.tc : Thread Cert.Bound0Ideal.nD Cert.Bound0Ideal.τ).loc Cert.Bound0Ideal.main_arg0)
      ∧ m' ((c.tc : Thread Cert.Bound0RefIdeal.nD Cert.Bound0RefIdeal.τ).loc Cert.Bound0RefIdeal.main_arg1) = m ((c.tc : Thread Cert.Bound0Ideal.nD Cert.Bound0Ideal.τ).loc Cert.Bound0Ideal.main_arg1)
      ∧ m' ((c.tc : Thread Cert.Bound0RefIdeal.nD Cert.Bound0RefIdeal.τ).loc Cert.Bound0RefIdeal.main_arg2) = m ((c.tc : Thread Cert.Bound0Ideal.nD Cert.Bound0Ideal.τ).loc Cert.Bound0Ideal.main_arg2)
      ∧ m' ((c.tc : Thread Cert.Bound0RefIdeal.nD Cert.Bound0RefIdeal.τ).loc Cert.Bound0RefIdeal.main_arg3) = m ((c.tc : Thread Cert.Bound0Ideal.nD Cert.Bound0Ideal.τ).loc Cert.Bound0Ideal.main_arg3)
      ∧ m' ((c.tc : Thread Cert.Bound0RefIdeal.nD Cert.Bound0RefIdeal.τ).loc Cert.Bound0RefIdeal.main_arg4) = m ((c.tc : Thread Cert.Bound0Ideal.nD Cert.Bound0Ideal.τ).loc Cert.Bound0Ideal.main_arg4)) →
    ∃ (v0 : (c : Dev Cert.Bound0Ideal.nD) → Buf (Elt Ideal) ((c.tc : Thread Cert.Bound0Ideal.nD Cert.Bound0Ideal.τ).loc Cert.Bound0Ideal.main_v0_0)) (v1 : (c : Dev Cert.Bound0Ideal.nD) → Buf (Elt Ideal) ((c.tc : Thread Cert.Bound0Ideal.nD Cert.Bound0Ideal.τ).loc Cert.Bound0Ideal.main_v0_1)),
      θ_run (Cert.Bound0Ideal.defs (F := Ideal)) (onTc (τ := Cert.Bound0Ideal.τ) (Cert.Bound0Ideal.main (F := Ideal))) ⟨m, fun _ => 0, g⟩ (fun r => ∀ c : Dev Cert.Bound0Ideal.nD,
          r.2.mem ((c.tc : Thread Cert.Bound0Ideal.nD Cert.Bound0Ideal.τ).loc Cert.Bound0Ideal.main_v0_0) = v0 c
          ∧ r.2.mem ((c.tc : Thread Cert.Bound0Ideal.nD Cert.Bound0Ideal.τ).loc Cert.Bound0Ideal.main_v0_1) = v1 c
          ∧ r.2.mem ((c.tc : Thread Cert.Bound0Ideal.nD Cert.Bound0Ideal.τ).loc Cert.Bound0Ideal.main_arg0) = m ((c.tc : Thread Cert.Bound0Ideal.nD Cert.Bound0Ideal.τ).loc Cert.Bound0Ideal.main_arg0)
          ∧ r.2.mem ((c.tc : Thread Cert.Bound0Ideal.nD Cert.Bound0Ideal.τ).loc Cert.Bound0Ideal.main_arg1) = m ((c.tc : Thread Cert.Bound0Ideal.nD Cert.Bound0Ideal.τ).loc Cert.Bound0Ideal.main_arg1)
          ∧ r.2.mem ((c.tc : Thread Cert.Bound0Ideal.nD Cert.Bound0Ideal.τ).loc Cert.Bound0Ideal.main_arg2) = m ((c.tc : Thread Cert.Bound0Ideal.nD Cert.Bound0Ideal.τ).loc Cert.Bound0Ideal.main_arg2)
          ∧ r.2.mem ((c.tc : Thread Cert.Bound0Ideal.nD Cert.Bound0Ideal.τ).loc Cert.Bound0Ideal.main_arg3) = m ((c.tc : Thread Cert.Bound0Ideal.nD Cert.Bound0Ideal.τ).loc Cert.Bound0Ideal.main_arg3)
          ∧ r.2.mem ((c.tc : Thread Cert.Bound0Ideal.nD Cert.Bound0Ideal.τ).loc Cert.Bound0Ideal.main_arg4) = m ((c.tc : Thread Cert.Bound0Ideal.nD Cert.Bound0Ideal.τ).loc Cert.Bound0Ideal.main_arg4))
      ∧ θ_run (Cert.Bound0RefIdeal.defs (F := Ideal)) (onTc (τ := Cert.Bound0RefIdeal.τ) (Cert.Bound0RefIdeal.main (F := Ideal))) ⟨m', fun _ => 0, g'⟩ (fun r => ∀ c : Dev Cert.Bound0RefIdeal.nD,
          r.2.mem ((c.tc : Thread Cert.Bound0RefIdeal.nD Cert.Bound0RefIdeal.τ).loc Cert.Bound0RefIdeal.main_v49) = v0 c
          ∧ r.2.mem ((c.tc : Thread Cert.Bound0RefIdeal.nD Cert.Bound0RefIdeal.τ).loc Cert.Bound0RefIdeal.main_v51) = v1 c
          ∧ r.2.mem ((c.tc : Thread Cert.Bound0RefIdeal.nD Cert.Bound0RefIdeal.τ).loc Cert.Bound0RefIdeal.main_arg0) = m' ((c.tc : Thread Cert.Bound0RefIdeal.nD Cert.Bound0RefIdeal.τ).loc Cert.Bound0RefIdeal.main_arg0)
          ∧ r.2.mem ((c.tc : Thread Cert.Bound0RefIdeal.nD Cert.Bound0RefIdeal.τ).loc Cert.Bound0RefIdeal.main_arg1) = m' ((c.tc : Thread Cert.Bound0RefIdeal.nD Cert.Bound0RefIdeal.τ).loc Cert.Bound0RefIdeal.main_arg1)
          ∧ r.2.mem ((c.tc : Thread Cert.Bound0RefIdeal.nD Cert.Bound0RefIdeal.τ).loc Cert.Bound0RefIdeal.main_arg2) = m' ((c.tc : Thread Cert.Bound0RefIdeal.nD Cert.Bound0RefIdeal.τ).loc Cert.Bound0RefIdeal.main_arg2)
          ∧ r.2.mem ((c.tc : Thread Cert.Bound0RefIdeal.nD Cert.Bound0RefIdeal.τ).loc Cert.Bound0RefIdeal.main_arg3) = m' ((c.tc : Thread Cert.Bound0RefIdeal.nD Cert.Bound0RefIdeal.τ).loc Cert.Bound0RefIdeal.main_arg3)
          ∧ r.2.mem ((c.tc : Thread Cert.Bound0RefIdeal.nD Cert.Bound0RefIdeal.τ).loc Cert.Bound0RefIdeal.main_arg4) = m' ((c.tc : Thread Cert.Bound0RefIdeal.nD Cert.Bound0RefIdeal.τ).loc Cert.Bound0RefIdeal.main_arg4))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v15) = v0 c
          ∧ r.2.mem ((c.tc : Thread Cert.FwdRefIdeal.nD Cert.FwdRefIdeal.τ).loc Cert.FwdRefIdeal.main_v34) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6))

def preserves_Fwd0_Fwd0Ideal : Prop :=
  True

def algebraic_Fwd0Ideal_Fwd0RefIdeal [hFwd0Ideal : Cert.Fwd0Ideal.Facts] [hFwd0RefIdeal : Cert.Fwd0RefIdeal.Facts] : Prop :=
  ∀ (m : (ℓ : Loc Cert.Fwd0Ideal.nD Cert.Fwd0Ideal.τ Cert.Fwd0Ideal.sig) → Buf (Elt Ideal) ℓ) (g : Dev Cert.Fwd0Ideal.nD → PrngReg)
    (m' : (ℓ : Loc Cert.Fwd0RefIdeal.nD Cert.Fwd0RefIdeal.τ Cert.Fwd0RefIdeal.sig) → Buf (Elt Ideal) ℓ) (g' : Dev Cert.Fwd0RefIdeal.nD → PrngReg), Pre_Fwd0Ideal m →
    (∀ c : Dev Cert.Fwd0Ideal.nD,
      m' ((c.tc : Thread Cert.Fwd0RefIdeal.nD Cert.Fwd0RefIdeal.τ).loc Cert.Fwd0RefIdeal.main_arg0) = m ((c.tc : Thread Cert.Fwd0Ideal.nD Cert.Fwd0Ideal.τ).loc Cert.Fwd0Ideal.main_arg0)
      ∧ m' ((c.tc : Thread Cert.Fwd0RefIdeal.nD Cert.Fwd0RefIdeal.τ).loc Cert.Fwd0RefIdeal.main_arg1) = m ((c.tc : Thread Cert.Fwd0Ideal.nD Cert.Fwd0Ideal.τ).loc Cert.Fwd0Ideal.main_arg1)
      ∧ m' ((c.tc : Thread Cert.Fwd0RefIdeal.nD Cert.Fwd0RefIdeal.τ).loc Cert.Fwd0RefIdeal.main_arg2) = m ((c.tc : Thread Cert.Fwd0Ideal.nD Cert.Fwd0Ideal.τ).loc Cert.Fwd0Ideal.main_arg2)
      ∧ m' ((c.tc : Thread Cert.Fwd0RefIdeal.nD Cert.Fwd0RefIdeal.τ).loc Cert.Fwd0RefIdeal.main_arg3) = m ((c.tc : Thread Cert.Fwd0Ideal.nD Cert.Fwd0Ideal.τ).loc Cert.Fwd0Ideal.main_arg3)) →
    ∃ (v0 : (c : Dev Cert.Fwd0Ideal.nD) → Buf (Elt Ideal) ((c.tc : Thread Cert.Fwd0Ideal.nD Cert.Fwd0Ideal.τ).loc Cert.Fwd0Ideal.main_v0)),
      θ_run (Cert.Fwd0Ideal.defs (F := Ideal)) (onTc (τ := Cert.Fwd0Ideal.τ) (Cert.Fwd0Ideal.main (F := Ideal))) ⟨m, fun _ => 0, g⟩ (fun r => ∀ c : Dev Cert.Fwd0Ideal.nD,
          r.2.mem ((c.tc : Thread Cert.Fwd0Ideal.nD Cert.Fwd0Ideal.τ).loc Cert.Fwd0Ideal.main_v0) = v0 c
          ∧ r.2.mem ((c.tc : Thread Cert.Fwd0Ideal.nD Cert.Fwd0Ideal.τ).loc Cert.Fwd0Ideal.main_arg0) = m ((c.tc : Thread Cert.Fwd0Ideal.nD Cert.Fwd0Ideal.τ).loc Cert.Fwd0Ideal.main_arg0)
          ∧ r.2.mem ((c.tc : Thread Cert.Fwd0Ideal.nD Cert.Fwd0Ideal.τ).loc Cert.Fwd0Ideal.main_arg1) = m ((c.tc : Thread Cert.Fwd0Ideal.nD Cert.Fwd0Ideal.τ).loc Cert.Fwd0Ideal.main_arg1)
          ∧ r.2.mem ((c.tc : Thread Cert.Fwd0Ideal.nD Cert.Fwd0Ideal.τ).loc Cert.Fwd0Ideal.main_arg2) = m ((c.tc : Thread Cert.Fwd0Ideal.nD Cert.Fwd0Ideal.τ).loc Cert.Fwd0Ideal.main_arg2)
          ∧ r.2.mem ((c.tc : Thread Cert.Fwd0Ideal.nD Cert.Fwd0Ideal.τ).loc Cert.Fwd0Ideal.main_arg3) = m ((c.tc : Thread Cert.Fwd0Ideal.nD Cert.Fwd0Ideal.τ).loc Cert.Fwd0Ideal.main_arg3))
      ∧ θ_run (Cert.Fwd0RefIdeal.defs (F := Ideal)) (onTc (τ := Cert.Fwd0RefIdeal.τ) (Cert.Fwd0RefIdeal.main (F := Ideal))) ⟨m', fun _ => 0, g'⟩ (fun r => ∀ c : Dev Cert.Fwd0RefIdeal.nD,
          r.2.mem ((c.tc : Thread Cert.Fwd0RefIdeal.nD Cert.Fwd0RefIdeal.τ).loc Cert.Fwd0RefIdeal.main_v18) = v0 c
          ∧ r.2.mem ((c.tc : Thread Cert.Fwd0RefIdeal.nD Cert.Fwd0RefIdeal.τ).loc Cert.Fwd0RefIdeal.main_arg0) = m' ((c.tc : Thread Cert.Fwd0RefIdeal.nD Cert.Fwd0RefIdeal.τ).loc Cert.Fwd0RefIdeal.main_arg0)
          ∧ r.2.mem ((c.tc : Thread Cert.Fwd0RefIdeal.nD Cert.Fwd0RefIdeal.τ).loc Cert.Fwd0RefIdeal.main_arg1) = m' ((c.tc : Thread Cert.Fwd0RefIdeal.nD Cert.Fwd0RefIdeal.τ).loc Cert.Fwd0RefIdeal.main_arg1)
          ∧ r.2.mem ((c.tc : Thread Cert.Fwd0RefIdeal.nD Cert.Fwd0RefIdeal.τ).loc Cert.Fwd0RefIdeal.main_arg2) = m' ((c.tc : Thread Cert.Fwd0RefIdeal.nD Cert.Fwd0RefIdeal.τ).loc Cert.Fwd0RefIdeal.main_arg2)
          ∧ r.2.mem ((c.tc : Thread Cert.Fwd0RefIdeal.nD Cert.Fwd0RefIdeal.τ).loc Cert.Fwd0RefIdeal.main_arg3) = m' ((c.tc : Thread Cert.Fwd0RefIdeal.nD Cert.Fwd0RefIdeal.τ).loc Cert.Fwd0RefIdeal.main_arg3))

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0_0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v32) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_MlaQ_MlaQIdeal : Prop :=
  True

def algebraic_MlaQIdeal_MlaQRefIdeal [hMlaQIdeal : Cert.MlaQIdeal.Facts] [hMlaQRefIdeal : Cert.MlaQRefIdeal.Facts] : Prop :=
  ∀ (m : (ℓ : Loc Cert.MlaQIdeal.nD Cert.MlaQIdeal.τ Cert.MlaQIdeal.sig) → Buf (Elt Ideal) ℓ) (g : Dev Cert.MlaQIdeal.nD → PrngReg)
    (m' : (ℓ : Loc Cert.MlaQRefIdeal.nD Cert.MlaQRefIdeal.τ Cert.MlaQRefIdeal.sig) → Buf (Elt Ideal) ℓ) (g' : Dev Cert.MlaQRefIdeal.nD → PrngReg), Pre_MlaQIdeal m →
    (∀ c : Dev Cert.MlaQIdeal.nD,
      m' ((c.tc : Thread Cert.MlaQRefIdeal.nD Cert.MlaQRefIdeal.τ).loc Cert.MlaQRefIdeal.main_arg0) = m ((c.tc : Thread Cert.MlaQIdeal.nD Cert.MlaQIdeal.τ).loc Cert.MlaQIdeal.main_arg0)
      ∧ m' ((c.tc : Thread Cert.MlaQRefIdeal.nD Cert.MlaQRefIdeal.τ).loc Cert.MlaQRefIdeal.main_arg1) = m ((c.tc : Thread Cert.MlaQIdeal.nD Cert.MlaQIdeal.τ).loc Cert.MlaQIdeal.main_arg1)
      ∧ m' ((c.tc : Thread Cert.MlaQRefIdeal.nD Cert.MlaQRefIdeal.τ).loc Cert.MlaQRefIdeal.main_arg2) = m ((c.tc : Thread Cert.MlaQIdeal.nD Cert.MlaQIdeal.τ).loc Cert.MlaQIdeal.main_arg2)
      ∧ m' ((c.tc : Thread Cert.MlaQRefIdeal.nD Cert.MlaQRefIdeal.τ).loc Cert.MlaQRefIdeal.main_arg3) = m ((c.tc : Thread Cert.MlaQIdeal.nD Cert.MlaQIdeal.τ).loc Cert.MlaQIdeal.main_arg3)) →
    ∃ (v0 : (c : Dev Cert.MlaQIdeal.nD) → Buf (Elt Ideal) ((c.tc : Thread Cert.MlaQIdeal.nD Cert.MlaQIdeal.τ).loc Cert.MlaQIdeal.main_v5)),
      θ_run (Cert.MlaQIdeal.defs (F := Ideal)) (onTc (τ := Cert.MlaQIdeal.τ) (Cert.MlaQIdeal.main (F := Ideal))) ⟨m, fun _ => 0, g⟩ (fun r => ∀ c : Dev Cert.MlaQIdeal.nD,
          r.2.mem ((c.tc : Thread Cert.MlaQIdeal.nD Cert.MlaQIdeal.τ).loc Cert.MlaQIdeal.main_v5) = v0 c
          ∧ r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
          ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
          ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2)
          ∧ r.2.mem ((c.tc : Thread Cert.MlaQIdeal.nD Cert.MlaQIdeal.τ).loc Cert.MlaQIdeal.main_arg3) = m ((c.tc : Thread Cert.MlaQIdeal.nD Cert.MlaQIdeal.τ).loc Cert.MlaQIdeal.main_arg3))
      ∧ θ_run (Cert.MlaQRefIdeal.defs (F := Ideal)) (onTc (τ := Cert.MlaQRefIdeal.τ) (Cert.MlaQRefIdeal.main (F := Ideal))) ⟨m', fun _ => 0, g'⟩ (fun r => ∀ c : Dev Cert.MlaQRefIdeal.nD,
          r.2.mem ((c.tc : Thread Cert.MlaQRefIdeal.nD Cert.MlaQRefIdeal.τ).loc Cert.MlaQRefIdeal.main_v26) = v0 c
          ∧ r.2.mem ((c.tc : Thread Cert.MlaQRefIdeal.nD Cert.MlaQRefIdeal.τ).loc Cert.MlaQRefIdeal.main_arg0) = m' ((c.tc : Thread Cert.MlaQRefIdeal.nD Cert.MlaQRefIdeal.τ).loc Cert.MlaQRefIdeal.main_arg0)
          ∧ r.2.mem ((c.tc : Thread Cert.MlaQRefIdeal.nD Cert.MlaQRefIdeal.τ).loc Cert.MlaQRefIdeal.main_arg1) = m' ((c.tc : Thread Cert.MlaQRefIdeal.nD Cert.MlaQRefIdeal.τ).loc Cert.MlaQRefIdeal.main_arg1)
          ∧ r.2.mem ((c.tc : Thread Cert.MlaQRefIdeal.nD Cert.MlaQRefIdeal.τ).loc Cert.MlaQRefIdeal.main_arg2) = m' ((c.tc : Thread Cert.MlaQRefIdeal.nD Cert.MlaQRefIdeal.τ).loc Cert.MlaQRefIdeal.main_arg2)
          ∧ r.2.mem ((c.tc : Thread Cert.MlaQRefIdeal.nD Cert.MlaQRefIdeal.τ).loc Cert.MlaQRefIdeal.main_arg3) = m' ((c.tc : Thread Cert.MlaQRefIdeal.nD Cert.MlaQRefIdeal.τ).loc Cert.MlaQRefIdeal.main_arg3))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx0 : Cert.DownDx0.Facts) (hDownDx0Ideal : Cert.DownDx0Ideal.Facts) (hDownDx0RefIdeal : Cert.DownDx0RefIdeal.Facts) (hUpDx0 : Cert.UpDx0.Facts) (hUpDx0Ideal : Cert.UpDx0Ideal.Facts) (hUpDx0RefIdeal : Cert.UpDx0RefIdeal.Facts) (hMlpUp0 : Cert.MlpUp0.Facts) (hMlpUp0Ideal : Cert.MlpUp0Ideal.Facts) (hMlpUp0RefIdeal : Cert.MlpUp0RefIdeal.Facts) (hMlpUp1 : Cert.MlpUp1.Facts) (hMlpUp1Ideal : Cert.MlpUp1Ideal.Facts) (hMlpUp1RefIdeal : Cert.MlpUp1RefIdeal.Facts) (hMlpDown0 : Cert.MlpDown0.Facts) (hMlpDown0Ideal : Cert.MlpDown0Ideal.Facts) (hMlpDown0RefIdeal : Cert.MlpDown0RefIdeal.Facts) (hMlpDown1 : Cert.MlpDown1.Facts) (hMlpDown1Ideal : Cert.MlpDown1Ideal.Facts) (hMlpDown1RefIdeal : Cert.MlpDown1RefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hConvIn : Cert.ConvIn.Facts) (hConvInIdeal : Cert.ConvInIdeal.Facts) (hConvInRefIdeal : Cert.ConvInRefIdeal.Facts) (hConvInDx : Cert.ConvInDx.Facts) (hConvInDxIdeal : Cert.ConvInDxIdeal.Facts) (hConvInDxRefIdeal : Cert.ConvInDxRefIdeal.Facts) (hConvInDw : Cert.ConvInDw.Facts) (hConvInDwIdeal : Cert.ConvInDwIdeal.Facts) (hConvInDwRefIdeal : Cert.ConvInDwRefIdeal.Facts) (hKv : Cert.Kv.Facts) (hKvIdeal : Cert.KvIdeal.Facts) (hKvRefIdeal : Cert.KvRefIdeal.Facts) (hKvDx : Cert.KvDx.Facts) (hKvDxIdeal : Cert.KvDxIdeal.Facts) (hKvDxRefIdeal : Cert.KvDxRefIdeal.Facts) (hKvDw : Cert.KvDw.Facts) (hKvDwIdeal : Cert.KvDwIdeal.Facts) (hKvDwRefIdeal : Cert.KvDwRefIdeal.Facts) (hLat : Cert.Lat.Facts) (hLatIdeal : Cert.LatIdeal.Facts) (hLatRefIdeal : Cert.LatRefIdeal.Facts) (hLatDx : Cert.LatDx.Facts) (hLatDxIdeal : Cert.LatDxIdeal.Facts) (hLatDxRefIdeal : Cert.LatDxRefIdeal.Facts) (hLatDw : Cert.LatDw.Facts) (hLatDwIdeal : Cert.LatDwIdeal.Facts) (hLatDwRefIdeal : Cert.LatDwRefIdeal.Facts) (hBound : Cert.Bound.Facts) (hBoundIdeal : Cert.BoundIdeal.Facts) (hBoundRefIdeal : Cert.BoundRefIdeal.Facts) (hBound0 : Cert.Bound0.Facts) (hBound0Ideal : Cert.Bound0Ideal.Facts) (hBound0RefIdeal : Cert.Bound0RefIdeal.Facts) (hFwd : Cert.Fwd.Facts) (hFwdIdeal : Cert.FwdIdeal.Facts) (hFwdRefIdeal : Cert.FwdRefIdeal.Facts) (hFwd0 : Cert.Fwd0.Facts) (hFwd0Ideal : Cert.Fwd0Ideal.Facts) (hFwd0RefIdeal : Cert.Fwd0RefIdeal.Facts) (hAttn : Cert.Attn.Facts) (hAttnIdeal : Cert.AttnIdeal.Facts) (hAttnRefIdeal : Cert.AttnRefIdeal.Facts) (hMlaQ : Cert.MlaQ.Facts) (hMlaQIdeal : Cert.MlaQIdeal.Facts) (hMlaQRefIdeal : Cert.MlaQRefIdeal.Facts) (hPre_triangle : Cert.Pre_triangle.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx0 (hDownDx0 := hDownDx0)
    ∧ quiescent_DownDx0Ideal (hDownDx0Ideal := hDownDx0Ideal)
    ∧ quiescent_DownDx0RefIdeal (hDownDx0RefIdeal := hDownDx0RefIdeal)
    ∧ quiescent_UpDx0 (hUpDx0 := hUpDx0)
    ∧ quiescent_UpDx0Ideal (hUpDx0Ideal := hUpDx0Ideal)
    ∧ quiescent_UpDx0RefIdeal (hUpDx0RefIdeal := hUpDx0RefIdeal)
    ∧ quiescent_MlpUp0 (hMlpUp0 := hMlpUp0)
    ∧ quiescent_MlpUp0Ideal (hMlpUp0Ideal := hMlpUp0Ideal)
    ∧ quiescent_MlpUp0RefIdeal (hMlpUp0RefIdeal := hMlpUp0RefIdeal)
    ∧ quiescent_MlpUp1 (hMlpUp1 := hMlpUp1)
    ∧ quiescent_MlpUp1Ideal (hMlpUp1Ideal := hMlpUp1Ideal)
    ∧ quiescent_MlpUp1RefIdeal (hMlpUp1RefIdeal := hMlpUp1RefIdeal)
    ∧ quiescent_MlpDown0 (hMlpDown0 := hMlpDown0)
    ∧ quiescent_MlpDown0Ideal (hMlpDown0Ideal := hMlpDown0Ideal)
    ∧ quiescent_MlpDown0RefIdeal (hMlpDown0RefIdeal := hMlpDown0RefIdeal)
    ∧ quiescent_MlpDown1 (hMlpDown1 := hMlpDown1)
    ∧ quiescent_MlpDown1Ideal (hMlpDown1Ideal := hMlpDown1Ideal)
    ∧ quiescent_MlpDown1RefIdeal (hMlpDown1RefIdeal := hMlpDown1RefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvInDx (hConvInDx := hConvInDx)
    ∧ quiescent_ConvInDxIdeal (hConvInDxIdeal := hConvInDxIdeal)
    ∧ quiescent_ConvInDxRefIdeal (hConvInDxRefIdeal := hConvInDxRefIdeal)
    ∧ quiescent_ConvInDw (hConvInDw := hConvInDw)
    ∧ quiescent_ConvInDwIdeal (hConvInDwIdeal := hConvInDwIdeal)
    ∧ quiescent_ConvInDwRefIdeal (hConvInDwRefIdeal := hConvInDwRefIdeal)
    ∧ quiescent_Kv (hKv := hKv)
    ∧ quiescent_KvIdeal (hKvIdeal := hKvIdeal)
    ∧ quiescent_KvRefIdeal (hKvRefIdeal := hKvRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_Lat (hLat := hLat)
    ∧ quiescent_LatIdeal (hLatIdeal := hLatIdeal)
    ∧ quiescent_LatRefIdeal (hLatRefIdeal := hLatRefIdeal)
    ∧ quiescent_LatDx (hLatDx := hLatDx)
    ∧ quiescent_LatDxIdeal (hLatDxIdeal := hLatDxIdeal)
    ∧ quiescent_LatDxRefIdeal (hLatDxRefIdeal := hLatDxRefIdeal)
    ∧ quiescent_LatDw (hLatDw := hLatDw)
    ∧ quiescent_LatDwIdeal (hLatDwIdeal := hLatDwIdeal)
    ∧ quiescent_LatDwRefIdeal (hLatDwRefIdeal := hLatDwRefIdeal)
    ∧ quiescent_Bound (hBound := hBound)
    ∧ quiescent_BoundIdeal (hBoundIdeal := hBoundIdeal)
    ∧ quiescent_BoundRefIdeal (hBoundRefIdeal := hBoundRefIdeal)
    ∧ quiescent_Bound0 (hBound0 := hBound0)
    ∧ quiescent_Bound0Ideal (hBound0Ideal := hBound0Ideal)
    ∧ quiescent_Bound0RefIdeal (hBound0RefIdeal := hBound0RefIdeal)
    ∧ quiescent_Fwd (hFwd := hFwd)
    ∧ quiescent_FwdIdeal (hFwdIdeal := hFwdIdeal)
    ∧ quiescent_FwdRefIdeal (hFwdRefIdeal := hFwdRefIdeal)
    ∧ quiescent_Fwd0 (hFwd0 := hFwd0)
    ∧ quiescent_Fwd0Ideal (hFwd0Ideal := hFwd0Ideal)
    ∧ quiescent_Fwd0RefIdeal (hFwd0RefIdeal := hFwd0RefIdeal)
    ∧ quiescent_Attn (hAttn := hAttn) (hPre_triangle := hPre_triangle)
    ∧ quiescent_AttnIdeal (hAttnIdeal := hAttnIdeal) (hPre_triangle := hPre_triangle)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_MlaQ (hMlaQ := hMlaQ)
    ∧ quiescent_MlaQIdeal (hMlaQIdeal := hMlaQIdeal)
    ∧ quiescent_MlaQRefIdeal (hMlaQRefIdeal := hMlaQRefIdeal)
    ∧ preserves_Kernel_KernelIdeal
    ∧ algebraic_KernelIdeal_ReferenceIdeal (hKernelIdeal := hKernelIdeal) (hReferenceIdeal := hReferenceIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx0_DownDx0Ideal
    ∧ algebraic_DownDx0Ideal_DownDx0RefIdeal (hDownDx0Ideal := hDownDx0Ideal) (hDownDx0RefIdeal := hDownDx0RefIdeal)
    ∧ preserves_UpDx0_UpDx0Ideal
    ∧ algebraic_UpDx0Ideal_UpDx0RefIdeal (hUpDx0Ideal := hUpDx0Ideal) (hUpDx0RefIdeal := hUpDx0RefIdeal)
    ∧ preserves_MlpUp0_MlpUp0Ideal
    ∧ algebraic_MlpUp0Ideal_MlpUp0RefIdeal (hMlpUp0Ideal := hMlpUp0Ideal) (hMlpUp0RefIdeal := hMlpUp0RefIdeal)
    ∧ preserves_MlpUp1_MlpUp1Ideal
    ∧ algebraic_MlpUp1Ideal_MlpUp1RefIdeal (hMlpUp1Ideal := hMlpUp1Ideal) (hMlpUp1RefIdeal := hMlpUp1RefIdeal)
    ∧ preserves_MlpDown0_MlpDown0Ideal
    ∧ algebraic_MlpDown0Ideal_MlpDown0RefIdeal (hMlpDown0Ideal := hMlpDown0Ideal) (hMlpDown0RefIdeal := hMlpDown0RefIdeal)
    ∧ preserves_MlpDown1_MlpDown1Ideal
    ∧ algebraic_MlpDown1Ideal_MlpDown1RefIdeal (hMlpDown1Ideal := hMlpDown1Ideal) (hMlpDown1RefIdeal := hMlpDown1RefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_ConvIn_ConvInIdeal
    ∧ algebraic_ConvInIdeal_ConvInRefIdeal (hConvInIdeal := hConvInIdeal) (hConvInRefIdeal := hConvInRefIdeal)
    ∧ preserves_ConvInDx_ConvInDxIdeal
    ∧ algebraic_ConvInDxIdeal_ConvInDxRefIdeal (hConvInDxIdeal := hConvInDxIdeal) (hConvInDxRefIdeal := hConvInDxRefIdeal)
    ∧ preserves_ConvInDw_ConvInDwIdeal
    ∧ algebraic_ConvInDwIdeal_ConvInDwRefIdeal (hConvInDwIdeal := hConvInDwIdeal) (hConvInDwRefIdeal := hConvInDwRefIdeal)
    ∧ preserves_Kv_KvIdeal
    ∧ algebraic_KvIdeal_KvRefIdeal (hKvIdeal := hKvIdeal) (hKvRefIdeal := hKvRefIdeal)
    ∧ preserves_KvDx_KvDxIdeal
    ∧ algebraic_KvDxIdeal_KvDxRefIdeal (hKvDxIdeal := hKvDxIdeal) (hKvDxRefIdeal := hKvDxRefIdeal)
    ∧ preserves_KvDw_KvDwIdeal
    ∧ algebraic_KvDwIdeal_KvDwRefIdeal (hKvDwIdeal := hKvDwIdeal) (hKvDwRefIdeal := hKvDwRefIdeal)
    ∧ preserves_Lat_LatIdeal
    ∧ algebraic_LatIdeal_LatRefIdeal (hLatIdeal := hLatIdeal) (hLatRefIdeal := hLatRefIdeal)
    ∧ preserves_LatDx_LatDxIdeal
    ∧ algebraic_LatDxIdeal_LatDxRefIdeal (hLatDxIdeal := hLatDxIdeal) (hLatDxRefIdeal := hLatDxRefIdeal)
    ∧ preserves_LatDw_LatDwIdeal
    ∧ algebraic_LatDwIdeal_LatDwRefIdeal (hLatDwIdeal := hLatDwIdeal) (hLatDwRefIdeal := hLatDwRefIdeal)
    ∧ preserves_Bound_BoundIdeal
    ∧ algebraic_BoundIdeal_BoundRefIdeal (hBoundIdeal := hBoundIdeal) (hBoundRefIdeal := hBoundRefIdeal)
    ∧ preserves_Bound0_Bound0Ideal
    ∧ algebraic_Bound0Ideal_Bound0RefIdeal (hBound0Ideal := hBound0Ideal) (hBound0RefIdeal := hBound0RefIdeal)
    ∧ preserves_Fwd_FwdIdeal
    ∧ algebraic_FwdIdeal_FwdRefIdeal (hFwdIdeal := hFwdIdeal) (hFwdRefIdeal := hFwdRefIdeal)
    ∧ preserves_Fwd0_Fwd0Ideal
    ∧ algebraic_Fwd0Ideal_Fwd0RefIdeal (hFwd0Ideal := hFwd0Ideal) (hFwd0RefIdeal := hFwd0RefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_MlaQ_MlaQIdeal
    ∧ algebraic_MlaQIdeal_MlaQRefIdeal (hMlaQIdeal := hMlaQIdeal) (hMlaQRefIdeal := hMlaQRefIdeal)
-- ==== Pre_finite.lean ====
abbrev S36 : Shape := ⟨1, ![36]⟩
abbrev S4096x4096 : Shape := ⟨2, ![4096, 4096]⟩
abbrev S4096x128 : Shape := ⟨2, ![4096, 128]⟩
abbrev S_ : Shape := ⟨0, ![]⟩

class Facts : Prop where
  reducesTo_S36_S_d0 : S36.ReducesTo [0] S_
  h_S_ : 0 < S_.numel
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  bcast_S_S4096x128 : S_.BroadcastsInDim S4096x128 (![] : Fin 0 → Fin S4096x128.rank)
  reducesTo_S4096x128_S_d0_1 : S4096x128.ReducesTo [0, 1] S_

variable [Facts]

noncomputable abbrev lit0 : Fin 36 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32
  | _ => 0#32

noncomputable abbrev lit1 : Fin 36 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32
  | _ => 0#32

def fn_part1 {F : FTy → Type} [FloatOps F] (main_v15 : IVec S_ 1) (main_v16 : FVec F S4096x128 .f32) : IVec S_ 1 :=
  let main_v17 : FVec F S4096x128 .f32 := Host.absf main_v16
  let main_cst_5 : FVec F S_ .f32 := constant S_ .f32 0x7F800000#32
  let main_v18 : FVec F S4096x128 .f32 := broadcastInDim S4096x128 ![] bcast_S_S4096x128 main_cst_5
  let main_v19 : IVec S4096x128 1 := cmpf .olt main_v17 main_v18
  let main_c_6 : IVec S_ 1 := constantI S_ 1 1#1
  let main_v20 : IVec S_ 1 := (fun x v => Host.reduce IntOp.andi x v reducesTo_S4096x128_S_d0_1 h_S_) main_v19 main_c_6
  let main_v21 : IVec S_ 1 := andi main_v15 main_v20
  main_v21

def fn {F : FTy → Type} [FloatOps F] (main_arg0 : IVec S36 32) (main_arg1 : IVec S36 32) (main_arg2 : FVec F S4096x4096 .bf16) (main_arg3 : FVec F S4096x4096 .bf16) (main_arg4 : FVec F S4096x128 .bf16) : IVec S_ 1 :=
  let main_c : IVec S36 32 := fun i => lit0 (S36.rowMajor i)
  let main_c_0 : IVec S36 32 := fun i => lit1 (S36.rowMajor i)
  let main_v0 : IVec S36 1 := cmpi .eq main_arg0 main_c
  let main_v1 : IVec S36 1 := cmpi .eq main_arg1 main_c_0
  let main_v2 : IVec S36 1 := andi main_v0 main_v1
  let main_c_1 : IVec S_ 1 := constantI S_ 1 1#1
  let main_v3 : IVec S_ 1 := (fun x v => Host.reduce IntOp.andi x v reducesTo_S36_S_d0 h_S_) main_v2 main_c_1
  let main_v4 : FVec F S4096x4096 .f32 := (extf .f32 · bitsLt_bf16_f32) main_arg2
  let main_v5 : FVec F S4096x4096 .f32 := Host.absf main_v4
  let main_cst : FVec F S_ .f32 := constant S_ .f32 0x7F800000#32
  let main_v6 : FVec F S4096x4096 .f32 := broadcastInDim S4096x4096 ![] bcast_S_S4096x4096 main_cst
  let main_v7 : IVec S4096x4096 1 := cmpf .olt main_v5 main_v6
  let main_c_2 : IVec S_ 1 := constantI S_ 1 1#1
  let main_v8 : IVec S_ 1 := (fun x v => Host.reduce IntOp.andi x v reducesTo_S4096x4096_S_d0_1 h_S_) main_v7 main_c_2
  let main_v9 : IVec S_ 1 := andi main_v3 main_v8
  let main_v10 : FVec F S4096x4096 .f32 := (extf .f32 · bitsLt_bf16_f32) main_arg3
  let main_v11 : FVec F S4096x4096 .f32 := Host.absf main_v10
  let main_cst_3 : FVec F S_ .f32 := constant S_ .f32 0x7F800000#32
  let main_v12 : FVec F S4096x4096 .f32 := broadcastInDim S4096x4096 ![] bcast_S_S4096x4096 main_cst_3
  let main_v13 : IVec S4096x4096 1 := cmpf .olt main_v11 main_v12
  let main_c_4 : IVec S_ 1 := constantI S_ 1 1#1
  let main_v14 : IVec S_ 1 := (fun x v => Host.reduce IntOp.andi x v reducesTo_S4096x4096_S_d0_1 h_S_) main_v13 main_c_4
  let main_v15 : IVec S_ 1 := andi main_v9 main_v14
  let main_v16 : FVec F S4096x128 .f32 := (extf .f32 · bitsLt_bf16_f32) main_arg4
  fn_part1 (F := F) main_v15 main_v16
-- ==== Pre_triangle.lean ====
abbrev S36 : Shape := ⟨1, ![36]⟩
abbrev S4096x4096 : Shape := ⟨2, ![4096, 4096]⟩
abbrev S4096x128 : Shape := ⟨2, ![4096, 128]⟩
abbrev S_ : Shape := ⟨0, ![]⟩

class Facts : Prop where
  reducesTo_S36_S_d0 : S36.ReducesTo [0] S_
  h_S_ : 0 < S_.numel

variable [Facts]

noncomputable abbrev lit0 : Fin 36 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32
  | _ => 0#32

noncomputable abbrev lit1 : Fin 36 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32
  | _ => 0#32

def fn {F : FTy → Type} [FloatOps F] (main_arg0 : IVec S36 32) (main_arg1 : IVec S36 32) (main_arg2 : FVec F S4096x4096 .bf16) (main_arg3 : FVec F S4096x4096 .bf16) (main_arg4 : FVec F S4096x128 .bf16) : IVec S_ 1 :=
  let main_c : IVec S36 32 := fun i => lit0 (S36.rowMajor i)
  let main_c_0 : IVec S36 32 := fun i => lit1 (S36.rowMajor i)
  let main_v0 : IVec S36 1 := cmpi .eq main_arg0 main_c
  let main_v1 : IVec S36 1 := cmpi .eq main_arg1 main_c_0
  let main_v2 : IVec S36 1 := andi main_v0 main_v1
  let main_c_1 : IVec S_ 1 := constantI S_ 1 1#1
  let main_v3 : IVec S_ 1 := (fun x v => Host.reduce IntOp.andi x v reducesTo_S36_S_d0 h_S_) main_v2 main_c_1
  main_v3
-- ==== Kernel.lean ====
abbrev S4096x2048 : Shape := ⟨2, ![4096, 2048]⟩
abbrev S3x4096x2048 : Shape := ⟨3, ![3, 4096, 2048]⟩
abbrev S3x2048 : Shape := ⟨2, ![3, 2048]⟩
abbrev S4096x128 : Shape := ⟨2, ![4096, 128]⟩
abbrev S1x4096x128 : Shape := ⟨3, ![1, 4096, 128]⟩
abbrev S3x128 : Shape := ⟨2, ![3, 128]⟩
abbrev S3x4096x128 : Shape := ⟨3, ![3, 4096, 128]⟩
abbrev S1x128 : Shape := ⟨2, ![1, 128]⟩
abbrev S128 : Shape := ⟨1, ![128]⟩

abbrev nBuf : Space → Nat
  | .hbm => 5
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S3x2048, .f32⟩
  | .hbm, ⟨3, _⟩ => ⟨S3x4096x2048, .bf16⟩
  | .hbm, ⟨4, _⟩ => ⟨S3x2048, .f32⟩
  | .local _ .vmem, ⟨0, _⟩ => ⟨S4096x128, .bf16⟩
  | .local _ .vmem, ⟨1, _⟩ => ⟨S4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S3x128, .f32⟩
  | .local _ .vmem, ⟨9, _⟩ => ⟨S3x128, .f32⟩
  | .local _ .vmem, ⟨10, _⟩ => ⟨S3x4096x128, .bf16⟩
  | .local _ .vmem, ⟨11, _⟩ => ⟨S3x4096x128, .bf16⟩
  | .local _ .vmem, ⟨12, _⟩ => ⟨S3x128, .f32⟩
  | .local _ .vmem, ⟨13, _⟩ => ⟨S3x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S4096x2048 : Shape := ⟨2, ![4096, 2048]⟩
abbrev S3x4096x2048 : Shape := ⟨3, ![3, 4096, 2048]⟩
abbrev S3x2048 : Shape := ⟨2, ![3, 2048]⟩
abbrev S4096x128 : Shape := ⟨2, ![4096, 128]⟩
abbrev S1x4096x128 : Shape := ⟨3, ![1, 4096, 128]⟩
abbrev S3x128 : Shape := ⟨2, ![3, 128]⟩
abbrev S3x4096x128 : Shape := ⟨3, ![3, 4096, 128]⟩
abbrev S1x128 : Shape := ⟨2, ![1, 128]⟩
abbrev S128 : Shape := ⟨1, ![128]⟩

abbrev nBuf : Space → Nat
  | .hbm => 5
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S3x2048, .f32⟩
  | .hbm, ⟨3, _⟩ => ⟨S3x4096x2048, .bf16⟩
  | .hbm, ⟨4, _⟩ => ⟨S3x2048, .f32⟩
  | .local _ .vmem, ⟨0, _⟩ => ⟨S4096x128, .bf16⟩
  | .local _ .vmem, ⟨1, _⟩ => ⟨S4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S3x128, .f32⟩
  | .local _ .vmem, ⟨9, _⟩ => ⟨S3x128, .f32⟩
  | .local _ .vmem, ⟨10, _⟩ => ⟨S3x4096x128, .bf16⟩
  | .local _ .vmem, ⟨11, _⟩ => ⟨S3x4096x128, .bf16⟩
  | .local _ .vmem, ⟨12, _⟩ => ⟨S3x128, .f32⟩
  | .local _ .vmem, ⟨13, _⟩ => ⟨S3x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x2048 : Shape := ⟨2, ![4096, 2048]⟩
abbrev S3x4096x2048 : Shape := ⟨3, ![3, 4096, 2048]⟩
abbrev S3x2048 : Shape := ⟨2, ![3, 2048]⟩
abbrev S1x4096x2048 : Shape := ⟨3, ![1, 4096, 2048]⟩
abbrev S1x2048 : Shape := ⟨2, ![1, 2048]⟩
abbrev S2048 : Shape := ⟨1, ![2048]⟩
abbrev S_ : Shape := ⟨0, ![]⟩
abbrev S2x2048 : Shape := ⟨2, ![2, 2048]⟩
abbrev S4094x2048 : Shape := ⟨2, ![4094, 2048]⟩
abbrev S4095x2048 : Shape := ⟨2, ![4095, 2048]⟩

abbrev nBuf : Space → Nat
  | .hbm => 96
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S3x2048, .f32⟩
  | .hbm, ⟨3, _⟩ => ⟨S3x4096x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S1x4096x2048, .f32⟩
  | .hbm, ⟨9, _⟩ => ⟨S4096x2048, .f32⟩
  | .hbm, ⟨10, _⟩ => ⟨S4096x2048, .f32⟩
  | .hbm, ⟨11, _⟩ => ⟨S1x2048, .f32⟩
  | .hbm, ⟨12, _⟩ => ⟨S2048, .f32⟩
  | .hbm, ⟨13, _⟩ => ⟨S_, .f32⟩
  | .hbm, ⟨14, _⟩ => ⟨S2x2048, .f32⟩
  | .hbm, ⟨15, _⟩ => ⟨S4094x2048, .f32⟩
  | .hbm, ⟨16, _⟩ => ⟨S4096x2048, .f32⟩
  | .hbm, ⟨17, _⟩ => ⟨S_, .f32⟩
  | .hbm, ⟨18, _⟩ => ⟨S2x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S2048, .f32⟩
  | .hbm, ⟨24, _⟩ => ⟨S_, .f32⟩
  | .hbm, ⟨25, _⟩ => ⟨S1x2048, .f32⟩
  | .hbm, ⟨26, _⟩ => ⟨S4095x2048, .f32⟩
  | .hbm, ⟨27, _⟩ => ⟨S4096x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S_, .f32⟩
  | .hbm, ⟨54, _⟩ => ⟨S3x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S4095x2048, .f32⟩
  | .hbm, ⟨65, _⟩ => ⟨S_, .f32⟩
  | .hbm, ⟨66, _⟩ => ⟨S4096x2048, .f32⟩
  | .hbm, ⟨67, _⟩ => ⟨S4096x2048, .f32⟩
  | .hbm, ⟨68, _⟩ => ⟨S1x2048, .f32⟩
  | .hbm, ⟨69, _⟩ => ⟨S_, .f32⟩
  | .hbm, ⟨70, _⟩ => ⟨S3x2048, .f32⟩
  | .hbm, ⟨71, _⟩ => ⟨S3x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S_, .f32⟩
  | .hbm, ⟨79, _⟩ => ⟨S2048, .f32⟩
  | .hbm, ⟨80, _⟩ => ⟨S2x2048, .f32⟩
  | .hbm, ⟨81, _⟩ => ⟨S4094x2048, .f32⟩
  | .hbm, ⟨82, _⟩ => ⟨S_, .f32⟩
  | .hbm, ⟨83, _⟩ => ⟨S4096x2048, .f32⟩
  | .hbm, ⟨84, _⟩ => ⟨S4096x2048, .f32⟩
  | .hbm, ⟨85, _⟩ => ⟨S1x2048, .f32⟩
  | .hbm, ⟨86, _⟩ => ⟨S_, .f32⟩
  | .hbm, ⟨87, _⟩ => ⟨S3x2048, .f32⟩
  | .hbm, ⟨88, _⟩ => ⟨S3x2048, .f32⟩
  | .hbm, ⟨89, _⟩ => ⟨S4096x2048, .f32⟩
  | .hbm, ⟨90, _⟩ => ⟨S4096x2048, .f32⟩
  | .hbm, ⟨91, _⟩ => ⟨S1x4096x2048, .f32⟩
  | .hbm, ⟨92, _⟩ => ⟨S1x4096x2048, .f32⟩
  | .hbm, ⟨93, _⟩ => ⟨S1x4096x2048, .f32⟩
  | .hbm, ⟨94, _⟩ => ⟨S3x4096x2048, .f32⟩
  | .hbm, ⟨95, _⟩ => ⟨S3x4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_12 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩

abbrev nD : Nat := 1
abbrev τ : Topo := Topo.v7x

variable {F : FTy → Type} [FloatOps F]
-- ==== DownDx.lean ====
abbrev S4096x8192 : Shape := ⟨2, ![4096, 8192]⟩
abbrev S2x8192x2048 : Shape := ⟨3, ![2, 8192, 2048]⟩
abbrev S4096x2048 : Shape := ⟨2, ![4096, 2048]⟩
abbrev S_ : Shape := ⟨0, ![]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S2x8192x2048, .bf16⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S4096x8192 : Shape := ⟨2, ![4096, 8192]⟩
abbrev S2x8192x2048 : Shape := ⟨3, ![2, 8192, 2048]⟩
abbrev S4096x2048 : Shape := ⟨2, ![4096, 2048]⟩
abbrev S1x8192x2048 : Shape := ⟨3, ![1, 8192, 2048]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2x8192x2048, .bf16⟩
  | .hbm, ⟨2, _⟩ => ⟨S4096x2048, .bf16⟩
  | .hbm, ⟨3, _⟩ => ⟨S1x8192x2048, .bf16⟩
  | .hbm, ⟨4, _⟩ => ⟨S8192x2048, .bf16⟩
  | .hbm, ⟨5, _⟩ => ⟨S8192x2048, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .i1⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== DownDw.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== UpDx.lean ====
abbrev S4096x8192 : Shape := ⟨2, ![4096, 8192]⟩
abbrev S2x2048x8192 : Shape := ⟨3, ![2, 2048, 8192]⟩
abbrev S4096x2048 : Shape := ⟨2, ![4096, 2048]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2x2048x8192, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x8192 : Shape := ⟨2, ![4096, 8192]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2x2048x8192, .bf16⟩
  | .hbm, ⟨2, _⟩ => ⟨S1x2048x8192, .bf16⟩
  | .hbm, ⟨3, _⟩ => ⟨S2048x8192, .bf16⟩
  | .hbm, ⟨4, _⟩ => ⟨S2048x8192, .f32⟩
  | .hbm, ⟨5, _⟩ => ⟨S_, .f32⟩
  | .hbm, ⟨6, _⟩ => ⟨S4096x2048, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpDw.lean ====
abbrev S4096x2048 : Shape := ⟨2, ![4096, 2048]⟩
abbrev S4096x8192 : Shape := ⟨2, ![4096, 8192]⟩
abbrev S2048x8192 : Shape := ⟨2, ![2048, 8192]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx0.lean ====
abbrev S4096x8192 : Shape := ⟨2, ![4096, 8192]⟩
abbrev S2x8192x2048 : Shape := ⟨3, ![2, 8192, 2048]⟩
abbrev S4096x2048 : Shape := ⟨2, ![4096, 2048]⟩
abbrev S_ : Shape := ⟨0, ![]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S2x8192x2048, .bf16⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDx0RefIdeal.lean ====
abbrev S4096x8192 : Shape := ⟨2, ![4096, 8192]⟩
abbrev S2x8192x2048 : Shape := ⟨3, ![2, 8192, 2048]⟩
abbrev S4096x2048 : Shape := ⟨2, ![4096, 2048]⟩
abbrev S1x8192x2048 : Shape := ⟨3, ![1, 8192, 2048]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2x8192x2048, .bf16⟩
  | .hbm, ⟨2, _⟩ => ⟨S4096x2048, .bf16⟩
  | .hbm, ⟨3, _⟩ => ⟨S1x8192x2048, .bf16⟩
  | .hbm, ⟨4, _⟩ => ⟨S8192x2048, .bf16⟩
  | .hbm, ⟨5, _⟩ => ⟨S8192x2048, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .i1⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== UpDx0.lean ====
abbrev S4096x8192 : Shape := ⟨2, ![4096, 8192]⟩
abbrev S2x2048x8192 : Shape := ⟨3, ![2, 2048, 8192]⟩
abbrev S4096x2048 : Shape := ⟨2, ![4096, 2048]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2x2048x8192, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDx0RefIdeal.lean ====
abbrev S4096x8192 : Shape := ⟨2, ![4096, 8192]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2x2048x8192, .bf16⟩
  | .hbm, ⟨2, _⟩ => ⟨S1x2048x8192, .bf16⟩
  | .hbm, ⟨3, _⟩ => ⟨S2048x8192, .bf16⟩
  | .hbm, ⟨4, _⟩ => ⟨S2048x8192, .f32⟩
  | .hbm, ⟨5, _⟩ => ⟨S_, .f32⟩
  | .hbm, ⟨6, _⟩ => ⟨S4096x2048, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MlpUp0.lean ====
abbrev S4096x2048 : Shape := ⟨2, ![4096, 2048]⟩
abbrev S2x2048x8192 : Shape := ⟨3, ![2, 2048, 8192]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2x2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUp0Ideal.lean ====
abbrev S4096x2048 : Shape := ⟨2, ![4096, 2048]⟩
abbrev S2x2048x8192 : Shape := ⟨3, ![2, 2048, 8192]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2x2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUp0RefIdeal.lean ====
abbrev S4096x2048 : Shape := ⟨2, ![4096, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x8192, .bf16⟩
  | .hbm, ⟨2, _⟩ => ⟨S4096x2048, .f32⟩
  | .hbm, ⟨3, _⟩ => ⟨S1x2048x8192, .bf16⟩
  | .hbm, ⟨4, _⟩ => ⟨S2048x8192, .bf16⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x8192, .f32⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MlpUp1.lean ====
abbrev S4096x2048 : Shape := ⟨2, ![4096, 2048]⟩
abbrev S2x2048x8192 : Shape := ⟨3, ![2, 2048, 8192]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2x2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUp1Ideal.lean ====
abbrev S4096x2048 : Shape := ⟨2, ![4096, 2048]⟩
abbrev S2x2048x8192 : Shape := ⟨3, ![2, 2048, 8192]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2x2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUp1RefIdeal.lean ====
abbrev S4096x2048 : Shape := ⟨2, ![4096, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x8192, .bf16⟩
  | .hbm, ⟨2, _⟩ => ⟨S4096x2048, .f32⟩
  | .hbm, ⟨3, _⟩ => ⟨S1x2048x8192, .bf16⟩
  | .hbm, ⟨4, _⟩ => ⟨S2048x8192, .bf16⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x8192, .f32⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MlpDown0.lean ====
abbrev S4096x8192 : Shape := ⟨2, ![4096, 8192]⟩
abbrev S2x8192x2048 : Shape := ⟨3, ![2, 8192, 2048]⟩
abbrev S4096x2048 : Shape := ⟨2, ![4096, 2048]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2x8192x2048, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDown0Ideal.lean ====
  let c0_i32_0 : BitVec 32 := 0#32
  ![c0_i32.toNat, arg2.toNat, arg1.toNat]
-- ==== MlpDown0RefIdeal.lean ====
abbrev S4096x8192 : Shape := ⟨2, ![4096, 8192]⟩
abbrev S2x8192x2048 : Shape := ⟨3, ![2, 8192, 2048]⟩
abbrev S1x8192x2048 : Shape := ⟨3, ![1, 8192, 2048]⟩
abbrev S8192x2048 : Shape := ⟨2, ![8192, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2x8192x2048, .bf16⟩
  | .hbm, ⟨2, _⟩ => ⟨S4096x8192, .f32⟩
  | .hbm, ⟨3, _⟩ => ⟨S1x8192x2048, .bf16⟩
  | .hbm, ⟨4, _⟩ => ⟨S8192x2048, .bf16⟩
  | .hbm, ⟨5, _⟩ => ⟨S8192x2048, .f32⟩
  | .hbm, ⟨6, _⟩ => ⟨S4096x2048, .f32⟩
  | .hbm, ⟨7, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MlpDown1.lean ====
abbrev S4096x8192 : Shape := ⟨2, ![4096, 8192]⟩
abbrev S2x8192x2048 : Shape := ⟨3, ![2, 8192, 2048]⟩
abbrev S4096x2048 : Shape := ⟨2, ![4096, 2048]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2x8192x2048, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDown1RefIdeal.lean ====
abbrev S4096x8192 : Shape := ⟨2, ![4096, 8192]⟩
abbrev S2x8192x2048 : Shape := ⟨3, ![2, 8192, 2048]⟩
abbrev S1x8192x2048 : Shape := ⟨3, ![1, 8192, 2048]⟩
abbrev S8192x2048 : Shape := ⟨2, ![8192, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2x8192x2048, .bf16⟩
  | .hbm, ⟨2, _⟩ => ⟨S4096x8192, .f32⟩
  | .hbm, ⟨3, _⟩ => ⟨S1x8192x2048, .bf16⟩
  | .hbm, ⟨4, _⟩ => ⟨S8192x2048, .bf16⟩
  | .hbm, ⟨5, _⟩ => ⟨S8192x2048, .f32⟩
  | .hbm, ⟨6, _⟩ => ⟨S4096x2048, .f32⟩
  | .hbm, ⟨7, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvIn.lean ====
abbrev S4096x2048 : Shape := ⟨2, ![4096, 2048]⟩
abbrev S2048x6144 : Shape := ⟨2, ![2048, 6144]⟩
abbrev S3x4096x2048 : Shape := ⟨3, ![3, 4096, 2048]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S3x4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInRefIdeal.lean ====
abbrev S4096x2048 : Shape := ⟨2, ![4096, 2048]⟩
abbrev S2048x6144 : Shape := ⟨2, ![2048, 6144]⟩
abbrev S4096x6144 : Shape := ⟨2, ![4096, 6144]⟩
abbrev S1x4096x2048 : Shape := ⟨3, ![1, 4096, 2048]⟩
abbrev S3x4096x2048 : Shape := ⟨3, ![3, 4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S1x4096x2048, .f32⟩
  | .hbm, ⟨9, _⟩ => ⟨S1x4096x2048, .f32⟩
  | .hbm, ⟨10, _⟩ => ⟨S1x4096x2048, .f32⟩
  | .hbm, ⟨11, _⟩ => ⟨S3x4096x2048, .f32⟩
  | .hbm, ⟨12, _⟩ => ⟨S3x4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== ConvInDx.lean ====
abbrev S3x4096x2048 : Shape := ⟨3, ![3, 4096, 2048]⟩
abbrev S2048x6144 : Shape := ⟨2, ![2048, 6144]⟩
abbrev S4096x2048 : Shape := ⟨2, ![4096, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3x4096x2048, .bf16⟩
  | .hbm, ⟨1, _⟩ => ⟨S2048x6144, .bf16⟩
  | .hbm, ⟨2, _⟩ => ⟨S4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInDxRefIdeal.lean ====
abbrev S3x4096x2048 : Shape := ⟨3, ![3, 4096, 2048]⟩
abbrev S2048x6144 : Shape := ⟨2, ![2048, 6144]⟩
abbrev S_ : Shape := ⟨0, ![]⟩
abbrev S4096x2048 : Shape := ⟨2, ![4096, 2048]⟩
abbrev S4096x6144 : Shape := ⟨2, ![4096, 6144]⟩
abbrev S1x4096x2048 : Shape := ⟨3, ![1, 4096, 2048]⟩

abbrev nBuf : Space → Nat
  | .hbm => 30
  | .vmem => 0
  | .smem => 0
  | _ => 0

abbrev bufTy : (tb : Table) → Fin (tcTables nBuf tb) → BufTy
  | .hbm, ⟨0, _⟩ => ⟨S3x4096x2048, .bf16⟩
  | .hbm, ⟨1, _⟩ => ⟨S2048x6144, .bf16⟩
  | .hbm, ⟨2, _⟩ => ⟨S2048x6144, .f32⟩
  | .hbm, ⟨3, _⟩ => ⟨S_, .f32⟩
  | .hbm, ⟨4, _⟩ => ⟨S4096x2048, .f32⟩
  | .hbm, ⟨5, _⟩ => ⟨S4096x6144, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S1x4096x2048, .f32⟩
  | .hbm, ⟨10, _⟩ => ⟨S1x4096x2048, .f32⟩
  | .hbm, ⟨11, _⟩ => ⟨S1x4096x2048, .f32⟩
  | .hbm, ⟨12, _⟩ => ⟨S3x4096x2048, .f32⟩
  | .hbm, ⟨13, _⟩ => ⟨S3x4096x2048, .f32⟩
  | .hbm, ⟨14, _⟩ => ⟨S1x4096x2048, .f32⟩
  | .hbm, ⟨15, _⟩ => ⟨S4096x2048, .f32⟩
  | .hbm, ⟨16, _⟩ => ⟨S1x4096x2048, .f32⟩
  | .hbm, ⟨17, _⟩ => ⟨S4096x2048, .f32⟩
  | .hbm, ⟨18, _⟩ => ⟨S1x4096x2048, .f32⟩
  | .hbm, ⟨19, _⟩ => ⟨S4096x2048, .f32⟩
  | .hbm, ⟨20, _⟩ => ⟨S_, .f32⟩
  | .hbm, ⟨21, _⟩ => ⟨S4096x6144, .f32⟩
  | .hbm, ⟨22, _⟩ => ⟨S_, .f32⟩
  | .hbm, ⟨23, _⟩ => ⟨S4096x6144, .f32⟩
  | .hbm, ⟨24, _⟩ => ⟨S4096x6144, .f32⟩
  | .hbm, ⟨25, _⟩ => ⟨S_, .f32⟩
  | .hbm, ⟨26, _⟩ => ⟨S4096x6144, .f32⟩
  | .hbm, ⟨27, _⟩ => ⟨S4096x6144, .f32⟩
  | .hbm, ⟨28, _⟩ => ⟨S4096x2048, .f32⟩
  | .hbm, ⟨29, _⟩ => ⟨S4096x2048, .bf16⟩
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== ConvInDw.lean ====
abbrev S4096x2048 : Shape := ⟨2, ![4096, 2048]⟩
abbrev S3x4096x2048 : Shape := ⟨3, ![3, 4096, 2048]⟩
abbrev S2048x6144 : Shape := ⟨2, ![2048, 6144]⟩
abbrev S4096x1024 : Shape := ⟨2, ![4096, 1024]⟩
abbrev S1x4096x1024 : Shape := ⟨3, ![1, 4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S2048x6144, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInDwRefIdeal.lean ====
abbrev S4096x2048 : Shape := ⟨2, ![4096, 2048]⟩
abbrev S3x4096x2048 : Shape := ⟨3, ![3, 4096, 2048]⟩
abbrev S_ : Shape := ⟨0, ![]⟩
abbrev S2048x6144 : Shape := ⟨2, ![2048, 6144]⟩
abbrev S4096x6144 : Shape := ⟨2, ![4096, 6144]⟩
abbrev S1x4096x2048 : Shape := ⟨3, ![1, 4096, 2048]⟩
abbrev S6144x2048 : Shape := ⟨2, ![6144, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S1x4096x2048, .f32⟩
  | .hbm, ⟨10, _⟩ => ⟨S1x4096x2048, .f32⟩
  | .hbm, ⟨11, _⟩ => ⟨S1x4096x2048, .f32⟩
  | .hbm, ⟨12, _⟩ => ⟨S3x4096x2048, .f32⟩
  | .hbm, ⟨13, _⟩ => ⟨S3x4096x2048, .f32⟩
  | .hbm, ⟨14, _⟩ => ⟨S1x4096x2048, .f32⟩
  | .hbm, ⟨15, _⟩ => ⟨S4096x2048, .f32⟩
  | .hbm, ⟨16, _⟩ => ⟨S1x4096x2048, .f32⟩
  | .hbm, ⟨17, _⟩ => ⟨S4096x2048, .f32⟩
  | .hbm, ⟨18, _⟩ => ⟨S1x4096x2048, .f32⟩
  | .hbm, ⟨19, _⟩ => ⟨S4096x2048, .f32⟩
  | .hbm, ⟨20, _⟩ => ⟨S_, .f32⟩
  | .hbm, ⟨21, _⟩ => ⟨S4096x6144, .f32⟩
  | .hbm, ⟨22, _⟩ => ⟨S_, .f32⟩
  | .hbm, ⟨23, _⟩ => ⟨S4096x6144, .f32⟩
  | .hbm, ⟨24, _⟩ => ⟨S4096x6144, .f32⟩
  | .hbm, ⟨25, _⟩ => ⟨S_, .f32⟩
  | .hbm, ⟨26, _⟩ => ⟨S4096x6144, .f32⟩
  | .hbm, ⟨27, _⟩ => ⟨S4096x6144, .f32⟩
  | .hbm, ⟨28, _⟩ => ⟨S6144x2048, .f32⟩
  | .hbm, ⟨29, _⟩ => ⟨S2048x6144, .f32⟩
  | .hbm, ⟨30, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kv.lean ====
abbrev S4096x512 : Shape := ⟨2, ![4096, 512]⟩
abbrev S512x4096 : Shape := ⟨2, ![512, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x512, .f32⟩
  | .hbm, ⟨3, _⟩ => ⟨S512x4096, .f32⟩
  | .hbm, ⟨4, _⟩ => ⟨S4096x4096, .f32⟩
  | .hbm, ⟨5, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvDx.lean ====
abbrev S4096x4096 : Shape := ⟨2, ![4096, 4096]⟩
abbrev S512x4096 : Shape := ⟨2, ![512, 4096]⟩
abbrev S4096x512 : Shape := ⟨2, ![4096, 512]⟩
abbrev S1024x4096 : Shape := ⟨2, ![1024, 4096]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S4096x512, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S1024x512, .f32⟩
  | .local _ .vmem, ⟨4, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDxRefIdeal.lean ====
abbrev S4096x4096 : Shape := ⟨2, ![4096, 4096]⟩
abbrev S512x4096 : Shape := ⟨2, ![512, 4096]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S512x4096, .f32⟩
  | .hbm, ⟨3, _⟩ => ⟨S_, .f32⟩
  | .hbm, ⟨4, _⟩ => ⟨S4096x512, .f32⟩
  | .hbm, ⟨5, _⟩ => ⟨S4096x4096, .f32⟩
  | .hbm, ⟨6, _⟩ => ⟨S4096x4096, .f32⟩
  | .hbm, ⟨7, _⟩ => ⟨S4096x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvDw.lean ====
abbrev S4096x512 : Shape := ⟨2, ![4096, 512]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x4096, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwRefIdeal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S_, .f32⟩
  | .hbm, ⟨3, _⟩ => ⟨S512x4096, .f32⟩
  | .hbm, ⟨4, _⟩ => ⟨S4096x512, .f32⟩
  | .hbm, ⟨5, _⟩ => ⟨S4096x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S512x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Lat.lean ====
abbrev S4096x2048 : Shape := ⟨2, ![4096, 2048]⟩
abbrev S2048x1152 : Shape := ⟨2, ![2048, 1152]⟩
abbrev S4096x1152 : Shape := ⟨2, ![4096, 1152]⟩
abbrev S1024x2048 : Shape := ⟨2, ![1024, 2048]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1152, .bf16⟩
  | .hbm, ⟨2, _⟩ => ⟨S4096x1152, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S1024x1152, .f32⟩
  | .local _ .vmem, ⟨4, _⟩ => ⟨S1024x1152, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatRefIdeal.lean ====
abbrev S4096x2048 : Shape := ⟨2, ![4096, 2048]⟩
abbrev S2048x1152 : Shape := ⟨2, ![2048, 1152]⟩
abbrev S4096x1152 : Shape := ⟨2, ![4096, 1152]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1152, .bf16⟩
  | .hbm, ⟨2, _⟩ => ⟨S4096x2048, .f32⟩
  | .hbm, ⟨3, _⟩ => ⟨S2048x1152, .f32⟩
  | .hbm, ⟨4, _⟩ => ⟨S4096x1152, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LatDx.lean ====
abbrev S4096x1152 : Shape := ⟨2, ![4096, 1152]⟩
abbrev S2048x1152 : Shape := ⟨2, ![2048, 1152]⟩
abbrev S4096x2048 : Shape := ⟨2, ![4096, 2048]⟩
abbrev S1024x1152 : Shape := ⟨2, ![1024, 1152]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1152, .bf16⟩
  | .hbm, ⟨1, _⟩ => ⟨S2048x1152, .bf16⟩
  | .hbm, ⟨2, _⟩ => ⟨S4096x2048, .bf16⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .bf16⟩
  | .local _ .vmem, ⟨5, _⟩ => ⟨S1024x1024, .bf16⟩
  | _, _ => ⟨S4096x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatDxRefIdeal.lean ====
abbrev S4096x1152 : Shape := ⟨2, ![4096, 1152]⟩
abbrev S2048x1152 : Shape := ⟨2, ![2048, 1152]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1152, .bf16⟩
  | .hbm, ⟨1, _⟩ => ⟨S2048x1152, .bf16⟩
  | .hbm, ⟨2, _⟩ => ⟨S2048x1152, .f32⟩
  | .hbm, ⟨3, _⟩ => ⟨S_, .f32⟩
  | .hbm, ⟨4, _⟩ => ⟨S4096x2048, .f32⟩
  | .hbm, ⟨5, _⟩ => ⟨S4096x1152, .f32⟩
  | .hbm, ⟨6, _⟩ => ⟨S4096x1152, .f32⟩
  | .hbm, ⟨7, _⟩ => ⟨S4096x2048, .f32⟩
  | .hbm, ⟨8, _⟩ => ⟨S4096x2048, .bf16⟩
  | _, _ => ⟨S4096x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LatDw.lean ====
abbrev S4096x2048 : Shape := ⟨2, ![4096, 2048]⟩
abbrev S4096x1152 : Shape := ⟨2, ![4096, 1152]⟩
abbrev S2048x1152 : Shape := ⟨2, ![2048, 1152]⟩
abbrev S4096x1024 : Shape := ⟨2, ![4096, 1024]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1152, .bf16⟩
  | .hbm, ⟨2, _⟩ => ⟨S2048x1152, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1152, .bf16⟩
  | .local _ .vmem, ⟨3, _⟩ => ⟨S1024x1152, .bf16⟩
  | .local _ .vmem, ⟨4, _⟩ => ⟨S1024x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatDwRefIdeal.lean ====
abbrev S4096x2048 : Shape := ⟨2, ![4096, 2048]⟩
abbrev S4096x1152 : Shape := ⟨2, ![4096, 1152]⟩
abbrev S_ : Shape := ⟨0, ![]⟩
abbrev S2048x1152 : Shape := ⟨2, ![2048, 1152]⟩
abbrev S1152x2048 : Shape := ⟨2, ![1152, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1152, .bf16⟩
  | .hbm, ⟨2, _⟩ => ⟨S_, .f32⟩
  | .hbm, ⟨3, _⟩ => ⟨S2048x1152, .f32⟩
  | .hbm, ⟨4, _⟩ => ⟨S4096x2048, .f32⟩
  | .hbm, ⟨5, _⟩ => ⟨S4096x1152, .f32⟩
  | .hbm, ⟨6, _⟩ => ⟨S4096x1152, .f32⟩
  | .hbm, ⟨7, _⟩ => ⟨S1152x2048, .f32⟩
  | .hbm, ⟨8, _⟩ => ⟨S2048x1152, .f32⟩
  | .hbm, ⟨9, _⟩ => ⟨S2048x1152, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Bound.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 11
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== BoundRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S3x2048 : Shape := ⟨2, ![3, 2048]⟩
abbrev S8x2048 : Shape := ⟨2, ![8, 2048]⟩

abbrev nBuf : Space → Nat
  | .hbm => 125
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x2048, .f32⟩
  | .hbm, ⟨57, _⟩ => ⟨S4096x2048, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S_, .f32⟩
  | .hbm, ⟨96, _⟩ => ⟨S2048, .f32⟩
  | .hbm, ⟨97, _⟩ => ⟨S1x2048, .f32⟩
  | .hbm, ⟨98, _⟩ => ⟨S4096x2048, .f32⟩
  | .hbm, ⟨99, _⟩ => ⟨S_, .f32⟩
  | .hbm, ⟨100, _⟩ => ⟨S2048, .f32⟩
  | .hbm, ⟨101, _⟩ => ⟨S1x2048, .f32⟩
  | .hbm, ⟨102, _⟩ => ⟨S4096x2048, .f32⟩
  | .hbm, ⟨103, _⟩ => ⟨S4096x2048, .f32⟩
  | .hbm, ⟨104, _⟩ => ⟨S4096x2048, .f32⟩
  | .hbm, ⟨105, _⟩ => ⟨S_, .f32⟩
  | .hbm, ⟨106, _⟩ => ⟨S4096, .f32⟩
  | .hbm, ⟨107, _⟩ => ⟨S4096x1, .f32⟩
  | .hbm, ⟨108, _⟩ => ⟨S4096x2048, .f32⟩
  | .hbm, ⟨109, _⟩ => ⟨S4096x2048, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S_, .f32⟩
  | .hbm, ⟨115, _⟩ => ⟨S4096, .f32⟩
  | .hbm, ⟨116, _⟩ => ⟨S4096x2048, .f32⟩
  | .hbm, ⟨117, _⟩ => ⟨S4096x2048, .f32⟩
  | .hbm, ⟨118, _⟩ => ⟨S4096x2048, .f32⟩
  | .hbm, ⟨119, _⟩ => ⟨S4096x2048, .f32⟩
  | .hbm, ⟨120, _⟩ => ⟨S4096x2048, .f32⟩
  | .hbm, ⟨121, _⟩ => ⟨S4096x2048, .bf16⟩
  | .hbm, ⟨122, _⟩ => ⟨S_, .f32⟩
  | .hbm, ⟨123, _⟩ => ⟨S3x2048, .f32⟩
  | .hbm, ⟨124, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_15 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_17 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_18 : Ref sig .tc := ⟨.hbm, 111, rfl⟩
abbrev main_v84 : Ref sig .tc := ⟨.hbm, 112, rfl⟩
abbrev main_v85 : Ref sig .tc := ⟨.hbm, 113, rfl⟩
abbrev main_cst_19 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_20 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]
-- ==== Bound0.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Bound0RefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S5x2048 : Shape := ⟨2, ![5, 2048]⟩
abbrev S8x2048 : Shape := ⟨2, ![8, 2048]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S5x2048, .f32⟩
  | .hbm, ⟨69, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Fwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Fwd0.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Fwd0RefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Attn.lean ====
abbrev S36 : Shape := ⟨1, ![36]⟩
abbrev S4096x4096 : Shape := ⟨2, ![4096, 4096]⟩
abbrev S4096x128 : Shape := ⟨2, ![4096, 128]⟩
abbrev S4096x2048 : Shape := ⟨2, ![4096, 2048]⟩
abbrev S16x4096x128 : Shape := ⟨3, ![16, 4096, 128]⟩
abbrev S512x512 : Shape := ⟨2, ![512, 512]⟩
abbrev S1 : Shape := ⟨1, ![1]⟩
abbrev S512x128 : Shape := ⟨2, ![512, 128]⟩
abbrev S512x256 : Shape := ⟨2, ![512, 256]⟩
abbrev S2x512x128 : Shape := ⟨3, ![2, 512, 128]⟩
abbrev S2x512x256 : Shape := ⟨3, ![2, 512, 256]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩

abbrev nBuf : Space → Nat
  | .hbm => 5
  | .vmem => 12
  | .smem => 2
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x128, .bf16⟩
  | .hbm, ⟨3, _⟩ => ⟨S4096x2048, .bf16⟩
  | .hbm, ⟨4, _⟩ => ⟨S16x4096x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S512x256, .bf16⟩
  | .local _ .vmem, ⟨7, _⟩ => ⟨S512x256, .bf16⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x256, .f32⟩
  | .local _ .smem, ⟨0, _⟩ => ⟨S36, .i32⟩
  | .local _ .smem, ⟨1, _⟩ => ⟨S36, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnRefIdeal.lean ====
abbrev S36 : Shape := ⟨1, ![36]⟩
abbrev S4096x4096 : Shape := ⟨2, ![4096, 4096]⟩
abbrev S4096x128 : Shape := ⟨2, ![4096, 128]⟩
abbrev S4096x16x256 : Shape := ⟨3, ![4096, 16, 256]⟩
abbrev S4096x16x128 : Shape := ⟨3, ![4096, 16, 128]⟩
abbrev S16x4096x4096 : Shape := ⟨3, ![16, 4096, 4096]⟩
abbrev S4096x4096x16 : Shape := ⟨3, ![4096, 4096, 16]⟩
abbrev S1x4096x4096 : Shape := ⟨3, ![1, 4096, 4096]⟩
abbrev S_ : Shape := ⟨0, ![]⟩
abbrev S16x4096 : Shape := ⟨2, ![16, 4096]⟩
abbrev S16x4096x1 : Shape := ⟨3, ![16, 4096, 1]⟩
abbrev S16x128x4096 : Shape := ⟨3, ![16, 128, 4096]⟩
abbrev S4096x2048 : Shape := ⟨2, ![4096, 2048]⟩

abbrev nBuf : Space → Nat
  | .hbm => 45
  | .vmem => 0
  | .smem => 0
  | _ => 0

abbrev bufTy : (tb : Table) → Fin (tcTables nBuf tb) → BufTy
  | .hbm, ⟨0, _⟩ => ⟨S36, .i32⟩
  | .hbm, ⟨1, _⟩ => ⟨S36, .i32⟩
  | .hbm, ⟨2, _⟩ => ⟨S4096x4096, .bf16⟩
  | .hbm, ⟨3, _⟩ => ⟨S4096x4096, .bf16⟩
  | .hbm, ⟨4, _⟩ => ⟨S4096x128, .bf16⟩
  | .hbm, ⟨5, _⟩ => ⟨S4096x4096, .f32⟩
  | .hbm, ⟨6, _⟩ => ⟨S4096x16x256, .f32⟩
  | .hbm, ⟨7, _⟩ => ⟨S4096x4096, .f32⟩
  | .hbm, ⟨8, _⟩ => ⟨S4096x16x256, .f32⟩
  | .hbm, ⟨9, _⟩ => ⟨S4096x16x128, .f32⟩
  | .hbm, ⟨10, _⟩ => ⟨S4096x16x128, .f32⟩
  | .hbm, ⟨11, _⟩ => ⟨S16x4096x4096, .f32⟩
  | .hbm, ⟨12, _⟩ => ⟨S4096x16x128, .f32⟩
  | .hbm, ⟨13, _⟩ => ⟨S4096x128, .f32⟩
  | .hbm, ⟨14, _⟩ => ⟨S4096x4096x16, .f32⟩
  | .hbm, ⟨15, _⟩ => ⟨S16x4096x4096, .f32⟩
  | .hbm, ⟨16, _⟩ => ⟨S16x4096x4096, .f32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S1x4096x4096, .i1⟩
  | .hbm, ⟨21, _⟩ => ⟨S_, .f32⟩
  | .hbm, ⟨22, _⟩ => ⟨S_, .f32⟩
  | .hbm, ⟨23, _⟩ => ⟨S16x4096x4096, .i1⟩
  | .hbm, ⟨24, _⟩ => ⟨S16x4096x4096, .f32⟩
  | .hbm, ⟨25, _⟩ => ⟨S16x4096x4096, .f32⟩
  | .hbm, ⟨26, _⟩ => ⟨S_, .f32⟩
  | .hbm, ⟨27, _⟩ => ⟨S16x4096, .f32⟩
  | .hbm, ⟨28, _⟩ => ⟨S_, .f32⟩
  | .hbm, ⟨29, _⟩ => ⟨S16x4096, .f32⟩
  | .hbm, ⟨30, _⟩ => ⟨S16x4096, .f32⟩
  | .hbm, ⟨31, _⟩ => ⟨S16x4096x1, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S16x4096x4096, .f32⟩
  | .hbm, ⟨39, _⟩ => ⟨S16x4096x4096, .f32⟩
  | .hbm, ⟨40, _⟩ => ⟨S4096x16x128, .f32⟩
  | .hbm, ⟨41, _⟩ => ⟨S16x128x4096, .f32⟩
  | .hbm, ⟨42, _⟩ => ⟨S4096x16x128, .f32⟩
  | .hbm, ⟨43, _⟩ => ⟨S4096x2048, .f32⟩
  | .hbm, ⟨44, _⟩ => ⟨S4096x2048, .bf16⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== MlaQ.lean ====
abbrev S4096x512 : Shape := ⟨2, ![4096, 512]⟩
abbrev S512x4096 : Shape := ⟨2, ![512, 4096]⟩
abbrev S4096x32 : Shape := ⟨2, ![4096, 32]⟩
abbrev S_ : Shape := ⟨0, ![]⟩
abbrev S4096x128 : Shape := ⟨2, ![4096, 128]⟩
abbrev S4096x4096 : Shape := ⟨2, ![4096, 4096]⟩
abbrev S1024x512 : Shape := ⟨2, ![1024, 512]⟩
abbrev S512x512 : Shape := ⟨2, ![512, 512]⟩
abbrev S1024x128 : Shape := ⟨2, ![1024, 128]⟩

abbrev nBuf : Space → Nat
  | .hbm => 11
  | .vmem => 12
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x32, .f32⟩
  | .hbm, ⟨3, _⟩ => ⟨S4096x32, .f32⟩
  | .hbm, ⟨4, _⟩ => ⟨S_, .f32⟩
  | .hbm, ⟨5, _⟩ => ⟨S4096x32, .f32⟩
  | .hbm, ⟨6, _⟩ => ⟨S4096x128, .f32⟩
  | .hbm, ⟨7, _⟩ => ⟨S4096x32, .f32⟩
  | .hbm, ⟨8, _⟩ => ⟨S4096x128, .f32⟩
  | .hbm, ⟨9, _⟩ => ⟨S4096x128, .f32⟩
  | .hbm, ⟨10, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MlaQRefIdeal.lean ====
abbrev S4096x512 : Shape := ⟨2, ![4096, 512]⟩
abbrev S512x4096 : Shape := ⟨2, ![512, 4096]⟩
abbrev S4096x32 : Shape := ⟨2, ![4096, 32]⟩
abbrev S4096x4096 : Shape := ⟨2, ![4096, 4096]⟩
abbrev S4096x16x256 : Shape := ⟨3, ![4096, 16, 256]⟩
abbrev S4096x16x64 : Shape := ⟨3, ![4096, 16, 64]⟩
abbrev S4096x1x32 : Shape := ⟨3, ![4096, 1, 32]⟩
abbrev S4096x16x32 : Shape := ⟨3, ![4096, 16, 32]⟩
abbrev S4096x16x128 : Shape := ⟨3, ![4096, 16, 128]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x32, .f32⟩
  | .hbm, ⟨3, _⟩ => ⟨S4096x32, .f32⟩
  | .hbm, ⟨4, _⟩ => ⟨S4096x512, .f32⟩
  | .hbm, ⟨5, _⟩ => ⟨S512x4096, .f32⟩
  | .hbm, ⟨6, _⟩ => ⟨S4096x4096, .f32⟩
  | .hbm, ⟨7, _⟩ => ⟨S4096x16x256, .f32⟩
  | .hbm, ⟨8, _⟩ => ⟨S4096x16x64, .f32⟩
  | .hbm, ⟨9, _⟩ => ⟨S4096x1x32, .f32⟩
  | .hbm, ⟨10, _⟩ => ⟨S4096x1x32, .f32⟩
  | .hbm, ⟨11, _⟩ => ⟨S4096x16x32, .f32⟩
  | .hbm, ⟨12, _⟩ => ⟨S4096x16x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x32, .f32⟩
  | .hbm, ⟨22, _⟩ => ⟨S4096x16x32, .f32⟩
  | .hbm, ⟨23, _⟩ => ⟨S4096x16x64, .f32⟩
  | .hbm, ⟨24, _⟩ => ⟨S4096x16x128, .f32⟩
  | .hbm, ⟨25, _⟩ => ⟨S_, .f32⟩
  | .hbm, ⟨26, _⟩ => ⟨S4096x16x64, .f32⟩
  | .hbm, ⟨27, _⟩ => ⟨S4096x16x256, .f32⟩
  | .hbm, ⟨28, _⟩ => ⟨S_, .f32⟩
  | .hbm, ⟨29, _⟩ => ⟨S4096x16x256, .f32⟩
  | .hbm, ⟨30, _⟩ => ⟨S4096x16x256, .f32⟩
  | .hbm, ⟨31, _⟩ => ⟨S4096x4096, .f32⟩
  | .hbm, ⟨32, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Proof.Mlp.DownDx.lean ====
/- The gradient of the MLP's down-projection input, through the squared relu: each block of the kernel's product is multiplied
   by twice the relu of the pre-activation (computed before the call). The derivative of the squared relu gives relu times
   gradient plus gradient times relu where the pre-activation is positive and zero elsewhere. -/
module

public import proofs.«01_k».proof.Defs
public import proofs.«01_k».proof.Proof.Gen.DownDxIdeal.Value
public import proofs.«01_k».proof.Proof.Gen.DownDxRefIdeal
public import proofs.«01_k».proof.Proof.Gen.DownDxRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.DownDxProof

open Cert.DownDxIdeal Cert.DownDxIdeal.Gen Idealize.ShloMosaic Idealize.ShloMosaic.TcCoe Idealize.SL.Sem

variable (m : (ℓ : Loc nD τ sig) → Buf (Elt Ideal) ℓ)

/-- The relu. -/
def relu (u : Vec Ideal S4096x8192 .f32) : Vec Ideal S4096x8192 .f32 := fun i => max (u i) 0

/-- The incoming gradient times the layer's weights transposed, times twice the relu. -/
def grad (u : Vec Ideal S4096x8192 .f32) (w : Vec Ideal S2x8192x2048 .bf16) (dy : Vec Ideal S4096x2048 .bf16) :
    Vec Ideal S4096x8192 .bf16 := fun i =>
  (∑ k : Fin 2048, dy (ix2 (i 0) k) * w (ix3 1 (i 1) k)) * (2 * relu u (ix2 (i 0) (i 1)))

theorem e0 : ∀ t : Fin cfg0.N, win0_0.index t = ![(grid0.coords t 0).val, 0] := (by decide +kernel : ∀ t : Fin grid0.N, _)
theorem e1 : ∀ t : Fin cfg0.N, win0_1.index t = ![1, (grid0.coords t 1).val, 0] := (by decide +kernel : ∀ t : Fin grid0.N, _)
theorem e2 : ∀ t : Fin cfg0.N, win0_2.index t = ![(grid0.coords t 0).val, (grid0.coords t 1).val] := (by decide +kernel : ∀ t : Fin grid0.N, _)
theorem e3 : ∀ t : Fin cfg0.N, win0_3.index t = ![(grid0.coords t 0).val, (grid0.coords t 1).val] := (by decide +kernel : ∀ t : Fin grid0.N, _)

/-- The row of the result that row `a` of the block at grid step `t` is, and the same for a column. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 8192 :=
  ⟨(grid0.coords t 1).val * 1024 + a.val, by have : (grid0.coords t 1).val < 8 := (grid0.coords t 1).isLt; omega⟩

theorem two : Ideal.ofBits .f32 1073741824#32 = (2 : EReal) := by
  rw [show (2 : EReal) = ((2 : ℝ) : EReal) by norm_cast]
  simp [Ideal.ofBits, Ideal.ieee, -EReal.coe_mul]; norm_num

/-- A block of the kernel's output. -/
theorem out_at (x0 : Vec Ideal S1024x2048 .bf16) (x1 : Vec Ideal S1x1024x2048 .bf16) (x2 : Vec Ideal S1024x1024 .bf16)
    (a b : Fin 1024) :
    out0_3 (F := Ideal) x0 x1 x2 (ix2 a b) = (∑ k : Fin 2048, x0 (ix2 a k) * x1 (ix3 0 b k)) * (2 * x2 (ix2 a b)) := by
  unfold out0_3
  frame_out
  pointwise [k0_pay1, two]

theorem in0 (c : Dev nD) (t : Fin grid0.N) (a : Fin 1024) (k : Fin 2048) :
    iblk m c 0 t (ix2 a k) = m ((c : Thread nD τ).loc main_arg2) (ix2 (row t a) k) := by
  blk_simp [iblk]
  refine (congrFun (V_main_arg2 m c) _).trans (congrArg (m ((c : Thread nD τ).loc main_arg2)) ?_)
  blk_ext [e0, row]

theorem in1 (c : Dev nD) (t : Fin grid0.N) (a : Fin 1024) (k : Fin 2048) :
    iblk m c 1 t (ix3 0 a k) = m ((c : Thread nD τ).loc main_arg1) (ix3 1 (col t a) k) := by
  blk_simp [iblk]
  refine (congrFun (V_main_arg1 m c) _).trans (congrArg (m ((c : Thread nD τ).loc main_arg1)) ?_)
  blk_ext [e1, col]

theorem in2 (c : Dev nD) (t : Fin grid0.N) (a b : Fin 1024) :
    iblk m c 2 t (ix2 a b) = relu (m ((c : Thread nD τ).loc main_arg0)) (ix2 (row t a) (col t b)) := by
  blk_simp [iblk]
  have he : (win0_2.blk t).view.emb (ix2 a b) = ix2 (row t a) (col t b) := by blk_ext [e2, row, col]
  rw [he]
  entry_read
  pointwise [relu]

theorem final (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨a, b, rfl⟩ : ∃ (a b : Fin 1024), y = ix2 a b := ⟨y 0, y 1, eq_ix2 y⟩
  have he : (win0_3.blk t).view.emb (ix2 a b) = ix2 (row t a) (col t b) := by
    blk_ext [e3, row, col]
  rw [he]
  refine (out_at _ _ _ a b).trans ?_
  simp only [in0, in1, in2]
  rfl

/-- The derivative of the squared relu at `u`, applied to `g`, is `g` times twice the relu, whatever `g` is. -/
theorem gate (u g : EReal) : (if 0 < u then max u 0 * g + g * max u 0 else 0) = g * (2 * max u 0) := by
  have h : 0 ≤ max u 0 := le_max_right u 0
  split_ifs with hu
  · have h2 : (2 : EReal) * max u 0 = max u 0 + max u 0 := by
      rw [← one_add_one_eq_two, EReal.right_distrib_of_nonneg zero_le_one zero_le_one, one_mul]
    rw [mul_comm (max u 0) g, h2, EReal.left_distrib_of_nonneg h h]
  · rw [max_eq_right (not_lt.mp hu), mul_zero, mul_zero]

theorem frame_ref : Cert.quiescent_DownDxRefIdeal (hDownDxRefIdeal := Cert.DownDxRefIdeal.Gen.facts) := fun m g _ =>
  (θ_run Cert.DownDxRefIdeal.defs _ _).mono
    (fun r h => ⟨fun c => (h c).2, sem_eq_zero_of_no_sems rfl _⟩) (Cert.DownDxRefIdeal.Value.run (F := Ideal) m g)

theorem algebraic : Cert.algebraic_DownDxIdeal_DownDxRefIdeal (hDownDxIdeal := Cert.DownDxIdeal.Gen.facts)
    (hDownDxRefIdeal := Cert.DownDxRefIdeal.Gen.facts) := by
  intro m g m' g' _ hargs
  refine ⟨_, Cert.DownDxIdeal.Value.run_blocks (F := Ideal) m g, ?_⟩
  refine (θ_run (Cert.DownDxRefIdeal.defs (F := Ideal)) _ _).mono (fun r h c => ?_) (Cert.DownDxRefIdeal.Value.run (F := Ideal) m' g')
  obtain ⟨h1, h3⟩ := h c
  obtain ⟨a0, a1, a2⟩ := hargs c
  refine ⟨h1.trans ?_, h3⟩
  refine Eq.trans (funext fun i => ?_) (final m c).symm
  rw [a0, a1, a2, eq_ix2 i]
  pointwise [grad, relu]
  exact gate _ _

end Cert.DownDxProof

end
-- ==== Proof.Mlp.DownDw.lean ====
/- The gradient of the MLP's down-projection weights: each block of the kernel's product is one sum over the positions of the
   squared relu of the pre-activation (computed before the call) times the incoming gradient. -/
module

public import proofs.«01_k».proof.Defs
public import proofs.«01_k».proof.Proof.Gen.DownDwIdeal.Value
public import proofs.«01_k».proof.Proof.Gen.DownDwRefIdeal
public import proofs.«01_k».proof.Proof.Gen.DownDwRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.DownDwProof

open Cert.DownDwIdeal Cert.DownDwIdeal.Gen Idealize.ShloMosaic Idealize.ShloMosaic.TcCoe Idealize.SL.Sem

variable (m : (ℓ : Loc nD τ sig) → Buf (Elt Ideal) ℓ)

/-- The squared relu. -/
def sq (u : Vec Ideal S4096x8192 .f32) : Vec Ideal S4096x8192 .f32 := fun i => max (u i) 0 * max (u i) 0

/-- The transpose of the squared relu of the pre-activation times the incoming gradient. -/
def grad (u : Vec Ideal S4096x8192 .f32) (dy : Vec Ideal S4096x2048 .bf16) : Vec Ideal S8192x2048 .bf16 := fun i =>
  ∑ k : Fin 4096, sq u (ix2 k (i 0)) * dy (ix2 k (i 1))

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, and the same for a column. -/
def row (t : Fin grid0.N) (a : Fin 1024) : Fin 8192 :=
  ⟨(grid0.coords t 0).val * 1024 + a.val, by have : (grid0.coords t 0).val < 8 := (grid0.coords t 0).isLt; omega⟩
def col (t : Fin grid0.N) (a : Fin 1024) : Fin 2048 :=
  ⟨(grid0.coords t 1).val * 1024 + a.val, by have : (grid0.coords t 1).val < 2 := (grid0.coords t 1).isLt; omega⟩

/-- A block of the kernel's output. -/
theorem out_at (x0 : Vec Ideal S4096x1024 .bf16) (x1 : Vec Ideal S4096x1024 .bf16) (a b : Fin 1024) :
    out0_2 (F := Ideal) x0 x1 (ix2 a b) = ∑ k : Fin 4096, x0 (ix2 k a) * x1 (ix2 k b) := by
  unfold out0_2
  frame_out
  pointwise [k0_pay1]

theorem in0 (c : Dev nD) (t : Fin grid0.N) (k : Fin 4096) (a : Fin 1024) :
    iblk m c 0 t (ix2 k a) = sq (m ((c : Thread nD τ).loc main_arg0)) (ix2 k (row t a)) := by
  blk_simp [iblk]
  have he : (win0_0.blk t).view.emb (ix2 k a) = ix2 k (row t a) := by blk_ext [e0, row]
  rw [he]
  entry_read
  pointwise [sq]

theorem in1 (c : Dev nD) (t : Fin grid0.N) (k : Fin 4096) (a : Fin 1024) :
    iblk m c 1 t (ix2 k a) = m ((c : Thread nD τ).loc main_arg1)
      (ix2 k (col t a)) := by
  blk_simp [iblk]
  refine (congrFun (V_main_arg1 m c) _).trans (congrArg (m ((c : Thread nD τ).loc main_arg1)) ?_)
  blk_ext [e1, col]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a b : Fin 1024), y = ix2 a b := ⟨y 0, y 1, eq_ix2 y⟩
  have he : (win0_2.blk t).view.emb (ix2 a b) = ix2
      (row t a)
      (col t b) := by
    blk_ext [e2, row, col]
  rw [he]
  refine (out_at _ _ a b).trans ?_
  simp only [in0, in1]
  rfl

theorem frame_ref : Cert.quiescent_DownDwRefIdeal (hDownDwRefIdeal := Cert.DownDwRefIdeal.Gen.facts) := fun m g _ =>
  (θ_run Cert.DownDwRefIdeal.defs _ _).mono
    (fun r h => ⟨fun c => (h c).2, sem_eq_zero_of_no_sems rfl _⟩) (Cert.DownDwRefIdeal.Value.run (F := Ideal) m g)

theorem algebraic : Cert.algebraic_DownDwIdeal_DownDwRefIdeal (hDownDwIdeal := Cert.DownDwIdeal.Gen.facts)
    (hDownDwRefIdeal := Cert.DownDwRefIdeal.Gen.facts) := by
  intro m g m' g' _ hargs
  refine ⟨_, Cert.DownDwIdeal.Value.run_blocks (F := Ideal) m g, ?_⟩
  refine (θ_run (Cert.DownDwRefIdeal.defs (F := Ideal)) _ _).mono (fun r h c => ?_) (Cert.DownDwRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad, sq]
  exact Finset.sum_congr rfl fun k _ => mul_comm _ _

end Cert.DownDwProof

end
-- ==== Proof.Mlp.UpDx.lean ====
/- The gradient of the MLP's up-projection input: the kernel accumulates each block's product over the two halves of the hidden
   axis, one after the other; the sum of the two is the one sum the derivative takes. -/
module

public import proofs.«01_k».proof.Defs
public import proofs.«01_k».proof.Proof.Gen.UpDxIdeal.Value
public import proofs.«01_k».proof.Proof.Gen.UpDxRefIdeal
public import proofs.«01_k».proof.Proof.Gen.UpDxRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.UpDxProof

open Cert.UpDxIdeal Cert.UpDxIdeal.Gen Idealize.ShloMosaic Idealize.ShloMosaic.TcCoe Idealize.SL.Sem

variable (m : (ℓ : Loc nD τ sig) → Buf (Elt Ideal) ℓ)

/-- The incoming gradient times the layer's weights transposed. -/
def grad (da : Vec Ideal S4096x8192 .bf16) (w : Vec Ideal S2x2048x8192 .bf16) : Vec Ideal S4096x2048 .bf16 := fun i =>
  ∑ k : Fin 8192, da (ix2 (i 0) k) * w (ix3 1 (i 1) k)

theorem e0 : ∀ t : Fin cfg0.N, win0_0.index t = ![(grid0.coords t 0).val, (grid0.coords t 2).val] := (by decide +kernel : ∀ t : Fin grid0.N, _)
theorem e1 : ∀ t : Fin cfg0.N, win0_1.index t = ![1, (grid0.coords t 1).val, (grid0.coords t 2).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, the same for a column, and for a place on the
    summed axis. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 2048 :=
  ⟨(grid0.coords t 1).val * 1024 + a.val, by have : (grid0.coords t 1).val < 2 := (grid0.coords t 1).isLt; omega⟩
def mid (t : Fin grid0.N) (k : Fin 4096) : Fin 8192 :=
  ⟨(grid0.coords t 2).val * 4096 + k.val, by have : (grid0.coords t 2).val < 2 := (grid0.coords t 2).isLt; omega⟩

/-- The grid step before. -/
def prev (t : Fin grid0.N) : Fin grid0.N := ⟨t.val - 1, lt_of_le_of_lt (Nat.sub_le _ _) t.isLt⟩

theorem steps : ∀ t : Fin grid0.N, t.val % 2 = 1 → (grid0.coords t 2).val = 1 ∧ (grid0.coords (prev t) 2).val = 0
    ∧ (grid0.coords (prev t) 0).val = (grid0.coords t 0).val ∧ (grid0.coords (prev t) 1).val = (grid0.coords t 1).val := by
  decide +kernel

theorem in0 (c : Dev nD) (t : Fin grid0.N) (a : Fin 1024) (k : Fin 4096) :
    iblk m c 0 t (ix2 a k) = m ((c : Thread nD τ).loc main_arg0) (ix2 (row t a) (mid t k)) := by
  blk_simp [iblk]
  refine (congrFun (V_main_arg0 m c) _).trans (congrArg (m ((c : Thread nD τ).loc main_arg0)) ?_)
  blk_ext [e0, row, mid]

theorem in1 (c : Dev nD) (t : Fin grid0.N) (a : Fin 1024) (k : Fin 4096) :
    iblk m c 1 t (ix3 0 a k) = m ((c : Thread nD τ).loc main_arg1) (ix3 1 (col t a) (mid t k)) := by
  blk_simp [iblk]
  refine (congrFun (V_main_arg1 m c) _).trans (congrArg (m ((c : Thread nD τ).loc main_arg1)) ?_)
  blk_ext [e1, col, mid]

/-- The product of one step. -/
theorem pay_at (x0 : Vec Ideal S1024x4096 .bf16) (x1 : Vec Ideal S1x1024x4096 .bf16) (a b : Fin 1024) :
    k0_pay1 (F := Ideal) x0 x1 (ix2 a b) = ∑ k : Fin 4096, x0 (ix2 a k) * x1 (ix3 0 b k) := by
  pointwise [k0_pay1]

/-- The scratch after the first step of a block. -/
theorem first_at (c : Dev nD) (t : Fin cfg0.N) (ht : t.val % 2 = 0) (a b : Fin 1024) :
    (outsAt0 m c t.val t.isLt).2 (ix2 a b) = k0_pay1 (F := Ideal) (iblk m c 0 t) (iblk m c 1 t) (ix2 a b) := by
  rw [outsAt0_A m c t ht (by omega) (by omega)]
  dsimp only
  unfold sout0_A_0
  frame_out
  pointwise [k0_pay2]

/-- The block after its second step. -/
theorem out_at (c : Dev nD) (t : Fin cfg0.N) (ht : t.val % 2 = 1) (a b : Fin 1024) :
    (outsAt0 m c t.val t.isLt).1 (ix2 a b) = k0_pay1 (F := Ideal) (iblk m c 0 (prev t)) (iblk m c 1 (prev t)) (ix2 a b)
      + k0_pay1 (F := Ideal) (iblk m c 0 t) (iblk m c 1 t) (ix2 a b) := by
  rw [outsAt0_B m c t (by omega) ht ht, ← first_at m c (prev t) (by simp only [prev]; omega)]
  dsimp only
  unfold out0_B_2
  frame_out
  pointwise [k0_pay4, k0_pay3]
  exact congrArg (· + _) (congrFun (Memref.IsWhole.read_unread _ _) _)

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  obtain ⟨a, b, rfl⟩ : ∃ (a b : Fin 1024), y = ix2 a b := ⟨y 0, y 1, eq_ix2 y⟩
  have he : (win0_2.blk t).view.emb (ix2 a b) = ix2 (row t a) (col t b) := by
    blk_ext [e2, row, col]
  rw [he]
  refine (out_at m c t ht a b).trans ?_
  rw [pay_at, pay_at]
  simp only [in0, in1]
  obtain ⟨s1, s0, sr, sc⟩ := steps t ht
  have hr : row (prev t) a = row t a := by simp only [row, sr]
  have hc : col (prev t) b = col t b := by simp only [col, sc]
  rw [hr, hc]
  refine Eq.trans ?_ (Fin.sum_univ_add (a := 4096) (b := 4096) fun k : Fin 8192 => _).symm
  congr 1 <;> refine Finset.sum_congr rfl fun k _ => ?_
  · have : mid (prev t) k = Fin.castAdd 4096 k := by apply Fin.ext; simp [mid, s0]
    rw [this]; rfl
  · have : mid t k = Fin.natAdd 4096 k := by apply Fin.ext; simp [mid, s1]; omega
    rw [this]; rfl

theorem frame_ref : Cert.quiescent_UpDxRefIdeal (hUpDxRefIdeal := Cert.UpDxRefIdeal.Gen.facts) := fun m g _ =>
  (θ_run Cert.UpDxRefIdeal.defs _ _).mono
    (fun r h => ⟨fun c => (h c).2, sem_eq_zero_of_no_sems rfl _⟩) (Cert.UpDxRefIdeal.Value.run (F := Ideal) m g)

theorem algebraic : Cert.algebraic_UpDxIdeal_UpDxRefIdeal (hUpDxIdeal := Cert.UpDxIdeal.Gen.facts)
    (hUpDxRefIdeal := Cert.UpDxRefIdeal.Gen.facts) := by
  intro m g m' g' _ hargs
  refine ⟨_, Cert.UpDxIdeal.Value.run_blocks (F := Ideal) m g, ?_⟩
  refine (θ_run (Cert.UpDxRefIdeal.defs (F := Ideal)) _ _).mono (fun r h c => ?_) (Cert.UpDxRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]

end Cert.UpDxProof

end
-- ==== Proof.Mlp.UpDw.lean ====
/- The gradient of the MLP's up-projection weights: each block of the kernel's product is one sum over the positions, the sum
   the derivative of the product by its weights takes. -/
module

public import proofs.«01_k».proof.Defs
public import proofs.«01_k».proof.Proof.Gen.UpDwIdeal.Value
public import proofs.«01_k».proof.Proof.Gen.UpDwRefIdeal
public import proofs.«01_k».proof.Proof.Gen.UpDwRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.UpDwProof

open Cert.UpDwIdeal Cert.UpDwIdeal.Gen Idealize.ShloMosaic Idealize.ShloMosaic.TcCoe Idealize.SL.Sem

variable (m : (ℓ : Loc nD τ sig) → Buf (Elt Ideal) ℓ)

/-- The transpose of the input times the incoming gradient. -/
def grad (h : Vec Ideal S4096x2048 .bf16) (da : Vec Ideal S4096x8192 .bf16) : Vec Ideal S2048x8192 .bf16 := fun i =>
  ∑ k : Fin 4096, h (ix2 k (i 0)) * da (ix2 k (i 1))

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, and the same for a column. -/
def row (t : Fin grid0.N) (a : Fin 1024) : Fin 2048 :=
  ⟨(grid0.coords t 0).val * 1024 + a.val, by have : (grid0.coords t 0).val < 2 := (grid0.coords t 0).isLt; omega⟩
def col (t : Fin grid0.N) (a : Fin 1024) : Fin 8192 :=
  ⟨(grid0.coords t 1).val * 1024 + a.val, by have : (grid0.coords t 1).val < 8 := (grid0.coords t 1).isLt; omega⟩

/-- A block of the kernel's output. -/
theorem out_at (x0 : Vec Ideal S4096x1024 .bf16) (x1 : Vec Ideal S4096x1024 .bf16) (a b : Fin 1024) :
    out0_2 (F := Ideal) x0 x1 (ix2 a b) = ∑ k : Fin 4096, x0 (ix2 k a) * x1 (ix2 k b) := by
  unfold out0_2
  frame_out
  pointwise [k0_pay1]

theorem in0 (c : Dev nD) (t : Fin grid0.N) (k : Fin 4096) (a : Fin 1024) :
    iblk m c 0 t (ix2 k a) = m ((c : Thread nD τ).loc main_arg0)
      (ix2 k (row t a)) := by
  blk_simp [iblk]
  refine (congrFun (V_main_arg0 m c) _).trans (congrArg (m ((c : Thread nD τ).loc main_arg0)) ?_)
  blk_ext [e0, row]

theorem in1 (c : Dev nD) (t : Fin grid0.N) (k : Fin 4096) (a : Fin 1024) :
    iblk m c 1 t (ix2 k a) = m ((c : Thread nD τ).loc main_arg1)
      (ix2 k (col t a)) := by
  blk_simp [iblk]
  refine (congrFun (V_main_arg1 m c) _).trans (congrArg (m ((c : Thread nD τ).loc main_arg1)) ?_)
  blk_ext [e1, col]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a b : Fin 1024), y = ix2 a b := ⟨y 0, y 1, eq_ix2 y⟩
  have he : (win0_2.blk t).view.emb (ix2 a b) = ix2
      (row t a)
      (col t b) := by
    blk_ext [e2, row, col]
  rw [he]
  refine (out_at _ _ a b).trans ?_
  simp only [in0, in1]
  rfl

theorem frame_ref : Cert.quiescent_UpDwRefIdeal (hUpDwRefIdeal := Cert.UpDwRefIdeal.Gen.facts) := fun m g _ =>
  (θ_run Cert.UpDwRefIdeal.defs _ _).mono
    (fun r h => ⟨fun c => (h c).2, sem_eq_zero_of_no_sems rfl _⟩) (Cert.UpDwRefIdeal.Value.run (F := Ideal) m g)

theorem algebraic : Cert.algebraic_UpDwIdeal_UpDwRefIdeal (hUpDwIdeal := Cert.UpDwIdeal.Gen.facts)
    (hUpDwRefIdeal := Cert.UpDwRefIdeal.Gen.facts) := by
  intro m g m' g' _ hargs
  refine ⟨_, Cert.UpDwIdeal.Value.run_blocks (F := Ideal) m g, ?_⟩
  refine (θ_run (Cert.UpDwRefIdeal.defs (F := Ideal)) _ _).mono (fun r h c => ?_) (Cert.UpDwRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]
  exact Finset.sum_congr rfl fun k _ => mul_comm _ _

end Cert.UpDwProof

end
-- ==== Proof.Mlp.DownDx0.lean ====
/- The gradient of the MLP's down-projection input, through the squared relu: each block of the kernel's product is multiplied
   by twice the relu of the pre-activation (computed before the call). The derivative of the squared relu gives relu times
   gradient plus gradient times relu where the pre-activation is positive and zero elsewhere. -/
module

public import proofs.«01_k».proof.Defs
public import proofs.«01_k».proof.Proof.Gen.DownDx0Ideal.Value
public import proofs.«01_k».proof.Proof.Gen.DownDx0RefIdeal
public import proofs.«01_k».proof.Proof.Gen.DownDx0RefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.DownDx0Proof

open Cert.DownDx0Ideal Cert.DownDx0Ideal.Gen Idealize.ShloMosaic Idealize.ShloMosaic.TcCoe Idealize.SL.Sem

variable (m : (ℓ : Loc nD τ sig) → Buf (Elt Ideal) ℓ)

/-- The relu. -/
def relu (u : Vec Ideal S4096x8192 .f32) : Vec Ideal S4096x8192 .f32 := fun i => max (u i) 0

/-- The incoming gradient times the layer's weights transposed, times twice the relu. -/
def grad (u : Vec Ideal S4096x8192 .f32) (w : Vec Ideal S2x8192x2048 .bf16) (dy : Vec Ideal S4096x2048 .bf16) :
    Vec Ideal S4096x8192 .bf16 := fun i =>
  (∑ k : Fin 2048, dy (ix2 (i 0) k) * w (ix3 0 (i 1) k)) * (2 * relu u (ix2 (i 0) (i 1)))

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val, 0] := (by decide +kernel : ∀ t : Fin grid0.N, _)
theorem e2 : ∀ t : Fin cfg0.N, win0_2.index t = ![(grid0.coords t 0).val, (grid0.coords t 1).val] := (by decide +kernel : ∀ t : Fin grid0.N, _)
theorem e3 : ∀ t : Fin cfg0.N, win0_3.index t = ![(grid0.coords t 0).val, (grid0.coords t 1).val] := (by decide +kernel : ∀ t : Fin grid0.N, _)

/-- The row of the result that row `a` of the block at grid step `t` is, and the same for a column. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 8192 :=
  ⟨(grid0.coords t 1).val * 1024 + a.val, by have : (grid0.coords t 1).val < 8 := (grid0.coords t 1).isLt; omega⟩

theorem two : Ideal.ofBits .f32 1073741824#32 = (2 : EReal) := by
  rw [show (2 : EReal) = ((2 : ℝ) : EReal) by norm_cast]
  simp [Ideal.ofBits, Ideal.ieee, -EReal.coe_mul]; norm_num

/-- A block of the kernel's output. -/
theorem out_at (x0 : Vec Ideal S1024x2048 .bf16) (x1 : Vec Ideal S1x1024x2048 .bf16) (x2 : Vec Ideal S1024x1024 .bf16)
    (a b : Fin 1024) :
    out0_3 (F := Ideal) x0 x1 x2 (ix2 a b) = (∑ k : Fin 2048, x0 (ix2 a k) * x1 (ix3 0 b k)) * (2 * x2 (ix2 a b)) := by
  unfold out0_3
  frame_out
  pointwise [k0_pay1, two]

theorem in0 (c : Dev nD) (t : Fin grid0.N) (a : Fin 1024) (k : Fin 2048) :
    iblk m c 0 t (ix2 a k) = m ((c : Thread nD τ).loc main_arg2) (ix2 (row t a) k) := by
  blk_simp [iblk]
  refine (congrFun (V_main_arg2 m c) _).trans (congrArg (m ((c : Thread nD τ).loc main_arg2)) ?_)
  blk_ext [e0, row]

theorem in1 (c : Dev nD) (t : Fin grid0.N) (a : Fin 1024) (k : Fin 2048) :
    iblk m c 1 t (ix3 0 a k) = m ((c : Thread nD τ).loc main_arg1) (ix3 0 (col t a) k) := by
  blk_simp [iblk]
  refine (congrFun (V_main_arg1 m c) _).trans (congrArg (m ((c : Thread nD τ).loc main_arg1)) ?_)
  blk_ext [e1, col]

theorem in2 (c : Dev nD) (t : Fin grid0.N) (a b : Fin 1024) :
    iblk m c 2 t (ix2 a b) = relu (m ((c : Thread nD τ).loc main_arg0)) (ix2 (row t a) (col t b)) := by
  blk_simp [iblk]
  have he : (win0_2.blk t).view.emb (ix2 a b) = ix2 (row t a) (col t b) := by blk_ext [e2, row, col]
  rw [he]
  entry_read
  pointwise [relu]

theorem final (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨a, b, rfl⟩ : ∃ (a b : Fin 1024), y = ix2 a b := ⟨y 0, y 1, eq_ix2 y⟩
  have he : (win0_3.blk t).view.emb (ix2 a b) = ix2 (row t a) (col t b) := by
    blk_ext [e3, row, col]
  rw [he]
  refine (out_at _ _ _ a b).trans ?_
  simp only [in0, in1, in2]
  rfl

/-- The derivative of the squared relu at `u`, applied to `g`, is `g` times twice the relu, whatever `g` is. -/
theorem gate (u g : EReal) : (if 0 < u then max u 0 * g + g * max u 0 else 0) = g * (2 * max u 0) := by
  have h : 0 ≤ max u 0 := le_max_right u 0
  split_ifs with hu
  · have h2 : (2 : EReal) * max u 0 = max u 0 + max u 0 := by
      rw [← one_add_one_eq_two, EReal.right_distrib_of_nonneg zero_le_one zero_le_one, one_mul]
    rw [mul_comm (max u 0) g, h2, EReal.left_distrib_of_nonneg h h]
  · rw [max_eq_right (not_lt.mp hu), mul_zero, mul_zero]

theorem frame_ref : Cert.quiescent_DownDx0RefIdeal (hDownDx0RefIdeal := Cert.DownDx0RefIdeal.Gen.facts) := fun m g _ =>
  (θ_run Cert.DownDx0RefIdeal.defs _ _).mono
    (fun r h => ⟨fun c => (h c).2, sem_eq_zero_of_no_sems rfl _⟩) (Cert.DownDx0RefIdeal.Value.run (F := Ideal) m g)

theorem algebraic : Cert.algebraic_DownDx0Ideal_DownDx0RefIdeal (hDownDx0Ideal := Cert.DownDx0Ideal.Gen.facts)
    (hDownDx0RefIdeal := Cert.DownDx0RefIdeal.Gen.facts) := by
  intro m g m' g' _ hargs
  refine ⟨_, Cert.DownDx0Ideal.Value.run_blocks (F := Ideal) m g, ?_⟩
  refine (θ_run (Cert.DownDx0RefIdeal.defs (F := Ideal)) _ _).mono (fun r h c => ?_) (Cert.DownDx0RefIdeal.Value.run (F := Ideal) m' g')
  obtain ⟨h1, h3⟩ := h c
  obtain ⟨a0, a1, a2⟩ := hargs c
  refine ⟨h1.trans ?_, h3⟩
  refine Eq.trans (funext fun i => ?_) (final m c).symm
  rw [a0, a1, a2, eq_ix2 i]
  pointwise [grad, relu]
  exact gate _ _

end Cert.DownDx0Proof

end
-- ==== Proof.Mlp.UpDx0.lean ====
/- The gradient of the MLP's up-projection input: the kernel accumulates each block's product over the two halves of the hidden
   axis, one after the other; the sum of the two is the one sum the derivative takes. -/
module

public import proofs.«01_k».proof.Defs
public import proofs.«01_k».proof.Proof.Gen.UpDx0Ideal.Value
public import proofs.«01_k».proof.Proof.Gen.UpDx0RefIdeal
public import proofs.«01_k».proof.Proof.Gen.UpDx0RefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.UpDx0Proof

open Cert.UpDx0Ideal Cert.UpDx0Ideal.Gen Idealize.ShloMosaic Idealize.ShloMosaic.TcCoe Idealize.SL.Sem

variable (m : (ℓ : Loc nD τ sig) → Buf (Elt Ideal) ℓ)

/-- The incoming gradient times the layer's weights transposed. -/
def grad (da : Vec Ideal S4096x8192 .bf16) (w : Vec Ideal S2x2048x8192 .bf16) : Vec Ideal S4096x2048 .bf16 := fun i =>
  ∑ k : Fin 8192, da (ix2 (i 0) k) * w (ix3 0 (i 1) k)

theorem e0 : ∀ t : Fin cfg0.N, win0_0.index t = ![(grid0.coords t 0).val, (grid0.coords t 2).val] := (by decide +kernel : ∀ t : Fin grid0.N, _)
theorem e1 : ∀ t : Fin cfg0.N, win0_1.index t = ![0, (grid0.coords t 1).val, (grid0.coords t 2).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, the same for a column, and for a place on the
    summed axis. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 2048 :=
  ⟨(grid0.coords t 1).val * 1024 + a.val, by have : (grid0.coords t 1).val < 2 := (grid0.coords t 1).isLt; omega⟩
def mid (t : Fin grid0.N) (k : Fin 4096) : Fin 8192 :=
  ⟨(grid0.coords t 2).val * 4096 + k.val, by have : (grid0.coords t 2).val < 2 := (grid0.coords t 2).isLt; omega⟩

/-- The grid step before. -/
def prev (t : Fin grid0.N) : Fin grid0.N := ⟨t.val - 1, lt_of_le_of_lt (Nat.sub_le _ _) t.isLt⟩

theorem steps : ∀ t : Fin grid0.N, t.val % 2 = 1 → (grid0.coords t 2).val = 1 ∧ (grid0.coords (prev t) 2).val = 0
    ∧ (grid0.coords (prev t) 0).val = (grid0.coords t 0).val ∧ (grid0.coords (prev t) 1).val = (grid0.coords t 1).val := by
  decide +kernel

theorem in0 (c : Dev nD) (t : Fin grid0.N) (a : Fin 1024) (k : Fin 4096) :
    iblk m c 0 t (ix2 a k) = m ((c : Thread nD τ).loc main_arg0) (ix2 (row t a) (mid t k)) := by
  blk_simp [iblk]
  refine (congrFun (V_main_arg0 m c) _).trans (congrArg (m ((c : Thread nD τ).loc main_arg0)) ?_)
  blk_ext [e0, row, mid]

theorem in1 (c : Dev nD) (t : Fin grid0.N) (a : Fin 1024) (k : Fin 4096) :
    iblk m c 1 t (ix3 0 a k) = m ((c : Thread nD τ).loc main_arg1) (ix3 0 (col t a) (mid t k)) := by
  blk_simp [iblk]
  refine (congrFun (V_main_arg1 m c) _).trans (congrArg (m ((c : Thread nD τ).loc main_arg1)) ?_)
  blk_ext [e1, col, mid]

/-- The product of one step. -/
theorem pay_at (x0 : Vec Ideal S1024x4096 .bf16) (x1 : Vec Ideal S1x1024x4096 .bf16) (a b : Fin 1024) :
    k0_pay1 (F := Ideal) x0 x1 (ix2 a b) = ∑ k : Fin 4096, x0 (ix2 a k) * x1 (ix3 0 b k) := by
  pointwise [k0_pay1]

/-- The scratch after the first step of a block. -/
theorem first_at (c : Dev nD) (t : Fin cfg0.N) (ht : t.val % 2 = 0) (a b : Fin 1024) :
    (outsAt0 m c t.val t.isLt).2 (ix2 a b) = k0_pay1 (F := Ideal) (iblk m c 0 t) (iblk m c 1 t) (ix2 a b) := by
  rw [outsAt0_A m c t ht (by omega) (by omega)]
  dsimp only
  unfold sout0_A_0
  frame_out
  pointwise [k0_pay2]

/-- The block after its second step. -/
theorem out_at (c : Dev nD) (t : Fin cfg0.N) (ht : t.val % 2 = 1) (a b : Fin 1024) :
    (outsAt0 m c t.val t.isLt).1 (ix2 a b) = k0_pay1 (F := Ideal) (iblk m c 0 (prev t)) (iblk m c 1 (prev t)) (ix2 a b)
      + k0_pay1 (F := Ideal) (iblk m c 0 t) (iblk m c 1 t) (ix2 a b) := by
  rw [outsAt0_B m c t (by omega) ht ht, ← first_at m c (prev t) (by simp only [prev]; omega)]
  dsimp only
  unfold out0_B_2
  frame_out
  pointwise [k0_pay4, k0_pay3]
  exact congrArg (· + _) (congrFun (Memref.IsWhole.read_unread _ _) _)

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  obtain ⟨a, b, rfl⟩ : ∃ (a b : Fin 1024), y = ix2 a b := ⟨y 0, y 1, eq_ix2 y⟩
  have he : (win0_2.blk t).view.emb (ix2 a b) = ix2 (row t a) (col t b) := by
    blk_ext [e2, row, col]
  rw [he]
  refine (out_at m c t ht a b).trans ?_
  rw [pay_at, pay_at]
  simp only [in0, in1]
  obtain ⟨s1, s0, sr, sc⟩ := steps t ht
  have hr : row (prev t) a = row t a := by simp only [row, sr]
  have hc : col (prev t) b = col t b := by simp only [col, sc]
  rw [hr, hc]
  refine Eq.trans ?_ (Fin.sum_univ_add (a := 4096) (b := 4096) fun k : Fin 8192 => _).symm
  congr 1 <;> refine Finset.sum_congr rfl fun k _ => ?_
  · have : mid (prev t) k = Fin.castAdd 4096 k := by apply Fin.ext; simp [mid, s0]
    rw [this]; rfl
  · have : mid t k = Fin.natAdd 4096 k := by apply Fin.ext; simp [mid, s1]; omega
    rw [this]; rfl

theorem frame_ref : Cert.quiescent_UpDx0RefIdeal (hUpDx0RefIdeal := Cert.UpDx0RefIdeal.Gen.facts) := fun m g _ =>
  (θ_run Cert.UpDx0RefIdeal.defs _ _).mono
    (fun r h => ⟨fun c => (h c).2, sem_eq_zero_of_no_sems rfl _⟩) (Cert.UpDx0RefIdeal.Value.run (F := Ideal) m g)

theorem algebraic : Cert.algebraic_UpDx0Ideal_UpDx0RefIdeal (hUpDx0Ideal := Cert.UpDx0Ideal.Gen.facts)
    (hUpDx0RefIdeal := Cert.UpDx0RefIdeal.Gen.facts) := by
  intro m g m' g' _ hargs
  refine ⟨_, Cert.UpDx0Ideal.Value.run_blocks (F := Ideal) m g, ?_⟩
  refine (θ_run (Cert.UpDx0RefIdeal.defs (F := Ideal)) _ _).mono (fun r h c => ?_) (Cert.UpDx0RefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]

end Cert.UpDx0Proof

end
-- ==== Proof.Mlp.MlpUp0.lean ====
/- The MLP's up-projection (first layer) with its two results: the relu of the product, and the square of the relu; each block's
   product is one sum over the whole summed axis. -/
module

public import proofs.«01_k».proof.Defs
public import proofs.«01_k».proof.Proof.Gen.MlpUp0Ideal.Value
public import proofs.«01_k».proof.Proof.Gen.MlpUp0RefIdeal
public import proofs.«01_k».proof.Proof.Gen.MlpUp0RefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.MlpUp0Proof

open Cert.MlpUp0Ideal Cert.MlpUp0Ideal.Gen Idealize.ShloMosaic Idealize.ShloMosaic.TcCoe Idealize.SL.Sem

variable (m : (ℓ : Loc nD τ sig) → Buf (Elt Ideal) ℓ)

/-- The relu of the input times the layer's weights. -/
def relu (h : Vec Ideal S4096x2048 .bf16) (w : Vec Ideal S2x2048x8192 .bf16) : Vec Ideal S4096x8192 .bf16 := fun i =>
  max (∑ k : Fin 2048, h (ix2 (i 0) k) * w (ix3 0 k (i 1))) 0

/-- Its square. -/
def square (h : Vec Ideal S4096x2048 .bf16) (w : Vec Ideal S2x2048x8192 .bf16) : Vec Ideal S4096x8192 .bf16 := fun i =>
  relu h w i * relu h w i

theorem e0 : ∀ t : Fin cfg0.N, win0_0.index t = ![(grid0.coords t 0).val, 0] := (by decide +kernel : ∀ t : Fin grid0.N, _)
theorem e1 : ∀ t : Fin cfg0.N, win0_1.index t = ![0, 0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)
theorem e3 : ∀ t : Fin cfg0.N, win0_3.index t = ![(grid0.coords t 0).val, (grid0.coords t 1).val] := (by decide +kernel : ∀ t : Fin grid0.N, _)

/-- The row of the result that row `a` of the block at grid step `t` is, and the same for a column. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 8192 :=
  ⟨(grid0.coords t 1).val * 1024 + a.val, by have : (grid0.coords t 1).val < 8 := (grid0.coords t 1).isLt; omega⟩

/-- A block of the kernel's first output. -/
theorem relu_at (x0 : Vec Ideal S1024x2048 .bf16) (x1 : Vec Ideal S1x2048x1024 .bf16) (a b : Fin 1024) :
    out0_2 (F := Ideal) x0 x1 (ix2 a b) = max (∑ k : Fin 2048, x0 (ix2 a k) * x1 (ix3 0 k b)) 0 := by
  unfold out0_2
  frame_out
  pointwise [k0_pay2, k0_pay1]

/-- A block of the kernel's second output. -/
theorem square_at (x0 : Vec Ideal S1024x2048 .bf16) (x1 : Vec Ideal S1x2048x1024 .bf16) (a b : Fin 1024) :
    out0_3 (F := Ideal) x0 x1 (ix2 a b)
      = max (∑ k : Fin 2048, x0 (ix2 a k) * x1 (ix3 0 k b)) 0 * max (∑ k : Fin 2048, x0 (ix2 a k) * x1 (ix3 0 k b)) 0 := by
  unfold out0_3
  frame_out
  pointwise [k0_pay3, k0_pay1]

theorem in0 (c : Dev nD) (t : Fin grid0.N) (a : Fin 1024) (k : Fin 2048) :
    iblk m c 0 t (ix2 a k) = m ((c : Thread nD τ).loc main_arg0) (ix2 (row t a) k) := by
  blk_simp [iblk]
  refine (congrFun (V_main_arg0 m c) _).trans (congrArg (m ((c : Thread nD τ).loc main_arg0)) ?_)
  blk_ext [e0, row]

theorem in1 (c : Dev nD) (t : Fin grid0.N) (k : Fin 2048) (b : Fin 1024) :
    iblk m c 1 t (ix3 0 k b) = m ((c : Thread nD τ).loc main_arg1) (ix3 0 k (col t b)) := by
  blk_simp [iblk]
  refine (congrFun (V_main_arg1 m c) _).trans (congrArg (m ((c : Thread nD τ).loc main_arg1)) ?_)
  blk_ext [e1, col]

theorem final_relu (c : Dev nD) : (dats m 0 c).arrAt 2 cfg0.N
    = relu (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a b : Fin 1024), y = ix2 a b := ⟨y 0, y 1, eq_ix2 y⟩
  have he : (win0_2.blk t).view.emb (ix2 a b) = ix2 (row t a) (col t b) := by
    blk_ext [e2, row, col]
  rw [he]
  refine (relu_at _ _ a b).trans ?_
  simp only [in0, in1]
  rfl

theorem final_square (c : Dev nD) : (dats m 0 c).arrAt 3 cfg0.N
    = square (m ((c : Thread nD τ).loc main_arg0)) (m ((c : Thread nD τ).loc main_arg1)) := by
  refine (dats m 0 c).arrAt_eq_of_covers 3 _ (by decide +kernel) fun t hf y => ?_
  blk_simp
  rw [after0_3]
  obtain ⟨a, b, rfl⟩ : ∃ (a b : Fin 1024), y = ix2 a b := ⟨y 0, y 1, eq_ix2 y⟩
  have he : (win0_3.blk t).view.emb (ix2 a b) = ix2 (row t a) (col t b) := by
    blk_ext [e3, row, col]
  rw [he]
  refine (square_at _ _ a b).trans ?_
  simp only [in0, in1]
  rfl

theorem frame_ref : Cert.quiescent_MlpUp0RefIdeal (hMlpUp0RefIdeal := Cert.MlpUp0RefIdeal.Gen.facts) := fun m g _ =>
  (θ_run Cert.MlpUp0RefIdeal.defs _ _).mono
    (fun r h => ⟨fun c => (h c).2.2, sem_eq_zero_of_no_sems rfl _⟩) (Cert.MlpUp0RefIdeal.Value.run (F := Ideal) m g)

theorem algebraic : Cert.algebraic_MlpUp0Ideal_MlpUp0RefIdeal (hMlpUp0Ideal := Cert.MlpUp0Ideal.Gen.facts)
    (hMlpUp0RefIdeal := Cert.MlpUp0RefIdeal.Gen.facts) := by
  intro m g m' g' _ hargs
  refine ⟨_, _, Cert.MlpUp0Ideal.Value.run_blocks (F := Ideal) m g, ?_⟩
  refine (θ_run (Cert.MlpUp0RefIdeal.defs (F := Ideal)) _ _).mono (fun r h c => ?_) (Cert.MlpUp0RefIdeal.Value.run (F := Ideal) m' g')
  obtain ⟨h1, h2, h3⟩ := h c
  obtain ⟨a0, a1⟩ := hargs c
  refine ⟨h1.trans ?_, h2.trans ?_, h3⟩
  · refine Eq.trans (funext fun i => ?_) (final_relu m c).symm
    rw [a0, a1, eq_ix2 i]
    pointwise [relu]
  · refine Eq.trans (funext fun i => ?_) (final_square m c).symm
    rw [a0, a1, eq_ix2 i]
    pointwise [square, relu]

end Cert.MlpUp0Proof

end
-- ==== Proof.Mlp.MlpUp1.lean ====
/- The MLP's up-projection (second layer) with its two results: the relu of the product, and the square of the relu; each block's
   product is one sum over the whole summed axis. -/
module

public import proofs.«01_k».proof.Defs
public import proofs.«01_k».proof.Proof.Gen.MlpUp1Ideal.Value
public import proofs.«01_k».proof.Proof.Gen.MlpUp1RefIdeal
public import proofs.«01_k».proof.Proof.Gen.MlpUp1RefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.MlpUp1Proof

open Cert.MlpUp1Ideal Cert.MlpUp1Ideal.Gen Idealize.ShloMosaic Idealize.ShloMosaic.TcCoe Idealize.SL.Sem

variable (m : (ℓ : Loc nD τ sig) → Buf (Elt Ideal) ℓ)

/-- The relu of the input times the layer's weights. -/
def relu (h : Vec Ideal S4096x2048 .bf16) (w : Vec Ideal S2x2048x8192 .bf16) : Vec Ideal S4096x8192 .bf16 := fun i =>
  max (∑ k : Fin 2048, h (ix2 (i 0) k) * w (ix3 1 k (i 1))) 0

/-- Its square. -/
def square (h : Vec Ideal S4096x2048 .bf16) (w : Vec Ideal S2x2048x8192 .bf16) : Vec Ideal S4096x8192 .bf16 := fun i =>
  relu h w i * relu h w i

theorem e0 : ∀ t : Fin cfg0.N, win0_0.index t = ![(grid0.coords t 0).val, 0] := (by decide +kernel : ∀ t : Fin grid0.N, _)
theorem e1 : ∀ t : Fin cfg0.N, win0_1.index t = ![1, 0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)
theorem e3 : ∀ t : Fin cfg0.N, win0_3.index t = ![(grid0.coords t 0).val, (grid0.coords t 1).val] := (by decide +kernel : ∀ t : Fin grid0.N, _)

/-- The row of the result that row `a` of the block at grid step `t` is, and the same for a column. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 8192 :=
  ⟨(grid0.coords t 1).val * 1024 + a.val, by have : (grid0.coords t 1).val < 8 := (grid0.coords t 1).isLt; omega⟩

/-- A block of the kernel's first output. -/
theorem relu_at (x0 : Vec Ideal S1024x2048 .bf16) (x1 : Vec Ideal S1x2048x1024 .bf16) (a b : Fin 1024) :
    out0_2 (F := Ideal) x0 x1 (ix2 a b) = max (∑ k : Fin 2048, x0 (ix2 a k) * x1 (ix3 0 k b)) 0 := by
  unfold out0_2
  frame_out
  pointwise [k0_pay2, k0_pay1]

/-- A block of the kernel's second output. -/
theorem square_at (x0 : Vec Ideal S1024x2048 .bf16) (x1 : Vec Ideal S1x2048x1024 .bf16) (a b : Fin 1024) :
    out0_3 (F := Ideal) x0 x1 (ix2 a b)
      = max (∑ k : Fin 2048, x0 (ix2 a k) * x1 (ix3 0 k b)) 0 * max (∑ k : Fin 2048, x0 (ix2 a k) * x1 (ix3 0 k b)) 0 := by
  unfold out0_3
  frame_out
  pointwise [k0_pay3, k0_pay1]

theorem in0 (c : Dev nD) (t : Fin grid0.N) (a : Fin 1024) (k : Fin 2048) :
    iblk m c 0 t (ix2 a k) = m ((c : Thread nD τ).loc main_arg0) (ix2 (row t a) k) := by
  blk_simp [iblk]
  refine (congrFun (V_main_arg0 m c) _).trans (congrArg (m ((c : Thread nD τ).loc main_arg0)) ?_)
  blk_ext [e0, row]

theorem in1 (c : Dev nD) (t : Fin grid0.N) (k : Fin 2048) (b : Fin 1024) :
    iblk m c 1 t (ix3 0 k b) = m ((c : Thread nD τ).loc main_arg1) (ix3 1 k (col t b)) := by
  blk_simp [iblk]
  refine (congrFun (V_main_arg1 m c) _).trans (congrArg (m ((c : Thread nD τ).loc main_arg1)) ?_)
  blk_ext [e1, col]

theorem final_relu (c : Dev nD) : (dats m 0 c).arrAt 2 cfg0.N
    = relu (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a b : Fin 1024), y = ix2 a b := ⟨y 0, y 1, eq_ix2 y⟩
  have he : (win0_2.blk t).view.emb (ix2 a b) = ix2 (row t a) (col t b) := by
    blk_ext [e2, row, col]
  rw [he]
  refine (relu_at _ _ a b).trans ?_
  simp only [in0, in1]
  rfl

theorem final_square (c : Dev nD) : (dats m 0 c).arrAt 3 cfg0.N
    = square (m ((c : Thread nD τ).loc main_arg0)) (m ((c : Thread nD τ).loc main_arg1)) := by
  refine (dats m 0 c).arrAt_eq_of_covers 3 _ (by decide +kernel) fun t hf y => ?_
  blk_simp
  rw [after0_3]
  obtain ⟨a, b, rfl⟩ : ∃ (a b : Fin 1024), y = ix2 a b := ⟨y 0, y 1, eq_ix2 y⟩
  have he : (win0_3.blk t).view.emb (ix2 a b) = ix2 (row t a) (col t b) := by
    blk_ext [e3, row, col]
  rw [he]
  refine (square_at _ _ a b).trans ?_
  simp only [in0, in1]
  rfl

theorem frame_ref : Cert.quiescent_MlpUp1RefIdeal (hMlpUp1RefIdeal := Cert.MlpUp1RefIdeal.Gen.facts) := fun m g _ =>
  (θ_run Cert.MlpUp1RefIdeal.defs _ _).mono
    (fun r h => ⟨fun c => (h c).2.2, sem_eq_zero_of_no_sems rfl _⟩) (Cert.MlpUp1RefIdeal.Value.run (F := Ideal) m g)

theorem algebraic : Cert.algebraic_MlpUp1Ideal_MlpUp1RefIdeal (hMlpUp1Ideal := Cert.MlpUp1Ideal.Gen.facts)
    (hMlpUp1RefIdeal := Cert.MlpUp1RefIdeal.Gen.facts) := by
  intro m g m' g' _ hargs
  refine ⟨_, _, Cert.MlpUp1Ideal.Value.run_blocks (F := Ideal) m g, ?_⟩
  refine (θ_run (Cert.MlpUp1RefIdeal.defs (F := Ideal)) _ _).mono (fun r h c => ?_) (Cert.MlpUp1RefIdeal.Value.run (F := Ideal) m' g')
  obtain ⟨h1, h2, h3⟩ := h c
  obtain ⟨a0, a1⟩ := hargs c
  refine ⟨h1.trans ?_, h2.trans ?_, h3⟩
  · refine Eq.trans (funext fun i => ?_) (final_relu m c).symm
    rw [a0, a1, eq_ix2 i]
    pointwise [relu]
  · refine Eq.trans (funext fun i => ?_) (final_square m c).symm
    rw [a0, a1, eq_ix2 i]
    pointwise [square, relu]

end Cert.MlpUp1Proof

end
-- ==== Proof.Mlp.MlpDown0.lean ====
/- The MLP's down-projection (first layer): the kernel accumulates each block's product over the two halves of the hidden axis, one
   after the other; the sum of the two is the one sum of the product. -/
module

public import proofs.«01_k».proof.Defs
public import proofs.«01_k».proof.Proof.Gen.MlpDown0Ideal.Value
public import proofs.«01_k».proof.Proof.Gen.MlpDown0RefIdeal
public import proofs.«01_k».proof.Proof.Gen.MlpDown0RefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.MlpDown0Proof

open Cert.MlpDown0Ideal Cert.MlpDown0Ideal.Gen Idealize.ShloMosaic Idealize.ShloMosaic.TcCoe Idealize.SL.Sem

variable (m : (ℓ : Loc nD τ sig) → Buf (Elt Ideal) ℓ)

/-- The hidden activations times the layer's weights. -/
def grad (a2 : Vec Ideal S4096x8192 .bf16) (w : Vec Ideal S2x8192x2048 .bf16) : Vec Ideal S4096x2048 .bf16 := fun i =>
  ∑ k : Fin 8192, a2 (ix2 (i 0) k) * w (ix3 0 k (i 1))

theorem e0 : ∀ t : Fin cfg0.N, win0_0.index t = ![(grid0.coords t 0).val, (grid0.coords t 2).val] := (by decide +kernel : ∀ t : Fin grid0.N, _)
theorem e1 : ∀ t : Fin cfg0.N, win0_1.index t = ![0, (grid0.coords t 2).val, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, the same for a column, and for a place on the
    summed axis. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 2048 :=
  ⟨(grid0.coords t 1).val * 1024 + a.val, by have : (grid0.coords t 1).val < 2 := (grid0.coords t 1).isLt; omega⟩
def mid (t : Fin grid0.N) (k : Fin 4096) : Fin 8192 :=
  ⟨(grid0.coords t 2).val * 4096 + k.val, by have : (grid0.coords t 2).val < 2 := (grid0.coords t 2).isLt; omega⟩

/-- The grid step before. -/
def prev (t : Fin grid0.N) : Fin grid0.N := ⟨t.val - 1, lt_of_le_of_lt (Nat.sub_le _ _) t.isLt⟩

theorem steps : ∀ t : Fin grid0.N, t.val % 2 = 1 → (grid0.coords t 2).val = 1 ∧ (grid0.coords (prev t) 2).val = 0
    ∧ (grid0.coords (prev t) 0).val = (grid0.coords t 0).val ∧ (grid0.coords (prev t) 1).val = (grid0.coords t 1).val := by
  decide +kernel

theorem in0 (c : Dev nD) (t : Fin grid0.N) (a : Fin 1024) (k : Fin 4096) :
    iblk m c 0 t (ix2 a k) = m ((c : Thread nD τ).loc main_arg0) (ix2 (row t a) (mid t k)) := by
  blk_simp [iblk]
  refine (congrFun (V_main_arg0 m c) _).trans (congrArg (m ((c : Thread nD τ).loc main_arg0)) ?_)
  blk_ext [e0, row, mid]

theorem in1 (c : Dev nD) (t : Fin grid0.N) (a : Fin 1024) (k : Fin 4096) :
    iblk m c 1 t (ix3 0 k a) = m ((c : Thread nD τ).loc main_arg1) (ix3 0 (mid t k) (col t a)) := by
  blk_simp [iblk]
  refine (congrFun (V_main_arg1 m c) _).trans (congrArg (m ((c : Thread nD τ).loc main_arg1)) ?_)
  blk_ext [e1, col, mid]

/-- The product of one step. -/
theorem pay_at (x0 : Vec Ideal S1024x4096 .bf16) (x1 : Vec Ideal S1x4096x1024 .bf16) (a b : Fin 1024) :
    k0_pay1 (F := Ideal) x0 x1 (ix2 a b) = ∑ k : Fin 4096, x0 (ix2 a k) * x1 (ix3 0 k b) := by
  pointwise [k0_pay1]

/-- The scratch after the first step of a block. -/
theorem first_at (c : Dev nD) (t : Fin cfg0.N) (ht : t.val % 2 = 0) (a b : Fin 1024) :
    (outsAt0 m c t.val t.isLt).2 (ix2 a b) = k0_pay1 (F := Ideal) (iblk m c 0 t) (iblk m c 1 t) (ix2 a b) := by
  rw [outsAt0_A m c t ht (by omega) (by omega)]
  dsimp only
  unfold sout0_A_0
  frame_out
  pointwise [k0_pay2]

/-- The block after its second step. -/
theorem out_at (c : Dev nD) (t : Fin cfg0.N) (ht : t.val % 2 = 1) (a b : Fin 1024) :
    (outsAt0 m c t.val t.isLt).1 (ix2 a b) = k0_pay1 (F := Ideal) (iblk m c 0 (prev t)) (iblk m c 1 (prev t)) (ix2 a b)
      + k0_pay1 (F := Ideal) (iblk m c 0 t) (iblk m c 1 t) (ix2 a b) := by
  rw [outsAt0_B m c t (by omega) ht ht, ← first_at m c (prev t) (by simp only [prev]; omega)]
  dsimp only
  unfold out0_B_2
  frame_out
  pointwise [k0_pay4, k0_pay3]
  exact congrArg (· + _) (congrFun (Memref.IsWhole.read_unread _ _) _)

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  obtain ⟨a, b, rfl⟩ : ∃ (a b : Fin 1024), y = ix2 a b := ⟨y 0, y 1, eq_ix2 y⟩
  have he : (win0_2.blk t).view.emb (ix2 a b) = ix2 (row t a) (col t b) := by
    blk_ext [e2, row, col]
  rw [he]
  refine (out_at m c t ht a b).trans ?_
  rw [pay_at, pay_at]
  simp only [in0, in1]
  obtain ⟨s1, s0, sr, sc⟩ := steps t ht
  have hr : row (prev t) a = row t a := by simp only [row, sr]
  have hc : col (prev t) b = col t b := by simp only [col, sc]
  rw [hr, hc]
  refine Eq.trans ?_ (Fin.sum_univ_add (a := 4096) (b := 4096) fun k : Fin 8192 => _).symm
  congr 1 <;> refine Finset.sum_congr rfl fun k _ => ?_
  · have : mid (prev t) k = Fin.castAdd 4096 k := by apply Fin.ext; simp [mid, s0]
    rw [this]; rfl
  · have : mid t k = Fin.natAdd 4096 k := by apply Fin.ext; simp [mid, s1]; omega
    rw [this]; rfl

theorem frame_ref : Cert.quiescent_MlpDown0RefIdeal (hMlpDown0RefIdeal := Cert.MlpDown0RefIdeal.Gen.facts) := fun m g _ =>
  (θ_run Cert.MlpDown0RefIdeal.defs _ _).mono
    (fun r h => ⟨fun c => (h c).2, sem_eq_zero_of_no_sems rfl _⟩) (Cert.MlpDown0RefIdeal.Value.run (F := Ideal) m g)

theorem algebraic : Cert.algebraic_MlpDown0Ideal_MlpDown0RefIdeal (hMlpDown0Ideal := Cert.MlpDown0Ideal.Gen.facts)
    (hMlpDown0RefIdeal := Cert.MlpDown0RefIdeal.Gen.facts) := by
  intro m g m' g' _ hargs
  refine ⟨_, Cert.MlpDown0Ideal.Value.run_blocks (F := Ideal) m g, ?_⟩
  refine (θ_run (Cert.MlpDown0RefIdeal.defs (F := Ideal)) _ _).mono (fun r h c => ?_) (Cert.MlpDown0RefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]

end Cert.MlpDown0Proof

end
-- ==== Proof.Mlp.MlpDown1.lean ====
/- The MLP's down-projection (second layer): the kernel accumulates each block's product over the two halves of the hidden axis, one
   after the other; the sum of the two is the one sum of the product. -/
module

public import proofs.«01_k».proof.Defs
public import proofs.«01_k».proof.Proof.Gen.MlpDown1Ideal.Value
public import proofs.«01_k».proof.Proof.Gen.MlpDown1RefIdeal
public import proofs.«01_k».proof.Proof.Gen.MlpDown1RefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.MlpDown1Proof

open Cert.MlpDown1Ideal Cert.MlpDown1Ideal.Gen Idealize.ShloMosaic Idealize.ShloMosaic.TcCoe Idealize.SL.Sem

variable (m : (ℓ : Loc nD τ sig) → Buf (Elt Ideal) ℓ)

/-- The hidden activations times the layer's weights. -/
def grad (a2 : Vec Ideal S4096x8192 .bf16) (w : Vec Ideal S2x8192x2048 .bf16) : Vec Ideal S4096x2048 .bf16 := fun i =>
  ∑ k : Fin 8192, a2 (ix2 (i 0) k) * w (ix3 1 k (i 1))

theorem e0 : ∀ t : Fin cfg0.N, win0_0.index t = ![(grid0.coords t 0).val, (grid0.coords t 2).val] := (by decide +kernel : ∀ t : Fin grid0.N, _)
theorem e1 : ∀ t : Fin cfg0.N, win0_1.index t = ![1, (grid0.coords t 2).val, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, the same for a column, and for a place on the
    summed axis. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 2048 :=
  ⟨(grid0.coords t 1).val * 1024 + a.val, by have : (grid0.coords t 1).val < 2 := (grid0.coords t 1).isLt; omega⟩
def mid (t : Fin grid0.N) (k : Fin 4096) : Fin 8192 :=
  ⟨(grid0.coords t 2).val * 4096 + k.val, by have : (grid0.coords t 2).val < 2 := (grid0.coords t 2).isLt; omega⟩

/-- The grid step before. -/
def prev (t : Fin grid0.N) : Fin grid0.N := ⟨t.val - 1, lt_of_le_of_lt (Nat.sub_le _ _) t.isLt⟩

theorem steps : ∀ t : Fin grid0.N, t.val % 2 = 1 → (grid0.coords t 2).val = 1 ∧ (grid0.coords (prev t) 2).val = 0
    ∧ (grid0.coords (prev t) 0).val = (grid0.coords t 0).val ∧ (grid0.coords (prev t) 1).val = (grid0.coords t 1).val := by
  decide +kernel

theorem in0 (c : Dev nD) (t : Fin grid0.N) (a : Fin 1024) (k : Fin 4096) :
    iblk m c 0 t (ix2 a k) = m ((c : Thread nD τ).loc main_arg0) (ix2 (row t a) (mid t k)) := by
  blk_simp [iblk]
  refine (congrFun (V_main_arg0 m c) _).trans (congrArg (m ((c : Thread nD τ).loc main_arg0)) ?_)
  blk_ext [e0, row, mid]

theorem in1 (c : Dev nD) (t : Fin grid0.N) (a : Fin 1024) (k : Fin 4096) :
    iblk m c 1 t (ix3 0 k a) = m ((c : Thread nD τ).loc main_arg1) (ix3 1 (mid t k) (col t a)) := by
  blk_simp [iblk]
  refine (congrFun (V_main_arg1 m c) _).trans (congrArg (m ((c : Thread nD τ).loc main_arg1)) ?_)
  blk_ext [e1, col, mid]

/-- The product of one step. -/
theorem pay_at (x0 : Vec Ideal S1024x4096 .bf16) (x1 : Vec Ideal S1x4096x1024 .bf16) (a b : Fin 1024) :
    k0_pay1 (F := Ideal) x0 x1 (ix2 a b) = ∑ k : Fin 4096, x0 (ix2 a k) * x1 (ix3 0 k b) := by
  pointwise [k0_pay1]

/-- The scratch after the first step of a block. -/
theorem first_at (c : Dev nD) (t : Fin cfg0.N) (ht : t.val % 2 = 0) (a b : Fin 1024) :
    (outsAt0 m c t.val t.isLt).2 (ix2 a b) = k0_pay1 (F := Ideal) (iblk m c 0 t) (iblk m c 1 t) (ix2 a b) := by
  rw [outsAt0_A m c t ht (by omega) (by omega)]
  dsimp only
  unfold sout0_A_0
  frame_out
  pointwise [k0_pay2]

/-- The block after its second step. -/
theorem out_at (c : Dev nD) (t : Fin cfg0.N) (ht : t.val % 2 = 1) (a b : Fin 1024) :
    (outsAt0 m c t.val t.isLt).1 (ix2 a b) = k0_pay1 (F := Ideal) (iblk m c 0 (prev t)) (iblk m c 1 (prev t)) (ix2 a b)
      + k0_pay1 (F := Ideal) (iblk m c 0 t) (iblk m c 1 t) (ix2 a b) := by
  rw [outsAt0_B m c t (by omega) ht ht, ← first_at m c (prev t) (by simp only [prev]; omega)]
  dsimp only
  unfold out0_B_2
  frame_out
  pointwise [k0_pay4, k0_pay3]
  exact congrArg (· + _) (congrFun (Memref.IsWhole.read_unread _ _) _)

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  obtain ⟨a, b, rfl⟩ : ∃ (a b : Fin 1024), y = ix2 a b := ⟨y 0, y 1, eq_ix2 y⟩
  have he : (win0_2.blk t).view.emb (ix2 a b) = ix2 (row t a) (col t b) := by
    blk_ext [e2, row, col]
  rw [he]
  refine (out_at m c t ht a b).trans ?_
  rw [pay_at, pay_at]
  simp only [in0, in1]
  obtain ⟨s1, s0, sr, sc⟩ := steps t ht
  have hr : row (prev t) a = row t a := by simp only [row, sr]
  have hc : col (prev t) b = col t b := by simp only [col, sc]
  rw [hr, hc]
  refine Eq.trans ?_ (Fin.sum_univ_add (a := 4096) (b := 4096) fun k : Fin 8192 => _).symm
  congr 1 <;> refine Finset.sum_congr rfl fun k _ => ?_
  · have : mid (prev t) k = Fin.castAdd 4096 k := by apply Fin.ext; simp [mid, s0]
    rw [this]; rfl
  · have : mid t k = Fin.natAdd 4096 k := by apply Fin.ext; simp [mid, s1]; omega
    rw [this]; rfl

theorem frame_ref : Cert.quiescent_MlpDown1RefIdeal (hMlpDown1RefIdeal := Cert.MlpDown1RefIdeal.Gen.facts) := fun m g _ =>
  (θ_run Cert.MlpDown1RefIdeal.defs _ _).mono
    (fun r h => ⟨fun c => (h c).2, sem_eq_zero_of_no_sems rfl _⟩) (Cert.MlpDown1RefIdeal.Value.run (F := Ideal) m g)

theorem algebraic : Cert.algebraic_MlpDown1Ideal_MlpDown1RefIdeal (hMlpDown1Ideal := Cert.MlpDown1Ideal.Gen.facts)
    (hMlpDown1RefIdeal := Cert.MlpDown1RefIdeal.Gen.facts) := by
  intro m g m' g' _ hargs
  refine ⟨_, Cert.MlpDown1Ideal.Value.run_blocks (F := Ideal) m g, ?_⟩
  refine (θ_run (Cert.MlpDown1RefIdeal.defs (F := Ideal)) _ _).mono (fun r h c => ?_) (Cert.MlpDown1RefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]

end Cert.MlpDown1Proof

end
-- ==== Proof.Proj.Out.lean ====
/- A block's output projection: the product of two matrices, block by block; each block of the
   kernel's result is one sum over the whole summed axis, as the reference's is. -/
module

public import proofs.«01_k».proof.Defs
public import proofs.«01_k».proof.Proof.Gen.OutIdeal.Value
public import proofs.«01_k».proof.Proof.Gen.OutRefIdeal
public import proofs.«01_k».proof.Proof.Gen.OutRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.OutProof

open Cert.OutIdeal Cert.OutIdeal.Gen Idealize.ShloMosaic Idealize.ShloMosaic.TcCoe Idealize.SL.Sem

variable (m : (ℓ : Loc nD τ sig) → Buf (Elt Ideal) ℓ)

/-- The product. -/
def grad (x : Vec Ideal S4096x2048 .bf16) (w : Vec Ideal S2048x2048 .bf16) : Vec Ideal S4096x2048 .bf16 := fun i =>
  ∑ k : Fin 2048, x (ix2 (i 0) k) * w (ix2 k (i 1))

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, and the same for a column. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 2048 :=
  ⟨(grid0.coords t 1).val * 1024 + a.val, by have : (grid0.coords t 1).val < 2 := (grid0.coords t 1).isLt; omega⟩

/-- A block of the kernel's output. -/
theorem out_at (x0 : Vec Ideal S1024x2048 .bf16) (x1 : Vec Ideal S2048x1024 .bf16) (a : Fin 1024) (b : Fin 1024) :
    out0_2 (F := Ideal) x0 x1 (ix2 a b) = ∑ k : Fin 2048, x0 (ix2 a k) * x1 (ix2 k b) := by
  unfold out0_2
  frame_out
  pointwise [k0_pay1]

theorem in0 (c : Dev nD) (t : Fin grid0.N) (a : Fin 1024) (k : Fin 2048) :
    iblk m c 0 t (ix2 a k) = m ((c : Thread nD τ).loc main_arg0) (ix2 (row t a) k) := by
  blk_simp [iblk]
  refine (congrFun (V_main_arg0 m c) _).trans (congrArg (m ((c : Thread nD τ).loc main_arg0)) ?_)
  blk_ext [e0, row]

theorem in1 (c : Dev nD) (t : Fin grid0.N) (b : Fin 1024) (k : Fin 2048) :
    iblk m c 1 t (ix2 k b) = m ((c : Thread nD τ).loc main_arg1) (ix2 k (col t b)) := by
  blk_simp [iblk]
  refine (congrFun (V_main_arg1 m c) _).trans (congrArg (m ((c : Thread nD τ).loc main_arg1)) ?_)
  blk_ext [e1, col]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  have he : (win0_2.blk t).view.emb (ix2 a b) = ix2 (row t a) (col t b) := by
    blk_ext [e2, row, col]
  rw [he]
  refine (out_at _ _ a b).trans ?_
  simp only [in0, in1]
  rfl

theorem frame_ref : Cert.quiescent_OutRefIdeal (hOutRefIdeal := Cert.OutRefIdeal.Gen.facts) := fun m g _ =>
  (θ_run Cert.OutRefIdeal.defs _ _).mono
    (fun r h => ⟨fun c => (h c).2, sem_eq_zero_of_no_sems rfl _⟩) (Cert.OutRefIdeal.Value.run (F := Ideal) m g)

theorem algebraic : Cert.algebraic_OutIdeal_OutRefIdeal (hOutIdeal := Cert.OutIdeal.Gen.facts)
    (hOutRefIdeal := Cert.OutRefIdeal.Gen.facts) := by
  intro m g m' g' _ hargs
  refine ⟨_, Cert.OutIdeal.Value.run_blocks (F := Ideal) m g, ?_⟩
  refine (θ_run (Cert.OutRefIdeal.defs (F := Ideal)) _ _).mono (fun r h c => ?_) (Cert.OutRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]

end Cert.OutProof

end
-- ==== Proof.Proj.OutDx.lean ====
/- The gradient of an output projection's input: the incoming gradient times the weights transposed; each block of the
   kernel's result is one sum over the whole summed axis, as the reference's is. -/
module

public import proofs.«01_k».proof.Defs
public import proofs.«01_k».proof.Proof.Gen.OutDxIdeal.Value
public import proofs.«01_k».proof.Proof.Gen.OutDxRefIdeal
public import proofs.«01_k».proof.Proof.Gen.OutDxRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.OutDxProof

open Cert.OutDxIdeal Cert.OutDxIdeal.Gen Idealize.ShloMosaic Idealize.ShloMosaic.TcCoe Idealize.SL.Sem

variable (m : (ℓ : Loc nD τ sig) → Buf (Elt Ideal) ℓ)

/-- The incoming gradient times the weights transposed. -/
def grad (x : Vec Ideal S4096x2048 .bf16) (w : Vec Ideal S2048x2048 .bf16) : Vec Ideal S4096x2048 .bf16 := fun i =>
  ∑ k : Fin 2048, x (ix2 (i 0) k) * w (ix2 (i 1) k)

theorem e0 : ∀ t : Fin cfg0.N, win0_0.index t = ![(grid0.coords t 0).val, 0] := (by decide +kernel : ∀ t : Fin grid0.N, _)
theorem e1 : ∀ t : Fin cfg0.N, win0_1.index t = ![(grid0.coords t 1).val, 0] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, and the same for a column. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 2048 :=
  ⟨(grid0.coords t 1).val * 1024 + a.val, by have : (grid0.coords t 1).val < 2 := (grid0.coords t 1).isLt; omega⟩

/-- A block of the kernel's output. -/
theorem out_at (x0 : Vec Ideal S1024x2048 .bf16) (x1 : Vec Ideal S1024x2048 .bf16) (a : Fin 1024) (b : Fin 1024) :
    out0_2 (F := Ideal) x0 x1 (ix2 a b) = ∑ k : Fin 2048, x0 (ix2 a k) * x1 (ix2 b k) := by
  unfold out0_2
  frame_out
  pointwise [k0_pay1]

theorem in0 (c : Dev nD) (t : Fin grid0.N) (a : Fin 1024) (k : Fin 2048) :
    iblk m c 0 t (ix2 a k) = m ((c : Thread nD τ).loc main_arg0) (ix2 (row t a) k) := by
  blk_simp [iblk]
  refine (congrFun (V_main_arg0 m c) _).trans (congrArg (m ((c : Thread nD τ).loc main_arg0)) ?_)
  blk_ext [e0, row]

theorem in1 (c : Dev nD) (t : Fin grid0.N) (b : Fin 1024) (k : Fin 2048) :
    iblk m c 1 t (ix2 b k) = m ((c : Thread nD τ).loc main_arg1) (ix2 (col t b) k) := by
  blk_simp [iblk]
  refine (congrFun (V_main_arg1 m c) _).trans (congrArg (m ((c : Thread nD τ).loc main_arg1)) ?_)
  blk_ext [e1, col]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  have he : (win0_2.blk t).view.emb (ix2 a b) = ix2 (row t a) (col t b) := by
    blk_ext [e2, row, col]
  rw [he]
  refine (out_at _ _ a b).trans ?_
  simp only [in0, in1]
  rfl

theorem frame_ref : Cert.quiescent_OutDxRefIdeal (hOutDxRefIdeal := Cert.OutDxRefIdeal.Gen.facts) := fun m g _ =>
  (θ_run Cert.OutDxRefIdeal.defs _ _).mono
    (fun r h => ⟨fun c => (h c).2, sem_eq_zero_of_no_sems rfl _⟩) (Cert.OutDxRefIdeal.Value.run (F := Ideal) m g)

theorem algebraic : Cert.algebraic_OutDxIdeal_OutDxRefIdeal (hOutDxIdeal := Cert.OutDxIdeal.Gen.facts)
    (hOutDxRefIdeal := Cert.OutDxRefIdeal.Gen.facts) := by
  intro m g m' g' _ hargs
  refine ⟨_, Cert.OutDxIdeal.Value.run_blocks (F := Ideal) m g, ?_⟩
  refine (θ_run (Cert.OutDxRefIdeal.defs (F := Ideal)) _ _).mono (fun r h c => ?_) (Cert.OutDxRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]

end Cert.OutDxProof

end
-- ==== Proof.Proj.OutDw.lean ====
/- The gradient of an output projection's weights: the transpose of the input times the incoming gradient; each block of the
   kernel's result is one sum over the whole summed axis, as the reference's is. -/
module

public import proofs.«01_k».proof.Defs
public import proofs.«01_k».proof.Proof.Gen.OutDwIdeal.Value
public import proofs.«01_k».proof.Proof.Gen.OutDwRefIdeal
public import proofs.«01_k».proof.Proof.Gen.OutDwRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.OutDwProof

open Cert.OutDwIdeal Cert.OutDwIdeal.Gen Idealize.ShloMosaic Idealize.ShloMosaic.TcCoe Idealize.SL.Sem

variable (m : (ℓ : Loc nD τ sig) → Buf (Elt Ideal) ℓ)

/-- The transpose of the input times the incoming gradient. -/
def grad (x : Vec Ideal S4096x2048 .bf16) (w : Vec Ideal S4096x2048 .bf16) : Vec Ideal S2048x2048 .bf16 := fun i =>
  ∑ k : Fin 4096, x (ix2 k (i 0)) * w (ix2 k (i 1))

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, and the same for a column. -/
def row (t : Fin grid0.N) (a : Fin 1024) : Fin 2048 :=
  ⟨(grid0.coords t 0).val * 1024 + a.val, by have : (grid0.coords t 0).val < 2 := (grid0.coords t 0).isLt; omega⟩
def col (t : Fin grid0.N) (a : Fin 1024) : Fin 2048 :=
  ⟨(grid0.coords t 1).val * 1024 + a.val, by have : (grid0.coords t 1).val < 2 := (grid0.coords t 1).isLt; omega⟩

/-- A block of the kernel's output. -/
theorem out_at (x0 : Vec Ideal S4096x1024 .bf16) (x1 : Vec Ideal S4096x1024 .bf16) (a : Fin 1024) (b : Fin 1024) :
    out0_2 (F := Ideal) x0 x1 (ix2 a b) = ∑ k : Fin 4096, x0 (ix2 k a) * x1 (ix2 k b) := by
  unfold out0_2
  frame_out
  pointwise [k0_pay1]

theorem in0 (c : Dev nD) (t : Fin grid0.N) (a : Fin 1024) (k : Fin 4096) :
    iblk m c 0 t (ix2 k a) = m ((c : Thread nD τ).loc main_arg0) (ix2 k (row t a)) := by
  blk_simp [iblk]
  refine (congrFun (V_main_arg0 m c) _).trans (congrArg (m ((c : Thread nD τ).loc main_arg0)) ?_)
  blk_ext [e0, row]

theorem in1 (c : Dev nD) (t : Fin grid0.N) (b : Fin 1024) (k : Fin 4096) :
    iblk m c 1 t (ix2 k b) = m ((c : Thread nD τ).loc main_arg1) (ix2 k (col t b)) := by
  blk_simp [iblk]
  refine (congrFun (V_main_arg1 m c) _).trans (congrArg (m ((c : Thread nD τ).loc main_arg1)) ?_)
  blk_ext [e1, col]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  have he : (win0_2.blk t).view.emb (ix2 a b) = ix2 (row t a) (col t b) := by
    blk_ext [e2, row, col]
  rw [he]
  refine (out_at _ _ a b).trans ?_
  simp only [in0, in1]
  rfl

theorem frame_ref : Cert.quiescent_OutDwRefIdeal (hOutDwRefIdeal := Cert.OutDwRefIdeal.Gen.facts) := fun m g _ =>
  (θ_run Cert.OutDwRefIdeal.defs _ _).mono
    (fun r h => ⟨fun c => (h c).2, sem_eq_zero_of_no_sems rfl _⟩) (Cert.OutDwRefIdeal.Value.run (F := Ideal) m g)

theorem algebraic : Cert.algebraic_OutDwIdeal_OutDwRefIdeal (hOutDwIdeal := Cert.OutDwIdeal.Gen.facts)
    (hOutDwRefIdeal := Cert.OutDwRefIdeal.Gen.facts) := by
  intro m g m' g' _ hargs
  refine ⟨_, Cert.OutDwIdeal.Value.run_blocks (F := Ideal) m g, ?_⟩
  refine (θ_run (Cert.OutDwRefIdeal.defs (F := Ideal)) _ _).mono (fun r h c => ?_) (Cert.OutDwRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]
  exact Finset.sum_congr rfl fun k _ => mul_comm _ _

end Cert.OutDwProof

end
-- ==== Proof.Proj.ConvIn.lean ====
/- The convolution block's input projection: its columns are written as three planes (the two gates and the value), each block of
   a plane one sum over the whole summed axis. -/
module

public import proofs.«01_k».proof.Defs
public import proofs.«01_k».proof.Proof.Gen.ConvInIdeal.Value
public import proofs.«01_k».proof.Proof.Gen.ConvInRefIdeal
public import proofs.«01_k».proof.Proof.Gen.ConvInRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.ConvInProof

open Cert.ConvInIdeal Cert.ConvInIdeal.Gen Idealize.ShloMosaic Idealize.ShloMosaic.TcCoe Idealize.SL.Sem

variable (m : (ℓ : Loc nD τ sig) → Buf (Elt Ideal) ℓ)

/-- Column `j` of plane `p` among the columns of the three planes side by side. -/
def wide (p : Fin 3) (j : Fin 2048) : Fin 6144 := ⟨p.val * 2048 + j.val, by omega⟩

/-- The three planes of the product. -/
def planes (h : Vec Ideal S4096x2048 .bf16) (w : Vec Ideal S2048x6144 .bf16) : Vec Ideal S3x4096x2048 .bf16 := fun i =>
  ∑ k : Fin 2048, h (ix2 (i 1) k) * w (ix2 k (wide (i 0) (i 2)))

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 1).val / 2, (grid0.coords t 0).val, (grid0.coords t 1).val % 2] :=
  (by decide +kernel : ∀ t : Fin grid0.N, _)

/-- The row of the result that row `a` of the block at grid step `t` is; the plane that the block lies in; the same for a
    column within the plane, and for a column of the weights. -/
def row (t : Fin grid0.N) (a : Fin 1024) : Fin 4096 :=
  ⟨(grid0.coords t 0).val * 1024 + a.val, by have : (grid0.coords t 0).val < 4 := (grid0.coords t 0).isLt; omega⟩
def plane (t : Fin grid0.N) : Fin 3 :=
  ⟨(grid0.coords t 1).val / 2, by have : (grid0.coords t 1).val < 6 := (grid0.coords t 1).isLt; omega⟩
def col (t : Fin grid0.N) (b : Fin 1024) : Fin 2048 :=
  ⟨(grid0.coords t 1).val % 2 * 1024 + b.val, by omega⟩
def wcol (t : Fin grid0.N) (b : Fin 1024) : Fin 6144 :=
  ⟨(grid0.coords t 1).val * 1024 + b.val, by have : (grid0.coords t 1).val < 6 := (grid0.coords t 1).isLt; omega⟩

theorem wide_col (t : Fin grid0.N) (b : Fin 1024) : wide (plane t) (col t b) = wcol t b := by
  apply Fin.ext; simp only [wide, plane, col, wcol]; omega

/-- A block of the kernel's output. -/
theorem out_at (x0 : Vec Ideal S1024x2048 .bf16) (x1 : Vec Ideal S2048x1024 .bf16) (a b : Fin 1024) :
    out0_2 (F := Ideal) x0 x1 (ix3 0 a b) = ∑ k : Fin 2048, x0 (ix2 a k) * x1 (ix2 k b) := by
  unfold out0_2
  frame_out
  pointwise [k0_pay1]

theorem in0 (c : Dev nD) (t : Fin grid0.N) (a : Fin 1024) (k : Fin 2048) :
    iblk m c 0 t (ix2 a k) = m ((c : Thread nD τ).loc main_arg0) (ix2 (row t a) k) := by
  blk_simp [iblk]
  refine (congrFun (V_main_arg0 m c) _).trans (congrArg (m ((c : Thread nD τ).loc main_arg0)) ?_)
  blk_ext [e0, row]

theorem in1 (c : Dev nD) (t : Fin grid0.N) (k : Fin 2048) (b : Fin 1024) :
    iblk m c 1 t (ix2 k b) = m ((c : Thread nD τ).loc main_arg1) (ix2 k (wcol t b)) := by
  blk_simp [iblk]
  refine (congrFun (V_main_arg1 m c) _).trans (congrArg (m ((c : Thread nD τ).loc main_arg1)) ?_)
  blk_ext [e1, wcol]

theorem final (c : Dev nD) : (dats m 0 c).arrAt 2 cfg0.N
    = planes (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a b : Fin 1024), y = ix3 0 a b := ⟨y 1, y 2, by rw [eq_ix3 y]; congr 1; exact Subsingleton.elim _ _⟩
  have he : (win0_2.blk t).view.emb (ix3 0 a b) = ix3 (plane t) (row t a) (col t b) := by
    blk_ext [e2, plane, row, col]
  rw [he]
  refine (out_at _ _ a b).trans ?_
  simp only [in0, in1, ← wide_col]
  rfl

theorem frame_ref : Cert.quiescent_ConvInRefIdeal (hConvInRefIdeal := Cert.ConvInRefIdeal.Gen.facts) := fun m g _ =>
  (θ_run Cert.ConvInRefIdeal.defs _ _).mono
    (fun r h => ⟨fun c => (h c).2, sem_eq_zero_of_no_sems rfl _⟩) (Cert.ConvInRefIdeal.Value.run (F := Ideal) m g)

theorem algebraic : Cert.algebraic_ConvInIdeal_ConvInRefIdeal (hConvInIdeal := Cert.ConvInIdeal.Gen.facts)
    (hConvInRefIdeal := Cert.ConvInRefIdeal.Gen.facts) := by
  intro m g m' g' _ hargs
  refine ⟨_, Cert.ConvInIdeal.Value.run_blocks (F := Ideal) m g, ?_⟩
  refine (θ_run (Cert.ConvInRefIdeal.defs (F := Ideal)) _ _).mono (fun r h c => ?_) (Cert.ConvInRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix3 i]
  generalize i 0 = p; generalize i 1 = r; generalize i 2 = j
  fin_cases p <;> pointwise [planes, wide]

end Cert.ConvInProof

end
-- ==== Proof.Proj.ConvInDx.lean ====
/- The gradient of the input of the convolution block's input projection: the incoming gradient comes as three planes, and the
   kernel accumulates each block's product over them, one after the other; the sum of the three is the one sum over the planes'
   columns side by side that the derivative takes. -/
module

public import proofs.«01_k».proof.Defs
public import proofs.«01_k».proof.Proof.Gen.ConvInDxIdeal.Value
public import proofs.«01_k».proof.Proof.Gen.ConvInDxRefIdeal
public import proofs.«01_k».proof.Proof.Gen.ConvInDxRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.ConvInDxProof

open Cert.ConvInDxIdeal Cert.ConvInDxIdeal.Gen Idealize.ShloMosaic Idealize.ShloMosaic.TcCoe Idealize.SL.Sem

variable (m : (ℓ : Loc nD τ sig) → Buf (Elt Ideal) ℓ)

/-- The plane of a column, and its place within the plane. -/
def part (j : Fin 6144) : Fin 3 := ⟨j.val / 2048, by omega⟩
def place (j : Fin 6144) : Fin 2048 := ⟨j.val % 2048, by omega⟩

/-- The incoming gradient, its planes side by side, times the weights transposed. -/
def grad (d : Vec Ideal S3x4096x2048 .bf16) (w : Vec Ideal S2048x6144 .bf16) : Vec Ideal S4096x2048 .bf16 := fun i =>
  ∑ k : Fin 6144, d (ix3 (part k) (i 0) (place k)) * w (ix2 (i 1) k)

theorem e0 : ∀ t : Fin cfg0.N, win0_0.index t = ![(grid0.coords t 2).val, (grid0.coords t 0).val, 0] := (by decide +kernel : ∀ t : Fin grid0.N, _)
theorem e1 : ∀ t : Fin cfg0.N, win0_1.index t = ![(grid0.coords t 1).val, (grid0.coords t 2).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, the same for a column, and for a place on the
    summed axis. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 2048 :=
  ⟨(grid0.coords t 1).val * 1024 + a.val, by have : (grid0.coords t 1).val < 2 := (grid0.coords t 1).isLt; omega⟩
def mid (t : Fin grid0.N) (k : Fin 2048) : Fin 6144 :=
  ⟨(grid0.coords t 2).val * 2048 + k.val, by have : (grid0.coords t 2).val < 3 := (grid0.coords t 2).isLt; omega⟩

/-- The grid step before. -/
def prev (t : Fin grid0.N) : Fin grid0.N := ⟨t.val - 1, lt_of_le_of_lt (Nat.sub_le _ _) t.isLt⟩

theorem steps : ∀ t : Fin grid0.N, t.val % 3 = 2 → (grid0.coords t 2).val = 2 ∧ (grid0.coords (prev t) 2).val = 1
    ∧ (grid0.coords (prev (prev t)) 2).val = 0
    ∧ (grid0.coords (prev t) 0).val = (grid0.coords t 0).val ∧ (grid0.coords (prev t) 1).val = (grid0.coords t 1).val
    ∧ (grid0.coords (prev (prev t)) 0).val = (grid0.coords t 0).val
    ∧ (grid0.coords (prev (prev t)) 1).val = (grid0.coords t 1).val := by
  decide +kernel

theorem part_mid (t : Fin grid0.N) (k : Fin 2048) : (part (mid t k)).val = (grid0.coords t 2).val := by
  simp only [part, mid]; omega
theorem place_mid (t : Fin grid0.N) (k : Fin 2048) : place (mid t k) = k := by
  apply Fin.ext; simp only [place, mid]; omega

theorem in0 (c : Dev nD) (t : Fin grid0.N) (a : Fin 1024) (k : Fin 2048) :
    iblk m c 0 t (ix3 0 a k) = m ((c : Thread nD τ).loc main_arg0) (ix3 (part (mid t k)) (row t a) (place (mid t k))) := by
  blk_simp [iblk]
  refine (congrFun (V_main_arg0 m c) _).trans (congrArg (m ((c : Thread nD τ).loc main_arg0)) ?_)
  blk_ext [e0, row, part, place, mid]

theorem in1 (c : Dev nD) (t : Fin grid0.N) (a : Fin 1024) (k : Fin 2048) :
    iblk m c 1 t (ix2 a k) = m ((c : Thread nD τ).loc main_arg1) (ix2 (col t a) (mid t k)) := by
  blk_simp [iblk]
  refine (congrFun (V_main_arg1 m c) _).trans (congrArg (m ((c : Thread nD τ).loc main_arg1)) ?_)
  blk_ext [e1, col, mid]

/-- The product of one step. -/
theorem pay_at (x0 : Vec Ideal S1x1024x2048 .bf16) (x1 : Vec Ideal S1024x2048 .bf16) (a b : Fin 1024) :
    k0_pay1 (F := Ideal) x0 x1 (ix2 a b) = ∑ k : Fin 2048, x0 (ix3 0 a k) * x1 (ix2 b k) := by
  pointwise [k0_pay1]

/-- The scratch after the first step of a block. -/
theorem first_at (c : Dev nD) (t : Fin cfg0.N) (ht : t.val % 3 = 0) (a b : Fin 1024) :
    (outsAt0 m c t.val t.isLt).2 (ix2 a b) = k0_pay1 (F := Ideal) (iblk m c 0 t) (iblk m c 1 t) (ix2 a b) := by
  rw [outsAt0_A m c t ht (by omega) (by omega)]
  dsimp only
  unfold sout0_A_0
  frame_out
  pointwise [k0_pay2]

/-- The scratch after its second step. -/
theorem second_at (c : Dev nD) (t : Fin cfg0.N) (ht : t.val % 3 = 1) (a b : Fin 1024) :
    (outsAt0 m c t.val t.isLt).2 (ix2 a b) = k0_pay1 (F := Ideal) (iblk m c 0 (prev t)) (iblk m c 1 (prev t)) (ix2 a b)
      + k0_pay1 (F := Ideal) (iblk m c 0 t) (iblk m c 1 t) (ix2 a b) := by
  rw [outsAt0_B m c t (by omega) (by omega) (by omega), ← first_at m c (prev t) (by simp only [prev]; omega)]
  dsimp only
  unfold sout0_B_0
  frame_out
  pointwise [k0_pay3]
  exact congrArg (· + _) (congrFun (Memref.IsWhole.read_unread _ _) _)

/-- The block after its third step. -/
theorem out_at (c : Dev nD) (t : Fin cfg0.N) (ht : t.val % 3 = 2) (a b : Fin 1024) :
    (outsAt0 m c t.val t.isLt).1 (ix2 a b)
      = (k0_pay1 (F := Ideal) (iblk m c 0 (prev (prev t))) (iblk m c 1 (prev (prev t))) (ix2 a b)
          + k0_pay1 (F := Ideal) (iblk m c 0 (prev t)) (iblk m c 1 (prev t)) (ix2 a b))
        + k0_pay1 (F := Ideal) (iblk m c 0 t) (iblk m c 1 t) (ix2 a b) := by
  rw [outsAt0_C m c t (by omega) (by omega) ht, ← second_at m c (prev t) (by simp only [prev]; omega)]
  dsimp only
  unfold out0_C_2
  frame_out
  pointwise [k0_pay4, k0_pay3]
  exact congrArg (· + _) (congrFun (Memref.IsWhole.read_unread _ _) _)

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  obtain ⟨a, b, rfl⟩ : ∃ (a b : Fin 1024), y = ix2 a b := ⟨y 0, y 1, eq_ix2 y⟩
  have he : (win0_2.blk t).view.emb (ix2 a b) = ix2 (row t a) (col t b) := by
    blk_ext [e2, row, col]
  rw [he]
  refine (out_at m c t ht a b).trans ?_
  rw [pay_at, pay_at, pay_at]
  simp only [in0, in1]
  obtain ⟨s2, s1, s0, sr1, sc1, sr0, sc0⟩ := steps t ht
  have hr1 : row (prev t) a = row t a := by simp only [row, sr1]
  have hc1 : col (prev t) b = col t b := by simp only [col, sc1]
  have hr0 : row (prev (prev t)) a = row t a := by simp only [row, sr0]
  have hc0 : col (prev (prev t)) b = col t b := by simp only [col, sc0]
  rw [hr1, hc1, hr0, hc0]
  refine Eq.trans ?_ (Fin.sum_univ_add (a := 4096) (b := 2048) fun k : Fin 6144 => _).symm
  refine congr (congrArg _ ?_) ?_
  · refine Eq.trans ?_ (Fin.sum_univ_add (a := 2048) (b := 2048) fun k : Fin 4096 => _).symm
    congr 1 <;> refine Finset.sum_congr rfl fun k _ => ?_
    · have : mid (prev (prev t)) k = Fin.castAdd 2048 (Fin.castAdd 2048 k) := by apply Fin.ext; simp [mid, s0]
      rw [this]; rfl
    · have : mid (prev t) k = Fin.castAdd 2048 (Fin.natAdd 2048 k) := by apply Fin.ext; simp [mid, s1]; omega
      rw [this]; rfl
  · refine Finset.sum_congr rfl fun k _ => ?_
    have : mid t k = Fin.natAdd 4096 k := by apply Fin.ext; simp [mid, s2]
    rw [this]; rfl

/-- The three planes side by side, as the reference joins them: each with zeros around it, and the sum of the three. -/
theorem joined (d : Vec Ideal S3x4096x2048 .bf16) (k : Fin 4096) (j : Fin 6144) :
    ((if h : 4096 ≤ j.val ∧ j.val - 4096 < 2048 then d (ix3 2 k ⟨j.val - 4096, h.2⟩) else (0 : EReal))
      + (if h : 2048 ≤ j.val ∧ j.val - 2048 < 2048 then d (ix3 1 k ⟨j.val - 2048, h.2⟩) else (0 : EReal)))
      + (if h : j.val < 2048 then d (ix3 0 k ⟨j.val, h⟩) else (0 : EReal)) = d (ix3 (part j) k (place j)) := by
  have hj := j.isLt
  by_cases h0 : j.val < 2048
  · have e1 : part j = 0 := Fin.ext (show j.val / 2048 = 0 by omega)
    have e2 : place j = ⟨j.val, h0⟩ := Fin.ext (show j.val % 2048 = j.val by omega)
    have n2 : ¬(4096 ≤ j.val ∧ j.val - 4096 < 2048) := by omega
    have n1 : ¬(2048 ≤ j.val ∧ j.val - 2048 < 2048) := by omega
    rw [dif_neg n2, dif_neg n1, dif_pos h0, e1, e2, zero_add, zero_add]
  · by_cases h1 : j.val < 4096
    · have h : 2048 ≤ j.val ∧ j.val - 2048 < 2048 := by omega
      have e1 : part j = 1 := Fin.ext (show j.val / 2048 = 1 by omega)
      have e2 : place j = ⟨j.val - 2048, h.2⟩ := Fin.ext (show j.val % 2048 = j.val - 2048 by omega)
      have n2 : ¬(4096 ≤ j.val ∧ j.val - 4096 < 2048) := by omega
      rw [dif_neg n2, dif_pos h, dif_neg h0, e1, e2, zero_add, add_zero]
    · have h : 4096 ≤ j.val ∧ j.val - 4096 < 2048 := by omega
      have e1 : part j = 2 := Fin.ext (show j.val / 2048 = 2 by omega)
      have e2 : place j = ⟨j.val - 4096, h.2⟩ := Fin.ext (show j.val % 2048 = j.val - 4096 by omega)
      have n1 : ¬(2048 ≤ j.val ∧ j.val - 2048 < 2048) := by omega
      rw [dif_pos h, dif_neg n1, dif_neg h0, e1, e2, add_zero, add_zero]

theorem frame_ref : Cert.quiescent_ConvInDxRefIdeal (hConvInDxRefIdeal := Cert.ConvInDxRefIdeal.Gen.facts) := fun m g _ =>
  (θ_run Cert.ConvInDxRefIdeal.defs _ _).mono
    (fun r h => ⟨fun c => (h c).2, sem_eq_zero_of_no_sems rfl _⟩) (Cert.ConvInDxRefIdeal.Value.run (F := Ideal) m g)

theorem algebraic : Cert.algebraic_ConvInDxIdeal_ConvInDxRefIdeal (hConvInDxIdeal := Cert.ConvInDxIdeal.Gen.facts)
    (hConvInDxRefIdeal := Cert.ConvInDxRefIdeal.Gen.facts) := by
  intro m g m' g' _ hargs
  refine ⟨_, Cert.ConvInDxIdeal.Value.run_blocks (F := Ideal) m g, ?_⟩
  refine (θ_run (Cert.ConvInDxRefIdeal.defs (F := Ideal)) _ _).mono (fun r h c => ?_) (Cert.ConvInDxRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]
  exact Finset.sum_congr rfl fun k _ => congrArg (· * _) (joined _ _ _)

end Cert.ConvInDxProof

end
-- ==== Proof.Proj.ConvInDw.lean ====
/- The gradient of the weights of the convolution block's input projection: the incoming gradient comes as three planes, and each
   block of the kernel's product is one sum over the positions. -/
module

public import proofs.«01_k».proof.Defs
public import proofs.«01_k».proof.Proof.Gen.ConvInDwIdeal.Value
public import proofs.«01_k».proof.Proof.Gen.ConvInDwRefIdeal
public import proofs.«01_k».proof.Proof.Gen.ConvInDwRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.ConvInDwProof

open Cert.ConvInDwIdeal Cert.ConvInDwIdeal.Gen Idealize.ShloMosaic Idealize.ShloMosaic.TcCoe Idealize.SL.Sem

variable (m : (ℓ : Loc nD τ sig) → Buf (Elt Ideal) ℓ)

/-- The plane of a column, and its place within the plane. -/
def part (j : Fin 6144) : Fin 3 := ⟨j.val / 2048, by omega⟩
def place (j : Fin 6144) : Fin 2048 := ⟨j.val % 2048, by omega⟩

/-- The transpose of the input times the incoming gradient. -/
def grad (h : Vec Ideal S4096x2048 .bf16) (d : Vec Ideal S3x4096x2048 .bf16) : Vec Ideal S2048x6144 .bf16 := fun i =>
  ∑ k : Fin 4096, h (ix2 k (i 0)) * d (ix3 (part (i 1)) k (place (i 1)))

theorem e0 : ∀ t : Fin cfg0.N, win0_0.index t = ![0, (grid0.coords t 0).val] := (by decide +kernel : ∀ t : Fin grid0.N, _)
theorem e1 : ∀ t : Fin cfg0.N, win0_1.index t = ![(grid0.coords t 1).val / 2, 0, (grid0.coords t 1).val % 2] :=
  (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, and the same for a column. -/
def row (t : Fin grid0.N) (a : Fin 1024) : Fin 2048 :=
  ⟨(grid0.coords t 0).val * 1024 + a.val, by have : (grid0.coords t 0).val < 2 := (grid0.coords t 0).isLt; omega⟩
def col (t : Fin grid0.N) (b : Fin 1024) : Fin 6144 :=
  ⟨(grid0.coords t 1).val * 1024 + b.val, by have : (grid0.coords t 1).val < 6 := (grid0.coords t 1).isLt; omega⟩

/-- A block of the kernel's output. -/
theorem out_at (x0 : Vec Ideal S4096x1024 .bf16) (x1 : Vec Ideal S1x4096x1024 .bf16) (a b : Fin 1024) :
    out0_2 (F := Ideal) x0 x1 (ix2 a b) = ∑ k : Fin 4096, x0 (ix2 k a) * x1 (ix3 0 k b) := by
  unfold out0_2
  frame_out
  pointwise [k0_pay1]

theorem in0 (c : Dev nD) (t : Fin grid0.N) (k : Fin 4096) (a : Fin 1024) :
    iblk m c 0 t (ix2 k a) = m ((c : Thread nD τ).loc main_arg0) (ix2 k (row t a)) := by
  blk_simp [iblk]
  refine (congrFun (V_main_arg0 m c) _).trans (congrArg (m ((c : Thread nD τ).loc main_arg0)) ?_)
  blk_ext [e0, row]

theorem in1 (c : Dev nD) (t : Fin grid0.N) (k : Fin 4096) (b : Fin 1024) :
    iblk m c 1 t (ix3 0 k b) = m ((c : Thread nD τ).loc main_arg1) (ix3 (part (col t b)) k (place (col t b))) := by
  blk_simp [iblk]
  refine (congrFun (V_main_arg1 m c) _).trans (congrArg (m ((c : Thread nD τ).loc main_arg1)) ?_)
  blk_ext [e1, col, part, place]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a b : Fin 1024), y = ix2 a b := ⟨y 0, y 1, eq_ix2 y⟩
  have he : (win0_2.blk t).view.emb (ix2 a b) = ix2 (row t a) (col t b) := by
    blk_ext [e2, row, col]
  rw [he]
  refine (out_at _ _ a b).trans ?_
  simp only [in0, in1]
  rfl

/-- The three planes side by side, as the reference joins them: each with zeros around it, and the sum of the three. -/
theorem joined (d : Vec Ideal S3x4096x2048 .bf16) (k : Fin 4096) (j : Fin 6144) :
    ((if h : 4096 ≤ j.val ∧ j.val - 4096 < 2048 then d (ix3 2 k ⟨j.val - 4096, h.2⟩) else (0 : EReal))
      + (if h : 2048 ≤ j.val ∧ j.val - 2048 < 2048 then d (ix3 1 k ⟨j.val - 2048, h.2⟩) else (0 : EReal)))
      + (if h : j.val < 2048 then d (ix3 0 k ⟨j.val, h⟩) else (0 : EReal)) = d (ix3 (part j) k (place j)) := by
  have hj := j.isLt
  by_cases h0 : j.val < 2048
  · have e1 : part j = 0 := Fin.ext (show j.val / 2048 = 0 by omega)
    have e2 : place j = ⟨j.val, h0⟩ := Fin.ext (show j.val % 2048 = j.val by omega)
    have n2 : ¬(4096 ≤ j.val ∧ j.val - 4096 < 2048) := by omega
    have n1 : ¬(2048 ≤ j.val ∧ j.val - 2048 < 2048) := by omega
    rw [dif_neg n2, dif_neg n1, dif_pos h0, e1, e2, zero_add, zero_add]
  · by_cases h1 : j.val < 4096
    · have h : 2048 ≤ j.val ∧ j.val - 2048 < 2048 := by omega
      have e1 : part j = 1 := Fin.ext (show j.val / 2048 = 1 by omega)
      have e2 : place j = ⟨j.val - 2048, h.2⟩ := Fin.ext (show j.val % 2048 = j.val - 2048 by omega)
      have n2 : ¬(4096 ≤ j.val ∧ j.val - 4096 < 2048) := by omega
      rw [dif_neg n2, dif_pos h, dif_neg h0, e1, e2, zero_add, add_zero]
    · have h : 4096 ≤ j.val ∧ j.val - 4096 < 2048 := by omega
      have e1 : part j = 2 := Fin.ext (show j.val / 2048 = 2 by omega)
      have e2 : place j = ⟨j.val - 4096, h.2⟩ := Fin.ext (show j.val % 2048 = j.val - 4096 by omega)
      have n1 : ¬(2048 ≤ j.val ∧ j.val - 2048 < 2048) := by omega
      rw [dif_pos h, dif_neg n1, dif_neg h0, e1, e2, add_zero, add_zero]

theorem frame_ref : Cert.quiescent_ConvInDwRefIdeal (hConvInDwRefIdeal := Cert.ConvInDwRefIdeal.Gen.facts) := fun m g _ =>
  (θ_run Cert.ConvInDwRefIdeal.defs _ _).mono
    (fun r h => ⟨fun c => (h c).2, sem_eq_zero_of_no_sems rfl _⟩) (Cert.ConvInDwRefIdeal.Value.run (F := Ideal) m g)

theorem algebraic : Cert.algebraic_ConvInDwIdeal_ConvInDwRefIdeal (hConvInDwIdeal := Cert.ConvInDwIdeal.Gen.facts)
    (hConvInDwRefIdeal := Cert.ConvInDwRefIdeal.Gen.facts) := by
  intro m g m' g' _ hargs
  refine ⟨_, Cert.ConvInDwIdeal.Value.run_blocks (F := Ideal) m g, ?_⟩
  refine (θ_run (Cert.ConvInDwRefIdeal.defs (F := Ideal)) _ _).mono (fun r h c => ?_) (Cert.ConvInDwRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]
  exact Finset.sum_congr rfl fun k _ => (congrArg (· * _) (joined _ _ _)).trans (mul_comm _ _)

end Cert.ConvInDwProof

end
-- ==== Proof.Proj.Kv.lean ====
/- The keys and values of all heads from their latent: the product of two matrices, block by block; each block of the
   kernel's result is one sum over the whole summed axis, as the reference's is. -/
module

public import proofs.«01_k».proof.Defs
public import proofs.«01_k».proof.Proof.Gen.KvIdeal.Value
public import proofs.«01_k».proof.Proof.Gen.KvRefIdeal
public import proofs.«01_k».proof.Proof.Gen.KvRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KvProof

open Cert.KvIdeal Cert.KvIdeal.Gen Idealize.ShloMosaic Idealize.ShloMosaic.TcCoe Idealize.SL.Sem

variable (m : (ℓ : Loc nD τ sig) → Buf (Elt Ideal) ℓ)

/-- The product. -/
def grad (x : Vec Ideal S4096x512 .bf16) (w : Vec Ideal S512x4096 .bf16) : Vec Ideal S4096x4096 .bf16 := fun i =>
  ∑ k : Fin 512, x (ix2 (i 0) k) * w (ix2 k (i 1))

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, and the same for a column. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 4096 :=
  ⟨(grid0.coords t 1).val * 1024 + a.val, by have : (grid0.coords t 1).val < 4 := (grid0.coords t 1).isLt; omega⟩

/-- A block of the kernel's output. -/
theorem out_at (x0 : Vec Ideal S1024x512 .bf16) (x1 : Vec Ideal S512x1024 .bf16) (a : Fin 1024) (b : Fin 1024) :
    out0_2 (F := Ideal) x0 x1 (ix2 a b) = ∑ k : Fin 512, x0 (ix2 a k) * x1 (ix2 k b) := by
  unfold out0_2
  frame_out
  pointwise [k0_pay1]

theorem in0 (c : Dev nD) (t : Fin grid0.N) (a : Fin 1024) (k : Fin 512) :
    iblk m c 0 t (ix2 a k) = m ((c : Thread nD τ).loc main_arg0) (ix2 (row t a) k) := by
  blk_simp [iblk]
  refine (congrFun (V_main_arg0 m c) _).trans (congrArg (m ((c : Thread nD τ).loc main_arg0)) ?_)
  blk_ext [e0, row]

theorem in1 (c : Dev nD) (t : Fin grid0.N) (b : Fin 1024) (k : Fin 512) :
    iblk m c 1 t (ix2 k b) = m ((c : Thread nD τ).loc main_arg1) (ix2 k (col t b)) := by
  blk_simp [iblk]
  refine (congrFun (V_main_arg1 m c) _).trans (congrArg (m ((c : Thread nD τ).loc main_arg1)) ?_)
  blk_ext [e1, col]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  have he : (win0_2.blk t).view.emb (ix2 a b) = ix2 (row t a) (col t b) := by
    blk_ext [e2, row, col]
  rw [he]
  refine (out_at _ _ a b).trans ?_
  simp only [in0, in1]
  rfl

theorem frame_ref : Cert.quiescent_KvRefIdeal (hKvRefIdeal := Cert.KvRefIdeal.Gen.facts) := fun m g _ =>
  (θ_run Cert.KvRefIdeal.defs _ _).mono
    (fun r h => ⟨fun c => (h c).2, sem_eq_zero_of_no_sems rfl _⟩) (Cert.KvRefIdeal.Value.run (F := Ideal) m g)

theorem algebraic : Cert.algebraic_KvIdeal_KvRefIdeal (hKvIdeal := Cert.KvIdeal.Gen.facts)
    (hKvRefIdeal := Cert.KvRefIdeal.Gen.facts) := by
  intro m g m' g' _ hargs
  refine ⟨_, Cert.KvIdeal.Value.run_blocks (F := Ideal) m g, ?_⟩
  refine (θ_run (Cert.KvRefIdeal.defs (F := Ideal)) _ _).mono (fun r h c => ?_) (Cert.KvRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]

end Cert.KvProof

end
-- ==== Proof.Proj.KvDx.lean ====
/- The gradient of a latent that a head projection reads: the incoming gradient times the weights transposed; each block of the
   kernel's result is one sum over the whole summed axis, as the reference's is. -/
module

public import proofs.«01_k».proof.Defs
public import proofs.«01_k».proof.Proof.Gen.KvDxIdeal.Value
public import proofs.«01_k».proof.Proof.Gen.KvDxRefIdeal
public import proofs.«01_k».proof.Proof.Gen.KvDxRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KvDxProof

open Cert.KvDxIdeal Cert.KvDxIdeal.Gen Idealize.ShloMosaic Idealize.ShloMosaic.TcCoe Idealize.SL.Sem

variable (m : (ℓ : Loc nD τ sig) → Buf (Elt Ideal) ℓ)

/-- The incoming gradient times the weights transposed. -/
def grad (x : Vec Ideal S4096x4096 .bf16) (w : Vec Ideal S512x4096 .bf16) : Vec Ideal S4096x512 .f32 := fun i =>
  ∑ k : Fin 4096, x (ix2 (i 0) k) * w (ix2 (i 1) k)

theorem e0 : ∀ t : Fin cfg0.N, win0_0.index t = ![(grid0.coords t 0).val, 0] := (by decide +kernel : ∀ t : Fin grid0.N, _)
theorem e1 : ∀ t : Fin cfg0.N, win0_1.index t = ![(grid0.coords t 1).val, 0] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, and the same for a column. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 512) : Fin 512 :=
  ⟨(grid0.coords t 1).val * 512 + a.val, by have : (grid0.coords t 1).val < 1 := (grid0.coords t 1).isLt; omega⟩

/-- A block of the kernel's output. -/
theorem out_at (x0 : Vec Ideal S1024x4096 .bf16) (x1 : Vec Ideal S512x4096 .bf16) (a : Fin 1024) (b : Fin 512) :
    out0_2 (F := Ideal) x0 x1 (ix2 a b) = ∑ k : Fin 4096, x0 (ix2 a k) * x1 (ix2 b k) := by
  unfold out0_2
  frame_out
  pointwise [k0_pay1]

theorem in0 (c : Dev nD) (t : Fin grid0.N) (a : Fin 1024) (k : Fin 4096) :
    iblk m c 0 t (ix2 a k) = m ((c : Thread nD τ).loc main_arg0) (ix2 (row t a) k) := by
  blk_simp [iblk]
  refine (congrFun (V_main_arg0 m c) _).trans (congrArg (m ((c : Thread nD τ).loc main_arg0)) ?_)
  blk_ext [e0, row]

theorem in1 (c : Dev nD) (t : Fin grid0.N) (b : Fin 512) (k : Fin 4096) :
    iblk m c 1 t (ix2 b k) = m ((c : Thread nD τ).loc main_arg1) (ix2 (col t b) k) := by
  blk_simp [iblk]
  refine (congrFun (V_main_arg1 m c) _).trans (congrArg (m ((c : Thread nD τ).loc main_arg1)) ?_)
  blk_ext [e1, col]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 1024) (b : Fin 512), y = ix2 a b := ⟨y 0, y 1, eq_ix2 y⟩
  have he : (win0_2.blk t).view.emb (ix2 a b) = ix2 (row t a) (col t b) := by
    blk_ext [e2, row, col]
  rw [he]
  refine (out_at _ _ a b).trans ?_
  simp only [in0, in1]
  rfl

theorem frame_ref : Cert.quiescent_KvDxRefIdeal (hKvDxRefIdeal := Cert.KvDxRefIdeal.Gen.facts) := fun m g _ =>
  (θ_run Cert.KvDxRefIdeal.defs _ _).mono
    (fun r h => ⟨fun c => (h c).2, sem_eq_zero_of_no_sems rfl _⟩) (Cert.KvDxRefIdeal.Value.run (F := Ideal) m g)

theorem algebraic : Cert.algebraic_KvDxIdeal_KvDxRefIdeal (hKvDxIdeal := Cert.KvDxIdeal.Gen.facts)
    (hKvDxRefIdeal := Cert.KvDxRefIdeal.Gen.facts) := by
  intro m g m' g' _ hargs
  refine ⟨_, Cert.KvDxIdeal.Value.run_blocks (F := Ideal) m g, ?_⟩
  refine (θ_run (Cert.KvDxRefIdeal.defs (F := Ideal)) _ _).mono (fun r h c => ?_) (Cert.KvDxRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]

end Cert.KvDxProof

end
-- ==== Proof.Proj.KvDw.lean ====
/- The gradient of a head projection's weights: the transpose of the input times the incoming gradient; each block of the
   kernel's result is one sum over the whole summed axis, as the reference's is. -/
module

public import proofs.«01_k».proof.Defs
public import proofs.«01_k».proof.Proof.Gen.KvDwIdeal.Value
public import proofs.«01_k».proof.Proof.Gen.KvDwRefIdeal
public import proofs.«01_k».proof.Proof.Gen.KvDwRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KvDwProof

open Cert.KvDwIdeal Cert.KvDwIdeal.Gen Idealize.ShloMosaic Idealize.ShloMosaic.TcCoe Idealize.SL.Sem

variable (m : (ℓ : Loc nD τ sig) → Buf (Elt Ideal) ℓ)

/-- The transpose of the input times the incoming gradient. -/
def grad (x : Vec Ideal S4096x512 .bf16) (w : Vec Ideal S4096x4096 .bf16) : Vec Ideal S512x4096 .bf16 := fun i =>
  ∑ k : Fin 4096, x (ix2 k (i 0)) * w (ix2 k (i 1))

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, and the same for a column. -/
def row (t : Fin grid0.N) (a : Fin 512) : Fin 512 :=
  ⟨(grid0.coords t 0).val * 512 + a.val, by have : (grid0.coords t 0).val < 1 := (grid0.coords t 0).isLt; omega⟩
def col (t : Fin grid0.N) (a : Fin 1024) : Fin 4096 :=
  ⟨(grid0.coords t 1).val * 1024 + a.val, by have : (grid0.coords t 1).val < 4 := (grid0.coords t 1).isLt; omega⟩

/-- A block of the kernel's output. -/
theorem out_at (x0 : Vec Ideal S4096x512 .bf16) (x1 : Vec Ideal S4096x1024 .bf16) (a : Fin 512) (b : Fin 1024) :
    out0_2 (F := Ideal) x0 x1 (ix2 a b) = ∑ k : Fin 4096, x0 (ix2 k a) * x1 (ix2 k b) := by
  unfold out0_2
  frame_out
  pointwise [k0_pay1]

theorem in0 (c : Dev nD) (t : Fin grid0.N) (a : Fin 512) (k : Fin 4096) :
    iblk m c 0 t (ix2 k a) = m ((c : Thread nD τ).loc main_arg0) (ix2 k (row t a)) := by
  blk_simp [iblk]
  refine (congrFun (V_main_arg0 m c) _).trans (congrArg (m ((c : Thread nD τ).loc main_arg0)) ?_)
  blk_ext [e0, row]

theorem in1 (c : Dev nD) (t : Fin grid0.N) (b : Fin 1024) (k : Fin 4096) :
    iblk m c 1 t (ix2 k b) = m ((c : Thread nD τ).loc main_arg1) (ix2 k (col t b)) := by
  blk_simp [iblk]
  refine (congrFun (V_main_arg1 m c) _).trans (congrArg (m ((c : Thread nD τ).loc main_arg1)) ?_)
  blk_ext [e1, col]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 512) (b : Fin 1024), y = ix2 a b := ⟨y 0, y 1, eq_ix2 y⟩
  have he : (win0_2.blk t).view.emb (ix2 a b) = ix2 (row t a) (col t b) := by
    blk_ext [e2, row, col]
  rw [he]
  refine (out_at _ _ a b).trans ?_
  simp only [in0, in1]
  rfl

theorem frame_ref : Cert.quiescent_KvDwRefIdeal (hKvDwRefIdeal := Cert.KvDwRefIdeal.Gen.facts) := fun m g _ =>
  (θ_run Cert.KvDwRefIdeal.defs _ _).mono
    (fun r h => ⟨fun c => (h c).2, sem_eq_zero_of_no_sems rfl _⟩) (Cert.KvDwRefIdeal.Value.run (F := Ideal) m g)

theorem algebraic : Cert.algebraic_KvDwIdeal_KvDwRefIdeal (hKvDwIdeal := Cert.KvDwIdeal.Gen.facts)
    (hKvDwRefIdeal := Cert.KvDwRefIdeal.Gen.facts) := by
  intro m g m' g' _ hargs
  refine ⟨_, Cert.KvDwIdeal.Value.run_blocks (F := Ideal) m g, ?_⟩
  refine (θ_run (Cert.KvDwRefIdeal.defs (F := Ideal)) _ _).mono (fun r h c => ?_) (Cert.KvDwRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]
  exact Finset.sum_congr rfl fun k _ => mul_comm _ _

end Cert.KvDwProof

end
-- ==== Proof.Proj.Lat.lean ====
/- The latents of the attention, their columns padded: the product of two matrices, block by block; each block of the
   kernel's result is one sum over the whole summed axis, as the reference's is. -/
module

public import proofs.«01_k».proof.Defs
public import proofs.«01_k».proof.Proof.Gen.LatIdeal.Value
public import proofs.«01_k».proof.Proof.Gen.LatRefIdeal
public import proofs.«01_k».proof.Proof.Gen.LatRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.LatProof

open Cert.LatIdeal Cert.LatIdeal.Gen Idealize.ShloMosaic Idealize.ShloMosaic.TcCoe Idealize.SL.Sem

variable (m : (ℓ : Loc nD τ sig) → Buf (Elt Ideal) ℓ)

/-- The product. -/
def grad (x : Vec Ideal S4096x2048 .bf16) (w : Vec Ideal S2048x1152 .bf16) : Vec Ideal S4096x1152 .f32 := fun i =>
  ∑ k : Fin 2048, x (ix2 (i 0) k) * w (ix2 k (i 1))

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, and the same for a column. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1152) : Fin 1152 :=
  ⟨(grid0.coords t 1).val * 1152 + a.val, by have : (grid0.coords t 1).val < 1 := (grid0.coords t 1).isLt; omega⟩

/-- A block of the kernel's output. -/
theorem out_at (x0 : Vec Ideal S1024x2048 .bf16) (x1 : Vec Ideal S2048x1152 .bf16) (a : Fin 1024) (b : Fin 1152) :
    out0_2 (F := Ideal) x0 x1 (ix2 a b) = ∑ k : Fin 2048, x0 (ix2 a k) * x1 (ix2 k b) := by
  unfold out0_2
  frame_out
  pointwise [k0_pay1]

theorem in0 (c : Dev nD) (t : Fin grid0.N) (a : Fin 1024) (k : Fin 2048) :
    iblk m c 0 t (ix2 a k) = m ((c : Thread nD τ).loc main_arg0) (ix2 (row t a) k) := by
  blk_simp [iblk]
  refine (congrFun (V_main_arg0 m c) _).trans (congrArg (m ((c : Thread nD τ).loc main_arg0)) ?_)
  blk_ext [e0, row]

theorem in1 (c : Dev nD) (t : Fin grid0.N) (b : Fin 1152) (k : Fin 2048) :
    iblk m c 1 t (ix2 k b) = m ((c : Thread nD τ).loc main_arg1) (ix2 k (col t b)) := by
  blk_simp [iblk]
  refine (congrFun (V_main_arg1 m c) _).trans (congrArg (m ((c : Thread nD τ).loc main_arg1)) ?_)
  blk_ext [e1, col]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 1024) (b : Fin 1152), y = ix2 a b := ⟨y 0, y 1, eq_ix2 y⟩
  have he : (win0_2.blk t).view.emb (ix2 a b) = ix2 (row t a) (col t b) := by
    blk_ext [e2, row, col]
  rw [he]
  refine (out_at _ _ a b).trans ?_
  simp only [in0, in1]
  rfl

theorem frame_ref : Cert.quiescent_LatRefIdeal (hLatRefIdeal := Cert.LatRefIdeal.Gen.facts) := fun m g _ =>
  (θ_run Cert.LatRefIdeal.defs _ _).mono
    (fun r h => ⟨fun c => (h c).2, sem_eq_zero_of_no_sems rfl _⟩) (Cert.LatRefIdeal.Value.run (F := Ideal) m g)

theorem algebraic : Cert.algebraic_LatIdeal_LatRefIdeal (hLatIdeal := Cert.LatIdeal.Gen.facts)
    (hLatRefIdeal := Cert.LatRefIdeal.Gen.facts) := by
  intro m g m' g' _ hargs
  refine ⟨_, Cert.LatIdeal.Value.run_blocks (F := Ideal) m g, ?_⟩
  refine (θ_run (Cert.LatRefIdeal.defs (F := Ideal)) _ _).mono (fun r h c => ?_) (Cert.LatRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]

end Cert.LatProof

end
-- ==== Proof.Proj.LatDx.lean ====
/- The gradient of the latent projection's input: the incoming gradient times the weights transposed; each block of the
   kernel's result is one sum over the whole summed axis, as the reference's is. -/
module

public import proofs.«01_k».proof.Defs
public import proofs.«01_k».proof.Proof.Gen.LatDxIdeal.Value
public import proofs.«01_k».proof.Proof.Gen.LatDxRefIdeal
public import proofs.«01_k».proof.Proof.Gen.LatDxRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.LatDxProof

open Cert.LatDxIdeal Cert.LatDxIdeal.Gen Idealize.ShloMosaic Idealize.ShloMosaic.TcCoe Idealize.SL.Sem

variable (m : (ℓ : Loc nD τ sig) → Buf (Elt Ideal) ℓ)

/-- The incoming gradient times the weights transposed. -/
def grad (x : Vec Ideal S4096x1152 .bf16) (w : Vec Ideal S2048x1152 .bf16) : Vec Ideal S4096x2048 .bf16 := fun i =>
  ∑ k : Fin 1152, x (ix2 (i 0) k) * w (ix2 (i 1) k)

theorem e0 : ∀ t : Fin cfg0.N, win0_0.index t = ![(grid0.coords t 0).val, 0] := (by decide +kernel : ∀ t : Fin grid0.N, _)
theorem e1 : ∀ t : Fin cfg0.N, win0_1.index t = ![(grid0.coords t 1).val, 0] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, and the same for a column. -/
def row (t : Fin grid0.N) (a : Fin 1024) : Fin 4096 :=
  ⟨(grid0.coords t 0).val * 1024 + a.val, by have : (grid0.coords t 0).val < 4 := (grid0.coords t 0).isLt; omega⟩
def col (t : Fin grid0.N) (a : Fin 1024) : Fin 2048 :=
  ⟨(grid0.coords t 1).val * 1024 + a.val, by have : (grid0.coords t 1).val < 2 := (grid0.coords t 1).isLt; omega⟩

/-- A block of the kernel's output. -/
theorem out_at (x0 : Vec Ideal S1024x1152 .bf16) (x1 : Vec Ideal S1024x1152 .bf16) (a : Fin 1024) (b : Fin 1024) :
    out0_2 (F := Ideal) x0 x1 (ix2 a b) = ∑ k : Fin 1152, x0 (ix2 a k) * x1 (ix2 b k) := by
  unfold out0_2
  frame_out
  pointwise [k0_pay1]

theorem in0 (c : Dev nD) (t : Fin grid0.N) (a : Fin 1024) (k : Fin 1152) :
    iblk m c 0 t (ix2 a k) = m ((c : Thread nD τ).loc main_arg0) (ix2 (row t a) k) := by
  blk_simp [iblk]
  refine (congrFun (V_main_arg0 m c) _).trans (congrArg (m ((c : Thread nD τ).loc main_arg0)) ?_)
  blk_ext [e0, row]

theorem in1 (c : Dev nD) (t : Fin grid0.N) (b : Fin 1024) (k : Fin 1152) :
    iblk m c 1 t (ix2 b k) = m ((c : Thread nD τ).loc main_arg1) (ix2 (col t b) k) := by
  blk_simp [iblk]
  refine (congrFun (V_main_arg1 m c) _).trans (congrArg (m ((c : Thread nD τ).loc main_arg1)) ?_)
  blk_ext [e1, col]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  have he : (win0_2.blk t).view.emb (ix2 a b) = ix2 (row t a) (col t b) := by
    blk_ext [e2, row, col]
  rw [he]
  refine (out_at _ _ a b).trans ?_
  simp only [in0, in1]
  rfl

theorem frame_ref : Cert.quiescent_LatDxRefIdeal (hLatDxRefIdeal := Cert.LatDxRefIdeal.Gen.facts) := fun m g _ =>
  (θ_run Cert.LatDxRefIdeal.defs _ _).mono
    (fun r h => ⟨fun c => (h c).2, sem_eq_zero_of_no_sems rfl _⟩) (Cert.LatDxRefIdeal.Value.run (F := Ideal) m g)

theorem algebraic : Cert.algebraic_LatDxIdeal_LatDxRefIdeal (hLatDxIdeal := Cert.LatDxIdeal.Gen.facts)
    (hLatDxRefIdeal := Cert.LatDxRefIdeal.Gen.facts) := by
  intro m g m' g' _ hargs
  refine ⟨_, Cert.LatDxIdeal.Value.run_blocks (F := Ideal) m g, ?_⟩
  refine (θ_run (Cert.LatDxRefIdeal.defs (F := Ideal)) _ _).mono (fun r h c => ?_) (Cert.LatDxRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]

end Cert.LatDxProof

end
-- ==== Proof.Proj.LatDw.lean ====
/- The gradient of the latent projection's weights: the transpose of the input times the incoming gradient; each block of the
   kernel's result is one sum over the whole summed axis, as the reference's is. -/
module

public import proofs.«01_k».proof.Defs
public import proofs.«01_k».proof.Proof.Gen.LatDwIdeal.Value
public import proofs.«01_k».proof.Proof.Gen.LatDwRefIdeal
public import proofs.«01_k».proof.Proof.Gen.LatDwRefIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.LatDwProof

open Cert.LatDwIdeal Cert.LatDwIdeal.Gen Idealize.ShloMosaic Idealize.ShloMosaic.TcCoe Idealize.SL.Sem

variable (m : (ℓ : Loc nD τ sig) → Buf (Elt Ideal) ℓ)

/-- The transpose of the input times the incoming gradient. -/
def grad (x : Vec Ideal S4096x2048 .bf16) (w : Vec Ideal S4096x1152 .bf16) : Vec Ideal S2048x1152 .bf16 := fun i =>
  ∑ k : Fin 4096, x (ix2 k (i 0)) * w (ix2 k (i 1))

theorem e0 : ∀ t : Fin cfg0.N, win0_0.index t = ![0, (grid0.coords t 0).val] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, (grid0.coords t 1).val] := (by decide +kernel : ∀ t : Fin grid0.N, _)

/-- The row of the result that row `a` of the block at grid step `t` is, and the same for a column. -/
def row (t : Fin grid0.N) (a : Fin 1024) : Fin 2048 :=
  ⟨(grid0.coords t 0).val * 1024 + a.val, by have : (grid0.coords t 0).val < 2 := (grid0.coords t 0).isLt; omega⟩
def col (t : Fin grid0.N) (a : Fin 1152) : Fin 1152 :=
  ⟨(grid0.coords t 1).val * 1152 + a.val, by have : (grid0.coords t 1).val < 1 := (grid0.coords t 1).isLt; omega⟩

/-- A block of the kernel's output. -/
theorem out_at (x0 : Vec Ideal S4096x1024 .bf16) (x1 : Vec Ideal S4096x1152 .bf16) (a : Fin 1024) (b : Fin 1152) :
    out0_2 (F := Ideal) x0 x1 (ix2 a b) = ∑ k : Fin 4096, x0 (ix2 k a) * x1 (ix2 k b) := by
  unfold out0_2
  frame_out
  pointwise [k0_pay1]

theorem in0 (c : Dev nD) (t : Fin grid0.N) (a : Fin 1024) (k : Fin 4096) :
    iblk m c 0 t (ix2 k a) = m ((c : Thread nD τ).loc main_arg0) (ix2 k (row t a)) := by
  blk_simp [iblk]
  refine (congrFun (V_main_arg0 m c) _).trans (congrArg (m ((c : Thread nD τ).loc main_arg0)) ?_)
  blk_ext [e0, row]

theorem in1 (c : Dev nD) (t : Fin grid0.N) (b : Fin 1152) (k : Fin 4096) :
    iblk m c 1 t (ix2 k b) = m ((c : Thread nD τ).loc main_arg1) (ix2 k (col t b)) := by
  blk_simp [iblk]
  refine (congrFun (V_main_arg1 m c) _).trans (congrArg (m ((c : Thread nD τ).loc main_arg1)) ?_)
  blk_ext [e1, col]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 1024) (b : Fin 1152), y = ix2 a b := ⟨y 0, y 1, eq_ix2 y⟩
  have he : (win0_2.blk t).view.emb (ix2 a b) = ix2 (row t a) (col t b) := by
    blk_ext [e2, row, col]
  rw [he]
  refine (out_at _ _ a b).trans ?_
  simp only [in0, in1]
  rfl

theorem frame_ref : Cert.quiescent_LatDwRefIdeal (hLatDwRefIdeal := Cert.LatDwRefIdeal.Gen.facts) := fun m g _ =>
  (θ_run Cert.LatDwRefIdeal.defs _ _).mono
    (fun r h => ⟨fun c => (h c).2, sem_eq_zero_of_no_sems rfl _⟩) (Cert.LatDwRefIdeal.Value.run (F := Ideal) m g)

theorem algebraic : Cert.algebraic_LatDwIdeal_LatDwRefIdeal (hLatDwIdeal := Cert.LatDwIdeal.Gen.facts)
    (hLatDwRefIdeal := Cert.LatDwRefIdeal.Gen.facts) := by
  intro m g m' g' _ hargs
  refine ⟨_, Cert.LatDwIdeal.Value.run_blocks (F := Ideal) m g, ?_⟩
  refine (θ_run (Cert.LatDwRefIdeal.defs (F := Ideal)) _ _).mono (fun r h c => ?_) (Cert.LatDwRefIdeal.Value.run (F := Ideal) m' g')
  obtain ⟨h1, h3⟩ := h c
  obtain ⟨a0, a1⟩ := hargs c
  refine ⟨h1.trans ?_, h3⟩
  refine Eq.trans (funext fun i => ?_) (final m c).symm
  rw [a0, a1, eq_ix2 i]
  pointwise [grad]
  exact Finset.sum_congr rfl fun k _ => mul_comm _ _

end Cert.LatDwProof

end
-- ==== Proof.Norm.Row.lean ====
/- One row of a gradient of root-mean-square normalisation, over the extended reals. A kernel writes the gradient as the scale times
   what is left of the incoming row after its mean product with the normalised row is taken out; the derivative of the plain lines
   adds the two ways in which an entry enters the mean of the squares. The two are equal for every row, infinite ones too: either the
   mean of the squares is infinite and both sides are zero, or every entry of the row is a real number. -/
module

public import Idealize.ShloMosaic.Lib.Pointwise

@[expose] public section

noncomputable section

namespace Cert.NormRow

open Idealize.ShloMosaic

/-- The added constant, a positive real number. -/
theorem eps : ∃ e : ℝ, 0 < e ∧ Ideal.ofBits FTy.f32 0x358637BD#32 = (e : EReal) := by
  refine ⟨8796093 / 2 ^ 43, by norm_num, ?_⟩
  simp [Ideal.ofBits, Ideal.ieee, -EReal.coe_mul]; norm_num

theorem n2048 : Ideal.ofBits FTy.f32 0x45000000#32 = ((2048 : ℝ) : EReal) := by
  simp [Ideal.ofBits, Ideal.ieee, -EReal.coe_mul]; norm_num

theorem n512 : Ideal.ofBits FTy.f32 0x44000000#32 = ((512 : ℝ) : EReal) := by
  simp [Ideal.ofBits, Ideal.ieee, -EReal.coe_mul]; norm_num

theorem half : Ideal.ofBits FTy.f32 0xBF000000#32 = ((-1 / 2 : ℝ) : EReal) := by
  simp [Ideal.ofBits, Ideal.ieee, -EReal.coe_mul]; norm_num

/-- A square is not negative. -/
theorem sq_nonneg (x : EReal) : 0 ≤ x * x := by
  rcases le_total 0 x with h | h
  · exact mul_nonneg h h
  · rw [← neg_mul_neg]; exact mul_nonneg (EReal.neg_nonneg.mpr h) (EReal.neg_nonneg.mpr h)

/-- A sum with each term times a positive real number. -/
theorem sum_mul {n : ℕ} (f : Fin n → EReal) (r : ℝ) (hr : 0 ≤ r) : ∑ k, f k * (r : EReal) = (∑ k, f k) * (r : EReal) := by
  have key : ∀ s : Finset (Fin n), ∑ k ∈ s, f k * (r : EReal) = (∑ k ∈ s, f k) * (r : EReal) := fun s => by
    classical
    induction s using Finset.induction_on with
    | empty => simp
    | insert a s ha ih =>
      rw [Finset.sum_insert ha, Finset.sum_insert ha, ih,
        EReal.right_distrib_of_nonneg_of_ne_top (EReal.coe_nonneg.mpr hr) (EReal.coe_ne_top r)]
  exact key Finset.univ

/-- Twice a product with a real number. -/
theorem twice (t : EReal) (b : ℝ) : t * (b : EReal) + t * (b : EReal) = t * ((2 * b : ℝ) : EReal) := by
  rcases lt_trichotomy b 0 with h | h | h
  · induction t using EReal.rec with
    | bot => rw [EReal.bot_mul_coe_of_neg h, EReal.bot_mul_coe_of_neg (by linarith)]; rfl
    | coe t => norm_cast; ring
    | top => rw [EReal.top_mul_coe_of_neg h, EReal.top_mul_coe_of_neg (by linarith)]; rfl
  · subst h; simp
  · induction t using EReal.rec with
    | bot => rw [EReal.bot_mul_coe_of_pos h, EReal.bot_mul_coe_of_pos (by linarith)]; rfl
    | coe t => norm_cast; ring
    | top => rw [EReal.top_mul_coe_of_pos h, EReal.top_mul_coe_of_pos (by linarith)]; rfl

/-- The row's equation. -/
theorem row {n : ℕ} (x u : Fin n → EReal) (j : Fin n) (N E H : EReal) (nn : ℝ) (hn : 0 < nn) (hN : N = (nn : EReal))
    (hE : ∃ e : ℝ, 0 < e ∧ E = (e : EReal)) (hH : H = ((-1 / 2 : ℝ) : EReal)) :
    Ideal.rsqrt (Ideal.div (∑ k, x k * x k) N + E)
        * (u j - x j * Ideal.rsqrt (Ideal.div (∑ k, x k * x k) N + E)
            * Ideal.div (∑ k, u k * (x k * Ideal.rsqrt (Ideal.div (∑ k, x k * x k) N + E))) N)
      = u j * Ideal.rsqrt (Ideal.div (∑ k, x k * x k) N + E)
          + x j * Ideal.div ((∑ k, x k * u k) * (H * Ideal.div (Ideal.rsqrt (Ideal.div (∑ k, x k * x k) N + E))
              (Ideal.div (∑ k, x k * x k) N + E))) N
          + Ideal.div ((∑ k, x k * u k) * (H * Ideal.div (Ideal.rsqrt (Ideal.div (∑ k, x k * x k) N + E))
              (Ideal.div (∑ k, x k * x k) N + E))) N * x j := by
  obtain ⟨e, he, rfl⟩ := hE
  subst hN hH
  have hS : 0 ≤ ∑ k, x k * x k := Finset.sum_nonneg fun k _ => sq_nonneg (x k)
  generalize hs : ∑ k, x k * x k = s at hS ⊢
  induction s using EReal.rec with
  | bot => exact absurd hS (by simp)
  | top =>
    have h1 : Ideal.div ⊤ (nn : EReal) = ⊤ := by
      rw [Ideal.div_coe hn.ne', EReal.top_mul_coe_of_pos (by positivity)]
    have h2 : Ideal.div (0 : EReal) ⊤ = 0 := by simp [Ideal.div]
    have h3 : Ideal.div (0 : EReal) (nn : EReal) = 0 := by rw [Ideal.div_coe hn.ne', zero_mul]
    rw [h1, EReal.top_add_coe, Ideal.rsqrt_top, h2]
    simp [h3]
  | coe s =>
    have hs0 : 0 ≤ s := EReal.coe_nonneg.mp hS
    have hx : ∀ k, ∃ y : ℝ, x k = (y : EReal) := fun k => by
      have hle : x k * x k ≤ (s : EReal) := hs ▸ Finset.single_le_sum (fun i _ => sq_nonneg (x i)) (Finset.mem_univ k)
      have hlt : x k * x k ≠ ⊤ := (lt_of_le_of_lt hle (EReal.coe_lt_top s)).ne
      refine ⟨(x k).toReal, (EReal.coe_toReal ?_ ?_).symm⟩
      · intro h; rw [h] at hlt; exact hlt (by simp)
      · intro h; rw [h] at hlt; exact hlt (by simp)
    choose y hy using hx
    have hv : Ideal.div (s : EReal) (nn : EReal) + (e : EReal) = ((s / nn + e : ℝ) : EReal) := by
      rw [Ideal.div_coe hn.ne']; norm_cast; ring
    have hvp : 0 < s / nn + e := by positivity
    rw [hv]
    generalize hvv : s / nn + e = v at hvp
    have hr : Ideal.rsqrt (v : EReal) = (((Real.sqrt v)⁻¹ : ℝ) : EReal) := by
      rw [Ideal.rsqrt_coe, if_neg (by linarith), if_neg hvp.ne']
    rw [hr]
    have hrp : 0 < (Real.sqrt v)⁻¹ := inv_pos.mpr (Real.sqrt_pos.mpr hvp)
    have hr2 : (Real.sqrt v)⁻¹ * (Real.sqrt v)⁻¹ = 1 / v := by
      rw [← mul_inv, Real.mul_self_sqrt hvp.le, one_div]
    generalize (Real.sqrt v)⁻¹ = r at hrp hr2
    have hT : ∑ k, u k * (x k * (r : EReal)) = (∑ k, x k * u k) * (r : EReal) := by
      rw [← sum_mul _ r hrp.le]
      exact Finset.sum_congr rfl fun k _ => by rw [← mul_assoc, mul_comm (u k)]
    rw [hT]
    generalize ∑ k, x k * u k = T
    rw [Ideal.div_coe hvp.ne', Ideal.div_coe hn.ne', Ideal.div_coe hn.ne', hy j]
    have e1 : (y j : EReal) * (r : EReal) * (T * (r : EReal) * ((1 / nn : ℝ) : EReal))
        = T * ((y j * r * r * (1 / nn) : ℝ) : EReal) := by
      simp only [EReal.coe_mul]; ac_rfl
    have e2 : (y j : EReal) * (T * (((-1 / 2 : ℝ) : EReal) * ((r : EReal) * ((1 / v : ℝ) : EReal))) * ((1 / nn : ℝ) : EReal))
        = T * ((y j * (-1 / 2) * r * (1 / v) * (1 / nn) : ℝ) : EReal) := by
      rw [EReal.coe_mul, EReal.coe_mul, EReal.coe_mul, EReal.coe_mul]; ac_rfl
    rw [e1, mul_comm _ (y j : EReal), add_assoc, e2, twice, sub_eq_add_neg,
      EReal.left_distrib_of_nonneg_of_ne_top (EReal.coe_nonneg.mpr hrp.le) (EReal.coe_ne_top r), mul_comm (r : EReal) (u j)]
    congr 1
    rw [← mul_neg, ← EReal.coe_neg, mul_left_comm, ← EReal.coe_mul]
    congr 2
    have : r * -(y j * r * r * (1 / nn)) = -(y j * r * (r * r) * (1 / nn)) := by ring
    rw [this, hr2]
    ring

end Cert.NormRow

end
-- ==== Proof.Norm.Grad.lean ====
/- The gradient through a normalisation whose result is scaled, entry by entry: as the kernels write it, and as the derivative of the
   plain lines reads. -/
module

public import proofs.«01_k».proof.Proof.Norm.Row
public import Idealize.ShloMosaic.Lib.Pointwise

@[expose] public section

noncomputable section

namespace Cert.NormGrad

open Idealize.ShloMosaic

/-- The scale of row `a`. -/
def scale {R : ℕ} (x : Vec Ideal ⟨2, ![R, 2048]⟩ .f32) (a : Fin R) : EReal :=
  Ideal.rsqrt (Ideal.div (∑ k, x (ix2 a k) * x (ix2 a k)) (Ideal.ofBits .f32 1157627904#32) + Ideal.ofBits .f32 897988541#32)

/-- The gradient at row `a`, column `b`. -/
def grad {R : ℕ} (dn : Vec Ideal ⟨2, ![R, 2048]⟩ .f32) (dh : Vec Ideal ⟨2, ![R, 2048]⟩ .bf16) (x : Vec Ideal ⟨2, ![R, 2048]⟩ .f32)
    (g s : Vec Ideal ⟨2, ![1, 2048]⟩ .f32) (a : Fin R) (b : Fin 2048) : EReal :=
  dn (ix2 a b) + scale x a * (dh (ix2 a b) * (1 + s (ix2 0 b)) * g (ix2 0 b) - x (ix2 a b) * scale x a
    * Ideal.div (∑ k, dh (ix2 a k) * (1 + s (ix2 0 k)) * g (ix2 0 k) * (x (ix2 a k) * scale x a)) (Ideal.ofBits .f32 1157627904#32))

/-- What row `a` adds to row `r` of the sums. -/
def part {R : ℕ} (dh : Vec Ideal ⟨2, ![R, 2048]⟩ .bf16) (x : Vec Ideal ⟨2, ![R, 2048]⟩ .f32) (g s : Vec Ideal ⟨2, ![1, 2048]⟩ .f32)
    (r : ℕ) (a : Fin R) (b : Fin 2048) : EReal :=
  match r with
  | 0 => dh (ix2 a b)
  | 1 => dh (ix2 a b) * (x (ix2 a b) * scale x a * g (ix2 0 b))
  | 2 => dh (ix2 a b) * (1 + s (ix2 0 b)) * (x (ix2 a b) * scale x a)
  | _ => 0

/-- The mean's share of the derivative at row `a`: what it takes of the row, twice. -/
def share {R : ℕ} (dh : Vec Ideal ⟨2, ![R, 2048]⟩ .bf16) (x : Vec Ideal ⟨2, ![R, 2048]⟩ .f32)
    (g s : Vec Ideal ⟨2, ![1, 2048]⟩ .f32) (a : Fin R) : EReal :=
  Ideal.div ((∑ k, x (ix2 a k) * (dh (ix2 a k) * (1 + s (ix2 0 k)) * g (ix2 0 k))) * (Ideal.ofBits .f32 3204448256#32
    * Ideal.div (scale x a) (Ideal.div (∑ k, x (ix2 a k) * x (ix2 a k)) (Ideal.ofBits .f32 1157627904#32) + Ideal.ofBits .f32 897988541#32)))
    (Ideal.ofBits .f32 1157627904#32)

theorem grad_eq {R : ℕ} (dn : Vec Ideal ⟨2, ![R, 2048]⟩ .f32) (dh : Vec Ideal ⟨2, ![R, 2048]⟩ .bf16) (x : Vec Ideal ⟨2, ![R, 2048]⟩ .f32)
    (g s : Vec Ideal ⟨2, ![1, 2048]⟩ .f32) (a : Fin R) (b : Fin 2048) :
    grad dn dh x g s a b = dn (ix2 a b) + (dh (ix2 a b) * (1 + s (ix2 0 b)) * g (ix2 0 b) * scale x a
      + x (ix2 a b) * share dh x g s a + share dh x g s a * x (ix2 a b)) :=
  congrArg (dn (ix2 a b) + ·) (NormRow.row (fun k => x (ix2 a k)) (fun k => dh (ix2 a k) * (1 + s (ix2 0 k)) * g (ix2 0 k)) b
    _ _ _ 2048 (by norm_num) NormRow.n2048 NormRow.eps NormRow.half)

/-- The same derivative, as one name. -/
def gradR {R : ℕ} (dn : Vec Ideal ⟨2, ![R, 2048]⟩ .f32) (dh : Vec Ideal ⟨2, ![R, 2048]⟩ .bf16) (x : Vec Ideal ⟨2, ![R, 2048]⟩ .f32)
    (g s : Vec Ideal ⟨2, ![1, 2048]⟩ .f32) (a : Fin R) (b : Fin 2048) : EReal :=
  dn (ix2 a b) + (dh (ix2 a b) * (1 + s (ix2 0 b)) * g (ix2 0 b) * scale x a
      + x (ix2 a b) * share dh x g s a + share dh x g s a * x (ix2 a b))

/-- The gradient of the layer's result before its own normalisation: `d` is the gradient of the residual stream, `q` the gate, `n` the
    normalisation's weights. -/
def post {R : ℕ} (d : Fin R → Fin 2048 → EReal) (y : Vec Ideal ⟨2, ![R, 2048]⟩ .bf16) (q n : Vec Ideal ⟨2, ![1, 2048]⟩ .f32)
    (a : Fin R) (b : Fin 2048) : EReal :=
  scale (R := R) y a * (d a b * q (ix2 0 b) * n (ix2 0 b) - y (ix2 a b) * scale (R := R) y a
    * Ideal.div (∑ k, d a k * q (ix2 0 k) * n (ix2 0 k) * (y (ix2 a k) * scale (R := R) y a)) (Ideal.ofBits .f32 1157627904#32))

/-- What row `a` adds to row `r` of the sums of that normalisation. -/
def postPart {R : ℕ} (d : Fin R → Fin 2048 → EReal) (y : Vec Ideal ⟨2, ![R, 2048]⟩ .bf16) (q n : Vec Ideal ⟨2, ![1, 2048]⟩ .f32)
    (r : ℕ) (a : Fin R) (b : Fin 2048) : EReal :=
  match r with
  | 3 => d a b * (y (ix2 a b) * scale (R := R) y a * n (ix2 0 b))
  | 4 => d a b * q (ix2 0 b) * (y (ix2 a b) * scale (R := R) y a)
  | _ => 0

def postShare {R : ℕ} (d : Fin R → Fin 2048 → EReal) (y : Vec Ideal ⟨2, ![R, 2048]⟩ .bf16) (q n : Vec Ideal ⟨2, ![1, 2048]⟩ .f32)
    (a : Fin R) : EReal :=
  Ideal.div ((∑ k, y (ix2 a k) * (q (ix2 0 k) * d a k * n (ix2 0 k))) * (Ideal.ofBits .f32 3204448256#32
    * Ideal.div (scale (R := R) y a) (Ideal.div (∑ k, y (ix2 a k) * y (ix2 a k)) (Ideal.ofBits .f32 1157627904#32) + Ideal.ofBits .f32 897988541#32)))
    (Ideal.ofBits .f32 1157627904#32)

theorem post_eq {R : ℕ} (d : Fin R → Fin 2048 → EReal) (y : Vec Ideal ⟨2, ![R, 2048]⟩ .bf16) (q n : Vec Ideal ⟨2, ![1, 2048]⟩ .f32)
    (a : Fin R) (b : Fin 2048) :
    post d y q n a b = q (ix2 0 b) * d a b * n (ix2 0 b) * scale (R := R) y a
      + y (ix2 a b) * postShare d y q n a + postShare d y q n a * y (ix2 a b) := by
  unfold post postShare
  simp only [mul_comm (d a _) (q (ix2 0 _))]
  exact NormRow.row (fun k => y (ix2 a k)) (fun k => q (ix2 0 k) * d a k * n (ix2 0 k)) b
    _ _ _ 2048 (by norm_num) NormRow.n2048 NormRow.eps NormRow.half

end Cert.NormGrad

end
-- ==== Proof.Norm.Rows.lean ====
/- Reading a block that is written one row at a time, and a sum over all rows taken block by block. -/
module

public import Idealize.ShloMosaic.Lib.Pointwise
public import Idealize.ShloMosaic.Lib.WritesUnit
public import Idealize.ShloMosaic.Lib.Pipeline.ValueKit

@[expose] public section

noncomputable section

namespace Cert.NormRows

open Idealize.ShloMosaic Idealize.SL.Sem

variable {K n : ℕ} {Val : EltTy → Type} [∀ e, Nonempty (Val e)] {sig : RefSig} {κ : Kind} {sp : Space} {e : EltTy}

/-- Where entry `b` of row `o` lies. -/
theorem row_emb {o : ℕ} (inb : ∀ a, (![o, 0] : Fin 2 → ℕ) a + (⟨2, ![1, n]⟩ : Shape).size a ≤ (⟨2, ![K, n]⟩ : Shape).size a)
    (a : Fin K) (h : a.val = o) (b : Fin n) :
    (Rect.unit (s := (⟨2, ![K, n]⟩ : Shape)) ![o, 0] (⟨2, ![1, n]⟩ : Shape).size inb).emb (ix2 (0 : Fin 1) b) = ix2 a b := by
  funext x; apply Fin.ext
  fin_cases x
  · show o + 1 * 0 = a.val; omega
  · show 0 + 1 * b.val = b.val; omega

/-- The newest piece is the row that is read. -/
theorem hit {o : ℕ} (inb : ∀ a, (![o, 0] : Fin 2 → ℕ) a + (⟨2, ![1, n]⟩ : Shape).size a ≤ (⟨2, ![K, n]⟩ : Shape).size a)
    (w : (⟨2, ![1, n]⟩ : Shape).Idx → Val e) (L : List (View.Piece Val (⟨2, ![K, n]⟩ : Shape) e)) (a : Fin K) (b : Fin n) (h : a.val = o) :
    View.canon ((⟨Rect.unit (s := (⟨2, ![K, n]⟩ : Shape)) ![o, 0] (⟨2, ![1, n]⟩ : Shape).size inb, w⟩ : View.Piece Val (⟨2, ![K, n]⟩ : Shape) e) :: L) (ix2 a b)
      = w (ix2 0 b) := by
  rw [← row_emb inb a h b]
  exact View.canon_cons_emb (Rect.unit (s := (⟨2, ![K, n]⟩ : Shape)) ![o, 0] (⟨2, ![1, n]⟩ : Shape).size inb) w L (ix2 0 b)

/-- The newest piece is another row. -/
theorem miss {o : ℕ} (inb : ∀ a, (![o, 0] : Fin 2 → ℕ) a + (⟨2, ![1, n]⟩ : Shape).size a ≤ (⟨2, ![K, n]⟩ : Shape).size a)
    (w : (⟨2, ![1, n]⟩ : Shape).Idx → Val e) (L : List (View.Piece Val (⟨2, ![K, n]⟩ : Shape) e)) (a : Fin K) (b : Fin n) (h : a.val ≠ o) :
    View.canon ((⟨Rect.unit (s := (⟨2, ![K, n]⟩ : Shape)) ![o, 0] (⟨2, ![1, n]⟩ : Shape).size inb, w⟩ : View.Piece Val (⟨2, ![K, n]⟩ : Shape) e) :: L) (ix2 a b)
      = View.canon L (ix2 a b) := by
  refine View.canon_cons_of_not_mem _ L ?_
  intro hm
  obtain ⟨i, hi, he⟩ := (LoadRect.mem_set _).mp hm (0 : Fin 2)
  have hi1 : i < 1 := hi
  have he' : a.val = o + 1 * i := he
  omega

/-- A load of one row of what earlier writes left. -/
theorem cov {o : ℕ} (v : View sig κ sp (⟨2, ![K, n]⟩ : Shape) e)
    (inb : ∀ a, (![o, 0] : Fin 2 → ℕ) a + (⟨2, ![1, n]⟩ : Shape).size a ≤ (⟨2, ![K, n]⟩ : Shape).size a)
    (L : List (View.Piece Val (⟨2, ![K, n]⟩ : Shape) e)) (a : Fin K) (b : Fin n) (h : a.val = o) :
    v.readCov L (Rect.unit (s := (⟨2, ![K, n]⟩ : Shape)) ![o, 0] (⟨2, ![1, n]⟩ : Shape).size inb).toLoadRect (ix2 0 b)
      = View.canon L (ix2 a b) := by
  rw [View.readCov_eq_canon', ← row_emb inb a h b]
  rfl

/-- A load of one row of an array. -/
theorem ld {o : ℕ} (x : (⟨2, ![K, n]⟩ : Shape).Idx → Val e)
    (inb : ∀ a, (![o, 0] : Fin 2 → ℕ) a + (⟨2, ![1, n]⟩ : Shape).size a ≤ (⟨2, ![K, n]⟩ : Shape).size a)
    (a : Fin K) (b : Fin n) (h : a.val = o) :
    View.ld x (Rect.unit (s := (⟨2, ![K, n]⟩ : Shape)) ![o, 0] (⟨2, ![1, n]⟩ : Shape).size inb) (ix2 0 b) = x (ix2 a b) := by
  rw [← row_emb inb a h b]
  rfl

/-- The same two cases where the block held other values before. -/
theorem hit' {o : ℕ} (v : View sig κ sp (⟨2, ![K, n]⟩ : Shape) e) (f : v.ty.Contents Val)
    (inb : ∀ a, (![o, 0] : Fin 2 → ℕ) a + (⟨2, ![1, n]⟩ : Shape).size a ≤ (⟨2, ![K, n]⟩ : Shape).size a)
    (w : (⟨2, ![1, n]⟩ : Shape).Idx → Val e) (L : List (View.Piece Val (⟨2, ![K, n]⟩ : Shape) e)) (a : Fin K) (b : Fin n) (h : a.val = o) :
    v.read Val (v.writes Val f ((⟨Rect.unit (s := (⟨2, ![K, n]⟩ : Shape)) ![o, 0] (⟨2, ![1, n]⟩ : Shape).size inb, w⟩ : View.Piece Val (⟨2, ![K, n]⟩ : Shape) e) :: L)) (ix2 a b)
      = w (ix2 0 b) :=
  View.read_writes_cons_rows_of_mem v f inb w L (ix2 a b) (ix2 (0 : Fin 1) b) rfl (show a.val = o + 0 by omega) rfl

theorem miss' {o : ℕ} (v : View sig κ sp (⟨2, ![K, n]⟩ : Shape) e) (f : v.ty.Contents Val)
    (inb : ∀ a, (![o, 0] : Fin 2 → ℕ) a + (⟨2, ![1, n]⟩ : Shape).size a ≤ (⟨2, ![K, n]⟩ : Shape).size a)
    (w : (⟨2, ![1, n]⟩ : Shape).Idx → Val e) (L : List (View.Piece Val (⟨2, ![K, n]⟩ : Shape) e)) (a : Fin K) (b : Fin n) (h : a.val ≠ o) :
    v.read Val (v.writes Val f ((⟨Rect.unit (s := (⟨2, ![K, n]⟩ : Shape)) ![o, 0] (⟨2, ![1, n]⟩ : Shape).size inb, w⟩ : View.Piece Val (⟨2, ![K, n]⟩ : Shape) e) :: L)) (ix2 a b)
      = v.read Val (v.writes Val f L) (ix2 a b) :=
  View.read_writes_cons_rows_of_not_mem v f inb w L (ix2 a b) rfl (show (1 : ℕ) = 1 from rfl) (show a.val < o ∨ o + 1 ≤ a.val by omega)

/-- A sum over all rows, block by block. -/
theorem blocks (g : Fin 4096 → EReal) :
    ∑ p : Fin 16, ∑ x : Fin 256, g ⟨p.val * 256 + x.val, by omega⟩ = ∑ k, g k := by
  rw [← Fintype.sum_prod_type' (f := fun (p : Fin 16) (x : Fin 256) => g ⟨p.val * 256 + x.val, by omega⟩)]
  refine Fintype.sum_equiv (finProdFinEquiv (m := 16) (n := 256)) _ _ fun p => congrArg g (Fin.ext ?_)
  show p.1.val * 256 + p.2.val = p.2.val + 256 * p.1.val
  omega

end Cert.NormRows

end
-- ==== Proof.Norm.Bound.lean ====
/- The gradient of the step between two layers: the next layer's first normalisation, the residual stream, and the gated normalisation
   of this layer's result. Each block of rows is done by itself, and the sums over all rows that the vectors' gradients need are
   carried from block to block. -/
module

public import proofs.«01_k».proof.Defs
public import proofs.«01_k».proof.Proof.Gen.BoundIdeal.Value
public import proofs.«01_k».proof.Proof.Gen.BoundRefIdeal
public import proofs.«01_k».proof.Proof.Gen.BoundRefIdeal.Run
public import proofs.«01_k».proof.Proof.Norm.Grad
public import proofs.«01_k».proof.Proof.Norm.Rows
public import Idealize.ShloMosaic.Lib.Quiescent

@[expose] public section

set_option maxRecDepth 16384

noncomputable section

namespace Cert.BoundProof

open Cert.NormGrad Cert.BoundIdeal Cert.BoundIdeal.Gen Idealize.ShloMosaic Idealize.ShloMosaic.TcCoe Idealize.SL.Sem

variable (m : (ℓ : Loc nD τ sig) → Buf (Elt Ideal) ℓ)

/-- The residual stream's gradient, the gradient of this layer's result, and the sums over all rows, as arrays. -/
def dxs (dn : Vec Ideal S4096x2048 .f32) (dh : Vec Ideal S4096x2048 .bf16) (x : Vec Ideal S4096x2048 .f32)
    (g s : Vec Ideal S1x2048 .f32) : Vec Ideal S4096x2048 .f32 := fun i => grad (R := 4096) dn dh x g s (i 0) (i 1)
def dys (dn : Vec Ideal S4096x2048 .f32) (dh : Vec Ideal S4096x2048 .bf16) (x : Vec Ideal S4096x2048 .f32)
    (y : Vec Ideal S4096x2048 .bf16) (q n g s : Vec Ideal S1x2048 .f32) : Vec Ideal S4096x2048 .bf16 :=
  fun i => post (grad (R := 4096) dn dh x g s) y q n (i 0) (i 1)

/-- What row `a` adds to row `r` of the sums. -/
def adds {R : ℕ} (dn : Vec Ideal ⟨2, ![R, 2048]⟩ .f32) (dh : Vec Ideal ⟨2, ![R, 2048]⟩ .bf16) (x : Vec Ideal ⟨2, ![R, 2048]⟩ .f32)
    (y : Vec Ideal ⟨2, ![R, 2048]⟩ .bf16) (q n g s : Vec Ideal S1x2048 .f32) (r : ℕ) (a : Fin R) (b : Fin 2048) : EReal :=
  if r < 3 then part dh x g s r a b else postPart (grad dn dh x g s) y q n r a b
def sums (dn : Vec Ideal S4096x2048 .f32) (dh : Vec Ideal S4096x2048 .bf16) (x : Vec Ideal S4096x2048 .f32)
    (y : Vec Ideal S4096x2048 .bf16) (q n g s : Vec Ideal S1x2048 .f32) : Vec Ideal S8x2048 .f32 :=
  fun i => ∑ k, adds (R := 4096) dn dh x y q n g s (i 0).val k (i 1)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![0, 0] := (by decide +kernel : ∀ t : Fin grid0.N, _)

/-- The row of the arrays that row `a` of the block at grid step `t` is. -/
def row (t : Fin cfg0.N) (a : Fin 256) : Fin 4096 :=
  ⟨t.val * 256 + a.val, by have : t.val < 16 := t.isLt; omega⟩

theorem in0 (c : Dev nD) (t : Fin cfg0.N) (a : Fin 256) (b : Fin 2048) :
    iblk m c 0 t (ix2 a b) = m ((c : Thread nD τ).loc main_arg0) (ix2 (row t a) b) := by
  blk_simp [iblk]
  refine (congrFun (V_main_arg0 m c) _).trans (congrArg (m ((c : Thread nD τ).loc main_arg0)) ?_)
  blk_ext [e0, row]

theorem in1 (c : Dev nD) (t : Fin cfg0.N) (a : Fin 256) (b : Fin 2048) :
    iblk m c 1 t (ix2 a b) = m ((c : Thread nD τ).loc main_arg1) (ix2 (row t a) b) := by
  blk_simp [iblk]
  refine (congrFun (V_main_arg1 m c) _).trans (congrArg (m ((c : Thread nD τ).loc main_arg1)) ?_)
  blk_ext [e1, row]

theorem in2 (c : Dev nD) (t : Fin cfg0.N) (a : Fin 256) (b : Fin 2048) :
    iblk m c 2 t (ix2 a b) = m ((c : Thread nD τ).loc main_arg2) (ix2 (row t a) b) := by
  blk_simp [iblk]
  refine (congrFun (V_main_arg2 m c) _).trans (congrArg (m ((c : Thread nD τ).loc main_arg2)) ?_)
  blk_ext [e2, row]

theorem in3 (c : Dev nD) (t : Fin cfg0.N) (a : Fin 256) (b : Fin 2048) :
    iblk m c 3 t (ix2 a b) = m ((c : Thread nD τ).loc main_arg3) (ix2 (row t a) b) := by
  blk_simp [iblk]
  refine (congrFun (V_main_arg3 m c) _).trans (congrArg (m ((c : Thread nD τ).loc main_arg3)) ?_)
  blk_ext [e3, row]

theorem in4 (c : Dev nD) (t : Fin cfg0.N) (b : Fin 2048) :
    iblk m c 4 t (ix2 0 b) = m ((c : Thread nD τ).loc main_arg4) (ix2 0 b) := by
  blk_simp [iblk]
  refine (congrFun (V_main_arg4 m c) _).trans (congrArg (m ((c : Thread nD τ).loc main_arg4)) ?_)
  blk_ext [e4]

theorem in5 (c : Dev nD) (t : Fin cfg0.N) (b : Fin 2048) :
    iblk m c 5 t (ix2 0 b) = m ((c : Thread nD τ).loc main_arg5) (ix2 0 b) := by
  blk_simp [iblk]
  refine (congrFun (V_main_arg5 m c) _).trans (congrArg (m ((c : Thread nD τ).loc main_arg5)) ?_)
  blk_ext [e5]

theorem in6 (c : Dev nD) (t : Fin cfg0.N) (b : Fin 2048) :
    iblk m c 6 t (ix2 0 b) = m ((c : Thread nD τ).loc main_arg6) (ix2 0 b) := by
  blk_simp [iblk]
  refine (congrFun (V_main_arg6 m c) _).trans (congrArg (m ((c : Thread nD τ).loc main_arg6)) ?_)
  blk_ext [e6]

theorem in7 (c : Dev nD) (t : Fin cfg0.N) (b : Fin 2048) :
    iblk m c 7 t (ix2 0 b) = m ((c : Thread nD τ).loc main_arg7) (ix2 0 b) := by
  blk_simp [iblk]
  refine (congrFun (V_main_arg7 m c) _).trans (congrArg (m ((c : Thread nD τ).loc main_arg7)) ?_)
  blk_ext [e7]

/-! The stored values, entry by entry. -/

theorem pay_dx (x dh g s dn) (a : Fin 256) (b : Fin 2048) :
    k0_pay12 (F := Ideal) x dh g s dn (ix2 a b) = grad (R := 256) dn dh x g s a b := by
  pointwise [k0_pay12, k0_pay11, k0_pay10, k0_pay9, k0_pay8]
  rfl

theorem pay_dy (d : Vec Ideal S256x2048 .f32) (y q n) (a : Fin 256) (b : Fin 2048) :
    k0_pay4 (F := Ideal) d (k0_pay16 y) q n (k0_pay17 y) (ix2 a b) = post (R := 256) (fun a b => d (ix2 a b)) y q n a b := by
  pointwise [k0_pay4, k0_pay1, k0_pay2, k0_pay3, k0_pay16, k0_pay17]
  rfl

theorem pay_r0 (x dh : _) (g s : _) (v) (b : Fin 2048) :
    k0_pay13 (F := Ideal) (k0_pay8 dh) v (ix2 0 b) = v (ix2 0 b) + ∑ a, part (R := 256) dh x g s 0 a b := by
  pointwise [k0_pay13, k0_pay8]
  rfl

theorem pay_r1 (x dh : _) (g s : _) (v) (b : Fin 2048) :
    k0_pay14 (F := Ideal) (k0_pay8 dh) g (k0_pay10 x) v (ix2 0 b) = v (ix2 0 b) + ∑ a, part (R := 256) dh x g s 1 a b := by
  pointwise [k0_pay14, k0_pay8, k0_pay10, k0_pay9]
  rfl

theorem pay_r2 (x dh : _) (g s : _) (v) (b : Fin 2048) :
    k0_pay15 (F := Ideal) (k0_pay10 x) (k0_pay11 dh s) v (ix2 0 b) = v (ix2 0 b) + ∑ a, part (R := 256) dh x g s 2 a b := by
  pointwise [k0_pay15, k0_pay8, k0_pay10, k0_pay9, k0_pay11]
  rfl

theorem pay_r3 (d : Vec Ideal S256x2048 .f32) (y q n v) (b : Fin 2048) :
    k0_pay5 (F := Ideal) d (k0_pay16 y) n (k0_pay17 y) v (ix2 0 b)
      = v (ix2 0 b) + ∑ a, postPart (R := 256) (fun a b => d (ix2 a b)) y q n 3 a b := by
  pointwise [k0_pay5, k0_pay1, k0_pay2, k0_pay3, k0_pay16, k0_pay17]
  rfl

theorem pay_r4 (d : Vec Ideal S256x2048 .f32) (y q n v) (b : Fin 2048) :
    k0_pay6 (F := Ideal) d (k0_pay16 y) q (k0_pay17 y) v (ix2 0 b)
      = v (ix2 0 b) + ∑ a, postPart (R := 256) (fun a b => d (ix2 a b)) y q n 4 a b := by
  pointwise [k0_pay6, k0_pay1, k0_pay2, k0_pay3, k0_pay16, k0_pay17]
  rfl

/-- The gradient as the block that the later values read. -/
theorem pay_dxs (x dh g s dn) : (fun (a : Fin 256) (b : Fin 2048) => k0_pay12 (F := Ideal) x dh g s dn (ix2 a b))
    = grad (R := 256) dn dh x g s := funext fun a => funext fun b => pay_dx x dh g s dn a b

theorem out8_at (c : Dev nD) (t : Fin cfg0.N) (a : Fin 256) (b : Fin 2048) :
    (outsAt0 m c t.val t.isLt).1 (ix2 a b) = grad (R := 256) (iblk m c 0 t) (iblk m c 1 t) (iblk m c 2 t) (iblk m c 6 t) (iblk m c 7 t) a b := by
  rw [← pay_dx]
  by_cases ht : t.val % 16 = 0
  · rw [outsAt0_A m c t ht]
    dsimp only
    unfold out0_A_8
    frame_out
  · rw [outsAt0_B m c t ht]
    dsimp only
    unfold out0_B_8
    frame_out

theorem out9_at (c : Dev nD) (t : Fin cfg0.N) (a : Fin 256) (b : Fin 2048) :
    (outsAt0 m c t.val t.isLt).2.1 (ix2 a b)
      = post (R := 256) (grad (R := 256) (iblk m c 0 t) (iblk m c 1 t) (iblk m c 2 t) (iblk m c 6 t) (iblk m c 7 t)) (iblk m c 3 t) (iblk m c 4 t) (iblk m c 5 t) a b := by
  rw [← pay_dxs, ← pay_dy]
  by_cases ht : t.val % 16 = 0
  · rw [outsAt0_A m c t ht]
    dsimp only
    unfold out0_A_9
    frame_out
  · rw [outsAt0_B m c t ht]
    dsimp only
    unfold out0_B_9
    frame_out

theorem out10_first (c : Dev nD) (t : Fin cfg0.N) (ht : t.val % 16 = 0) (a : Fin 8) (b : Fin 2048) :
    (outsAt0 m c t.val t.isLt).2.2 (ix2 a b)
      = 0 + ∑ k, adds (R := 256) (iblk m c 0 t) (iblk m c 1 t) (iblk m c 2 t) (iblk m c 3 t) (iblk m c 4 t) (iblk m c 5 t) (iblk m c 6 t) (iblk m c 7 t) a.val k b := by
  rw [outsAt0_A m c t ht]
  dsimp only
  unfold out0_A_10
  frame_out
  have zero : ∀ a : Fin 8, (View.canon [⟨Rect.unit ![0, 0] ![8, 2048] inb_S8x2048_S8x2048_0_0, k0_pay7 (F := Ideal)⟩] : Vec Ideal S8x2048 .f32) (ix2 a b) = 0 := by
    intro a
    rw [View.canon_cons_unit_lit _ _ _ (by decide)]
    pointwise [k0_pay7]
  unfold adds
  by_cases h4 : a.val = 4
  · refine (NormRows.hit _ _ _ a b h4).trans ?_
    simp only [if_neg (show ¬a.val < 3 by omega)]
    rw [pay_r4 (q := iblk m c 4 t) (n := iblk m c 5 t), pay_dxs, h4]
    refine congrArg (· + _) ?_
    exact (NormRows.cov _ _ _ a b h4).trans ((NormRows.miss _ _ _ a b (by omega)).trans ((NormRows.miss _ _ _ a b (by omega)).trans ((NormRows.miss _ _ _ a b (by omega)).trans ((NormRows.miss _ _ _ a b (by omega)).trans (zero a)))))
  refine (NormRows.miss _ _ _ a b h4).trans ?_
  by_cases h3 : a.val = 3
  · refine (NormRows.hit _ _ _ a b h3).trans ?_
    simp only [if_neg (show ¬a.val < 3 by omega)]
    rw [pay_r3 (q := iblk m c 4 t) (n := iblk m c 5 t), pay_dxs, h3]
    refine congrArg (· + _) ?_
    exact (NormRows.cov _ _ _ a b h3).trans ((NormRows.miss _ _ _ a b (by omega)).trans ((NormRows.miss _ _ _ a b (by omega)).trans ((NormRows.miss _ _ _ a b (by omega)).trans (zero a))))
  refine (NormRows.miss _ _ _ a b h3).trans ?_
  by_cases h2 : a.val = 2
  · refine (NormRows.hit _ _ _ a b h2).trans ?_
    simp only [if_pos (show a.val < 3 by omega)]
    rw [pay_r2 (x := iblk m c 2 t) (dh := iblk m c 1 t) (g := iblk m c 6 t) (s := iblk m c 7 t), h2]
    refine congrArg (· + _) ?_
    exact (NormRows.cov _ _ _ a b h2).trans ((NormRows.miss _ _ _ a b (by omega)).trans ((NormRows.miss _ _ _ a b (by omega)).trans (zero a)))
  refine (NormRows.miss _ _ _ a b h2).trans ?_
  by_cases h1 : a.val = 1
  · refine (NormRows.hit _ _ _ a b h1).trans ?_
    simp only [if_pos (show a.val < 3 by omega)]
    rw [pay_r1 (x := iblk m c 2 t) (dh := iblk m c 1 t) (g := iblk m c 6 t) (s := iblk m c 7 t), h1]
    refine congrArg (· + _) ?_
    exact (NormRows.cov _ _ _ a b h1).trans ((NormRows.miss _ _ _ a b (by omega)).trans (zero a))
  refine (NormRows.miss _ _ _ a b h1).trans ?_
  by_cases h0 : a.val = 0
  · refine (NormRows.hit _ _ _ a b h0).trans ?_
    simp only [if_pos (show a.val < 3 by omega)]
    rw [pay_r0 (x := iblk m c 2 t) (dh := iblk m c 1 t) (g := iblk m c 6 t) (s := iblk m c 7 t), h0]
    refine congrArg (· + _) ?_
    exact (NormRows.cov _ _ _ a b h0).trans (zero a)
  refine (NormRows.miss _ _ _ a b h0).trans ?_
  refine (zero a).trans ?_
  simp only [if_neg (show ¬a.val < 3 by omega)]
  obtain ⟨k, hk⟩ : ∃ k, a.val = k + 5 := ⟨a.val - 5, by omega⟩
  rw [hk]
  simp [postPart]

theorem out10_next (c : Dev nD) (t : Fin cfg0.N) (ht : ¬t.val % 16 = 0) (a : Fin 8) (b : Fin 2048) :
    (outsAt0 m c t.val t.isLt).2.2 (ix2 a b)
      = (outsAt0 m c (t.val - 1) (Nat.lt_of_le_of_lt (Nat.sub_le _ _) t.isLt)).2.2 (ix2 a b)
        + ∑ k, adds (R := 256) (iblk m c 0 t) (iblk m c 1 t) (iblk m c 2 t) (iblk m c 3 t) (iblk m c 4 t) (iblk m c 5 t) (iblk m c 6 t) (iblk m c 7 t) a.val k b := by
  rw [outsAt0_B m c t ht]
  dsimp only
  unfold out0_B_10
  frame_out
  unfold adds
  by_cases h4 : a.val = 4
  · refine (NormRows.hit' _ _ _ _ _ a b h4).trans ?_
    simp only [if_neg (show ¬a.val < 3 by omega)]
    rw [pay_r4 (q := iblk m c 4 t) (n := iblk m c 5 t), pay_dxs, h4]
    exact congrArg (· + _) (NormRows.ld _ _ a b h4)
  refine (NormRows.miss' _ _ _ _ _ a b h4).trans ?_
  by_cases h3 : a.val = 3
  · refine (NormRows.hit' _ _ _ _ _ a b h3).trans ?_
    simp only [if_neg (show ¬a.val < 3 by omega)]
    rw [pay_r3 (q := iblk m c 4 t) (n := iblk m c 5 t), pay_dxs, h3]
    exact congrArg (· + _) (NormRows.ld _ _ a b h3)
  refine (NormRows.miss' _ _ _ _ _ a b h3).trans ?_
  by_cases h2 : a.val = 2
  · refine (NormRows.hit' _ _ _ _ _ a b h2).trans ?_
    simp only [if_pos (show a.val < 3 by omega)]
    rw [pay_r2 (x := iblk m c 2 t) (dh := iblk m c 1 t) (g := iblk m c 6 t) (s := iblk m c 7 t), h2]
    exact congrArg (· + _) (NormRows.ld _ _ a b h2)
  refine (NormRows.miss' _ _ _ _ _ a b h2).trans ?_
  by_cases h1 : a.val = 1
  · refine (NormRows.hit' _ _ _ _ _ a b h1).trans ?_
    simp only [if_pos (show a.val < 3 by omega)]
    rw [pay_r1 (x := iblk m c 2 t) (dh := iblk m c 1 t) (g := iblk m c 6 t) (s := iblk m c 7 t), h1]
    exact congrArg (· + _) (NormRows.ld _ _ a b h1)
  refine (NormRows.miss' _ _ _ _ _ a b h1).trans ?_
  by_cases h0 : a.val = 0
  · refine (NormRows.hit' _ _ _ _ _ a b h0).trans ?_
    simp only [if_pos (show a.val < 3 by omega)]
    rw [pay_r0 (x := iblk m c 2 t) (dh := iblk m c 1 t) (g := iblk m c 6 t) (s := iblk m c 7 t), h0]
    exact congrArg (· + _) (NormRows.ld _ _ a b h0)
  refine (NormRows.miss' _ _ _ _ _ a b h0).trans ?_
  refine Eq.trans (congrFun (Memref.IsWhole.read_unread _ _) _) ?_
  simp only [if_neg (show ¬a.val < 3 by omega)]
  obtain ⟨k, hk⟩ : ∃ k, a.val = k + 5 := ⟨a.val - 5, by omega⟩
  rw [hk]
  simp [postPart]

/-- A block's values are the whole arrays' values at its rows. -/
theorem scale2_blk (c : Dev nD) (t : Fin cfg0.N) (a : Fin 256) :
    scale (R := 256) (iblk m c 2 t) a = scale (R := 4096) (m ((c : Thread nD τ).loc main_arg2)) (row t a) := by
  simp only [scale, in2]

theorem scale3_blk (c : Dev nD) (t : Fin cfg0.N) (a : Fin 256) :
    scale (R := 256) (iblk m c 3 t) a = scale (R := 4096) (m ((c : Thread nD τ).loc main_arg3)) (row t a) := by
  simp only [scale, in3]

theorem grad_blk (c : Dev nD) (t : Fin cfg0.N) (a : Fin 256) (b : Fin 2048) :
    grad (R := 256) (iblk m c 0 t) (iblk m c 1 t) (iblk m c 2 t) (iblk m c 6 t) (iblk m c 7 t) a b
      = grad (R := 4096) (m ((c : Thread nD τ).loc main_arg0)) (m ((c : Thread nD τ).loc main_arg1)) (m ((c : Thread nD τ).loc main_arg2)) (m ((c : Thread nD τ).loc main_arg6)) (m ((c : Thread nD τ).loc main_arg7)) (row t a) b := by
  unfold grad
  simp only [scale2_blk, in0, in1, in2, in6, in7]

theorem post_blk (c : Dev nD) (t : Fin cfg0.N) (a : Fin 256) (b : Fin 2048) :
    post (R := 256) (grad (R := 256) (iblk m c 0 t) (iblk m c 1 t) (iblk m c 2 t) (iblk m c 6 t) (iblk m c 7 t)) (iblk m c 3 t) (iblk m c 4 t) (iblk m c 5 t) a b
      = post (R := 4096) (grad (R := 4096) (m ((c : Thread nD τ).loc main_arg0)) (m ((c : Thread nD τ).loc main_arg1)) (m ((c : Thread nD τ).loc main_arg2)) (m ((c : Thread nD τ).loc main_arg6)) (m ((c : Thread nD τ).loc main_arg7)))
          (m ((c : Thread nD τ).loc main_arg3)) (m ((c : Thread nD τ).loc main_arg4)) (m ((c : Thread nD τ).loc main_arg5)) (row t a) b := by
  unfold NormGrad.post
  simp only [scale3_blk, grad_blk, in3, in4, in5]

theorem adds_blk (c : Dev nD) (t : Fin cfg0.N) (r : ℕ) (a : Fin 256) (b : Fin 2048) :
    adds (R := 256) (iblk m c 0 t) (iblk m c 1 t) (iblk m c 2 t) (iblk m c 3 t) (iblk m c 4 t) (iblk m c 5 t) (iblk m c 6 t) (iblk m c 7 t) r a b
      = adds (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r (row t a) b := by
  unfold adds part postPart
  refine congr (congrArg _ ?_) ?_
  · split <;> simp only [scale2_blk, in1, in2, in6, in7]
  · split <;> simp only [scale3_blk, grad_blk, in3, in4, in5]

theorem final8 (c : Dev nD) : (dats m 0 c).arrAt 8 cfg0.N
    = dxs (m ((c : Thread nD τ).loc main_arg0)) (m ((c : Thread nD τ).loc main_arg1)) (m ((c : Thread nD τ).loc main_arg2)) (m ((c : Thread nD τ).loc main_arg6)) (m ((c : Thread nD τ).loc main_arg7)) := by
  refine (dats m 0 c).arrAt_eq_of_covers 8 _ (by decide +kernel) fun t hf y => ?_
  blk_simp
  rw [after0_8]
  obtain ⟨a, b, rfl⟩ : ∃ (a : Fin 256) (b : Fin 2048), y = ix2 a b := ⟨y 0, y 1, eq_ix2 y⟩
  have he : (win0_8.blk t).view.emb (ix2 a b) = ix2 (row t a) b := by
    blk_ext [e8, row]
  rw [he]
  exact (out8_at m c t a b).trans (grad_blk m c t a b)

theorem final9 (c : Dev nD) : (dats m 0 c).arrAt 9 cfg0.N
    = dys (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  obtain ⟨a, b, rfl⟩ : ∃ (a : Fin 256) (b : Fin 2048), y = ix2 a b := ⟨y 0, y 1, eq_ix2 y⟩
  have he : (win0_9.blk t).view.emb (ix2 a b) = ix2 (row t a) b := by
    blk_ext [e9, row]
  rw [he]
  exact (out9_at m c t a b).trans (post_blk m c t a b)

theorem final10 (c : Dev nD) : (dats m 0 c).arrAt 10 cfg0.N
    = sums (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  have ht := (flush0_10 t).mp hf
  blk_simp
  rw [after0_10]
  obtain ⟨a, b, rfl⟩ : ∃ (a : Fin 8) (b : Fin 2048), y = ix2 a b := ⟨y 0, y 1, eq_ix2 y⟩
  have he : (win0_10.blk t).view.emb (ix2 a b) = ix2 a b := by
    blk_ext [e10]
  rw [he]
  have hlt : t.val < 16 := t.isLt
  have hN : cfg0.N = 16 := rfl
  refine (Pipeline.eq_sum_fin_of_reset_step_last (fun n h => (outsAt0 m c n h).2.2 (ix2 a b)) 16 0
    (fun t => ∑ k, adds (R := 256) (iblk m c 0 t) (iblk m c 1 t) (iblk m c 2 t) (iblk m c 3 t) (iblk m c 4 t) (iblk m c 5 t) (iblk m c 6 t) (iblk m c 7 t) a.val k b)
    (fun t h => out10_first m c t h a b) (fun t h => out10_next m c t h a b) hN.le t (by omega)).trans ?_
  rw [zero_add]
  simp only [adds_blk]
  exact NormRows.blocks fun k => adds (R := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) a.val k b

theorem frame_ref : Cert.quiescent_BoundRefIdeal (hBoundRefIdeal := Cert.BoundRefIdeal.Gen.facts) := fun m g _ =>
  (θ_run Cert.BoundRefIdeal.defs _ _).mono
    (fun r h => ⟨fun c => (h c).2.2.2, sem_eq_zero_of_no_sems rfl _⟩) (Cert.BoundRefIdeal.Value.run (F := Ideal) m g)

/-- The derivative's results, entry by entry, are the kernel's. -/
theorem ref_dx (m : (ℓ : Loc BoundRefIdeal.nD BoundRefIdeal.τ BoundRefIdeal.sig) → Buf (Elt Ideal) ℓ) (c : Dev BoundRefIdeal.nD) :
    BoundRefIdeal.Value.res_main_v49 m c = dxs (m (c.tc.loc BoundRefIdeal.main_arg0)) (m (c.tc.loc BoundRefIdeal.main_arg1)) (m (c.tc.loc BoundRefIdeal.main_arg2)) (m (c.tc.loc BoundRefIdeal.main_arg6)) (m (c.tc.loc BoundRefIdeal.main_arg7)) := by
  funext i
  obtain ⟨a, b, rfl⟩ : ∃ (a : Fin 4096) (b : Fin 2048), i = ix2 a b := ⟨i 0, i 1, eq_ix2 i⟩
  pointwise [BoundRefIdeal.Value.res_main_v49]
  simp only [Fin.sum_univ_one]
  exact (grad_eq (m (c.tc.loc BoundRefIdeal.main_arg0)) (m (c.tc.loc BoundRefIdeal.main_arg1)) (m (c.tc.loc BoundRefIdeal.main_arg2)) (m (c.tc.loc BoundRefIdeal.main_arg6)) (m (c.tc.loc BoundRefIdeal.main_arg7)) a b).symm

theorem gradR_eq {R : ℕ} (dn : Vec Ideal ⟨2, ![R, 2048]⟩ .f32) (dh : Vec Ideal ⟨2, ![R, 2048]⟩ .bf16) (x : Vec Ideal ⟨2, ![R, 2048]⟩ .f32)
    (g s : Vec Ideal S1x2048 .f32) : grad dn dh x g s = gradR dn dh x g s :=
  funext fun a => funext fun b => grad_eq dn dh x g s a b

theorem ref_dy (m : (ℓ : Loc BoundRefIdeal.nD BoundRefIdeal.τ BoundRefIdeal.sig) → Buf (Elt Ideal) ℓ) (c : Dev BoundRefIdeal.nD) :
    BoundRefIdeal.Value.res_main_v92 m c = dys (m (c.tc.loc BoundRefIdeal.main_arg0)) (m (c.tc.loc BoundRefIdeal.main_arg1)) (m (c.tc.loc BoundRefIdeal.main_arg2)) (m (c.tc.loc BoundRefIdeal.main_arg3)) (m (c.tc.loc BoundRefIdeal.main_arg4)) (m (c.tc.loc BoundRefIdeal.main_arg5)) (m (c.tc.loc BoundRefIdeal.main_arg6)) (m (c.tc.loc BoundRefIdeal.main_arg7)) := by
  funext i
  obtain ⟨a, b, rfl⟩ : ∃ (a : Fin 4096) (b : Fin 2048), i = ix2 a b := ⟨i 0, i 1, eq_ix2 i⟩
  pointwise [BoundRefIdeal.Value.res_main_v92]
  simp only [Fin.sum_univ_one]
  refine Eq.trans ?_ (post_eq (R := 4096) (grad (R := 4096) (m (c.tc.loc BoundRefIdeal.main_arg0)) (m (c.tc.loc BoundRefIdeal.main_arg1)) (m (c.tc.loc BoundRefIdeal.main_arg2)) (m (c.tc.loc BoundRefIdeal.main_arg6)) (m (c.tc.loc BoundRefIdeal.main_arg7)))
    (m (c.tc.loc BoundRefIdeal.main_arg3)) (m (c.tc.loc BoundRefIdeal.main_arg4)) (m (c.tc.loc BoundRefIdeal.main_arg5)) a b).symm
  rw [gradR_eq]
  rfl

theorem sum1 (dh : Vec Ideal S4096x2048 .bf16) (x : Vec Ideal S4096x2048 .f32) (g s : Vec Ideal S1x2048 .f32) (b : Fin 2048) :
    ∑ k, x (ix2 k b) * scale (R := 4096) x k * g (ix2 0 b) * dh (ix2 k b) = ∑ k, part (R := 4096) dh x g s 1 k b :=
  Finset.sum_congr rfl fun k _ => mul_comm _ _

theorem sum2 (dh : Vec Ideal S4096x2048 .bf16) (x : Vec Ideal S4096x2048 .f32) (g s : Vec Ideal S1x2048 .f32) (b : Fin 2048) :
    ∑ k, x (ix2 k b) * scale (R := 4096) x k * (dh (ix2 k b) * (1 + s (ix2 0 b))) = ∑ k, part (R := 4096) dh x g s 2 k b :=
  Finset.sum_congr rfl fun k _ => mul_comm _ _

theorem sum4 (d : Fin 4096 → Fin 2048 → EReal) (y : Vec Ideal S4096x2048 .bf16) (q n : Vec Ideal S1x2048 .f32) (b : Fin 2048) :
    ∑ k, y (ix2 k b) * scale (R := 4096) y k * (q (ix2 0 b) * d k b) = ∑ k, postPart (R := 4096) d y q n 4 k b :=
  Finset.sum_congr rfl fun k _ => (mul_comm _ _).trans (congrArg (· * _) (mul_comm _ _))

theorem sum5 (d : Fin 4096 → Fin 2048 → EReal) (y : Vec Ideal S4096x2048 .bf16) (q n : Vec Ideal S1x2048 .f32) (b : Fin 2048) (r : ℕ) :
    (0 : EReal) = ∑ k, postPart (R := 4096) d y q n (r + 5) k b := by
  simp [postPart]

theorem ref_sums (m : (ℓ : Loc BoundRefIdeal.nD BoundRefIdeal.τ BoundRefIdeal.sig) → Buf (Elt Ideal) ℓ) (c : Dev BoundRefIdeal.nD) :
    BoundRefIdeal.Value.res_main_v94 m c = sums (m (c.tc.loc BoundRefIdeal.main_arg0)) (m (c.tc.loc BoundRefIdeal.main_arg1)) (m (c.tc.loc BoundRefIdeal.main_arg2)) (m (c.tc.loc BoundRefIdeal.main_arg3)) (m (c.tc.loc BoundRefIdeal.main_arg4)) (m (c.tc.loc BoundRefIdeal.main_arg5)) (m (c.tc.loc BoundRefIdeal.main_arg6)) (m (c.tc.loc BoundRefIdeal.main_arg7)) := by
  funext i
  obtain ⟨p, b, rfl⟩ : ∃ (p : Fin 8) (b : Fin 2048), i = ix2 p b := ⟨i 0, i 1, eq_ix2 i⟩
  unfold sums adds
  rw [gradR_eq]
  fin_cases p
  all_goals pointwise [BoundRefIdeal.Value.res_main_v94]
  all_goals try simp only [Fin.sum_univ_one]
  · rfl
  · exact sum1 (m (c.tc.loc BoundRefIdeal.main_arg1)) (m (c.tc.loc BoundRefIdeal.main_arg2)) (m (c.tc.loc BoundRefIdeal.main_arg6)) (m (c.tc.loc BoundRefIdeal.main_arg7)) b
  · exact sum2 (m (c.tc.loc BoundRefIdeal.main_arg1)) (m (c.tc.loc BoundRefIdeal.main_arg2)) (m (c.tc.loc BoundRefIdeal.main_arg6)) (m (c.tc.loc BoundRefIdeal.main_arg7)) b
  · rfl
  · exact sum4 (gradR (R := 4096) (m (c.tc.loc BoundRefIdeal.main_arg0)) (m (c.tc.loc BoundRefIdeal.main_arg1)) (m (c.tc.loc BoundRefIdeal.main_arg2)) (m (c.tc.loc BoundRefIdeal.main_arg6)) (m (c.tc.loc BoundRefIdeal.main_arg7))) (m (c.tc.loc BoundRefIdeal.main_arg3)) (m (c.tc.loc BoundRefIdeal.main_arg4)) (m (c.tc.loc BoundRefIdeal.main_arg5)) b
  · exact sum5 (gradR (R := 4096) (m (c.tc.loc BoundRefIdeal.main_arg0)) (m (c.tc.loc BoundRefIdeal.main_arg1)) (m (c.tc.loc BoundRefIdeal.main_arg2)) (m (c.tc.loc BoundRefIdeal.main_arg6)) (m (c.tc.loc BoundRefIdeal.main_arg7))) (m (c.tc.loc BoundRefIdeal.main_arg3)) (m (c.tc.loc BoundRefIdeal.main_arg4)) (m (c.tc.loc BoundRefIdeal.main_arg5)) b 0
  · exact sum5 (gradR (R := 4096) (m (c.tc.loc BoundRefIdeal.main_arg0)) (m (c.tc.loc BoundRefIdeal.main_arg1)) (m (c.tc.loc BoundRefIdeal.main_arg2)) (m (c.tc.loc BoundRefIdeal.main_arg6)) (m (c.tc.loc BoundRefIdeal.main_arg7))) (m (c.tc.loc BoundRefIdeal.main_arg3)) (m (c.tc.loc BoundRefIdeal.main_arg4)) (m (c.tc.loc BoundRefIdeal.main_arg5)) b 1
  · exact sum5 (gradR (R := 4096) (m (c.tc.loc BoundRefIdeal.main_arg0)) (m (c.tc.loc BoundRefIdeal.main_arg1)) (m (c.tc.loc BoundRefIdeal.main_arg2)) (m (c.tc.loc BoundRefIdeal.main_arg6)) (m (c.tc.loc BoundRefIdeal.main_arg7))) (m (c.tc.loc BoundRefIdeal.main_arg3)) (m (c.tc.loc BoundRefIdeal.main_arg4)) (m (c.tc.loc BoundRefIdeal.main_arg5)) b 2

theorem algebraic : Cert.algebraic_BoundIdeal_BoundRefIdeal (hBoundIdeal := Cert.BoundIdeal.Gen.facts)
    (hBoundRefIdeal := Cert.BoundRefIdeal.Gen.facts) := by
  intro m g m' g' _ hargs
  refine ⟨_, _, _, Cert.BoundIdeal.Value.run_blocks (F := Ideal) m g, ?_⟩
  refine (θ_run (Cert.BoundRefIdeal.defs (F := Ideal)) _ _).mono (fun r h c => ?_) (Cert.BoundRefIdeal.Value.run (F := Ideal) m' g')
  obtain ⟨h1, h2, h3, h4⟩ := h c
  obtain ⟨a0, a1, a2, a3, a4, a5, a6, a7⟩ := hargs c
  refine ⟨h1.trans ?_, h2.trans ?_, h3.trans ?_, h4⟩
  · rw [ref_dx, a0, a1, a2, a6, a7]
    exact (final8 m c).symm
  · rw [ref_dy, a0, a1, a2, a3, a4, a5, a6, a7]
    exact (final9 m c).symm
  · rw [ref_sums, a0, a1, a2, a3, a4, a5, a6, a7]
    exact (final10 m c).symm

end Cert.BoundProof

end
-- ==== Proof.Norm.Bound0.lean ====
/- The gradient of a layer's first normalisation with the residual stream's own gradient added: each block of rows is done by itself,
   and the sums over all rows that the vectors' gradients need are carried from block to block. -/
module

public import proofs.«01_k».proof.Defs
public import proofs.«01_k».proof.Proof.Gen.Bound0Ideal.Value
public import proofs.«01_k».proof.Proof.Gen.Bound0RefIdeal
public import proofs.«01_k».proof.Proof.Gen.Bound0RefIdeal.Run
public import proofs.«01_k».proof.Proof.Norm.Grad
public import proofs.«01_k».proof.Proof.Norm.Rows
public import Idealize.ShloMosaic.Lib.Quiescent

@[expose] public section

set_option maxRecDepth 16384

noncomputable section

namespace Cert.Bound0Proof

open Cert.NormGrad Cert.Bound0Ideal Cert.Bound0Ideal.Gen Idealize.ShloMosaic Idealize.ShloMosaic.TcCoe Idealize.SL.Sem

variable (m : (ℓ : Loc nD τ sig) → Buf (Elt Ideal) ℓ)

/-- The gradient, and the sums over all rows, as arrays. -/
def dxs (dn : Vec Ideal S4096x2048 .f32) (dh : Vec Ideal S4096x2048 .bf16) (x : Vec Ideal S4096x2048 .f32)
    (g s : Vec Ideal S1x2048 .f32) : Vec Ideal S4096x2048 .f32 := fun i => grad (R := 4096) dn dh x g s (i 0) (i 1)
def sums (dh : Vec Ideal S4096x2048 .bf16) (x : Vec Ideal S4096x2048 .f32) (g s : Vec Ideal S1x2048 .f32) : Vec Ideal S8x2048 .f32 :=
  fun i => ∑ k, part (R := 4096) dh x g s (i 0).val k (i 1)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0] := (by decide +kernel : ∀ t : Fin grid0.N, _)

/-- The row of the arrays that row `a` of the block at grid step `t` is. -/
def row (t : Fin cfg0.N) (a : Fin 256) : Fin 4096 :=
  ⟨t.val * 256 + a.val, by have : t.val < 16 := t.isLt; omega⟩

theorem in0 (c : Dev nD) (t : Fin cfg0.N) (a : Fin 256) (b : Fin 2048) :
    iblk m c 0 t (ix2 a b) = m ((c : Thread nD τ).loc main_arg0) (ix2 (row t a) b) := by
  blk_simp [iblk]
  refine (congrFun (V_main_arg0 m c) _).trans (congrArg (m ((c : Thread nD τ).loc main_arg0)) ?_)
  blk_ext [e0, row]

theorem in1 (c : Dev nD) (t : Fin cfg0.N) (a : Fin 256) (b : Fin 2048) :
    iblk m c 1 t (ix2 a b) = m ((c : Thread nD τ).loc main_arg1) (ix2 (row t a) b) := by
  blk_simp [iblk]
  refine (congrFun (V_main_arg1 m c) _).trans (congrArg (m ((c : Thread nD τ).loc main_arg1)) ?_)
  blk_ext [e1, row]

theorem in2 (c : Dev nD) (t : Fin cfg0.N) (a : Fin 256) (b : Fin 2048) :
    iblk m c 2 t (ix2 a b) = m ((c : Thread nD τ).loc main_arg2) (ix2 (row t a) b) := by
  blk_simp [iblk]
  refine (congrFun (V_main_arg2 m c) _).trans (congrArg (m ((c : Thread nD τ).loc main_arg2)) ?_)
  blk_ext [e2, row]

theorem in3 (c : Dev nD) (t : Fin cfg0.N) (b : Fin 2048) :
    iblk m c 3 t (ix2 0 b) = m ((c : Thread nD τ).loc main_arg3) (ix2 0 b) := by
  blk_simp [iblk]
  refine (congrFun (V_main_arg3 m c) _).trans (congrArg (m ((c : Thread nD τ).loc main_arg3)) ?_)
  blk_ext [e3]

theorem in4 (c : Dev nD) (t : Fin cfg0.N) (b : Fin 2048) :
    iblk m c 4 t (ix2 0 b) = m ((c : Thread nD τ).loc main_arg4) (ix2 0 b) := by
  blk_simp [iblk]
  refine (congrFun (V_main_arg4 m c) _).trans (congrArg (m ((c : Thread nD τ).loc main_arg4)) ?_)
  blk_ext [e4]

/-! The stored values, entry by entry. -/

theorem pay_dx (x dh g s dn) (a : Fin 256) (b : Fin 2048) :
    k0_pay9 (F := Ideal) x dh g s dn (ix2 a b) = grad (R := 256) dn dh x g s a b := by
  pointwise [k0_pay9, k0_pay8, k0_pay7, k0_pay6, k0_pay5]
  rfl

theorem pay_r0 (x dh : _) (g s : _) (v) (b : Fin 2048) :
    k0_pay1 (F := Ideal) (k0_pay5 dh) v (ix2 0 b) = v (ix2 0 b) + ∑ a, part (R := 256) dh x g s 0 a b := by
  pointwise [k0_pay1, k0_pay5]
  rfl

theorem pay_r1 (x dh : _) (g s : _) (v) (b : Fin 2048) :
    k0_pay2 (F := Ideal) (k0_pay5 dh) g (k0_pay7 x) v (ix2 0 b) = v (ix2 0 b) + ∑ a, part (R := 256) dh x g s 1 a b := by
  pointwise [k0_pay2, k0_pay5, k0_pay7, k0_pay6]
  rfl

theorem pay_r2 (x dh : _) (g s : _) (v) (b : Fin 2048) :
    k0_pay3 (F := Ideal) (k0_pay7 x) (k0_pay8 dh s) v (ix2 0 b) = v (ix2 0 b) + ∑ a, part (R := 256) dh x g s 2 a b := by
  pointwise [k0_pay3, k0_pay5, k0_pay7, k0_pay6, k0_pay8]
  rfl

theorem out5_at (c : Dev nD) (t : Fin cfg0.N) (a : Fin 256) (b : Fin 2048) :
    (outsAt0 m c t.val t.isLt).1 (ix2 a b)
      = grad (R := 256) (iblk m c 0 t) (iblk m c 1 t) (iblk m c 2 t) (iblk m c 3 t) (iblk m c 4 t) a b := by
  rw [← pay_dx]
  by_cases ht : t.val % 16 = 0
  · rw [outsAt0_A m c t ht]
    dsimp only
    unfold out0_A_5
    frame_out
  · rw [outsAt0_B m c t ht]
    dsimp only
    unfold out0_B_5
    frame_out

theorem out6_first (c : Dev nD) (t : Fin cfg0.N) (ht : t.val % 16 = 0) (a : Fin 8) (b : Fin 2048) :
    (outsAt0 m c t.val t.isLt).2 (ix2 a b)
      = 0 + ∑ k, part (R := 256) (iblk m c 1 t) (iblk m c 2 t) (iblk m c 3 t) (iblk m c 4 t) a.val k b := by
  rw [outsAt0_A m c t ht]
  dsimp only
  unfold out0_A_6
  frame_out
  have zero : ∀ a : Fin 8, (View.canon [⟨Rect.unit ![0, 0] ![8, 2048] inb_S8x2048_S8x2048_0_0, k0_pay4 (F := Ideal)⟩] : Vec Ideal S8x2048 .f32) (ix2 a b) = 0 := by
    intro a
    rw [View.canon_cons_unit_lit _ _ _ (by decide)]
    pointwise [k0_pay4]
  by_cases h2 : a.val = 2
  · refine (NormRows.hit _ _ _ a b h2).trans ?_
    rw [pay_r2 (x := iblk m c 2 t) (dh := iblk m c 1 t) (g := iblk m c 3 t) (s := iblk m c 4 t), h2]
    refine congrArg (· + _) ?_
    refine (NormRows.cov _ _ _ a b h2).trans ?_
    refine (NormRows.miss _ _ _ a b (by omega)).trans ((NormRows.miss _ _ _ a b (by omega)).trans (zero a))
  refine (NormRows.miss _ _ _ a b h2).trans ?_
  by_cases h1 : a.val = 1
  · refine (NormRows.hit _ _ _ a b h1).trans ?_
    rw [pay_r1 (x := iblk m c 2 t) (dh := iblk m c 1 t) (g := iblk m c 3 t) (s := iblk m c 4 t), h1]
    refine congrArg (· + _) ?_
    refine (NormRows.cov _ _ _ a b h1).trans ?_
    refine (NormRows.miss _ _ _ a b (by omega)).trans (zero a)
  refine (NormRows.miss _ _ _ a b h1).trans ?_
  by_cases h0 : a.val = 0
  · refine (NormRows.hit _ _ _ a b h0).trans ?_
    rw [pay_r0 (x := iblk m c 2 t) (dh := iblk m c 1 t) (g := iblk m c 3 t) (s := iblk m c 4 t), h0]
    refine congrArg (· + _) ?_
    refine (NormRows.cov _ _ _ a b h0).trans (zero a)
  refine (NormRows.miss _ _ _ a b h0).trans ((zero a).trans ?_)
  obtain ⟨k, hk⟩ : ∃ k, a.val = k + 3 := ⟨a.val - 3, by omega⟩
  rw [hk]
  simp [part]

theorem out6_next (c : Dev nD) (t : Fin cfg0.N) (ht : ¬t.val % 16 = 0) (a : Fin 8) (b : Fin 2048) :
    (outsAt0 m c t.val t.isLt).2 (ix2 a b)
      = (outsAt0 m c (t.val - 1) (Nat.lt_of_le_of_lt (Nat.sub_le _ _) t.isLt)).2 (ix2 a b)
        + ∑ k, part (R := 256) (iblk m c 1 t) (iblk m c 2 t) (iblk m c 3 t) (iblk m c 4 t) a.val k b := by
  rw [outsAt0_B m c t ht]
  dsimp only
  unfold out0_B_6
  frame_out
  by_cases h2 : a.val = 2
  · refine (NormRows.hit' _ _ _ _ _ a b h2).trans ?_
    rw [pay_r2 (x := iblk m c 2 t) (dh := iblk m c 1 t) (g := iblk m c 3 t) (s := iblk m c 4 t), h2]
    exact congrArg (· + _) (NormRows.ld _ _ a b h2)
  refine (NormRows.miss' _ _ _ _ _ a b h2).trans ?_
  by_cases h1 : a.val = 1
  · refine (NormRows.hit' _ _ _ _ _ a b h1).trans ?_
    rw [pay_r1 (x := iblk m c 2 t) (dh := iblk m c 1 t) (g := iblk m c 3 t) (s := iblk m c 4 t), h1]
    exact congrArg (· + _) (NormRows.ld _ _ a b h1)
  refine (NormRows.miss' _ _ _ _ _ a b h1).trans ?_
  by_cases h0 : a.val = 0
  · refine (NormRows.hit' _ _ _ _ _ a b h0).trans ?_
    rw [pay_r0 (x := iblk m c 2 t) (dh := iblk m c 1 t) (g := iblk m c 3 t) (s := iblk m c 4 t), h0]
    exact congrArg (· + _) (NormRows.ld _ _ a b h0)
  refine (NormRows.miss' _ _ _ _ _ a b h0).trans ?_
  refine Eq.trans (congrFun (Memref.IsWhole.read_unread _ _) _) ?_
  obtain ⟨k, hk⟩ : ∃ k, a.val = k + 3 := ⟨a.val - 3, by omega⟩
  rw [hk]
  simp [part]

/-- A block's gradient is the whole arrays' gradient at its rows. -/
theorem grad_blk (c : Dev nD) (t : Fin cfg0.N) (a : Fin 256) (b : Fin 2048) :
    grad (R := 256) (iblk m c 0 t) (iblk m c 1 t) (iblk m c 2 t) (iblk m c 3 t) (iblk m c 4 t) a b
      = grad (R := 4096) (m ((c : Thread nD τ).loc main_arg0)) (m ((c : Thread nD τ).loc main_arg1)) (m ((c : Thread nD τ).loc main_arg2))
          (m ((c : Thread nD τ).loc main_arg3)) (m ((c : Thread nD τ).loc main_arg4)) (row t a) b := by
  simp only [grad, scale, in0, in1, in2, in3, in4]

theorem part_blk (c : Dev nD) (t : Fin cfg0.N) (r : ℕ) (a : Fin 256) (b : Fin 2048) :
    part (R := 256) (iblk m c 1 t) (iblk m c 2 t) (iblk m c 3 t) (iblk m c 4 t) r a b
      = part (R := 4096) (m ((c : Thread nD τ).loc main_arg1)) (m ((c : Thread nD τ).loc main_arg2))
          (m ((c : Thread nD τ).loc main_arg3)) (m ((c : Thread nD τ).loc main_arg4)) r (row t a) b := by
  unfold part
  split <;> simp only [scale, in0, in1, in2, in3, in4]

theorem final5 (c : Dev nD) : (dats m 0 c).arrAt 5 cfg0.N
    = dxs (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  obtain ⟨a, b, rfl⟩ : ∃ (a : Fin 256) (b : Fin 2048), y = ix2 a b := ⟨y 0, y 1, eq_ix2 y⟩
  have he : (win0_5.blk t).view.emb (ix2 a b) = ix2 (row t a) b := by
    blk_ext [e5, row]
  rw [he]
  exact (out5_at m c t a b).trans (grad_blk m c t a b)

theorem final6 (c : Dev nD) : (dats m 0 c).arrAt 6 cfg0.N
    = sums (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  have ht := (flush0_6 t).mp hf
  blk_simp
  rw [after0_6]
  obtain ⟨a, b, rfl⟩ : ∃ (a : Fin 8) (b : Fin 2048), y = ix2 a b := ⟨y 0, y 1, eq_ix2 y⟩
  have he : (win0_6.blk t).view.emb (ix2 a b) = ix2 a b := by
    blk_ext [e6]
  rw [he]
  have hlt : t.val < 16 := t.isLt
  have hN : cfg0.N = 16 := rfl
  refine (Pipeline.eq_sum_fin_of_reset_step_last (fun n h => (outsAt0 m c n h).2 (ix2 a b)) 16 0
    (fun t => ∑ k, part (R := 256) (iblk m c 1 t) (iblk m c 2 t) (iblk m c 3 t) (iblk m c 4 t) a.val k b)
    (fun t h => out6_first m c t h a b) (fun t h => out6_next m c t h a b) hN.le t (by omega)).trans ?_
  rw [zero_add]
  simp only [part_blk]
  exact NormRows.blocks fun k => part (R := 4096) (m ((c : Thread nD τ).loc main_arg1)) (m ((c : Thread nD τ).loc main_arg2))
      (m ((c : Thread nD τ).loc main_arg3)) (m ((c : Thread nD τ).loc main_arg4)) a.val k b

theorem frame_ref : Cert.quiescent_Bound0RefIdeal (hBound0RefIdeal := Cert.Bound0RefIdeal.Gen.facts) := fun m g _ =>
  (θ_run Cert.Bound0RefIdeal.defs _ _).mono
    (fun r h => ⟨fun c => (h c).2.2, sem_eq_zero_of_no_sems rfl _⟩) (Cert.Bound0RefIdeal.Value.run (F := Ideal) m g)

/-- The derivative's gradient, entry by entry, is the kernel's. -/
theorem ref_dx (m : (ℓ : Loc Bound0RefIdeal.nD Bound0RefIdeal.τ Bound0RefIdeal.sig) → Buf (Elt Ideal) ℓ) (c : Dev Bound0RefIdeal.nD) :
    Bound0RefIdeal.Value.res_main_v49 m c
      = dxs (m (c.tc.loc Bound0RefIdeal.main_arg0)) (m (c.tc.loc Bound0RefIdeal.main_arg1)) (m (c.tc.loc Bound0RefIdeal.main_arg2))
          (m (c.tc.loc Bound0RefIdeal.main_arg3)) (m (c.tc.loc Bound0RefIdeal.main_arg4)) := by
  funext i
  obtain ⟨a, b, rfl⟩ : ∃ (a : Fin 4096) (b : Fin 2048), i = ix2 a b := ⟨i 0, i 1, eq_ix2 i⟩
  pointwise [Bound0RefIdeal.Value.res_main_v49, dxs, grad, scale]
  simp only [Fin.sum_univ_one]
  exact (grad_eq (m (c.tc.loc Bound0RefIdeal.main_arg0)) (m (c.tc.loc Bound0RefIdeal.main_arg1)) (m (c.tc.loc Bound0RefIdeal.main_arg2))
    (m (c.tc.loc Bound0RefIdeal.main_arg3)) (m (c.tc.loc Bound0RefIdeal.main_arg4)) a b).symm

theorem algebraic : Cert.algebraic_Bound0Ideal_Bound0RefIdeal (hBound0Ideal := Cert.Bound0Ideal.Gen.facts)
    (hBound0RefIdeal := Cert.Bound0RefIdeal.Gen.facts) := by
  intro m g m' g' _ hargs
  refine ⟨_, _, Cert.Bound0Ideal.Value.run_blocks (F := Ideal) m g, ?_⟩
  refine (θ_run (Cert.Bound0RefIdeal.defs (F := Ideal)) _ _).mono (fun r h c => ?_) (Cert.Bound0RefIdeal.Value.run (F := Ideal) m' g')
  obtain ⟨h1, h2, h3⟩ := h c
  obtain ⟨a0, a1, a2, a3, a4⟩ := hargs c
  refine ⟨h1.trans ?_, h2.trans ?_, h3⟩
  · rw [ref_dx, a0, a1, a2, a3, a4]
    exact (final5 m c).symm
  · refine Eq.trans (funext fun i => ?_) (final6 m c).symm
    rw [a1, a2, a3, a4, eq_ix2 i]
    obtain ⟨p, b, hp⟩ : ∃ (p : Fin 8) (b : Fin 2048), i = ix2 p b := ⟨i 0, i 1, eq_ix2 i⟩
    subst hp
    fin_cases p
    all_goals pointwise [sums, part, scale]
    · exact Finset.sum_congr rfl fun k _ => mul_comm _ _
    · exact Finset.sum_congr rfl fun k _ => mul_comm _ _
    all_goals exact Finset.sum_const_zero.symm

end Cert.Bound0Proof

end
-- ==== Proof.Norm.Fwd.lean ====
/- The step between two layers: the gated normalisation of the layer's result is added to the residual stream, and the next layer's
   normalisation of the sum is scaled and shifted. Each block of rows is done by itself. -/
module

public import proofs.«01_k».proof.Defs
public import proofs.«01_k».proof.Proof.Gen.FwdIdeal.Value
public import proofs.«01_k».proof.Proof.Gen.FwdRefIdeal
public import proofs.«01_k».proof.Proof.Gen.FwdRefIdeal.Run
public import proofs.«01_k».proof.Proof.Norm.Grad
public import Idealize.ShloMosaic.Lib.Quiescent
public import Idealize.ShloMosaic.Lib.Pipeline.ValueKit

@[expose] public section

set_option maxRecDepth 16384

noncomputable section

namespace Cert.FwdProof

open Cert.NormGrad Idealize.ShloMosaic Idealize.ShloMosaic.TcCoe Idealize.SL.Sem

/-- The residual stream after the layer, of any number of rows. -/
def stream {R : ℕ} (x : Vec Ideal ⟨2, ![R, 2048]⟩ .f32) (y : Vec Ideal ⟨2, ![R, 2048]⟩ .bf16) (q n : Vec Ideal ⟨2, ![1, 2048]⟩ .f32) :
    Vec Ideal ⟨2, ![R, 2048]⟩ .f32 := fun i =>
  x i + q (ix2 0 (i 1)) * (y i * scale (R := R) y (i 0) * n (ix2 0 (i 1)))

/-- A row normalised, scaled and shifted. -/
def normed {R : ℕ} (x : Vec Ideal ⟨2, ![R, 2048]⟩ .f32) (g s h : Vec Ideal ⟨2, ![1, 2048]⟩ .f32) : Vec Ideal ⟨2, ![R, 2048]⟩ .bf16 := fun i =>
  x i * scale x (i 0) * g (ix2 0 (i 1)) * (1 + s (ix2 0 (i 1))) + h (ix2 0 (i 1))

theorem stream_congr {R R' : ℕ} (x : Vec Ideal ⟨2, ![R, 2048]⟩ .f32) (y : Vec Ideal ⟨2, ![R, 2048]⟩ .bf16) (q n : Vec Ideal ⟨2, ![1, 2048]⟩ .f32)
    (x' : Vec Ideal ⟨2, ![R', 2048]⟩ .f32) (y' : Vec Ideal ⟨2, ![R', 2048]⟩ .bf16) (q' n' : Vec Ideal ⟨2, ![1, 2048]⟩ .f32)
    (a : Fin R) (a' : Fin R') (hx : ∀ b, x (ix2 a b) = x' (ix2 a' b)) (hy : ∀ b, y (ix2 a b) = y' (ix2 a' b))
    (hq : ∀ b, q (ix2 0 b) = q' (ix2 0 b)) (hn : ∀ b, n (ix2 0 b) = n' (ix2 0 b)) (b : Fin 2048) :
    stream x y q n (ix2 a b) = stream x' y' q' n' (ix2 a' b) := by
  show x (ix2 a b) + q (ix2 0 b) * (y (ix2 a b) * scale y a * n (ix2 0 b)) =
    x' (ix2 a' b) + q' (ix2 0 b) * (y' (ix2 a' b) * scale y' a' * n' (ix2 0 b))
  simp only [scale, hx, hy, hq, hn]

theorem normed_congr {R R' : ℕ} (x : Vec Ideal ⟨2, ![R, 2048]⟩ .f32) (g s h : Vec Ideal ⟨2, ![1, 2048]⟩ .f32)
    (x' : Vec Ideal ⟨2, ![R', 2048]⟩ .f32) (g' s' h' : Vec Ideal ⟨2, ![1, 2048]⟩ .f32)
    (a : Fin R) (a' : Fin R') (hx : ∀ b, x (ix2 a b) = x' (ix2 a' b)) (hg : ∀ b, g (ix2 0 b) = g' (ix2 0 b))
    (hs : ∀ b, s (ix2 0 b) = s' (ix2 0 b)) (hh : ∀ b, h (ix2 0 b) = h' (ix2 0 b)) (b : Fin 2048) :
    normed x g s h (ix2 a b) = normed x' g' s' h' (ix2 a' b) := by
  show x (ix2 a b) * scale x a * g (ix2 0 b) * (1 + s (ix2 0 b)) + h (ix2 0 b) =
    x' (ix2 a' b) * scale x' a' * g' (ix2 0 b) * (1 + s' (ix2 0 b)) + h' (ix2 0 b)
  simp only [scale, hx, hg, hs, hh]

section
open Cert.FwdRefIdeal Cert.FwdRefIdeal.Gen

theorem ref7 (m : (ℓ : Loc FwdRefIdeal.nD FwdRefIdeal.τ FwdRefIdeal.sig) → Buf (Elt Ideal) ℓ) (c : Dev FwdRefIdeal.nD) :
    (addf (m ((c.tc : Thread nD τ).loc main_arg0)) (mulf (broadcastInDim S4096x2048 ![0, 1] bcast_S1x2048_S4096x2048_0_1 (m ((c.tc : Thread nD τ).loc main_arg2))) (mulf (mulf (extf .f32 (m ((c.tc : Thread nD τ).loc main_arg1)) bitsLt_bf16_f32) (broadcastInDim S4096x2048 ![0, 1] bcast_S4096x1_S4096x2048_0_1 (Host.rsqrt (addf (Host.divf (broadcastInDim S4096x1 ![0] bcast_S4096_S4096x1_0 (Host.reduceAdd (mulf (extf .f32 (m ((c.tc : Thread nD τ).loc main_arg1)) bitsLt_bf16_f32) (extf .f32 (m ((c.tc : Thread nD τ).loc main_arg1)) bitsLt_bf16_f32)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (m ((c.tc : Thread nD τ).loc main_arg3))))) : FVec Ideal S4096x2048 .f32) = stream (R := 4096) (m (c.tc.loc FwdRefIdeal.main_arg0)) (m (c.tc.loc FwdRefIdeal.main_arg1)) (m (c.tc.loc FwdRefIdeal.main_arg2)) (m (c.tc.loc FwdRefIdeal.main_arg3)) := by
  funext i
  obtain ⟨a, b, rfl⟩ : ∃ (a : Fin 4096) (b : Fin 2048), i = ix2 a b := ⟨i 0, i 1, eq_ix2 i⟩
  pointwise []
  rfl

theorem ref8 (m : (ℓ : Loc FwdRefIdeal.nD FwdRefIdeal.τ FwdRefIdeal.sig) → Buf (Elt Ideal) ℓ) (c : Dev FwdRefIdeal.nD) :
    (truncf .bf16 (addf (mulf (mulf (mulf (addf (m ((c.tc : Thread nD τ).loc main_arg0)) (mulf (broadcastInDim S4096x2048 ![0, 1] bcast_S1x2048_S4096x2048_0_1 (m ((c.tc : Thread nD τ).loc main_arg2))) (mulf (mulf (extf .f32 (m ((c.tc : Thread nD τ).loc main_arg1)) bitsLt_bf16_f32) (broadcastInDim S4096x2048 ![0, 1] bcast_S4096x1_S4096x2048_0_1 (Host.rsqrt (addf (Host.divf (broadcastInDim S4096x1 ![0] bcast_S4096_S4096x1_0 (Host.reduceAdd (mulf (extf .f32 (m ((c.tc : Thread nD τ).loc main_arg1)) bitsLt_bf16_f32) (extf .f32 (m ((c.tc : Thread nD τ).loc main_arg1)) bitsLt_bf16_f32)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (m ((c.tc : Thread nD τ).loc main_arg3)))))) (broadcastInDim S4096x2048 ![0, 1] bcast_S4096x1_S4096x2048_0_1 (Host.rsqrt (addf (Host.divf (broadcastInDim S4096x1 ![0] bcast_S4096_S4096x1_0 (Host.reduceAdd (mulf (addf (m ((c.tc : Thread nD τ).loc main_arg0)) (mulf (broadcastInDim S4096x2048 ![0, 1] bcast_S1x2048_S4096x2048_0_1 (m ((c.tc : Thread nD τ).loc main_arg2))) (mulf (mulf (extf .f32 (m ((c.tc : Thread nD τ).loc main_arg1)) bitsLt_bf16_f32) (broadcastInDim S4096x2048 ![0, 1] bcast_S4096x1_S4096x2048_0_1 (Host.rsqrt (addf (Host.divf (broadcastInDim S4096x1 ![0] bcast_S4096_S4096x1_0 (Host.reduceAdd (mulf (extf .f32 (m ((c.tc : Thread nD τ).loc main_arg1)) bitsLt_bf16_f32) (extf .f32 (m ((c.tc : Thread nD τ).loc main_arg1)) bitsLt_bf16_f32)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (m ((c.tc : Thread nD τ).loc main_arg3)))))) (addf (m ((c.tc : Thread nD τ).loc main_arg0)) (mulf (broadcastInDim S4096x2048 ![0, 1] bcast_S1x2048_S4096x2048_0_1 (m ((c.tc : Thread nD τ).loc main_arg2))) (mulf (mulf (extf .f32 (m ((c.tc : Thread nD τ).loc main_arg1)) bitsLt_bf16_f32) (broadcastInDim S4096x2048 ![0, 1] bcast_S4096x1_S4096x2048_0_1 (Host.rsqrt (addf (Host.divf (broadcastInDim S4096x1 ![0] bcast_S4096_S4096x1_0 (Host.reduceAdd (mulf (extf .f32 (m ((c.tc : Thread nD τ).loc main_arg1)) bitsLt_bf16_f32) (extf .f32 (m ((c.tc : Thread nD τ).loc main_arg1)) bitsLt_bf16_f32)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (m ((c.tc : Thread nD τ).loc main_arg3))))))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (m ((c.tc : Thread nD τ).loc main_arg4)))) (broadcastInDim S4096x2048 ![0, 1] bcast_S1x2048_S4096x2048_0_1 (addf (broadcastInDim S1x2048 ![] bcast_S_S1x2048 (constant S_ .f32 0x3F800000#32)) (m ((c.tc : Thread nD τ).loc main_arg5))))) (broadcastInDim S4096x2048 ![0, 1] bcast_S1x2048_S4096x2048_0_1 (m ((c.tc : Thread nD τ).loc main_arg6)))) bitsLt_bf16_f32 : FVec Ideal S4096x2048 .bf16) = normed (R := 4096) (stream (R := 4096) (m (c.tc.loc FwdRefIdeal.main_arg0)) (m (c.tc.loc FwdRefIdeal.main_arg1)) (m (c.tc.loc FwdRefIdeal.main_arg2)) (m (c.tc.loc FwdRefIdeal.main_arg3))) (m (c.tc.loc FwdRefIdeal.main_arg4)) (m (c.tc.loc FwdRefIdeal.main_arg5)) (m (c.tc.loc FwdRefIdeal.main_arg6)) := by
  funext i
  obtain ⟨a, b, rfl⟩ : ∃ (a : Fin 4096) (b : Fin 2048), i = ix2 a b := ⟨i 0, i 1, eq_ix2 i⟩
  pointwise []
  rfl

end

open Cert.FwdIdeal Cert.FwdIdeal.Gen

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)

/-- The row of the arrays that row `a` of the block at grid step `t` is. -/
def row (t : Fin cfg0.N) (a : Fin 256) : Fin 4096 :=
  ⟨t.val * 256 + a.val, by have : t.val < 16 := t.isLt; omega⟩

theorem in0 (c : Dev nD) (t : Fin cfg0.N) (a : Fin 256) (b : Fin 2048) :
    iblk m c 0 t (ix2 a b) = m ((c : Thread nD τ).loc main_arg0) (ix2 (row t a) b) := by
  blk_simp [iblk]
  refine (congrFun (V_main_arg0 m c) _).trans (congrArg (m ((c : Thread nD τ).loc main_arg0)) ?_)
  blk_ext [e0, row]

theorem in1 (c : Dev nD) (t : Fin cfg0.N) (a : Fin 256) (b : Fin 2048) :
    iblk m c 1 t (ix2 a b) = m ((c : Thread nD τ).loc main_arg1) (ix2 (row t a) b) := by
  blk_simp [iblk]
  refine (congrFun (V_main_arg1 m c) _).trans (congrArg (m ((c : Thread nD τ).loc main_arg1)) ?_)
  blk_ext [e1, row]

theorem in2 (c : Dev nD) (t : Fin cfg0.N) (b : Fin 2048) :
    iblk m c 2 t (ix2 0 b) = m ((c : Thread nD τ).loc main_arg2) (ix2 0 b) := by
  blk_simp [iblk]
  refine (congrFun (V_main_arg2 m c) _).trans (congrArg (m ((c : Thread nD τ).loc main_arg2)) ?_)
  blk_ext [e2]

theorem in3 (c : Dev nD) (t : Fin cfg0.N) (b : Fin 2048) :
    iblk m c 3 t (ix2 0 b) = m ((c : Thread nD τ).loc main_arg3) (ix2 0 b) := by
  blk_simp [iblk]
  refine (congrFun (V_main_arg3 m c) _).trans (congrArg (m ((c : Thread nD τ).loc main_arg3)) ?_)
  blk_ext [e3]

theorem in4 (c : Dev nD) (t : Fin cfg0.N) (b : Fin 2048) :
    iblk m c 4 t (ix2 0 b) = m ((c : Thread nD τ).loc main_arg4) (ix2 0 b) := by
  blk_simp [iblk]
  refine (congrFun (V_main_arg4 m c) _).trans (congrArg (m ((c : Thread nD τ).loc main_arg4)) ?_)
  blk_ext [e4]

theorem in5 (c : Dev nD) (t : Fin cfg0.N) (b : Fin 2048) :
    iblk m c 5 t (ix2 0 b) = m ((c : Thread nD τ).loc main_arg5) (ix2 0 b) := by
  blk_simp [iblk]
  refine (congrFun (V_main_arg5 m c) _).trans (congrArg (m ((c : Thread nD τ).loc main_arg5)) ?_)
  blk_ext [e5]

theorem in6 (c : Dev nD) (t : Fin cfg0.N) (b : Fin 2048) :
    iblk m c 6 t (ix2 0 b) = m ((c : Thread nD τ).loc main_arg6) (ix2 0 b) := by
  blk_simp [iblk]
  refine (congrFun (V_main_arg6 m c) _).trans (congrArg (m ((c : Thread nD τ).loc main_arg6)) ?_)
  blk_ext [e6]

theorem out7_at (x0 : Vec Ideal S256x2048 .f32) (x1 : Vec Ideal S256x2048 .bf16) (x2 x3 x4 x5 x6 : Vec Ideal S1x2048 .f32) (a : Fin 256) (b : Fin 2048) :
    out0_7 x0 x1 x2 x3 x4 x5 x6 (ix2 a b) = stream (R := 256) x0 x1 x2 x3 (ix2 a b) := by
  unfold out0_7
  frame_out
  pointwise [k0_pay2, r0_0, r0_1]
  rfl

theorem out8_at (x0 : Vec Ideal S256x2048 .f32) (x1 : Vec Ideal S256x2048 .bf16) (x2 x3 x4 x5 x6 : Vec Ideal S1x2048 .f32) (a : Fin 256) (b : Fin 2048) :
    out0_8 x0 x1 x2 x3 x4 x5 x6 (ix2 a b) = normed (R := 256) (stream (R := 256) x0 x1 x2 x3) x4 x5 x6 (ix2 a b) := by
  unfold out0_8
  frame_out
  pointwise [k0_pay1, k0_pay3, k0_pay4, k0_pay2, r0_0, r0_1]
  rfl

theorem stream_blk (c : Dev nD) (t : Fin cfg0.N) (a : Fin 256) (b : Fin 2048) :
    stream (R := 256) (iblk m c 0 t) (iblk m c 1 t) (iblk m c 2 t) (iblk m c 3 t) (ix2 a b) = stream (R := 4096) (m ((c : Thread nD τ).loc main_arg0)) (m ((c : Thread nD τ).loc main_arg1)) (m ((c : Thread nD τ).loc main_arg2)) (m ((c : Thread nD τ).loc main_arg3)) (ix2 (row t a) b) :=
  stream_congr _ _ _ _ _ _ _ _ a (row t a) (in0 m c t a) (in1 m c t a) (in2 m c t) (in3 m c t) b

theorem final7 (c : Dev nD) : (dats m 0 c).arrAt 7 cfg0.N = stream (R := 4096) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  obtain ⟨a, b, rfl⟩ : ∃ (a : Fin 256) (b : Fin 2048), y = ix2 a b := ⟨y 0, y 1, eq_ix2 y⟩
  have he : (win0_7.blk t).view.emb (ix2 a b) = ix2 (row t a) b := by
    blk_ext [e7, row]
  rw [he]
  exact (out7_at _ _ _ _ _ _ _ a b).trans (stream_blk m c t a b)

theorem final8 (c : Dev nD) : (dats m 0 c).arrAt 8 cfg0.N = normed (R := 4096) (stream (R := 4096) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  obtain ⟨a, b, rfl⟩ : ∃ (a : Fin 256) (b : Fin 2048), y = ix2 a b := ⟨y 0, y 1, eq_ix2 y⟩
  have he : (win0_8.blk t).view.emb (ix2 a b) = ix2 (row t a) b := by
    blk_ext [e8, row]
  rw [he]
  exact (out8_at _ _ _ _ _ _ _ a b).trans
    (normed_congr _ _ _ _ _ _ _ _ a (row t a) (stream_blk m c t a) (in4 m c t) (in5 m c t) (in6 m c t) b)

theorem frame_ref : Cert.quiescent_FwdRefIdeal (hFwdRefIdeal := Cert.FwdRefIdeal.Gen.facts) := fun m g _ =>
  (θ_run Cert.FwdRefIdeal.defs _ _).mono
    (fun r h => ⟨fun c => (h c).2.2, sem_eq_zero_of_no_sems rfl _⟩) (Cert.FwdRefIdeal.Value.run (F := Ideal) m g)

theorem algebraic : Cert.algebraic_FwdIdeal_FwdRefIdeal (hFwdIdeal := Cert.FwdIdeal.Gen.facts)
    (hFwdRefIdeal := Cert.FwdRefIdeal.Gen.facts) := by
  intro m g m' g' _ hargs
  refine ⟨_, _, Cert.FwdIdeal.Value.run_blocks (F := Ideal) m g, ?_⟩
  refine (θ_run (Cert.FwdRefIdeal.defs (F := Ideal)) _ _).mono (fun r h c => ?_) (Cert.FwdRefIdeal.Value.run (F := Ideal) m' g')
  obtain ⟨h0, h1, h2⟩ := h c
  obtain ⟨a0, a1, a2, a3, a4, a5, a6⟩ := hargs c
  refine ⟨h0.trans ?_, h1.trans ?_, h2⟩
  · rw [ref7, a0, a1, a2, a3]
    exact (final7 m c).symm
  · rw [ref8, a0, a1, a2, a3, a4, a5, a6]
    exact (final8 m c).symm

end Cert.FwdProof

end
-- ==== Proof.Norm.Fwd0.lean ====
/- The first layer's normalisation, scaled and shifted: each block of rows is done by itself. -/
module

public import proofs.«01_k».proof.Defs
public import proofs.«01_k».proof.Proof.Gen.Fwd0Ideal.Value
public import proofs.«01_k».proof.Proof.Gen.Fwd0RefIdeal
public import proofs.«01_k».proof.Proof.Gen.Fwd0RefIdeal.Run
public import proofs.«01_k».proof.Proof.Norm.Grad
public import Idealize.ShloMosaic.Lib.Quiescent
public import Idealize.ShloMosaic.Lib.Pipeline.ValueKit

@[expose] public section

set_option maxRecDepth 16384

noncomputable section

namespace Cert.Fwd0Proof

open Cert.NormGrad Idealize.ShloMosaic Idealize.ShloMosaic.TcCoe Idealize.SL.Sem

/-- The row normalised, scaled and shifted. -/
def normed (x : Vec Ideal ⟨2, ![4096, 2048]⟩ .f32) (g s h : Vec Ideal ⟨2, ![1, 2048]⟩ .f32) : Vec Ideal ⟨2, ![4096, 2048]⟩ .bf16 := fun i =>
  x i * scale (R := 4096) x (i 0) * g (ix2 0 (i 1)) * (1 + s (ix2 0 (i 1))) + h (ix2 0 (i 1))

section
open Cert.Fwd0RefIdeal Cert.Fwd0RefIdeal.Gen

theorem ref_at (m : (ℓ : Loc Fwd0RefIdeal.nD Fwd0RefIdeal.τ Fwd0RefIdeal.sig) → Buf (Elt Ideal) ℓ) (c : Dev Fwd0RefIdeal.nD) :
    (truncf .bf16 (addf (mulf (mulf (mulf (m ((c.tc : Thread nD τ).loc main_arg0)) (broadcastInDim S4096x2048 ![0, 1] bcast_S4096x1_S4096x2048_0_1 (Host.rsqrt (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (m ((c.tc : Thread nD τ).loc main_arg1)))) (broadcastInDim S4096x2048 ![0, 1] bcast_S1x2048_S4096x2048_0_1 (addf (broadcastInDim S1x2048 ![] bcast_S_S1x2048 (constant S_ .f32 0x3F800000#32)) (m ((c.tc : Thread nD τ).loc main_arg2))))) (broadcastInDim S4096x2048 ![0, 1] bcast_S1x2048_S4096x2048_0_1 (m ((c.tc : Thread nD τ).loc main_arg3)))) bitsLt_bf16_f32 : FVec Ideal S4096x2048 .bf16) = normed (m (c.tc.loc Fwd0RefIdeal.main_arg0)) (m (c.tc.loc Fwd0RefIdeal.main_arg1)) (m (c.tc.loc Fwd0RefIdeal.main_arg2)) (m (c.tc.loc Fwd0RefIdeal.main_arg3)) := by
  funext i
  obtain ⟨a, b, rfl⟩ : ∃ (a : Fin 4096) (b : Fin 2048), i = ix2 a b := ⟨i 0, i 1, eq_ix2 i⟩
  pointwise []
  rfl

end

open Cert.Fwd0Ideal Cert.Fwd0Ideal.Gen

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)

/-- The row of the arrays that row `a` of the block at grid step `t` is. -/
def row (t : Fin cfg0.N) (a : Fin 256) : Fin 4096 :=
  ⟨t.val * 256 + a.val, by have : t.val < 16 := t.isLt; omega⟩

theorem in0 (c : Dev nD) (t : Fin cfg0.N) (a : Fin 256) (b : Fin 2048) :
    iblk m c 0 t (ix2 a b) = m ((c : Thread nD τ).loc main_arg0) (ix2 (row t a) b) := by
  blk_simp [iblk]
  refine (congrFun (V_main_arg0 m c) _).trans (congrArg (m ((c : Thread nD τ).loc main_arg0)) ?_)
  blk_ext [e0, row]

theorem in1 (c : Dev nD) (t : Fin cfg0.N) (b : Fin 2048) :
    iblk m c 1 t (ix2 0 b) = m ((c : Thread nD τ).loc main_arg1) (ix2 0 b) := by
  blk_simp [iblk]
  refine (congrFun (V_main_arg1 m c) _).trans (congrArg (m ((c : Thread nD τ).loc main_arg1)) ?_)
  blk_ext [e1]

theorem in2 (c : Dev nD) (t : Fin cfg0.N) (b : Fin 2048) :
    iblk m c 2 t (ix2 0 b) = m ((c : Thread nD τ).loc main_arg2) (ix2 0 b) := by
  blk_simp [iblk]
  refine (congrFun (V_main_arg2 m c) _).trans (congrArg (m ((c : Thread nD τ).loc main_arg2)) ?_)
  blk_ext [e2]

theorem in3 (c : Dev nD) (t : Fin cfg0.N) (b : Fin 2048) :
    iblk m c 3 t (ix2 0 b) = m ((c : Thread nD τ).loc main_arg3) (ix2 0 b) := by
  blk_simp [iblk]
  refine (congrFun (V_main_arg3 m c) _).trans (congrArg (m ((c : Thread nD τ).loc main_arg3)) ?_)
  blk_ext [e3]

theorem out_at (x0 : Vec Ideal S256x2048 .f32) (x1 x2 x3 : Vec Ideal S1x2048 .f32) (a : Fin 256) (b : Fin 2048) :
    out0_4 x0 x1 x2 x3 (ix2 a b) = x0 (ix2 a b) * scale (R := 256) x0 a * x1 (ix2 0 b) * (1 + x2 (ix2 0 b)) + x3 (ix2 0 b) := by
  unfold out0_4
  frame_out
  pointwise [k0_pay1, r0_0, r0_1]
  rfl

theorem final4 (c : Dev nD) : (dats m 0 c).arrAt 4 cfg0.N = normed (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨a, b, rfl⟩ : ∃ (a : Fin 256) (b : Fin 2048), y = ix2 a b := ⟨y 0, y 1, eq_ix2 y⟩
  have he : (win0_4.blk t).view.emb (ix2 a b) = ix2 (row t a) b := by
    blk_ext [e4, row]
  rw [he]
  refine (out_at _ _ _ _ a b).trans ?_
  simp only [scale, in0, in1, in2, in3]
  rfl

theorem frame_ref : Cert.quiescent_Fwd0RefIdeal (hFwd0RefIdeal := Cert.Fwd0RefIdeal.Gen.facts) := fun m g _ =>
  (θ_run Cert.Fwd0RefIdeal.defs _ _).mono
    (fun r h => ⟨fun c => (h c).2, sem_eq_zero_of_no_sems rfl _⟩) (Cert.Fwd0RefIdeal.Value.run (F := Ideal) m g)

theorem algebraic : Cert.algebraic_Fwd0Ideal_Fwd0RefIdeal (hFwd0Ideal := Cert.Fwd0Ideal.Gen.facts)
    (hFwd0RefIdeal := Cert.Fwd0RefIdeal.Gen.facts) := by
  intro m g m' g' _ hargs
  refine ⟨_, Cert.Fwd0Ideal.Value.run_blocks (F := Ideal) m g, ?_⟩
  refine (θ_run (Cert.Fwd0RefIdeal.defs (F := Ideal)) _ _).mono (fun r h c => ?_) (Cert.Fwd0RefIdeal.Value.run (F := Ideal) m' g')
  obtain ⟨h0, h1⟩ := h c
  obtain ⟨a0, a1, a2, a3⟩ := hargs c
  refine ⟨h0.trans ?_, h1⟩
  · rw [ref_at, a0, a1, a2, a3]
    exact (final4 m c).symm

end Cert.Fwd0Proof

end
-- ==== Proof.Proj.MlaQKernel.lean ====
/- The queries of all heads from their latent: the product, scaled, and the rotary columns of each head turned by the
   angles of its row; the kernel's blocks hold it entry by entry. -/
module

public import proofs.«01_k».proof.Proof.Gen.MlaQIdeal.Value
public import Idealize.ShloMosaic.Lib.Pointwise
public import Idealize.ShloMosaic.Lib.Pipeline.ValueKit

@[expose] public section

set_option maxRecDepth 16384

noncomputable section

namespace Cert.MlaQProof

open Cert.MlaQIdeal Cert.MlaQIdeal.Gen Idealize.ShloMosaic Idealize.ShloMosaic.TcCoe Idealize.SL.Sem

/-- The scale's word. -/
def scale : EReal := Ideal.ofBits .f32 0x3D93CD3A#32

theorem scale_real : ∃ r : ℝ, 0 ≤ r ∧ scale = (r : EReal) := by
  unfold scale
  refine ⟨9686330 / 2 ^ 27, by norm_num, ?_⟩
  simp [Ideal.ofBits, Ideal.ieee, -EReal.coe_mul]; norm_num

theorem scale_add (x y : EReal) : (x + y) * scale = x * scale + y * scale := by
  obtain ⟨r, hr, e⟩ := scale_real
  rw [e]
  exact EReal.right_distrib_of_nonneg_of_ne_top (EReal.coe_nonneg.2 hr) (EReal.coe_ne_top r) x y

/-- The turn's two halves, as the kernel adds them and as they are written. -/
theorem turn_first (x y z c s : EReal) : x * scale * c + y * scale * -s + z * 0 = (x * c - y * s) * scale := by
  rw [sub_eq_add_neg, scale_add, mul_zero, add_zero, mul_neg, neg_mul, mul_right_comm x, mul_right_comm y]
theorem turn_second (x y z c s : EReal) : x * scale * c + z * 0 + y * scale * s = (x * c + y * s) * scale := by
  rw [scale_add, mul_zero, add_zero, mul_right_comm x, mul_right_comm y]

/-- A product's entry, -/
def prod (x : Vec Ideal S4096x512 .bf16) (w : Vec Ideal S512x4096 .bf16) (i : Fin 4096) (j : ℕ) : EReal :=
  ∑ k : Fin 512, x (ix2 i k) * w (ix2 k ⟨j % 4096, by omega⟩)
/-- a row's cosine or sine, -/
def angle (f : Vec Ideal S4096x32 .f32) (i : Fin 4096) (l : ℕ) : EReal := f (ix2 i ⟨l % 32, by omega⟩)
theorem angle_eq (f : Vec Ideal S4096x32 .f32) (i : Fin 4096) (l : ℕ) (n : Fin 32) (h : (n : ℕ) = l % 32) : f (ix2 i n) = angle f i l :=
  congrArg (fun n => f (ix2 i n)) (Fin.ext h)
/-- and an entry of the queries: 128 plain columns, 32 and 32 turned ones, 64 of padding. -/
def query (x : Vec Ideal S4096x512 .bf16) (w : Vec Ideal S512x4096 .bf16) (cs sn : Vec Ideal S4096x32 .f32) (i : Fin 4096) (j : ℕ) : EReal :=
  if j % 256 < 128 then prod x w i j * scale
  else if j % 256 < 160 then (prod x w i j * angle cs i (j % 256 - 128) - prod x w i (j + 32) * angle sn i (j % 256 - 128)) * scale
  else if j % 256 < 192 then (prod x w i j * angle cs i (j % 256 - 160) + prod x w i (j - 32) * angle sn i (j % 256 - 160)) * scale
  else 0

variable (m : (ℓ : Loc nD τ sig) → Buf (Elt Ideal) ℓ)

/-! The tables the host makes of the cosines and sines. -/

def zeros : Vec Ideal S4096x32 .f32 := broadcastInDim S4096x32 ![] bcast_S_S4096x32 (constant (F := Ideal) S_ .f32 0x00000000#32)

theorem tab0 (c : Dev nD) : V m c main_v1 = (concatenate S4096x128 1 [⟨S4096x32, (m (c.tc.loc main_arg2) : Vec Ideal S4096x32 .f32)⟩, ⟨S4096x32, (m (c.tc.loc main_arg2) : Vec Ideal S4096x32 .f32)⟩, ⟨S4096x32, zeros⟩, ⟨S4096x32, zeros⟩] concatenates_S4096x32_S4096x32_S4096x32_S4096x32_S4096x128_d1 : Vec Ideal S4096x128 .f32) := by
  unfold V hostOps0
  after_results <;> rfl
theorem tab1 (c : Dev nD) : V m c main_v3 = (concatenate S4096x128 1 [⟨S4096x32, (Host.negf (F := Ideal) (φ := .f32) (m (c.tc.loc main_arg3) : Vec Ideal S4096x32 .f32) : Vec Ideal S4096x32 .f32)⟩, ⟨S4096x32, zeros⟩, ⟨S4096x32, zeros⟩, ⟨S4096x32, zeros⟩] concatenates_S4096x32_S4096x32_S4096x32_S4096x32_S4096x128_d1 : Vec Ideal S4096x128 .f32) := by
  unfold V hostOps0
  after_results <;> rfl
theorem tab2 (c : Dev nD) : V m c main_v4 = (concatenate S4096x128 1 [⟨S4096x32, zeros⟩, ⟨S4096x32, (m (c.tc.loc main_arg3) : Vec Ideal S4096x32 .f32)⟩, ⟨S4096x32, zeros⟩, ⟨S4096x32, zeros⟩] concatenates_S4096x32_S4096x32_S4096x32_S4096x32_S4096x128_d1 : Vec Ideal S4096x128 .f32) := by
  unfold V hostOps0
  after_results <;> rfl

theorem tab0_at (c : Dev nD) (i : Fin 4096) (l : Fin 128) : V m c main_v1 (ix2 i l)
    = if (l : ℕ) < 64 then angle (m (c.tc.loc main_arg2)) i l else (0 : EReal) := by
  rw [tab0]
  pointwise [zeros]
  by_cases h : (l : ℕ) < 64
  · rw [if_pos h]
    split_ifs <;> first | omega | exact angle_eq _ i l _ (by dsimp only; omega)
  · rw [if_neg h]
    split_ifs <;> first | omega | rfl
theorem tab1_at (c : Dev nD) (i : Fin 4096) (l : Fin 128) : V m c main_v3 (ix2 i l)
    = if (l : ℕ) < 32 then -angle (m (c.tc.loc main_arg3)) i l else (0 : EReal) := by
  rw [tab1]
  pointwise [zeros]
  split_ifs <;> first | rfl | omega | exact congrArg (fun e : EReal => -e) (angle_eq _ i l _ (by dsimp only; omega))
theorem tab2_at (c : Dev nD) (i : Fin 4096) (l : Fin 128) : V m c main_v4 (ix2 i l)
    = if (l : ℕ) < 32 then (0 : EReal) else if (l : ℕ) < 64 then angle (m (c.tc.loc main_arg3)) i l else 0 := by
  rw [tab2]
  pointwise [zeros]
  by_cases h0 : (l : ℕ) < 32
  · rw [if_pos h0]
    split_ifs
    rfl
  · rw [if_neg h0]
    by_cases h : (l : ℕ) < 64
    · rw [if_pos h]
      split_ifs <;> first | omega | exact angle_eq _ i l _ (by dsimp only; omega)
    · rw [if_neg h]
      split_ifs <;> first | omega | rfl

/-! The blocks. -/

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val, 0] := (by decide +kernel : ∀ t : Fin grid0.N, _)
theorem e3 : ∀ t : Fin cfg0.N, win0_3.index t = ![(grid0.coords t 0).val, 0] := (by decide +kernel : ∀ t : Fin grid0.N, _)
theorem e4 : ∀ t : Fin cfg0.N, win0_4.index t = ![(grid0.coords t 0).val, 0] := (by decide +kernel : ∀ t : Fin grid0.N, _)
theorem e5 : ∀ t : Fin cfg0.N, win0_5.index t = ![(grid0.coords t 0).val, (grid0.coords t 1).val] := (by decide +kernel : ∀ t : Fin grid0.N, _)

/-- The row of the result that row `a` of the block at grid step `t` is, and the same for a column. -/
def row (t : Fin grid0.N) (a : Fin 1024) : Fin 4096 :=
  ⟨(grid0.coords t 0).val * 1024 + a.val, by have : (grid0.coords t 0).val < 4 := (grid0.coords t 0).isLt; omega⟩
def col (t : Fin grid0.N) (b : Fin 512) : Fin 4096 :=
  ⟨(grid0.coords t 1).val * 512 + b.val, by have : (grid0.coords t 1).val < 8 := (grid0.coords t 1).isLt; omega⟩

theorem in0 (c : Dev nD) (t : Fin grid0.N) (a : Fin 1024) (k : Fin 512) :
    iblk m c 0 t (ix2 a k) = m ((c : Thread nD τ).loc main_arg0) (ix2 (row t a) k) := by
  blk_simp [iblk]
  refine (congrFun (V_main_arg0 m c) _).trans (congrArg (m ((c : Thread nD τ).loc main_arg0)) ?_)
  blk_ext [e0, row]
theorem in1 (c : Dev nD) (t : Fin grid0.N) (b : Fin 512) (k : Fin 512) :
    iblk m c 1 t (ix2 k b) = m ((c : Thread nD τ).loc main_arg1) (ix2 k (col t b)) := by
  blk_simp [iblk]
  refine (congrFun (V_main_arg1 m c) _).trans (congrArg (m ((c : Thread nD τ).loc main_arg1)) ?_)
  blk_ext [e1, col]
theorem in2 (c : Dev nD) (t : Fin grid0.N) (a : Fin 1024) (l : Fin 128) :
    iblk m c 2 t (ix2 a l) = if (l : ℕ) < 64 then angle (m (c.tc.loc main_arg2)) (row t a) l else (0 : EReal) := by
  refine Eq.trans ?_ (tab0_at m c (row t a) l)
  blk_simp [iblk]
  refine congrArg (V m c main_v1) ?_
  blk_ext [e2, row]
theorem in3 (c : Dev nD) (t : Fin grid0.N) (a : Fin 1024) (l : Fin 128) :
    iblk m c 3 t (ix2 a l) = if (l : ℕ) < 32 then -angle (m (c.tc.loc main_arg3)) (row t a) l else (0 : EReal) := by
  refine Eq.trans ?_ (tab1_at m c (row t a) l)
  blk_simp [iblk]
  refine congrArg (V m c main_v3) ?_
  blk_ext [e3, row]
theorem in4 (c : Dev nD) (t : Fin grid0.N) (a : Fin 1024) (l : Fin 128) :
    iblk m c 4 t (ix2 a l) = if (l : ℕ) < 32 then (0 : EReal) else if (l : ℕ) < 64 then angle (m (c.tc.loc main_arg3)) (row t a) l else 0 := by
  refine Eq.trans ?_ (tab2_at m c (row t a) l)
  blk_simp [iblk]
  refine congrArg (V m c main_v4) ?_
  blk_ext [e4, row]

/-- An entry of a block's product. -/
def part (x0 : Vec Ideal S1024x512 .bf16) (x1 : Vec Ideal S512x512 .bf16) (a : Fin 1024) (b : Fin 512) : EReal :=
  ∑ k : Fin 512, x0 (ix2 a k) * x1 (ix2 k b)

/-- A block of the kernel's output. -/
theorem out_at (x0 : Vec Ideal S1024x512 .bf16) (x1 : Vec Ideal S512x512 .bf16) (x2 x3 x4 : Vec Ideal S1024x128 .f32) (a : Fin 1024) (b : Fin 512) :
    out0_5 (F := Ideal) x0 x1 x2 x3 x4 (ix2 a b) =
      if h : (b : ℕ) < 128 then part x0 x1 a b * scale
      else if h : (b : ℕ) - 128 < 128 then
        part x0 x1 a ⟨128 + (b - 128), by omega⟩ * scale * x2 (ix2 a ⟨b - 128, by omega⟩)
          + part x0 x1 a ⟨128 + (b - 128 + 128 - 96) % 128, by omega⟩ * scale * x3 (ix2 a ⟨b - 128, by omega⟩)
          + part x0 x1 a ⟨128 + (b - 128 + 128 - 32) % 128, by omega⟩ * scale * x4 (ix2 a ⟨b - 128, by omega⟩)
      else if h : (b : ℕ) - 128 - 128 < 128 then part x0 x1 a ⟨256 + (b - 128 - 128), by omega⟩ * scale
      else
        part x0 x1 a ⟨384 + (b - 128 - 128 - 128), by omega⟩ * scale * x2 (ix2 a ⟨b - 128 - 128 - 128, by omega⟩)
          + part x0 x1 a ⟨384 + (b - 128 - 128 - 128 + 128 - 96) % 128, by omega⟩ * scale * x3 (ix2 a ⟨b - 128 - 128 - 128, by omega⟩)
          + part x0 x1 a ⟨384 + (b - 128 - 128 - 128 + 128 - 32) % 128, by omega⟩ * scale * x4 (ix2 a ⟨b - 128 - 128 - 128, by omega⟩) := by
  unfold out0_5
  frame_out
  pointwise [k0_pay1, part, scale]

theorem part_at (c : Dev nD) (t : Fin grid0.N) (a : Fin 1024) (b : Fin 512) (j : ℕ) (hj : j = (col t b : ℕ)) :
    part (iblk m c 0 t) (iblk m c 1 t) a b = prod (m (c.tc.loc main_arg0)) (m (c.tc.loc main_arg1)) (row t a) j := by
  subst hj
  refine Finset.sum_congr rfl fun k _ => ?_
  rw [in0, in1]
  have e : (⟨(col t b : ℕ) % 4096, by omega⟩ : Fin 4096) = col t b := Fin.ext (Nat.mod_eq_of_lt (col t b).isLt)
  rw [e]

/-- A turned half head, whichever of the block's two it is. -/
theorem turned_at (c : Dev nD) (t : Fin grid0.N) (a : Fin 1024) (o : ℕ) (ho : o = 128 ∨ o = 384) (l : ℕ) (hl : l < 128) (j : ℕ) (hj : j = (grid0.coords t 1).val * 512 + (o + l))
    (u0 : o + l < 512) (u1 : o + (l + 128 - 96) % 128 < 512) (u2 : o + (l + 128 - 32) % 128 < 512) :
    part (iblk m c 0 t) (iblk m c 1 t) a ⟨o + l, u0⟩ * scale * iblk m c 2 t (ix2 a ⟨l, hl⟩)
      + part (iblk m c 0 t) (iblk m c 1 t) a ⟨o + (l + 128 - 96) % 128, u1⟩ * scale * iblk m c 3 t (ix2 a ⟨l, hl⟩)
      + part (iblk m c 0 t) (iblk m c 1 t) a ⟨o + (l + 128 - 32) % 128, u2⟩ * scale * iblk m c 4 t (ix2 a ⟨l, hl⟩)
    = query (m (c.tc.loc main_arg0)) (m (c.tc.loc main_arg1)) (m (c.tc.loc main_arg2)) (m (c.tc.loc main_arg3)) (row t a) j := by
  rw [in2, in3, in4]
  dsimp only
  have hmod : j % 256 = 128 + l := by rcases ho with rfl | rfl <;> omega
  rw [part_at m c t a ⟨o + l, u0⟩ j hj]
  have q0 : ¬j % 256 < 128 := by omega
  unfold query
  by_cases h0 : l < 32
  · have h1 : l < 64 := by omega
    have q1 : j % 256 < 160 := by omega
    simp only [if_pos h0, if_pos h1, if_neg q0, if_pos q1, show j % 256 - 128 = l by omega]
    rw [part_at m c t a ⟨o + (l + 128 - 96) % 128, u1⟩ (j + 32) (by show _ = _ * 512 + (o + (l + 128 - 96) % 128); omega)]
    exact turn_first _ _ _ _ _
  · have q1 : ¬j % 256 < 160 := by omega
    by_cases h1 : l < 64
    · have q2 : j % 256 < 192 := by omega
      have ha : ∀ f, angle f (row t a) (l - 32) = angle f (row t a) l := fun f =>
        congrArg (fun n => f (ix2 (row t a) n)) (Fin.ext (by show (l - 32) % 32 = l % 32; omega))
      simp only [if_neg h0, if_pos h1, if_neg q0, if_neg q1, if_pos q2, show j % 256 - 160 = l - 32 by omega, ha]
      rw [part_at m c t a ⟨o + (l + 128 - 32) % 128, u2⟩ (j - 32) (by show _ = _ * 512 + (o + (l + 128 - 32) % 128); omega)]
      exact turn_second _ _ _ _ _
    · have q2 : ¬j % 256 < 192 := by omega
      simp only [if_neg h0, if_neg h1, if_neg q0, if_neg q1, if_neg q2, mul_zero, add_zero]

theorem block_at (c : Dev nD) (t : Fin grid0.N) (a : Fin 1024) (b : Fin 512) :
    out0_5 (F := Ideal) (iblk m c 0 t) (iblk m c 1 t) (iblk m c 2 t) (iblk m c 3 t) (iblk m c 4 t) (ix2 a b)
      = query (m (c.tc.loc main_arg0)) (m (c.tc.loc main_arg1)) (m (c.tc.loc main_arg2)) (m (c.tc.loc main_arg3)) (row t a) (col t b) := by
  have hc : (col t b : ℕ) = (grid0.coords t 1).val * 512 + b := rfl
  refine (out_at _ _ _ _ _ a b).trans ?_
  by_cases h0 : (b : ℕ) < 128
  · rw [dif_pos h0, part_at m c t a b _ rfl, query, if_pos (by omega)]
  · rw [dif_neg h0]
    by_cases h1 : (b : ℕ) - 128 < 128
    · rw [dif_pos h1]
      exact turned_at m c t a 128 (.inl rfl) (b - 128) h1 _ (by omega) _ _ _
    · rw [dif_neg h1]
      by_cases h2 : (b : ℕ) - 128 - 128 < 128
      · rw [dif_pos h2, part_at m c t a _ (col t b) (by show (col t b : ℕ) = _ * 512 + (256 + (b - 128 - 128)); omega), query, if_pos (by omega)]
      · rw [dif_neg h2]
        exact turned_at m c t a 384 (.inr rfl) (b - 128 - 128 - 128) (by omega) _ (by omega) _ _ _

/-- The queries as an array. -/
def queries (x : Vec Ideal S4096x512 .bf16) (w : Vec Ideal S512x4096 .bf16) (cs sn : Vec Ideal S4096x32 .f32) : Vec Ideal S4096x4096 .bf16 := fun i =>
  query x w cs sn (i 0) (i 1).val

theorem final (c : Dev nD) : (dats m 0 c).arrAt 5 cfg0.N
    = queries (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨a, b, rfl⟩ : ∃ (a : Fin 1024) (b : Fin 512), y = ix2 a b := ⟨y 0, y 1, eq_ix2 y⟩
  have he : (win0_5.blk t).view.emb (ix2 a b) = ix2 (row t a) (col t b) := by
    blk_ext [e5, row, col]
  rw [he]
  exact block_at m c t a b

end Cert.MlaQProof

end
-- ==== Proof.Proj.MlaQ.lean ====
/- The query projection with its rotary columns (`mla_q`): the kernel's queries are the reference's, and the reference
   leaves its arguments alone. -/
module

public import proofs.«01_k».proof.Defs
public import proofs.«01_k».proof.Proof.Proj.MlaQKernel
public import proofs.«01_k».proof.Proof.Gen.MlaQRefIdeal
public import proofs.«01_k».proof.Proof.Gen.MlaQRefIdeal.Run
public import Idealize.ShloMosaic.Lib.Pointwise
public import Idealize.ShloMosaic.Lib.Pipeline.ValueKit
public import Idealize.ShloMosaic.Lib.Quiescent

@[expose] public section

set_option maxRecDepth 16384

noncomputable section

namespace Cert.MlaQProof

open Cert.MlaQIdeal Cert.MlaQIdeal.Gen Idealize.ShloMosaic Idealize.ShloMosaic.TcCoe Idealize.SL.Sem

/-- A product's entry in its column, however the column is written. -/
theorem prod_eq (x : Vec Ideal S4096x512 .bf16) (w : Vec Ideal S512x4096 .bf16) (i : Fin 4096) (n : Fin 4096) (j : ℕ) (h : (n : ℕ) = j) :
    ∑ k : Fin 512, x (ix2 i k) * w (ix2 k n) = prod x w i j := by
  subst h
  have e : (⟨(n : ℕ) % 4096, by omega⟩ : Fin 4096) = n := Fin.ext (Nat.mod_eq_of_lt n.isLt)
  refine Finset.sum_congr rfl fun k _ => ?_
  rw [e]

/-- The reference's entry: the turn is taken first, the scale last. -/
theorem ref_entry (x : Vec Ideal S4096x512 .bf16) (w : Vec Ideal S512x4096 .bf16) (cs sn : Vec Ideal S4096x32 .f32) (a : Fin 4096) (b : Fin 4096) :
    (if h : (b : ℕ) % 256 < 128 then ∑ k : Fin 512, x (ix2 a k) * w (ix2 k b)
      else if h : (b : ℕ) % 256 - 128 < 64 then
        if h : (b : ℕ) % 256 - 128 < 32 then
          (∑ k : Fin 512, x (ix2 a k) * w (ix2 k ⟨(b : ℕ) / 256 * 256 + (128 + ((b : ℕ) % 256 - 128)), by omega⟩)) * cs (ix2 a ⟨(b : ℕ) % 256 - 128, by omega⟩)
            - (∑ k : Fin 512, x (ix2 a k) * w (ix2 k ⟨(b : ℕ) / 256 * 256 + (128 + (32 + ((b : ℕ) % 256 - 128))), by omega⟩)) * sn (ix2 a ⟨(b : ℕ) % 256 - 128, by omega⟩)
        else
          (∑ k : Fin 512, x (ix2 a k) * w (ix2 k ⟨(b : ℕ) / 256 * 256 + (128 + (32 + ((b : ℕ) % 256 - 128 - 32))), by omega⟩)) * cs (ix2 a ⟨(b : ℕ) % 256 - 128 - 32, by omega⟩)
            + (∑ k : Fin 512, x (ix2 a k) * w (ix2 k ⟨(b : ℕ) / 256 * 256 + (128 + ((b : ℕ) % 256 - 128 - 32)), by omega⟩)) * sn (ix2 a ⟨(b : ℕ) % 256 - 128 - 32, by omega⟩)
      else (0 : EReal)) * scale = query x w cs sn a b := by
  unfold query
  by_cases h0 : (b : ℕ) % 256 < 128
  · rw [dif_pos h0, if_pos h0, prod_eq x w a b b rfl]
  · rw [dif_neg h0, if_neg h0]
    by_cases h1 : (b : ℕ) % 256 - 128 < 64
    · rw [dif_pos h1]
      by_cases h2 : (b : ℕ) % 256 - 128 < 32
      · rw [dif_pos h2, if_pos (by omega), prod_eq x w a _ (b : ℕ) (by dsimp only; omega), prod_eq x w a _ ((b : ℕ) + 32) (by dsimp only; omega),
          angle_eq cs a ((b : ℕ) % 256 - 128) _ (by dsimp only; omega), angle_eq sn a ((b : ℕ) % 256 - 128) _ (by dsimp only; omega)]
      · rw [dif_neg h2, if_neg (by omega), if_pos (by omega), prod_eq x w a _ (b : ℕ) (by dsimp only; omega), prod_eq x w a _ ((b : ℕ) - 32) (by dsimp only; omega),
          angle_eq cs a ((b : ℕ) % 256 - 160) _ (by dsimp only; omega), angle_eq sn a ((b : ℕ) % 256 - 160) _ (by dsimp only; omega)]
    · rw [dif_neg h1, if_neg (by omega), if_neg (by omega), zero_mul]

theorem frame_ref : Cert.quiescent_MlaQRefIdeal (hMlaQRefIdeal := Cert.MlaQRefIdeal.Gen.facts) := fun m g _ =>
  (θ_run Cert.MlaQRefIdeal.defs _ _).mono
    (fun r h => ⟨fun c => (h c).2, sem_eq_zero_of_no_sems rfl _⟩) (Cert.MlaQRefIdeal.Value.run (F := Ideal) m g)

theorem algebraic : Cert.algebraic_MlaQIdeal_MlaQRefIdeal (hMlaQIdeal := Cert.MlaQIdeal.Gen.facts)
    (hMlaQRefIdeal := Cert.MlaQRefIdeal.Gen.facts) := by
  intro m g m' g' _ hargs
  refine ⟨_, Cert.MlaQIdeal.Value.run_blocks (F := Ideal) m g, ?_⟩
  refine (θ_run (Cert.MlaQRefIdeal.defs (F := Ideal)) _ _).mono (fun r h c => ?_) (Cert.MlaQRefIdeal.Value.run (F := Ideal) m' g')
  obtain ⟨h1, h3⟩ := h c
  obtain ⟨a0, a1, a2, a3⟩ := hargs c
  refine ⟨h1.trans ?_, h3⟩
  refine Eq.trans (funext fun i => ?_) (final m c).symm
  rw [a0, a1, a2, a3, eq_ix2 i]
  refine Eq.trans ?_ (ref_entry _ _ _ _ (i 0) (i 1))
  pointwise [scale]

end Cert.MlaQProof

end
-- ==== Proof.Attn.Row.lean ====
/- One row of an attention with a running maximum, over the extended reals.

   A row of scores is seen block by block. What is carried is a maximum `r` and weighted sums `a`; the sums are scaled by the
   exponential of the maximum's negative, so the pair says nothing of which maximum it is: `Carried W r a` only asks that `r` be
   some real number and `a` be `exp (−r)` times the unscaled sum `W` (or, before the first block, that `r` be −∞ and the sums zero).
   A block adds its own unscaled sum to `W`; the quotient of two carried sums is the quotient of the unscaled ones. -/
module

public import Idealize.ShloMosaic.PureOps.Ideal
public import Idealize.ShloMosaic.PureOps.Ideal.Laws

@[expose] public section

noncomputable section

namespace Cert.AttnProof

open Idealize.ShloMosaic

/-- A finite sum of real numbers, formed among the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A score where the mask lets it through, −∞ elsewhere. -/
def masked {n : ℕ} (p : Fin n → Prop) [DecidablePred p] (x : Fin n → ℝ) (b : Fin n) : EReal := if p b then (x b : EReal) else ⊥

/-- The unscaled sum of a block: the exponentials of the scores the mask lets through, weighted. -/
def blockSum {n : ℕ} (p : Fin n → Prop) [DecidablePred p] (x w : Fin n → ℝ) : ℝ := ∑ b, if p b then Real.exp (x b) * w b else 0

/-- What a row carries between two blocks, for the unscaled sum `W`. -/
def Carried (W : ℝ) (r a : EReal) : Prop :=
  (∃ z : ℝ, r = z ∧ a = ((Real.exp (-z) * W : ℝ) : EReal)) ∨ (r = ⊥ ∧ a = 0 ∧ W = 0)

theorem fold_max_real {n : ℕ} (p : Fin n → Prop) [DecidablePred p] (x : Fin n → ℝ) (s : Finset (Fin n)) :
    (∃ z : ℝ, s.fold max (⊥ : EReal) (masked p x) = z) ∨ (s.fold max (⊥ : EReal) (masked p x) = ⊥ ∧ ∀ b ∈ s, ¬ p b) := by
  classical
  induction s using Finset.induction_on with
  | empty => exact .inr ⟨by simp, by simp⟩
  | insert a s ha ih =>
    rw [Finset.fold_insert ha]
    by_cases h : p a
    · left
      rcases ih with ⟨z, hz⟩ | ⟨hz, -⟩
      · exact ⟨max (x a) z, by rw [hz, masked, if_pos h]; exact (EReal.coe_strictMono.monotone.map_max).symm⟩
      · exact ⟨x a, by rw [hz, masked, if_pos h]; simp⟩
    · have e : masked p x a = ⊥ := if_neg h
      rw [e]
      rcases ih with ⟨z, hz⟩ | ⟨hz, hs⟩
      · exact .inl ⟨z, by rw [hz]; simp⟩
      · exact .inr ⟨by rw [hz]; simp, by
          intro b hb; rcases Finset.mem_insert.mp hb with rfl | hb
          · exact h
          · exact hs b hb⟩

/-- The new maximum is a real number as soon as the mask lets one score of the block through. -/
theorem newMax_real {n : ℕ} (p : Fin n → Prop) [DecidablePred p] (x : Fin n → ℝ) (hp : ∃ b, p b) (r : EReal)
    (hr : (∃ z : ℝ, r = z) ∨ r = ⊥) : ∃ z : ℝ, max r (Finset.univ.fold max (⊥ : EReal) (masked p x)) = z := by
  obtain ⟨b, hb⟩ := hp
  rcases fold_max_real p x Finset.univ with ⟨z, hz⟩ | ⟨-, h⟩
  · rw [hz]
    rcases hr with ⟨y, rfl⟩ | rfl
    · exact ⟨max y z, (EReal.coe_strictMono.monotone.map_max).symm⟩
    · exact ⟨z, by simp⟩
  · exact absurd hb (h b (Finset.mem_univ b))

theorem exp_masked {n : ℕ} (p : Fin n → Prop) [DecidablePred p] (x : Fin n → ℝ) (z : ℝ) (b : Fin n) :
    Ideal.exp (masked p x b - (z : EReal)) = ((if p b then Real.exp (x b - z) else 0 : ℝ) : EReal) := by
  unfold masked
  split_ifs
  · rw [← EReal.coe_sub, Ideal.exp_coe]
  · simp

/-- A block's scaled sum, formed among the extended reals. -/
theorem block_scaled {n : ℕ} (p : Fin n → Prop) [DecidablePred p] (x w : Fin n → ℝ) (z : ℝ) :
    (∑ b, Ideal.exp (masked p x b - (z : EReal)) * (w b : EReal)) = ((Real.exp (-z) * blockSum p x w : ℝ) : EReal) := by
  simp_rw [exp_masked, ← EReal.coe_mul, coe_sum]
  congr 1
  rw [blockSum, Finset.mul_sum]
  refine Finset.sum_congr rfl fun b _ => ?_
  split_ifs
  · rw [sub_eq_add_neg, Real.exp_add]; ring
  · ring

/-- A step: the carried sum rescaled to the new maximum, plus the block's own. -/
theorem Carried.step {n : ℕ} (p : Fin n → Prop) [DecidablePred p] (x w : Fin n → ℝ) (W : ℝ) (r a : EReal) (h : Carried W r a) (z : ℝ) :
    Ideal.exp (r - (z : EReal)) * a + ∑ b, Ideal.exp (masked p x b - (z : EReal)) * (w b : EReal)
      = ((Real.exp (-z) * (W + blockSum p x w) : ℝ) : EReal) := by
  rw [block_scaled]
  rcases h with ⟨y, rfl, rfl⟩ | ⟨rfl, rfl, rfl⟩
  · rw [← EReal.coe_sub, Ideal.exp_coe, ← EReal.coe_mul, ← EReal.coe_add]
    congr 1
    rw [mul_add, ← mul_assoc, ← Real.exp_add]
    congr 3; ring
  · simp

/-- The quotient of two carried sums is the quotient of the unscaled ones. -/
theorem Carried.quotient (W D z : ℝ) (hD : 0 < D) :
    Ideal.div ((Real.exp (-z) * W : ℝ) : EReal) ((Real.exp (-z) * D : ℝ) : EReal) = ((W / D : ℝ) : EReal) := by
  have hz : Real.exp (-z) ≠ 0 := (Real.exp_pos _).ne'
  rw [Ideal.div_coe (mul_ne_zero hz hD.ne'), ← EReal.coe_mul]
  congr 1
  field_simp

theorem blockSum_pos {n : ℕ} (p : Fin n → Prop) [DecidablePred p] (x : Fin n → ℝ) (hp : ∃ b, p b) :
    0 < blockSum p x fun _ => 1 := by
  obtain ⟨b, hb⟩ := hp
  refine Finset.sum_pos' (fun b _ => ?_) ⟨b, Finset.mem_univ b, ?_⟩
  · split_ifs <;> positivity
  · rw [if_pos hb]; positivity

/-- The softmax of a masked row, applied to weights: the quotient of the two unscaled sums over the whole row. -/
theorem softmax_row {n : ℕ} (p : Fin n → Prop) [DecidablePred p] (x w : Fin n → ℝ) (hp : ∃ b, p b) (M : EReal)
    (hM : M = max ⊥ (Finset.univ.fold max (⊥ : EReal) (masked p x))) :
    (∑ b, (w b : EReal) * Ideal.div (Ideal.exp (masked p x b - M)) (0 + ∑ b', Ideal.exp (masked p x b' - M)))
      = ((blockSum p x w / blockSum p x fun _ => 1 : ℝ) : EReal) := by
  obtain ⟨z, hz⟩ := newMax_real p x hp ⊥ (.inr rfl)
  rw [hz] at hM; subst hM
  have hD : (0 + ∑ b', Ideal.exp (masked p x b' - (z : EReal))) = ((Real.exp (-z) * blockSum p x fun _ => 1 : ℝ) : EReal) := by
    rw [zero_add, ← block_scaled]; simp
  have hpos := blockSum_pos p x hp
  have hne : Real.exp (-z) * blockSum p x (fun _ => 1) ≠ 0 := mul_ne_zero (Real.exp_pos _).ne' hpos.ne'
  rw [hD]
  simp_rw [exp_masked, Ideal.div_coe hne, ← EReal.coe_mul, coe_sum]
  congr 1
  unfold blockSum at hne hpos ⊢
  rw [Finset.sum_div]
  refine Finset.sum_congr rfl fun b _ => ?_
  have hz' : Real.exp (-z) ≠ 0 := (Real.exp_pos _).ne'
  split_ifs
  · rw [sub_eq_add_neg, Real.exp_add]; field_simp
  · simp

end Cert.AttnProof
-- ==== Proof.Attn.Data.lean ====
/- Causal attention over the reals: a head's scores, weights and sums, and how the sums grow by blocks of 512 columns. -/
module

public import proofs.«01_k».proof.Proof.Attn.Row

@[expose] public section

noncomputable section

namespace Cert.AttnProof

variable (q kv kr : ℕ → ℕ → ℝ)

/-- Head `h`'s score of row `i` and column `j`: 128 unrotated columns, then the rotated ones, padded to 128. -/
def sc (h i j : ℕ) : ℝ := (∑ d : Fin 128, q i (256 * h + d) * kv j (256 * h + d)) + ∑ d : Fin 128, q i (256 * h + (128 + d)) * kr j d

/-- Its weights: the values, and ones. -/
def wt (h j e : ℕ) : ℝ := if e < 128 then kv j (256 * h + (128 + e)) else 1

/-- The sums of row `i` over the first `n` columns. -/
def tot (h i e n : ℕ) : ℝ := ∑ j ∈ Finset.range n, if j ≤ i then Real.exp (sc q kv kr h i j) * wt kv h j e else 0

/-- The attention's result. -/
def attn (h i d : ℕ) : ℝ :=
  (blockSum (fun j : Fin 4096 => (j : ℕ) ≤ i) (fun j => sc q kv kr h i j) fun j => kv j (256 * h + (128 + d)))
    / blockSum (fun j : Fin 4096 => (j : ℕ) ≤ i) (fun j => sc q kv kr h i j) fun _ => 1

theorem tot_zero (h i e : ℕ) : tot q kv kr h i e 0 = 0 := by simp [tot]

theorem tot_succ (h i e k : ℕ) : tot q kv kr h i e (512 * (k + 1)) = tot q kv kr h i e (512 * k)
    + ∑ b : Fin 512, if 512 * k + b ≤ i then Real.exp (sc q kv kr h i (512 * k + b)) * wt kv h (512 * k + b) e else 0 := by
  rw [tot, tot, show 512 * (k + 1) = 512 * k + 512 from by omega, Finset.sum_range_add]
  exact congrArg (_ + ·) (Finset.sum_range (n := 512) _)

/-- Below the diagonal every column counts, -/
theorem tot_full (h p k e : ℕ) (a : Fin 512) (hk : k < p) : tot q kv kr h (512 * p + a) e (512 * (k + 1))
    = tot q kv kr h (512 * p + a) e (512 * k)
      + blockSum (fun _ : Fin 512 => True) (fun b => sc q kv kr h (512 * p + a) (512 * k + b)) fun b => wt kv h (512 * k + b) e := by
  rw [tot_succ]
  refine congrArg (_ + ·) (Finset.sum_congr rfl fun b _ => ?_)
  have := b.isLt
  rw [if_pos trivial, if_pos (by omega)]

/-- and on it the columns up to the row's own. -/
theorem tot_diag (h k e : ℕ) (a : Fin 512) : tot q kv kr h (512 * k + a) e (512 * (k + 1))
    = tot q kv kr h (512 * k + a) e (512 * k)
      + blockSum (fun b : Fin 512 => b ≤ a) (fun b => sc q kv kr h (512 * k + a) (512 * k + b)) fun b => wt kv h (512 * k + b) e := by
  rw [tot_succ]
  refine congrArg (_ + ·) (Finset.sum_congr rfl fun b _ => ?_)
  refine if_congr ?_ rfl rfl
  show 512 * k + (b : ℕ) ≤ 512 * k + a ↔ (b : ℕ) ≤ a
  omega

/-- The columns after the diagonal's block add nothing. -/
theorem tot_end (h k e : ℕ) (hk : k < 8) (a : Fin 512) : tot q kv kr h (512 * k + a) e (512 * (k + 1))
    = blockSum (fun j : Fin 4096 => (j : ℕ) ≤ 512 * k + a) (fun j => sc q kv kr h (512 * k + a) j) fun j => wt kv h j e := by
  have h1 : tot q kv kr h (512 * k + a) e 4096 = blockSum (fun j : Fin 4096 => (j : ℕ) ≤ 512 * k + a) (fun j => sc q kv kr h (512 * k + a) j) fun j => wt kv h j e :=
    Finset.sum_range (n := 4096) _
  rw [← h1, tot, tot]
  have := a.isLt
  refine Finset.sum_subset (Finset.range_subset_range.mpr (by omega)) fun j _ hj => if_neg ?_
  rw [Finset.mem_range] at hj
  omega

/-- The quotient a row block ends with is the attention's result. -/
theorem tot_quotient (h k d : ℕ) (hk : k < 8) (hd : d < 128) (a : Fin 512) : tot q kv kr h (512 * k + a) d (512 * (k + 1))
      / tot q kv kr h (512 * k + a) (128 + d) (512 * (k + 1)) = attn q kv kr h (512 * k + a) d := by
  rw [tot_end _ _ _ _ _ _ hk, tot_end _ _ _ _ _ _ hk, attn]
  simp only [wt, if_pos hd, if_neg (show ¬ 128 + d < 128 by omega)]

theorem tot_pos (h k d : ℕ) (hk : k < 8) (a : Fin 512) : 0 < tot q kv kr h (512 * k + a) (128 + d) (512 * (k + 1)) := by
  rw [tot_end _ _ _ _ _ _ hk]
  simp only [wt, if_neg (show ¬ 128 + d < 128 by omega)]
  exact blockSum_pos _ _ ⟨⟨0, by omega⟩, Nat.zero_le _⟩

end Cert.AttnProof
-- ==== Proof.Attn.Points.lean ====
module
public import proofs.«01_k».proof.Proof.Gen.AttnIdeal.Flash
@[expose] public section
namespace Cert.AttnProof
open Cert.AttnIdeal Cert.AttnIdeal.Gen
open Idealize.ShloMosaic Idealize.ShloMosaic.TcCoe

/-- The pairs of a row block and a column block, in the tables' order. -/
def pairs : List (ℕ × ℕ) := (List.range 8).flatMap fun q => (List.range (q + 1)).map fun k => (q, k)
def qi (t : ℕ) : ℕ := (pairs.getD (t % 36) (0, 0)).1
def ki (t : ℕ) : ℕ := (pairs.getD (t % 36) (0, 0)).2
def hp (t : ℕ) : ℕ := t / 36

set_option maxRecDepth 100000
theorem pt_q : ∀ t : Fin (cfgA 0).N, ((cfgA 0).win 0).index t = ![qi t, hp t] := by decide +kernel
theorem pt_kv : ∀ t : Fin (cfgA 0).N, ((cfgA 0).win 1).index t = ![ki t, hp t] := by decide +kernel
theorem pt_kr : ∀ t : Fin (cfgA 0).N, ((cfgA 0).win 2).index t = ![ki t, 0] := by decide +kernel
theorem pt_o : ∀ t : Fin (cfgA 0).N, ((cfgA 0).win 3).index t = ![qi t, hp t] := by decide +kernel
theorem pt_0 : ∀ t : Fin (cfgA 0).N, P0_0 0 t ↔ ki t = 0 := by decide +kernel
theorem pt_1 : ∀ t : Fin (cfgA 0).N, P0_1 0 t ↔ ki t < qi t := by decide +kernel
theorem pt_flush : ∀ t : Fin (cfgA 0).N, ((cfgA 0).win 3).flush t = true → ki t = qi t := by decide +kernel
theorem pt_le : ∀ t : Fin (cfgA 0).N, ki t ≤ qi t ∧ qi t < 8 ∧ hp t < 8 := by decide +kernel
theorem pt_prev : ∀ t : Fin (cfgA 0).N, ki t ≠ 0 → (t : ℕ) ≠ 0 ∧ qi (t - 1) = qi t ∧ hp (t - 1) = hp t ∧ ki (t - 1) + 1 = ki t := by decide +kernel

end Cert.AttnProof
-- ==== Proof.Attn.Step.lean ====
/- One block of the attention kernel for one of its two heads: its payloads read at an index, and what they do to the carried rows. -/
module

public import proofs.«01_k».proof.Proof.Attn.Row
public import proofs.«01_k».proof.Proof.Gen.AttnIdeal.Skeleton
public import Idealize.ShloMosaic.Lib.Pipeline.ValueKit
public import Idealize.ShloMosaic.Lib.Pointwise
public import Idealize.ShloMosaic.Lib.WordCmp

@[expose] public section

noncomputable section

namespace Cert.AttnProof

open Cert.AttnIdeal Cert.AttnIdeal.Gen
open Idealize.ShloMosaic Idealize.ShloMosaic.TcCoe

/-- The scores of the block are the real numbers `x`: the product over the unrotated columns plus the one over the rotated. -/
def Scores (k kr : Vec Ideal S512x128 .bf16) (q : Vec Ideal S512x256 .bf16) (x : Fin 512 → Fin 512 → ℝ) : Prop :=
  ∀ a b : Fin 512, (∑ d : Fin 128, q (ix2 a ⟨d, by omega⟩) * k (ix2 b d)) + (∑ d : Fin 128, q (ix2 a ⟨128 + d, by omega⟩) * kr (ix2 b d))
    = (x a b : EReal)

/-- The weights of the block: the values in the first 128 columns, ones in the other 128 (whose sum is the denominator). -/
def Weights (v : Vec Ideal S512x128 .bf16) (w : Fin 512 → Fin 256 → ℝ) : Prop :=
  ∀ (b : Fin 512) (e : Fin 256), (if h : (e : ℕ) < 128 then v (ix2 b ⟨e, h⟩) else 1) = (w b e : EReal)

/-- The carried rows of one head: in each row one maximum in every lane, and the sums that belong to it. -/
def Cells (W : Fin 512 → Fin 256 → ℝ) (r : Vec Ideal S1x512x128 .f32) (acc : Vec Ideal S1x512x256 .f32) : Prop :=
  ∀ a : Fin 512, ∃ y : EReal, (∀ l : Fin 128, r (ix3 0 a l) = y) ∧ ∀ e : Fin 256, Carried (W a e) y (acc (ix3 0 a e))

/-- What a block adds, row by row and column by column. -/
def added (p : Fin 512 → Fin 512 → Prop) [∀ a, DecidablePred (p a)] (x : Fin 512 → Fin 512 → ℝ) (w : Fin 512 → Fin 256 → ℝ)
    (W : Fin 512 → Fin 256 → ℝ) (a : Fin 512) (e : Fin 256) : ℝ := W a e + blockSum (p a) (x a) fun b => w b e

/-- The step on whole blocks, the new maxima and the new sums given by their readings. -/
theorem cells_step (p : Fin 512 → Fin 512 → Prop) [∀ a, DecidablePred (p a)] (hp : ∀ a, ∃ b, p a b)
    (x : Fin 512 → Fin 512 → ℝ) (w : Fin 512 → Fin 256 → ℝ) (W : Fin 512 → Fin 256 → ℝ)
    (s : Vec Ideal S512x512 .f32) (hs : ∀ a b : Fin 512, s (ix2 a b) = masked (p a) (x a) b)
    (r rn' : Vec Ideal S1x512x128 .f32) (acc accn : Vec Ideal S1x512x256 .f32) (rn : Vec Ideal S512x128 .f32)
    (v : Vec Ideal S512x128 .bf16) (hv : Weights v w) (h : Cells W r acc)
    (hrn : ∀ (a : Fin 512) (l : Fin 128), rn (ix2 a l) = max (r (ix3 0 a l)) (Finset.univ.fold max (⊥ : EReal) fun b : Fin 512 => s (ix2 a b)))
    (hrn' : ∀ (a : Fin 512) (l : Fin 128), rn' (ix3 0 a l) = rn (ix2 a l))
    (hacc : ∀ (a : Fin 512) (e : Fin 256), ∃ (l : Fin 128) (f : Fin 512 → Fin 128),
      accn (ix3 0 a e) = Ideal.exp (r (ix3 0 a l) - rn (ix2 a l)) * acc (ix3 0 a e)
        + ∑ b : Fin 512, Ideal.exp (s (ix2 a b) - rn (ix2 a (f b))) * (if h : (e : ℕ) < 128 then v (ix2 b ⟨e, h⟩) else 1)) :
    Cells (added p x w W) rn' accn := by
  intro a
  obtain ⟨y, hy, hc⟩ := h a
  have hr : (∃ z : ℝ, y = z) ∨ y = ⊥ := by
    rcases hc 0 with ⟨z, hz, -⟩ | ⟨hz, -⟩
    · exact .inl ⟨z, hz⟩
    · exact .inr hz
  obtain ⟨z, hz⟩ := newMax_real (p a) (x a) (hp a) y hr
  have hm : ∀ l : Fin 128, rn (ix2 a l) = (z : EReal) := fun l => by
    rw [hrn, hy, ← hz]; congr 1; exact congrArg (fun f => Finset.univ.fold max (⊥ : EReal) f) (funext fun b => hs a b)
  refine ⟨z, fun l => (hrn' a l).trans (hm l), fun e => .inl ⟨z, rfl, ?_⟩⟩
  obtain ⟨l, f, he⟩ := hacc a e
  rw [he, hy, hm]
  simp_rw [hm, hs]
  have e1 : (∑ b : Fin 512, Ideal.exp (masked (p a) (x a) b - (z : EReal)) * (if h : (e : ℕ) < 128 then v (ix2 b ⟨e, h⟩) else 1))
      = ∑ b : Fin 512, Ideal.exp (masked (p a) (x a) b - (z : EReal)) * (w b e : EReal) :=
    Finset.sum_congr rfl fun b _ => by rw [hv b e]
  rw [e1]
  exact (hc e).step (p a) (x a) (fun b => w b e) (W a e) y (acc (ix3 0 a e)) z

section Payloads

variable (k kr v : Vec Ideal S512x128 .bf16) (q : Vec Ideal S512x256 .bf16) (r : Vec Ideal S1x512x128 .f32) (acc : Vec Ideal S1x512x256 .f32)

/-- The word the masks and the maxima start from is −∞. -/
theorem ninf : Ideal.ofBits .f32 0xFF800000#32 = (⊥ : EReal) := by simp [Ideal.ofBits, Ideal.ieee]

/-- The carried maxima are read in the lane of the column: 256 columns are two runs of the lanes, -/
theorem lane_two (e : Fin 256) (f : Fin 128 → EReal) :
    (if h : (e : ℕ) < 128 then f ⟨e, h⟩ else f ⟨(e : ℕ) - 128, by omega⟩) = f ⟨(e : ℕ) % 128, by omega⟩ := by
  split_ifs with h <;> exact congrArg f (Fin.ext (by show _ = (e : ℕ) % 128; simp only; omega))

/-- and 512 are four. -/
theorem lane_four (e : Fin 512) (f : Fin 128 → EReal) :
    (if h : (e : ℕ) < 128 then f ⟨e, h⟩ else if h : (e : ℕ) - 128 < 128 then f ⟨(e : ℕ) - 128, h⟩
      else if h : (e : ℕ) - 128 - 128 < 128 then f ⟨(e : ℕ) - 128 - 128, h⟩ else f ⟨(e : ℕ) - 128 - 128 - 128, by omega⟩)
      = f ⟨(e : ℕ) % 128, by omega⟩ := by
  split_ifs with h1 h2 h3 <;> exact congrArg f (Fin.ext (by show _ = (e : ℕ) % 128; simp only; omega))

/-- The score block before the mask. -/
theorem read_full (a b : Fin 512) : k0_pay10 (F := Ideal) k kr q (ix2 a b)
    = (∑ d : Fin 128, q (ix2 a ⟨d, by omega⟩) * k (ix2 b d)) + (∑ d : Fin 128, q (ix2 a ⟨128 + d, by omega⟩) * kr (ix2 b d)) := by
  pointwise [k0_pay10]

theorem read_full_max (a : Fin 512) (l : Fin 128) : k0_pay12 (F := Ideal) k kr q r (ix2 a l)
    = max (r (ix3 0 a l)) (Finset.univ.fold max (⊥ : EReal) fun b : Fin 512 => k0_pay10 (F := Ideal) k kr q (ix2 a b)) := by
  pointwise [k0_pay12, k0_pay11]
  rw [ninf]

theorem read_full_acc (a : Fin 512) (e : Fin 256) : ∃ (l : Fin 128) (f : Fin 512 → Fin 128),
    k0_pay13 (F := Ideal) k kr v q r acc (ix3 0 a e)
      = Ideal.exp (r (ix3 0 a l) - k0_pay12 (F := Ideal) k kr q r (ix2 a l)) * acc (ix3 0 a e)
        + ∑ b : Fin 512, Ideal.exp (k0_pay10 (F := Ideal) k kr q (ix2 a b) - k0_pay12 (F := Ideal) k kr q r (ix2 a (f b)))
            * (if h : (e : ℕ) < 128 then v (ix2 b ⟨e, h⟩) else 1) := by
  refine ⟨⟨(e : ℕ) % 128, by omega⟩, fun b => ⟨(b : ℕ) % 128, by omega⟩, ?_⟩
  pointwise [k0_pay13, k0_pay11, k0_pay9]
  refine congrArg₂ (· + ·) (congrArg (· * _) ?_) (Finset.sum_congr rfl fun b _ => ?_)
  · exact lane_two e fun l => Ideal.exp (r (ix3 0 a l) - k0_pay12 (F := Ideal) k kr q r (ix2 a l))
  · exact congrArg (fun z => Ideal.exp (k0_pay10 (F := Ideal) k kr q (ix2 a b) - z) * _) (lane_four b fun l => k0_pay12 (F := Ideal) k kr q r (ix2 a l))

theorem read_diag (a b : Fin 512) : k0_pay16 (F := Ideal) k kr q (ix2 a b)
    = if b ≤ a then (∑ d : Fin 128, q (ix2 a ⟨d, by omega⟩) * k (ix2 b d)) + (∑ d : Fin 128, q (ix2 a ⟨128 + d, by omega⟩) * kr (ix2 b d)) else ⊥ := by
  pointwise [k0_pay16]
  rw [ninf]
  by_cases h : b ≤ a
  · rw [if_pos h, (WordCmp.cmpi_sle_ofNat_eq_one_iff (by omega) (by omega)).mpr h]; rfl
  · rw [if_neg h, (WordCmp.cmpi_sle_ofNat_eq_zero_iff (by omega) (by omega)).mpr (by simpa using h)]; rfl

theorem read_diag_max (a : Fin 512) (l : Fin 128) : k0_pay18 (F := Ideal) k kr q r (ix2 a l)
    = max (r (ix3 0 a l)) (Finset.univ.fold max (⊥ : EReal) fun b : Fin 512 => k0_pay16 (F := Ideal) k kr q (ix2 a b)) := by
  pointwise [k0_pay18, k0_pay17]
  rw [ninf]

theorem read_diag_acc (a : Fin 512) (e : Fin 256) : ∃ (l : Fin 128) (f : Fin 512 → Fin 128),
    k0_pay19 (F := Ideal) k kr v q r acc (ix3 0 a e)
      = Ideal.exp (r (ix3 0 a l) - k0_pay18 (F := Ideal) k kr q r (ix2 a l)) * acc (ix3 0 a e)
        + ∑ b : Fin 512, Ideal.exp (k0_pay16 (F := Ideal) k kr q (ix2 a b) - k0_pay18 (F := Ideal) k kr q r (ix2 a (f b)))
            * (if h : (e : ℕ) < 128 then v (ix2 b ⟨e, h⟩) else 1) := by
  refine ⟨⟨(e : ℕ) % 128, by omega⟩, fun b => ⟨(b : ℕ) % 128, by omega⟩, ?_⟩
  pointwise [k0_pay19, k0_pay17, k0_pay15]
  refine congrArg₂ (· + ·) (congrArg (· * _) ?_) (Finset.sum_congr rfl fun b _ => ?_)
  · exact lane_two e fun l => Ideal.exp (r (ix3 0 a l) - k0_pay18 (F := Ideal) k kr q r (ix2 a l))
  · exact congrArg (fun z => Ideal.exp (k0_pay16 (F := Ideal) k kr q (ix2 a b) - z) * _) (lane_four b fun l => k0_pay18 (F := Ideal) k kr q r (ix2 a l))

/-- The quotient a row's end stores. -/
theorem read_end (a : Fin 512) (e : Fin 128) : k0_pay27 (F := Ideal) acc (ix2 a e)
    = Ideal.div (acc (ix3 0 a ⟨e, by omega⟩)) (acc (ix3 0 a ⟨128 + e, by omega⟩)) := by
  pointwise [k0_pay27, k0_pay26]

/-- The second head's payloads are the first's, printed again. -/
theorem again_full_max : k0_pay7 (F := Ideal) k kr q r = k0_pay14 (F := Ideal) k kr q r := rfl
theorem again_full_acc : k0_pay6 (F := Ideal) k0_pay9 k kr v q r acc = k0_pay13 (F := Ideal) k kr v q r acc := rfl
theorem again_diag_max : k0_pay25 (k0_pay23 (F := Ideal) k kr q r) = k0_pay20 (k0_pay18 (F := Ideal) k kr q r) := rfl
theorem again_diag_acc : k0_pay24 (F := Ideal) k0_pay15 k kr v q r acc = k0_pay19 (F := Ideal) k kr v q r acc := rfl
theorem again_end : k0_pay30 (F := Ideal) acc = k0_pay27 (F := Ideal) acc := rfl

variable {k kr v q r acc}

/-- A block below the diagonal: every column counts. -/
theorem cells_full {x : Fin 512 → Fin 512 → ℝ} {w : Fin 512 → Fin 256 → ℝ} {W : Fin 512 → Fin 256 → ℝ} (hx : Scores k kr q x)
    (hw : Weights v w) (h : Cells W r acc) :
    Cells (added (fun _ _ => True) x w W) (k0_pay14 (F := Ideal) k kr q r) (k0_pay13 (F := Ideal) k kr v q r acc) :=
  cells_step (fun _ _ => True) (fun a => ⟨a, trivial⟩) x w W (k0_pay10 (F := Ideal) k kr q)
    (fun a b => (read_full k kr q a b).trans ((hx a b).trans (if_pos trivial).symm)) r _ acc _ (k0_pay12 (F := Ideal) k kr q r) v hw h
    (read_full_max k kr q r) (fun a l => by pointwise [k0_pay14]) (read_full_acc k kr v q r acc)

/-- A block on the diagonal: the columns up to the row's own count. -/
theorem cells_diag {x : Fin 512 → Fin 512 → ℝ} {w : Fin 512 → Fin 256 → ℝ} {W : Fin 512 → Fin 256 → ℝ} (hx : Scores k kr q x)
    (hw : Weights v w) (h : Cells W r acc) :
    Cells (added (fun a b => b ≤ a) x w W) (k0_pay20 (k0_pay18 (F := Ideal) k kr q r)) (k0_pay19 (F := Ideal) k kr v q r acc) :=
  cells_step (fun a b => b ≤ a) (fun a => ⟨a, le_refl a⟩) x w W (k0_pay16 (F := Ideal) k kr q)
    (fun a b => (read_diag k kr q a b).trans (by rw [hx a b]; rfl)) r _ acc _ (k0_pay18 (F := Ideal) k kr q r) v hw h
    (read_diag_max k kr q r) (fun a l => by pointwise [k0_pay20]) (read_diag_acc k kr v q r acc)

end Payloads

end Cert.AttnProof
-- ==== Proof.Attn.Heads.lean ====
/- The kernel's two scratch arrays hold two heads; here they are read one head at a time, as the body stores and loads them. -/
module

public import proofs.«01_k».proof.Proof.Gen.AttnIdeal.Skeleton
public import proofs.«01_k».proof.Proof.Attn.Step
public import Idealize.ShloMosaic.Lib.Pipeline.ValueKit
public import Idealize.ShloMosaic.Lib.Pointwise

@[expose] public section

noncomputable section

namespace Cert.AttnProof

open Cert.AttnIdeal Cert.AttnIdeal.Gen
open Idealize.ShloMosaic Idealize.ShloMosaic.TcCoe

section

variable {n : ℕ} {e : EltTy} {Val : EltTy → Type} [∀ e, Nonempty (Val e)]

/-- The last store of the second head, read in the second head, -/
theorem canon_second (inb : ∀ x, (![1, 0, 0] : Fin 3 → ℕ) x + (![1, 512, n] : Fin 3 → ℕ) x ≤ (⟨3, ![2, 512, n]⟩ : Shape).size x)
    (w : (⟨3, ![1, 512, n]⟩ : Shape).Idx → Val e) (L : List (View.Piece Val (⟨3, ![2, 512, n]⟩ : Shape) e)) (a : Fin 512) (l : Fin n) :
    View.canon ((⟨Rect.unit (s := (⟨3, ![2, 512, n]⟩ : Shape)) ![1, 0, 0] ![1, 512, n] inb, w⟩ : View.Piece Val (⟨3, ![2, 512, n]⟩ : Shape) e) :: L)
      (ix3 1 a l) = w (ix3 0 a l) := by
  have h : (Rect.unit (s := (⟨3, ![2, 512, n]⟩ : Shape)) ![1, 0, 0] ![1, 512, n] inb).emb (ix3 (0 : Fin 1) a l) = ix3 1 a l := by
    funext x; fin_cases x <;> exact Fin.ext (by simp [Rect.emb, Rect.unit, LoadRect.idx])
  have := View.canon_cons_emb (Val := Val) (Rect.unit (s := (⟨3, ![2, 512, n]⟩ : Shape)) ![1, 0, 0] ![1, 512, n] inb) w L (ix3 (0 : Fin 1) a l)
  rw [h] at this
  exact this

/-- and passed over in the first; -/
theorem canon_second_miss (inb : ∀ x, (![1, 0, 0] : Fin 3 → ℕ) x + (![1, 512, n] : Fin 3 → ℕ) x ≤ (⟨3, ![2, 512, n]⟩ : Shape).size x)
    (w : (⟨3, ![1, 512, n]⟩ : Shape).Idx → Val e) (L : List (View.Piece Val (⟨3, ![2, 512, n]⟩ : Shape) e)) (a : Fin 512) (l : Fin n) :
    View.canon ((⟨Rect.unit (s := (⟨3, ![2, 512, n]⟩ : Shape)) ![1, 0, 0] ![1, 512, n] inb, w⟩ : View.Piece Val (⟨3, ![2, 512, n]⟩ : Shape) e) :: L)
      (ix3 0 a l) = View.canon L (ix3 0 a l) := by
  refine View.canon_cons_of_not_mem _ L fun h => ?_
  have h0 := (Rect.mem_set_unit (inb := inb)).mp h 0
  exact absurd h0.1 (by show ¬ 1 ≤ 0; omega)

/-- the first head's store likewise, -/
theorem canon_first (inb : ∀ x, (![0, 0, 0] : Fin 3 → ℕ) x + (![1, 512, n] : Fin 3 → ℕ) x ≤ (⟨3, ![2, 512, n]⟩ : Shape).size x)
    (w : (⟨3, ![1, 512, n]⟩ : Shape).Idx → Val e) (L : List (View.Piece Val (⟨3, ![2, 512, n]⟩ : Shape) e)) (a : Fin 512) (l : Fin n) :
    View.canon ((⟨Rect.unit (s := (⟨3, ![2, 512, n]⟩ : Shape)) ![0, 0, 0] ![1, 512, n] inb, w⟩ : View.Piece Val (⟨3, ![2, 512, n]⟩ : Shape) e) :: L)
      (ix3 0 a l) = w (ix3 0 a l) := by
  have h : (Rect.unit (s := (⟨3, ![2, 512, n]⟩ : Shape)) ![0, 0, 0] ![1, 512, n] inb).emb (ix3 (0 : Fin 1) a l) = ix3 0 a l := by
    funext x; fin_cases x <;> exact Fin.ext (by simp [Rect.emb, Rect.unit, LoadRect.idx])
  have := View.canon_cons_emb (Val := Val) (Rect.unit (s := (⟨3, ![2, 512, n]⟩ : Shape)) ![0, 0, 0] ![1, 512, n] inb) w L (ix3 (0 : Fin 1) a l)
  rw [h] at this
  exact this

theorem canon_first_miss (inb : ∀ x, (![0, 0, 0] : Fin 3 → ℕ) x + (![1, 512, n] : Fin 3 → ℕ) x ≤ (⟨3, ![2, 512, n]⟩ : Shape).size x)
    (w : (⟨3, ![1, 512, n]⟩ : Shape).Idx → Val e) (L : List (View.Piece Val (⟨3, ![2, 512, n]⟩ : Shape) e)) (a : Fin 512) (l : Fin n) :
    View.canon ((⟨Rect.unit (s := (⟨3, ![2, 512, n]⟩ : Shape)) ![0, 0, 0] ![1, 512, n] inb, w⟩ : View.Piece Val (⟨3, ![2, 512, n]⟩ : Shape) e) :: L)
      (ix3 1 a l) = View.canon L (ix3 1 a l) := by
  refine View.canon_cons_of_not_mem _ L fun h => ?_
  have h0 := (Rect.mem_set_unit (inb := inb)).mp h 0
  exact absurd h0.2 (by show ¬ 1 < 0 + 1; omega)

end

/-- The carried rows of one head `g` of the two scratch arrays. -/
def CellsAt (W : Fin 512 → Fin 256 → ℝ) (R : Vec Ideal S2x512x128 .f32) (A : Vec Ideal S2x512x256 .f32) (g : Fin 2) : Prop :=
  ∀ a : Fin 512, ∃ y : EReal, (∀ l : Fin 128, R (ix3 g a l) = y) ∧ ∀ e : Fin 256, Carried (W a e) y (A (ix3 g a e))

variable {W : Fin 512 → Fin 256 → ℝ}

/-- One head loaded. -/
theorem CellsAt.load0 {R : Vec Ideal S2x512x128 .f32} {A : Vec Ideal S2x512x256 .f32} (h : CellsAt W R A 0) :
    Cells W (View.ld R (Rect.unit ![0, 0, 0] ![1, 512, 128] inb_S2x512x128_S1x512x128_0_0_0))
      (View.ld A (Rect.unit ![0, 0, 0] ![1, 512, 256] inb_S2x512x256_S1x512x256_0_0_0)) := by
  intro a
  obtain ⟨y, h1, h2⟩ := h a
  refine ⟨y, fun l => ?_, fun e => ?_⟩
  · pointwise []; exact h1 l
  · have := h2 e
    pointwise []; exact this
theorem CellsAt.load1 {R : Vec Ideal S2x512x128 .f32} {A : Vec Ideal S2x512x256 .f32} (h : CellsAt W R A 1) :
    Cells W (View.ld R (Rect.unit ![1, 0, 0] ![1, 512, 128] inb_S2x512x128_S1x512x128_1_0_0))
      (View.ld A (Rect.unit ![1, 0, 0] ![1, 512, 256] inb_S2x512x256_S1x512x256_1_0_0)) := by
  intro a
  obtain ⟨y, h1, h2⟩ := h a
  refine ⟨y, fun l => ?_, fun e => ?_⟩
  · pointwise []; exact h1 l
  · have := h2 e
    pointwise []; exact this

section Stores

variable (inb1 : ∀ x, (![1, 0, 0] : Fin 3 → ℕ) x + (![1, 512, 128] : Fin 3 → ℕ) x ≤ S2x512x128.size x)
  (inb1' : ∀ x, (![1, 0, 0] : Fin 3 → ℕ) x + (![1, 512, 256] : Fin 3 → ℕ) x ≤ S2x512x256.size x)
  (inb0 : ∀ x, (![0, 0, 0] : Fin 3 → ℕ) x + (![1, 512, 128] : Fin 3 → ℕ) x ≤ S2x512x128.size x)
  (inb0' : ∀ x, (![0, 0, 0] : Fin 3 → ℕ) x + (![1, 512, 256] : Fin 3 → ℕ) x ≤ S2x512x256.size x)
  (L : List (View.Piece (Elt Ideal) S2x512x128 .f32)) (w w0 : Vec Ideal S1x512x128 .f32)
  (L' : List (View.Piece (Elt Ideal) S2x512x256 .f32)) (w' w0' : Vec Ideal S1x512x256 .f32)

/-- The two heads' stores: the second head's comes last. -/
theorem CellsAt.store1 (h : Cells W w w') :
    CellsAt W (View.canon ((⟨Rect.unit ![1, 0, 0] ![1, 512, 128] inb1, w⟩ : View.Piece (Elt Ideal) S2x512x128 .f32) :: L))
      (View.canon ((⟨Rect.unit ![1, 0, 0] ![1, 512, 256] inb1', w'⟩ : View.Piece (Elt Ideal) S2x512x256 .f32) :: L')) 1 := by
  intro a
  obtain ⟨y, h1, h2⟩ := h a
  exact ⟨y, fun l => (canon_second (Val := Elt Ideal) (e := .f32) inb1 w L a l).trans (h1 l),
    fun e => Eq.mpr (congrArg (Carried (W a e) y) (canon_second (Val := Elt Ideal) (e := .f32) inb1' w' L' a e)) (h2 e)⟩
theorem CellsAt.store0 (h : Cells W w0 w0') :
    CellsAt W (View.canon ((⟨Rect.unit ![1, 0, 0] ![1, 512, 128] inb1, w⟩ : View.Piece (Elt Ideal) S2x512x128 .f32)
        :: (⟨Rect.unit ![0, 0, 0] ![1, 512, 128] inb0, w0⟩ : View.Piece (Elt Ideal) S2x512x128 .f32) :: L))
      (View.canon ((⟨Rect.unit ![1, 0, 0] ![1, 512, 256] inb1', w'⟩ : View.Piece (Elt Ideal) S2x512x256 .f32)
        :: (⟨Rect.unit ![0, 0, 0] ![1, 512, 256] inb0', w0'⟩ : View.Piece (Elt Ideal) S2x512x256 .f32) :: L')) 0 := by
  intro a
  obtain ⟨y, h1, h2⟩ := h a
  exact ⟨y, fun l => (canon_second_miss (Val := Elt Ideal) (e := .f32) inb1 w _ a l).trans
      ((canon_first (Val := Elt Ideal) (e := .f32) inb0 w0 L a l).trans (h1 l)),
    fun e => Eq.mpr (congrArg (Carried (W a e) y) ((canon_second_miss (Val := Elt Ideal) (e := .f32) inb1' w' _ a e).trans
      (canon_first (Val := Elt Ideal) (e := .f32) inb0' w0' L' a e))) (h2 e)⟩

end Stores

end Cert.AttnProof
-- ==== Proof.Attn.Outs.lean ====
/- The output block, one head at a time. -/
module

public import proofs.«01_k».proof.Proof.Gen.AttnIdeal.Skeleton
public import Idealize.ShloMosaic.Lib.Pipeline.ValueKit
public import Idealize.ShloMosaic.Lib.Pointwise

@[expose] public section

noncomputable section

namespace Cert.AttnProof

open Cert.AttnIdeal Cert.AttnIdeal.Gen
open Idealize.ShloMosaic Idealize.ShloMosaic.TcCoe

section

variable {n w k h : ℕ} {e : EltTy} {Val : EltTy → Type} [∀ e, Nonempty (Val e)]

/-- The output block: the columns from `k` on, -/
theorem out_second (inb : ∀ x, (![0, k] : Fin 2 → ℕ) x + (![n, h] : Fin 2 → ℕ) x ≤ (⟨2, ![n, w]⟩ : Shape).size x)
    (v : (⟨2, ![n, h]⟩ : Shape).Idx → Val e) (L : List (View.Piece Val (⟨2, ![n, w]⟩ : Shape) e)) (a : Fin n) (l : Fin h) (l' : Fin w)
    (hl : (l' : ℕ) = k + l) :
    View.canon ((⟨Rect.unit (s := (⟨2, ![n, w]⟩ : Shape)) ![0, k] ![n, h] inb, v⟩ : View.Piece Val (⟨2, ![n, w]⟩ : Shape) e) :: L)
      (ix2 a l') = v (ix2 a l) := by
  have hr : (Rect.unit (s := (⟨2, ![n, w]⟩ : Shape)) ![0, k] ![n, h] inb).emb (ix2 a l) = ix2 a l' := by
    funext x; fin_cases x <;> exact Fin.ext (by simp [Rect.emb, Rect.unit, LoadRect.idx, hl])
  have := View.canon_cons_emb (Val := Val) (Rect.unit (s := (⟨2, ![n, w]⟩ : Shape)) ![0, k] ![n, h] inb) v L (ix2 a l)
  rw [hr] at this
  exact this

/-- and those before it. -/
theorem out_miss (inb : ∀ x, (![0, k] : Fin 2 → ℕ) x + (![n, h] : Fin 2 → ℕ) x ≤ (⟨2, ![n, w]⟩ : Shape).size x)
    (v : (⟨2, ![n, h]⟩ : Shape).Idx → Val e) (L : List (View.Piece Val (⟨2, ![n, w]⟩ : Shape) e)) (a : Fin n) (l' : Fin w)
    (hl : (l' : ℕ) < k) :
    View.canon ((⟨Rect.unit (s := (⟨2, ![n, w]⟩ : Shape)) ![0, k] ![n, h] inb, v⟩ : View.Piece Val (⟨2, ![n, w]⟩ : Shape) e) :: L)
      (ix2 a l') = View.canon L (ix2 a l') := by
  refine View.canon_cons_of_not_mem _ L fun hm => ?_
  have h0 : k ≤ (l' : ℕ) := ((Rect.mem_set_unit (inb := inb)).mp hm 1).1
  omega

end

end Cert.AttnProof
-- ==== Proof.Attn.Fill.lean ====
/- What a row block finds in the scratch arrays at its first column block: no maximum yet, and empty sums. And the output block, from the sums as they stand at the end. -/
module

public import proofs.«01_k».proof.Proof.Attn.Heads
public import proofs.«01_k».proof.Proof.Attn.Outs
public import Idealize.ShloMosaic.Lib.Pipeline.ReadBack

@[expose] public section

noncomputable section

namespace Cert.AttnProof

open Cert.AttnIdeal Cert.AttnIdeal.Gen
open Idealize.ShloMosaic Idealize.ShloMosaic.TcCoe

theorem fill_max (g : Fin 2) (a : Fin 512) (l : Fin 128) : k0_pay1 (F := Ideal) (ix3 g a l) = (⊥ : EReal) := by
  pointwise [k0_pay1]
  exact ninf
theorem fill_sum (g : Fin 2) (a : Fin 512) (e : Fin 256) : k0_pay2 (F := Ideal) (ix3 g a e) = (0 : EReal) := by
  pointwise [k0_pay2]

/-- Nothing carried yet. -/
theorem cells_fill : ∀ g : Fin 2, CellsAt (fun _ _ => 0) (k0_pay1 (F := Ideal)) (k0_pay2 (F := Ideal)) g := fun g a =>
  ⟨⊥, fun l => fill_max g a l, fun e => Or.inr ⟨rfl, fill_sum g a e, rfl⟩⟩

section

variable {sp sp' : Space} (v : View sig .tc sp S2x512x128 .f32) (v' : View sig .tc sp' S2x512x256 .f32)
  (f : ∀ x, (![0, 0, 0] : Fin 3 → ℕ) x + (![2, 512, 128] : Fin 3 → ℕ) x ≤ S2x512x128.size x)
  (f' : ∀ x, (![0, 0, 0] : Fin 3 → ℕ) x + (![2, 512, 256] : Fin 3 → ℕ) x ≤ S2x512x256.size x)
  (w : Vec Ideal S1x512x128 .f32) (w' : Vec Ideal S1x512x256 .f32)

/-- The first head reads the fill, -/
theorem fill_first : Cells (fun _ _ => 0)
    (v.readCov (Val := Elt Ideal) [⟨Rect.unit (s := S2x512x128) ![0, 0, 0] ![2, 512, 128] f, k0_pay1 (F := Ideal)⟩]
      (Rect.unit (s := S2x512x128) ![0, 0, 0] ![1, 512, 128] inb_S2x512x128_S1x512x128_0_0_0).toLoadRect)
    (v'.readCov (Val := Elt Ideal) [⟨Rect.unit (s := S2x512x256) ![0, 0, 0] ![2, 512, 256] f', k0_pay2 (F := Ideal)⟩]
      (Rect.unit (s := S2x512x256) ![0, 0, 0] ![1, 512, 256] inb_S2x512x256_S1x512x256_0_0_0).toLoadRect) := by
  have e1 := View.readCov_fill (Val := Elt Ideal) v f (k0_pay1 (F := Ideal)) [] (Rect.unit (s := S2x512x128) ![0, 0, 0] ![1, 512, 128] inb_S2x512x128_S1x512x128_0_0_0)
    (by decide)
  have e2 := View.readCov_fill (Val := Elt Ideal) v' f' (k0_pay2 (F := Ideal)) [] (Rect.unit (s := S2x512x256) ![0, 0, 0] ![1, 512, 256] inb_S2x512x256_S1x512x256_0_0_0)
    (by decide)
  exact Eq.mpr (congrArg₂ (Cells fun _ _ => 0) e1 e2) (cells_fill 0).load0

/-- and so does the second, past the first one's store. -/
theorem fill_second : Cells (fun _ _ => 0)
    (v.readCov (Val := Elt Ideal) [⟨Rect.unit (s := S2x512x128) ![0, 0, 0] ![1, 512, 128] inb_S2x512x128_S1x512x128_0_0_0, w⟩,
        ⟨Rect.unit (s := S2x512x128) ![0, 0, 0] ![2, 512, 128] f, k0_pay1 (F := Ideal)⟩]
      (Rect.unit (s := S2x512x128) ![1, 0, 0] ![1, 512, 128] inb_S2x512x128_S1x512x128_1_0_0).toLoadRect)
    (v'.readCov (Val := Elt Ideal) [⟨Rect.unit (s := S2x512x256) ![0, 0, 0] ![1, 512, 256] inb_S2x512x256_S1x512x256_0_0_0, w'⟩,
        ⟨Rect.unit (s := S2x512x256) ![0, 0, 0] ![2, 512, 256] f', k0_pay2 (F := Ideal)⟩]
      (Rect.unit (s := S2x512x256) ![1, 0, 0] ![1, 512, 256] inb_S2x512x256_S1x512x256_1_0_0).toLoadRect) := by
  have e1 := View.readCov_fill (Val := Elt Ideal) v f (k0_pay1 (F := Ideal)) [] (Rect.unit (s := S2x512x128) ![1, 0, 0] ![1, 512, 128] inb_S2x512x128_S1x512x128_1_0_0)
    (by decide)
  have e2 := View.readCov_fill (Val := Elt Ideal) v' f' (k0_pay2 (F := Ideal)) [] (Rect.unit (s := S2x512x256) ![1, 0, 0] ![1, 512, 256] inb_S2x512x256_S1x512x256_1_0_0)
    (by decide)
  have s1 := View.readCov_skip (Val := Elt Ideal) v (Rect.unit (s := S2x512x128) ![0, 0, 0] ![1, 512, 128] inb_S2x512x128_S1x512x128_0_0_0) w
    [⟨Rect.unit (s := S2x512x128) ![0, 0, 0] ![2, 512, 128] f, k0_pay1 (F := Ideal)⟩] (Rect.unit (s := S2x512x128) ![1, 0, 0] ![1, 512, 128] inb_S2x512x128_S1x512x128_1_0_0).toLoadRect
    (by decide)
  have s2 := View.readCov_skip (Val := Elt Ideal) v' (Rect.unit (s := S2x512x256) ![0, 0, 0] ![1, 512, 256] inb_S2x512x256_S1x512x256_0_0_0) w'
    [⟨Rect.unit (s := S2x512x256) ![0, 0, 0] ![2, 512, 256] f', k0_pay2 (F := Ideal)⟩] (Rect.unit (s := S2x512x256) ![1, 0, 0] ![1, 512, 256] inb_S2x512x256_S1x512x256_1_0_0).toLoadRect
    (by decide)
  exact Eq.mpr (congrArg₂ (Cells fun _ _ => 0) (s1.trans e1) (s2.trans e2)) (cells_fill 1).load1

end

section

variable {sp : Space} (v : View sig .tc sp S2x512x256 .f32) (L : List (View.Piece (Elt Ideal) S2x512x256 .f32))
  (o1 : ∀ x, (![0, 128] : Fin 2 → ℕ) x + (![512, 128] : Fin 2 → ℕ) x ≤ S512x256.size x)
  (o0 : ∀ x, (![0, 0] : Fin 2 → ℕ) x + (![512, 128] : Fin 2 → ℕ) x ≤ S512x256.size x)

/-- The two runs of lanes. -/
def lo (e : Fin 128) : Fin 256 := ⟨e, by omega⟩
def hi (e : Fin 128) : Fin 256 := ⟨128 + e, by omega⟩

/-- A head's sums, read back, -/
theorem back0 (a : Fin 512) (e : Fin 256) :
    v.readCov L (Rect.unit (s := S2x512x256) ![0, 0, 0] ![1, 512, 256] inb_S2x512x256_S1x512x256_0_0_0).toLoadRect (ix3 0 a e) = View.canon L (ix3 0 a e) := by
  rw [View.readCov_eq_canon']
  refine congrArg (View.canon L) ?_
  funext x; fin_cases x <;> exact Fin.ext (by simp [Rect.unit, LoadRect.idx])
theorem back1 (a : Fin 512) (e : Fin 256) :
    v.readCov L (Rect.unit (s := S2x512x256) ![1, 0, 0] ![1, 512, 256] inb_S2x512x256_S1x512x256_1_0_0).toLoadRect (ix3 0 a e) = View.canon L (ix3 1 a e) := by
  rw [View.readCov_eq_canon']
  refine congrArg (View.canon L) ?_
  funext x; fin_cases x <;> exact Fin.ext (by simp [Rect.unit, LoadRect.idx])

/-- and divided: each head's columns of the output block. -/
theorem out_at0 (w : Vec Ideal S512x128 .bf16) (a : Fin 512) (e : Fin 128) :
    View.canon (Val := Elt Ideal) (s := S512x256) (e := .bf16)
      [⟨Rect.unit (s := S512x256) ![0, 128] ![512, 128] o1, w⟩,
        ⟨Rect.unit (s := S512x256) ![0, 0] ![512, 128] o0, k0_pay27 (F := Ideal) (v.readCov L (Rect.unit (s := S2x512x256) ![0, 0, 0] ![1, 512, 256] inb_S2x512x256_S1x512x256_0_0_0).toLoadRect)⟩]
      (ix2 a (lo e)) = Ideal.div (View.canon L (ix3 0 a (lo e))) (View.canon L (ix3 0 a (hi e))) :=
  (out_miss (Val := Elt Ideal) (e := .bf16) o1 w _ a _ e.isLt).trans
    ((out_second (Val := Elt Ideal) (e := .bf16) o0 _ [] a e _ (by simp [lo])).trans ((read_end _ a e).trans
      (congrArg₂ Ideal.div (back0 v L a _) (back0 v L a _))))
theorem out_at1 (M : List (View.Piece (Elt Ideal) S512x256 .bf16)) (a : Fin 512) (e : Fin 128) :
    View.canon (Val := Elt Ideal) (s := S512x256) (e := .bf16)
      (⟨Rect.unit (s := S512x256) ![0, 128] ![512, 128] o1, k0_pay27 (F := Ideal) (v.readCov L (Rect.unit (s := S2x512x256) ![1, 0, 0] ![1, 512, 256] inb_S2x512x256_S1x512x256_1_0_0).toLoadRect)⟩ :: M)
      (ix2 a (hi e)) = Ideal.div (View.canon L (ix3 1 a (lo e))) (View.canon L (ix3 1 a (hi e))) :=
  (out_second (Val := Elt Ideal) (e := .bf16) o1 _ M a e _ rfl).trans ((read_end _ a e).trans
      (congrArg₂ Ideal.div (back1 v L a _) (back1 v L a _)))

end

end Cert.AttnProof
-- ==== Proof.Attn.Loads.lean ====
/- The blocks the kernel loads and stores, one head at a time. -/
module

public import proofs.«01_k».proof.Proof.Gen.AttnIdeal.Skeleton
public import Idealize.ShloMosaic.Lib.Pipeline.ValueKit
public import Idealize.ShloMosaic.Lib.Pointwise
public import proofs.«01_k».proof.Proof.Attn.Step

@[expose] public section

noncomputable section

namespace Cert.AttnProof

open Cert.AttnIdeal Cert.AttnIdeal.Gen
open Idealize.ShloMosaic Idealize.ShloMosaic.TcCoe

variable (Q KV : Vec Ideal S512x512 .bf16) (KR : Vec Ideal S512x128 .bf16)

/-- The scores of one head `g` of the block, its queries and keys read where they stand in the blocks, -/
def ScoresAt (g : Fin 2) (x : Fin 512 → Fin 512 → ℝ) : Prop :=
  ∀ a b : Fin 512, (∑ d : Fin 128, Q (ix2 a ⟨256 * g + d, by omega⟩) * KV (ix2 b ⟨256 * g + d, by omega⟩))
    + (∑ d : Fin 128, Q (ix2 a ⟨256 * g + (128 + d), by omega⟩) * KR (ix2 b d)) = (x a b : EReal)

/-- and its weights. -/
def WeightsAt (g : Fin 2) (w : Fin 512 → Fin 256 → ℝ) : Prop :=
  ∀ (b : Fin 512) (e : Fin 256), (if h : (e : ℕ) < 128 then KV (ix2 b ⟨256 * g + (128 + e), by omega⟩) else 1) = (w b e : EReal)

variable {Q KV KR} {x : Fin 512 → Fin 512 → ℝ} {w : Fin 512 → Fin 256 → ℝ}

theorem ScoresAt.load0 (h : ScoresAt Q KV KR 0 x) :
    Scores (View.ld KV (Rect.unit ![0, 0] ![512, 128] inb_S512x512_S512x128_0_0)) KR
      (View.ld Q (Rect.unit ![0, 0] ![512, 256] inb_S512x512_S512x256_0_0)) x := by
  intro a b
  refine Eq.trans ?_ (h a b)
  refine congrArg₂ (· + ·) (Finset.sum_congr rfl fun d _ => congrArg₂ (· * ·) ?_ ?_) (Finset.sum_congr rfl fun d _ => congrArg₂ (· * ·) ?_ rfl)
  all_goals pointwise []
theorem ScoresAt.load1 (h : ScoresAt Q KV KR 1 x) :
    Scores (View.ld KV (Rect.unit ![0, 256] ![512, 128] inb_S512x512_S512x128_0_256)) KR
      (View.ld Q (Rect.unit ![0, 256] ![512, 256] inb_S512x512_S512x256_0_256)) x := by
  intro a b
  refine Eq.trans ?_ (h a b)
  refine congrArg₂ (· + ·) (Finset.sum_congr rfl fun d _ => congrArg₂ (· * ·) ?_ ?_) (Finset.sum_congr rfl fun d _ => congrArg₂ (· * ·) ?_ rfl)
  all_goals pointwise []
theorem WeightsAt.load0 (h : WeightsAt KV 0 w) : Weights (View.ld KV (Rect.unit ![0, 128] ![512, 128] inb_S512x512_S512x128_0_128)) w := by
  intro b e
  refine Eq.trans ?_ (h b e)
  refine dite_congr rfl (fun _ => ?_) fun _ => rfl
  pointwise []
theorem WeightsAt.load1 (h : WeightsAt KV 1 w) : Weights (View.ld KV (Rect.unit ![0, 384] ![512, 128] inb_S512x512_S512x128_0_384)) w := by
  intro b e
  refine Eq.trans ?_ (h b e)
  refine dite_congr rfl (fun _ => ?_) fun _ => rfl
  pointwise []
  exact congrArg (fun i => KV (ix2 b i)) (Fin.ext (by show 384 + (e : ℕ) = 256 + (128 + e); omega))

end Cert.AttnProof
-- ==== Proof.Attn.PathA.lean ====
/- The kernel's body on the diagonal of the first row block: what it leaves in the scratch arrays and in the output block, one head at a time. -/
module

public import proofs.«01_k».proof.Proof.Gen.AttnIdeal.Flash
public import proofs.«01_k».proof.Proof.Attn.Fill
public import proofs.«01_k».proof.Proof.Attn.Loads
public import Idealize.ShloMosaic.Lib.Pipeline.ReadBack
public import Idealize.ShloMosaic.Lib.Pipeline.ValueKit

@[expose] public section

noncomputable section

namespace Cert.AttnProof

open Cert.AttnIdeal Cert.AttnIdeal.Gen
open Idealize.ShloMosaic Idealize.ShloMosaic.TcCoe

variable (m : (ℓ : Loc nD τ sig) → Buf (Elt Ideal) ℓ) (ρ : Dev nD → PrngReg)
  {x : Fin 512 → Fin 512 → ℝ} {w : Fin 512 → Fin 256 → ℝ}

theorem pathA_first (c : Dev nD) (t : Fin (cfgA 0).N) (prev) (q0 : P0_0 0 t) (q1 : ¬P0_1 0 t)
    (hx : ScoresAt (iblk 0 m ρ c 0 t) (iblk 0 m ρ c 1 t) (iblk 0 m ρ c 2 t) 0 x) (hw : WeightsAt (iblk 0 m ρ c 1 t) 0 w) :
    CellsAt (added (fun a b => b ≤ a) x w (fun _ _ => 0)) (scM0_0.view.read (Elt Ideal) (step0 0 m ρ c t prev).2.2.1)
      (scM0_1.view.read (Elt Ideal) (step0 0 m ρ c t prev).2.2.2) 0 := by
  rw [step0_A 0 m ρ c t prev q0 q1]
  dsimp only
  frame_out
  simp only [View.read_rep]
  exact CellsAt.store0 _ _ _ _ _ _ _ _ _ _ (cells_diag hx.load0 hw.load0 (fill_first _ _ _ _))

theorem pathA_second (c : Dev nD) (t : Fin (cfgA 0).N) (prev) (q0 : P0_0 0 t) (q1 : ¬P0_1 0 t)
    (hx : ScoresAt (iblk 0 m ρ c 0 t) (iblk 0 m ρ c 1 t) (iblk 0 m ρ c 2 t) 1 x) (hw : WeightsAt (iblk 0 m ρ c 1 t) 1 w) :
    CellsAt (added (fun a b => b ≤ a) x w (fun _ _ => 0)) (scM0_0.view.read (Elt Ideal) (step0 0 m ρ c t prev).2.2.1)
      (scM0_1.view.read (Elt Ideal) (step0 0 m ρ c t prev).2.2.2) 1 := by
  rw [step0_A 0 m ρ c t prev q0 q1]
  dsimp only
  frame_out
  simp only [View.read_rep, again_diag_max, again_diag_acc]
  exact CellsAt.store1 _ _ _ _ _ _ (cells_diag hx.load1 hw.load1 (fill_second _ _ _ _ _ _))

theorem pathA_out0 (c : Dev nD) (t : Fin (cfgA 0).N) (prev) (q0 : P0_0 0 t) (q1 : ¬P0_1 0 t) (a : Fin 512) (e : Fin 128) :
    (step0 0 m ρ c t prev).1 (ix2 a (lo e))
      = Ideal.div (scM0_1.view.read (Elt Ideal) (step0 0 m ρ c t prev).2.2.2 (ix3 0 a (lo e)))
          (scM0_1.view.read (Elt Ideal) (step0 0 m ρ c t prev).2.2.2 (ix3 0 a (hi e))) := by
  rw [step0_A 0 m ρ c t prev q0 q1]
  dsimp only
  frame_out
  simp only [again_end]
  exact out_at0 _ _ _ _ _ a e

theorem pathA_out1 (c : Dev nD) (t : Fin (cfgA 0).N) (prev) (q0 : P0_0 0 t) (q1 : ¬P0_1 0 t) (a : Fin 512) (e : Fin 128) :
    (step0 0 m ρ c t prev).1 (ix2 a (hi e))
      = Ideal.div (scM0_1.view.read (Elt Ideal) (step0 0 m ρ c t prev).2.2.2 (ix3 1 a (lo e)))
          (scM0_1.view.read (Elt Ideal) (step0 0 m ρ c t prev).2.2.2 (ix3 1 a (hi e))) := by
  rw [step0_A 0 m ρ c t prev q0 q1]
  dsimp only
  frame_out
  simp only [again_end]
  exact out_at1 _ _ _ _ a e

end Cert.AttnProof
-- ==== Proof.Attn.PathB.lean ====
/- The kernel's body at the first column block, below the diagonal: what it leaves in the scratch arrays, one head at a time. -/
module

public import proofs.«01_k».proof.Proof.Gen.AttnIdeal.Flash
public import proofs.«01_k».proof.Proof.Attn.Fill
public import proofs.«01_k».proof.Proof.Attn.Loads
public import Idealize.ShloMosaic.Lib.Pipeline.ReadBack
public import Idealize.ShloMosaic.Lib.Pipeline.ValueKit

@[expose] public section

noncomputable section

namespace Cert.AttnProof

open Cert.AttnIdeal Cert.AttnIdeal.Gen
open Idealize.ShloMosaic Idealize.ShloMosaic.TcCoe

variable (m : (ℓ : Loc nD τ sig) → Buf (Elt Ideal) ℓ) (ρ : Dev nD → PrngReg)
  {x : Fin 512 → Fin 512 → ℝ} {w : Fin 512 → Fin 256 → ℝ}

theorem pathB_first (c : Dev nD) (t : Fin (cfgA 0).N) (prev) (q0 : P0_0 0 t) (q1 : P0_1 0 t)
    (hx : ScoresAt (iblk 0 m ρ c 0 t) (iblk 0 m ρ c 1 t) (iblk 0 m ρ c 2 t) 0 x) (hw : WeightsAt (iblk 0 m ρ c 1 t) 0 w) :
    CellsAt (added (fun _ _ => True) x w (fun _ _ => 0)) (scM0_0.view.read (Elt Ideal) (step0 0 m ρ c t prev).2.2.1)
      (scM0_1.view.read (Elt Ideal) (step0 0 m ρ c t prev).2.2.2) 0 := by
  rw [step0_B 0 m ρ c t prev q0 q1]
  dsimp only
  frame_out
  simp only [View.read_rep]
  exact CellsAt.store0 _ _ _ _ _ _ _ _ _ _ (cells_full hx.load0 hw.load0 (fill_first _ _ _ _))

theorem pathB_second (c : Dev nD) (t : Fin (cfgA 0).N) (prev) (q0 : P0_0 0 t) (q1 : P0_1 0 t)
    (hx : ScoresAt (iblk 0 m ρ c 0 t) (iblk 0 m ρ c 1 t) (iblk 0 m ρ c 2 t) 1 x) (hw : WeightsAt (iblk 0 m ρ c 1 t) 1 w) :
    CellsAt (added (fun _ _ => True) x w (fun _ _ => 0)) (scM0_0.view.read (Elt Ideal) (step0 0 m ρ c t prev).2.2.1)
      (scM0_1.view.read (Elt Ideal) (step0 0 m ρ c t prev).2.2.2) 1 := by
  rw [step0_B 0 m ρ c t prev q0 q1]
  dsimp only
  frame_out
  simp only [View.read_rep, again_full_max, again_full_acc]
  exact CellsAt.store1 _ _ _ _ _ _ (cells_full hx.load1 hw.load1 (fill_second _ _ _ _ _ _))

end Cert.AttnProof
-- ==== Proof.Attn.PathC.lean ====
/- The kernel's body on the diagonal, after other column blocks: what it leaves in the scratch arrays and in the output block, one head at a time. -/
module

public import proofs.«01_k».proof.Proof.Gen.AttnIdeal.Flash
public import proofs.«01_k».proof.Proof.Attn.Fill
public import proofs.«01_k».proof.Proof.Attn.Loads
public import Idealize.ShloMosaic.Lib.Pipeline.ReadBack
public import Idealize.ShloMosaic.Lib.Pipeline.ValueKit

@[expose] public section

noncomputable section

namespace Cert.AttnProof

open Cert.AttnIdeal Cert.AttnIdeal.Gen
open Idealize.ShloMosaic Idealize.ShloMosaic.TcCoe

variable (m : (ℓ : Loc nD τ sig) → Buf (Elt Ideal) ℓ) (ρ : Dev nD → PrngReg)
  {x : Fin 512 → Fin 512 → ℝ} {w W : Fin 512 → Fin 256 → ℝ}

theorem pathC_first (c : Dev nD) (t : Fin (cfgA 0).N) (prev) (q0 : ¬P0_0 0 t) (q1 : ¬P0_1 0 t)
    (hx : ScoresAt (iblk 0 m ρ c 0 t) (iblk 0 m ρ c 1 t) (iblk 0 m ρ c 2 t) 0 x) (hw : WeightsAt (iblk 0 m ρ c 1 t) 0 w)
    (h : CellsAt W (scM0_0.view.read (Elt Ideal) prev.2.2.1) (scM0_1.view.read (Elt Ideal) prev.2.2.2) 0) :
    CellsAt (added (fun a b => b ≤ a) x w W) (scM0_0.view.read (Elt Ideal) (step0 0 m ρ c t prev).2.2.1)
      (scM0_1.view.read (Elt Ideal) (step0 0 m ρ c t prev).2.2.2) 0 := by
  rw [step0_C 0 m ρ c t prev q0 q1]
  dsimp only
  frame_out
  simp only [View.read_rep]
  exact CellsAt.store0 _ _ _ _ _ _ _ _ _ _ (cells_diag hx.load0 hw.load0 h.load0)

theorem pathC_second (c : Dev nD) (t : Fin (cfgA 0).N) (prev) (q0 : ¬P0_0 0 t) (q1 : ¬P0_1 0 t)
    (hx : ScoresAt (iblk 0 m ρ c 0 t) (iblk 0 m ρ c 1 t) (iblk 0 m ρ c 2 t) 1 x) (hw : WeightsAt (iblk 0 m ρ c 1 t) 1 w)
    (h : CellsAt W (scM0_0.view.read (Elt Ideal) prev.2.2.1) (scM0_1.view.read (Elt Ideal) prev.2.2.2) 1) :
    CellsAt (added (fun a b => b ≤ a) x w W) (scM0_0.view.read (Elt Ideal) (step0 0 m ρ c t prev).2.2.1)
      (scM0_1.view.read (Elt Ideal) (step0 0 m ρ c t prev).2.2.2) 1 := by
  rw [step0_C 0 m ρ c t prev q0 q1]
  dsimp only
  frame_out
  simp only [View.read_rep, again_diag_max, again_diag_acc]
  exact CellsAt.store1 _ _ _ _ _ _ (cells_diag hx.load1 hw.load1 h.load1)

theorem pathC_out0 (c : Dev nD) (t : Fin (cfgA 0).N) (prev) (q0 : ¬P0_0 0 t) (q1 : ¬P0_1 0 t) (a : Fin 512) (e : Fin 128) :
    (step0 0 m ρ c t prev).1 (ix2 a (lo e))
      = Ideal.div (scM0_1.view.read (Elt Ideal) (step0 0 m ρ c t prev).2.2.2 (ix3 0 a (lo e)))
          (scM0_1.view.read (Elt Ideal) (step0 0 m ρ c t prev).2.2.2 (ix3 0 a (hi e))) := by
  rw [step0_C 0 m ρ c t prev q0 q1]
  dsimp only
  frame_out
  simp only [again_end]
  exact out_at0 _ _ _ _ _ a e

theorem pathC_out1 (c : Dev nD) (t : Fin (cfgA 0).N) (prev) (q0 : ¬P0_0 0 t) (q1 : ¬P0_1 0 t) (a : Fin 512) (e : Fin 128) :
    (step0 0 m ρ c t prev).1 (ix2 a (hi e))
      = Ideal.div (scM0_1.view.read (Elt Ideal) (step0 0 m ρ c t prev).2.2.2 (ix3 1 a (lo e)))
          (scM0_1.view.read (Elt Ideal) (step0 0 m ρ c t prev).2.2.2 (ix3 1 a (hi e))) := by
  rw [step0_C 0 m ρ c t prev q0 q1]
  dsimp only
  frame_out
  simp only [again_end]
  exact out_at1 _ _ _ _ a e

end Cert.AttnProof
-- ==== Proof.Attn.PathD.lean ====
/- The kernel's body below the diagonal, after other column blocks: what it leaves in the scratch arrays, one head at a time. -/
module

public import proofs.«01_k».proof.Proof.Gen.AttnIdeal.Flash
public import proofs.«01_k».proof.Proof.Attn.Fill
public import proofs.«01_k».proof.Proof.Attn.Loads
public import Idealize.ShloMosaic.Lib.Pipeline.ReadBack
public import Idealize.ShloMosaic.Lib.Pipeline.ValueKit

@[expose] public section

noncomputable section

namespace Cert.AttnProof

open Cert.AttnIdeal Cert.AttnIdeal.Gen
open Idealize.ShloMosaic Idealize.ShloMosaic.TcCoe

variable (m : (ℓ : Loc nD τ sig) → Buf (Elt Ideal) ℓ) (ρ : Dev nD → PrngReg)
  {x : Fin 512 → Fin 512 → ℝ} {w W : Fin 512 → Fin 256 → ℝ}

theorem pathD_first (c : Dev nD) (t : Fin (cfgA 0).N) (prev) (q0 : ¬P0_0 0 t) (q1 : P0_1 0 t)
    (hx : ScoresAt (iblk 0 m ρ c 0 t) (iblk 0 m ρ c 1 t) (iblk 0 m ρ c 2 t) 0 x) (hw : WeightsAt (iblk 0 m ρ c 1 t) 0 w)
    (h : CellsAt W (scM0_0.view.read (Elt Ideal) prev.2.2.1) (scM0_1.view.read (Elt Ideal) prev.2.2.2) 0) :
    CellsAt (added (fun _ _ => True) x w W) (scM0_0.view.read (Elt Ideal) (step0 0 m ρ c t prev).2.2.1)
      (scM0_1.view.read (Elt Ideal) (step0 0 m ρ c t prev).2.2.2) 0 := by
  rw [step0_D 0 m ρ c t prev q0 q1]
  dsimp only
  frame_out
  simp only [View.read_rep]
  exact CellsAt.store0 _ _ _ _ _ _ _ _ _ _ (cells_full hx.load0 hw.load0 h.load0)

theorem pathD_second (c : Dev nD) (t : Fin (cfgA 0).N) (prev) (q0 : ¬P0_0 0 t) (q1 : P0_1 0 t)
    (hx : ScoresAt (iblk 0 m ρ c 0 t) (iblk 0 m ρ c 1 t) (iblk 0 m ρ c 2 t) 1 x) (hw : WeightsAt (iblk 0 m ρ c 1 t) 1 w)
    (h : CellsAt W (scM0_0.view.read (Elt Ideal) prev.2.2.1) (scM0_1.view.read (Elt Ideal) prev.2.2.2) 1) :
    CellsAt (added (fun _ _ => True) x w W) (scM0_0.view.read (Elt Ideal) (step0 0 m ρ c t prev).2.2.1)
      (scM0_1.view.read (Elt Ideal) (step0 0 m ρ c t prev).2.2.2) 1 := by
  rw [step0_D 0 m ρ c t prev q0 q1]
  dsimp only
  frame_out
  simp only [View.read_rep, again_full_max, again_full_acc]
  exact CellsAt.store1 _ _ _ _ _ _ (cells_full hx.load1 hw.load1 h.load1)

end Cert.AttnProof
-- ==== Proof.Attn.Trace.lean ====
/- The kernel's walk over the pairs of blocks: what the scratch arrays hold after each pair, and what it writes back at the end of a row block. -/
module

public import proofs.«01_k».proof.Proof.Attn.Data
public import proofs.«01_k».proof.Proof.Attn.Points
public import proofs.«01_k».proof.Proof.Attn.PathA
public import proofs.«01_k».proof.Proof.Attn.PathB
public import proofs.«01_k».proof.Proof.Attn.PathC
public import proofs.«01_k».proof.Proof.Attn.PathD

@[expose] public section

noncomputable section

namespace Cert.AttnProof

open Cert.AttnIdeal Cert.AttnIdeal.Gen
open Idealize.ShloMosaic Idealize.ShloMosaic.TcCoe

variable (m : (ℓ : Loc nD τ sig) → Buf (Elt Ideal) ℓ) (ρ : Dev nD → PrngReg) (c : Dev nD) (q kv kr : ℕ → ℕ → ℝ)

/-- The three arrays' entries are the reals `q`, `kv` and `kr`. -/
structure Reals : Prop where
  q : ∀ i j : Fin 4096, m (c.tc.loc main_arg2) (ix2 i j) = (q i j : EReal)
  kv : ∀ i j : Fin 4096, m (c.tc.loc main_arg3) (ix2 i j) = (kv i j : EReal)
  kr : ∀ (i : Fin 4096) (j : Fin 128), m (c.tc.loc main_arg4) (ix2 i j) = (kr i j : EReal)

variable {m c q kv kr} (hr : Reals m c q kv kr)

include hr

theorem in0 (t : Fin (cfgA 0).N) (a b : Fin 512) : iblk 0 m ρ c 0 t (ix2 a b) = (q (512 * qi t + a) (512 * hp t + b) : EReal) := by
  have hb := pt_le t
  blk_simp [iblk]
  refine Eq.trans (congrArg (m (c.tc.loc main_arg2)) (?_ : _ = ix2 ⟨512 * qi t + a, by omega⟩ ⟨512 * hp t + b, by omega⟩)) (hr.q _ _)
  blk_ext []
  · rw [show (pcfg0.win (adm 0) 0).index t 0 = qi t from congrFun (pt_q t) 0]; omega
  · rw [show (pcfg0.win (adm 0) 0).index t 1 = hp t from congrFun (pt_q t) 1]; omega
theorem in1 (t : Fin (cfgA 0).N) (a b : Fin 512) : iblk 0 m ρ c 1 t (ix2 a b) = (kv (512 * ki t + a) (512 * hp t + b) : EReal) := by
  have hb := pt_le t
  blk_simp [iblk]
  refine Eq.trans (congrArg (m (c.tc.loc main_arg3)) (?_ : _ = ix2 ⟨512 * ki t + a, by omega⟩ ⟨512 * hp t + b, by omega⟩)) (hr.kv _ _)
  blk_ext []
  · rw [show (pcfg0.win (adm 0) 1).index t 0 = ki t from congrFun (pt_kv t) 0]; omega
  · rw [show (pcfg0.win (adm 0) 1).index t 1 = hp t from congrFun (pt_kv t) 1]; omega
theorem in2 (t : Fin (cfgA 0).N) (a : Fin 512) (b : Fin 128) : iblk 0 m ρ c 2 t (ix2 a b) = (kr (512 * ki t + a) b : EReal) := by
  have hb := pt_le t
  blk_simp [iblk]
  refine Eq.trans (congrArg (m (c.tc.loc main_arg4)) (?_ : _ = ix2 ⟨512 * ki t + a, by omega⟩ b)) (hr.kr _ _)
  blk_ext []
  · rw [show (pcfg0.win (adm 0) 2).index t 0 = ki t from congrFun (pt_kr t) 0]; omega
  · rw [show (pcfg0.win (adm 0) 2).index t 1 = 0 from congrFun (pt_kr t) 1]; omega

theorem scores_at (t : Fin (cfgA 0).N) (g : Fin 2) : ScoresAt (iblk 0 m ρ c 0 t) (iblk 0 m ρ c 1 t) (iblk 0 m ρ c 2 t) g
    fun a b => sc q kv kr (2 * hp t + g) (512 * qi t + a) (512 * ki t + b) := by
  intro a b
  beta_reduce
  rw [sc, EReal.coe_add, ← coe_sum, ← coe_sum]
  refine congrArg₂ (· + ·) (Finset.sum_congr rfl fun d _ => ?_) (Finset.sum_congr rfl fun d _ => ?_)
  · rw [EReal.coe_mul]
    exact congrArg₂ (· * ·) ((in0 ρ hr t a _).trans (congrArg (fun n => (q _ n : EReal)) (by show 512 * hp t + (256 * (g : ℕ) + d) = 256 * (2 * hp t + g) + d; omega)))
      ((in1 ρ hr t b _).trans (congrArg (fun n => (kv _ n : EReal)) (by show 512 * hp t + (256 * (g : ℕ) + d) = 256 * (2 * hp t + g) + d; omega)))
  · rw [EReal.coe_mul]
    exact congrArg₂ (· * ·) ((in0 ρ hr t a _).trans (congrArg (fun n => (q _ n : EReal)) (by show 512 * hp t + (256 * (g : ℕ) + (128 + d)) = 256 * (2 * hp t + g) + (128 + d); omega)))
      (in2 ρ hr t b d)

theorem weights_at (t : Fin (cfgA 0).N) (g : Fin 2) : WeightsAt (iblk 0 m ρ c 1 t) g
    fun b e => wt kv (2 * hp t + g) (512 * ki t + b) e := by
  intro b e
  beta_reduce
  rw [wt]
  by_cases h : (e : ℕ) < 128
  · rw [dif_pos h, if_pos h]
    exact (in1 ρ hr t b _).trans (congrArg (fun n => (kv _ n : EReal)) (by show 512 * hp t + (256 * (g : ℕ) + (128 + e)) = 256 * (2 * hp t + g) + (128 + e); omega))
  · rw [dif_neg h, if_neg h, EReal.coe_one]

omit hr in
/-- What head `g` carries after point `n`. -/
def carried (q kv kr : ℕ → ℕ → ℝ) (g : Fin 2) (n : ℕ) (a : Fin 512) (e : Fin 256) : ℝ :=
  tot q kv kr (2 * hp n + g) (512 * qi n + a) e (512 * (ki n + 1))

omit hr in
theorem carried_full (g : Fin 2) (n : ℕ) (h : ki n < qi n) (W : Fin 512 → Fin 256 → ℝ)
    (hW : ∀ a e, W a e = tot q kv kr (2 * hp n + g) (512 * qi n + a) e (512 * ki n)) :
    added (fun _ _ => True) (fun a b => sc q kv kr (2 * hp n + g) (512 * qi n + a) (512 * ki n + b)) (fun b e => wt kv (2 * hp n + g) (512 * ki n + b) e) W
      = carried q kv kr g n := by
  funext a e
  rw [added, hW, carried]
  exact (tot_full q kv kr _ _ _ _ a h).symm

omit hr in
theorem carried_diag (g : Fin 2) (n : ℕ) (h : ki n = qi n) (W : Fin 512 → Fin 256 → ℝ)
    (hW : ∀ a e, W a e = tot q kv kr (2 * hp n + g) (512 * qi n + a) e (512 * ki n)) :
    added (fun a b => b ≤ a) (fun a b => sc q kv kr (2 * hp n + g) (512 * qi n + a) (512 * ki n + b)) (fun b e => wt kv (2 * hp n + g) (512 * ki n + b) e) W
      = carried q kv kr g n := by
  funext a e
  rw [added, hW, carried, h]
  exact (tot_diag q kv kr _ _ _ a).symm

/-- After each point the scratch arrays hold the sums over the column blocks so far. -/
theorem holds_at : ∀ n (hn : n < (cfgA 0).N),
    CellsAt (carried q kv kr 0 n) (scM0_0.view.read (Elt Ideal) (traj0 0 m ρ c n hn).2.2.1) (scM0_1.view.read (Elt Ideal) (traj0 0 m ρ c n hn).2.2.2) 0
    ∧ CellsAt (carried q kv kr 1 n) (scM0_0.view.read (Elt Ideal) (traj0 0 m ρ c n hn).2.2.1) (scM0_1.view.read (Elt Ideal) (traj0 0 m ρ c n hn).2.2.2) 1 := by
  intro n
  induction n using Nat.strong_induction_on with
  | _ n ih =>
  intro hn
  rw [traj0_eq 0 m ρ c ⟨n, hn⟩]
  have hp := pt_le ⟨n, hn⟩
  by_cases h0 : P0_0 0 ⟨n, hn⟩
  · have k0 : ki n = 0 := (pt_0 ⟨n, hn⟩).mp h0
    have hW (g : Fin 2) : ∀ (a : Fin 512) (e : Fin 256), (fun (_ : Fin 512) (_ : Fin 256) => (0 : ℝ)) a e = tot q kv kr (2 * AttnProof.hp n + g) (512 * qi n + a) e (512 * ki n) :=
      fun a e => by rw [k0]; exact (tot_zero q kv kr _ _ _).symm
    by_cases h1 : P0_1 0 ⟨n, hn⟩
    · have hk : ki n < qi n := (pt_1 ⟨n, hn⟩).mp h1
      rw [← carried_full 0 n hk _ (hW 0), ← carried_full 1 n hk _ (hW 1)]
      exact ⟨pathB_first m ρ c ⟨n, hn⟩ _ h0 h1 (scores_at ρ hr ⟨n, hn⟩ 0) (weights_at ρ hr ⟨n, hn⟩ 0),
        pathB_second m ρ c ⟨n, hn⟩ _ h0 h1 (scores_at ρ hr ⟨n, hn⟩ 1) (weights_at ρ hr ⟨n, hn⟩ 1)⟩
    · have hk : ki n = qi n := by have := mt (pt_1 ⟨n, hn⟩).mpr h1; have := hp.1; simp only at *; omega
      rw [← carried_diag 0 n hk _ (hW 0), ← carried_diag 1 n hk _ (hW 1)]
      exact ⟨pathA_first m ρ c ⟨n, hn⟩ _ h0 h1 (scores_at ρ hr ⟨n, hn⟩ 0) (weights_at ρ hr ⟨n, hn⟩ 0),
        pathA_second m ρ c ⟨n, hn⟩ _ h0 h1 (scores_at ρ hr ⟨n, hn⟩ 1) (weights_at ρ hr ⟨n, hn⟩ 1)⟩
  · obtain ⟨hn0, hq', hh', hk'⟩ := pt_prev ⟨n, hn⟩ (mt (pt_0 ⟨n, hn⟩).mpr h0)
    have hprev : prev0 0 m ρ c ⟨n, hn⟩ = traj0 0 m ρ c (n - 1) (by omega) := dif_neg hn0
    rw [hprev]
    simp only at hn0 hq' hh' hk'
    have hI := ih (n - 1) (by omega) (by omega)
    have hW (g : Fin 2) : ∀ (a : Fin 512) (e : Fin 256), carried q kv kr g (n - 1) a e = tot q kv kr (2 * AttnProof.hp n + g) (512 * qi n + a) e (512 * ki n) :=
      fun a e => by rw [carried, hq', hh', hk']
    by_cases h1 : P0_1 0 ⟨n, hn⟩
    · have hk : ki n < qi n := (pt_1 ⟨n, hn⟩).mp h1
      rw [← carried_full 0 n hk _ (hW 0), ← carried_full 1 n hk _ (hW 1)]
      exact ⟨pathD_first m ρ c ⟨n, hn⟩ _ h0 h1 (scores_at ρ hr ⟨n, hn⟩ 0) (weights_at ρ hr ⟨n, hn⟩ 0) hI.1,
        pathD_second m ρ c ⟨n, hn⟩ _ h0 h1 (scores_at ρ hr ⟨n, hn⟩ 1) (weights_at ρ hr ⟨n, hn⟩ 1) hI.2⟩
    · have hk : ki n = qi n := by have := mt (pt_1 ⟨n, hn⟩).mpr h1; have := hp.1; simp only at *; omega
      rw [← carried_diag 0 n hk _ (hW 0), ← carried_diag 1 n hk _ (hW 1)]
      exact ⟨pathC_first m ρ c ⟨n, hn⟩ _ h0 h1 (scores_at ρ hr ⟨n, hn⟩ 0) (weights_at ρ hr ⟨n, hn⟩ 0) hI.1,
        pathC_second m ρ c ⟨n, hn⟩ _ h0 h1 (scores_at ρ hr ⟨n, hn⟩ 1) (weights_at ρ hr ⟨n, hn⟩ 1) hI.2⟩

omit hr in
/-- A row block's quotients, from what its scratch arrays hold. -/
theorem quotient_of {R : Vec Ideal S2x512x128 .f32} {A : Vec Ideal S2x512x256 .f32} {g : Fin 2} {n : ℕ} (hk : ki n = qi n) (hq : qi n < 8)
    (h : CellsAt (carried q kv kr g n) R A g) (a : Fin 512) (e : Fin 128) :
    Ideal.div (A (ix3 g a (lo e))) (A (ix3 g a (hi e))) = (attn q kv kr (2 * hp n + g) (512 * qi n + a) e : EReal) := by
  obtain ⟨y, -, h2⟩ := h a
  have pos : 0 < carried q kv kr g n a (hi e) := by
    rw [carried, hk]; exact tot_pos q kv kr _ _ _ hq a
  have quo : carried q kv kr g n a (lo e) / carried q kv kr g n a (hi e) = attn q kv kr (2 * hp n + g) (512 * qi n + a) e := by
    rw [carried, carried, hk]; exact tot_quotient q kv kr _ _ _ hq e.isLt a
  rcases h2 (hi e) with ⟨z, hy, hd⟩ | ⟨-, -, h0⟩
  · rcases h2 (lo e) with ⟨z', hy', hn⟩ | ⟨hb, -, -⟩
    · have : z' = z := EReal.coe_injective (hy'.symm.trans hy)
      subst this
      rw [hn, hd, Carried.quotient _ _ _ pos, quo]
    · exact absurd (hb.symm.trans hy) (EReal.bot_ne_coe z)
  · exact absurd h0 pos.ne'

end Cert.AttnProof
-- ==== Proof.Attn.Pre.lean ====
/- What the two preconditions say: the tables are the triangle's, and the entries of the arrays are real numbers. -/
module

public import proofs.«01_k».proof.Defs
public import proofs.«01_k».proof.Proof.Gen.Pre_triangle
public import proofs.«01_k».proof.Proof.Gen.Pre_finite
public import proofs.«01_k».proof.Proof.Gen.Attn.Flash
public import proofs.«01_k».proof.Proof.Gen.AttnIdeal.Flash
public import proofs.«01_k».proof.Proof.Attn.Trace
public import Idealize.ShloMosaic.Lib.ReduceAll

@[expose] public section

noncomputable section

namespace Cert.AttnProof

open Idealize.ShloMosaic Idealize.ShloMosaic.TcCoe

theorem both_one : ∀ {a b : BitVec 1}, IntOp.andi a b = 1#1 → a = 1#1 ∧ b = 1#1 := by decide

theorem words_eq {a b : BitVec 32} (h : IntOp.cmpi .eq a b = 1#1) : a = b := by
  by_contra hne
  have : IntOp.cmpi .eq a b = 0#1 := by
    show BitVec.ofBool (a == b) = 0#1
    rw [beq_eq_false_iff_ne.mpr hne]; rfl
  rw [this] at h
  exact absurd h (by decide)

/-- The one index of a shape without axes. -/
def only : Pre_triangle.S_.Idx := fun a => a.elim0

instance : Subsingleton Pre_triangle.S_.Idx := ⟨fun y z => funext fun a => a.elim0⟩

/-- The first predicate's tables, entry by entry, -/
theorem tables {F : FTy → Type} [FloatOps F] (a b : IVec Pre_triangle.S36 32) (q kv : FVec F Pre_triangle.S4096x4096 .bf16)
    (kr : FVec F Pre_triangle.S4096x128 .bf16) (h : Pre_triangle.fn (F := F) a b q kv kr = fun _ => 1#1) (x : Pre_triangle.S36.Idx) :
    a x = Pre_triangle.lit0 (Pre_triangle.S36.rowMajor x) ∧ b x = Pre_triangle.lit1 (Pre_triangle.S36.rowMajor x) :=
  have e := both_one (Host.reduce_andi_all _ _ _ _ only (congrFun h only) x)
  ⟨words_eq e.1, words_eq e.2⟩

/-- and those of the second, which asks for the first and more. -/
theorem tables_of_finite {F : FTy → Type} [FloatOps F] (a b : IVec Pre_triangle.S36 32) (q kv : FVec F Pre_triangle.S4096x4096 .bf16)
    (kr : FVec F Pre_triangle.S4096x128 .bf16) (h : Pre_finite.fn (F := F) a b q kv kr = fun _ => 1#1) : Pre_triangle.fn (F := F) a b q kv kr = fun _ => 1#1 :=
  funext fun y => (both_one (both_one (both_one (congrFun h y)).1).1).1

/-- A number smaller in size than infinity is real. -/
theorem real_of {x : EReal} (h : Ideal.cmp .olt (max x (-x)) (Ideal.ofBits .f32 0x7F800000#32) = 1#1) : x = ((x.toReal : ℝ) : EReal) := by
  have ht : Ideal.ofBits .f32 0x7F800000#32 = (⊤ : EReal) := by simp [Ideal.ofBits, Ideal.ieee]
  rw [ht] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  refine (EReal.coe_toReal ?_ ?_).symm
  · rintro rfl; exact absurd hlt (by simp)
  · rintro rfl; exact absurd hlt (by simp)

/-- The second predicate's arrays are real, entry by entry. -/
theorem reals_of (a b : IVec Pre_triangle.S36 32) (q kv : FVec Ideal Pre_triangle.S4096x4096 .bf16)
    (kr : FVec Ideal Pre_triangle.S4096x128 .bf16) (h : Pre_finite.fn (F := Ideal) a b q kv kr = fun _ => 1#1) :
    (∀ x, q x = (((q x : EReal).toReal : ℝ) : EReal)) ∧ (∀ x, kv x = (((kv x : EReal).toReal : ℝ) : EReal)) ∧ ∀ x, kr x = (((kr x : EReal).toReal : ℝ) : EReal) :=
  have e := both_one (congrFun h only)
  have e' := both_one e.1
  have e'' := both_one e'.1
  ⟨fun x => real_of (Host.reduce_andi_all _ _ _ _ only e''.2 x), fun x => real_of (Host.reduce_andi_all _ _ _ _ only e'.2 x),
    fun x => real_of (Host.reduce_andi_all _ _ _ _ only e.2 x)⟩

theorem lit_row : ∀ x : Pre_triangle.S36.Idx, Pre_triangle.lit0 (Pre_triangle.S36.rowMajor x) = Attn.Gen.pinT_0 0 x := by decide +kernel
theorem lit_col : ∀ x : Pre_triangle.S36.Idx, Pre_triangle.lit1 (Pre_triangle.S36.rowMajor x) = Attn.Gen.pinT_1 0 x := by decide +kernel

/-- The kernel's tables are the triangle's, -/
theorem pinned (m : (ℓ : Loc Attn.nD Attn.τ Attn.sig) → Buf (Elt Bits) ℓ) (h : Cert.Pre_Attn m) : Attn.Gen.Pinned 0 m :=
  ⟨fun c => funext fun x => (tables _ _ _ _ _ (h c) x).1.trans (lit_row x), fun c => funext fun x => (tables _ _ _ _ _ (h c) x).2.trans (lit_col x)⟩

/-- over the reals too, -/
theorem pinned_ideal (m : (ℓ : Loc AttnIdeal.nD AttnIdeal.τ AttnIdeal.sig) → Buf (Elt Ideal) ℓ) (h : Cert.Pre_AttnIdeal m) : AttnIdeal.Gen.Pinned 0 m :=
  ⟨fun c => funext fun x => (tables _ _ _ _ _ (h c) x).1.trans (lit_row x), fun c => funext fun x => (tables _ _ _ _ _ (h c) x).2.trans (lit_col x)⟩

theorem triangle_of_finite (m : (ℓ : Loc AttnIdeal.nD AttnIdeal.τ AttnIdeal.sig) → Buf (Elt Ideal) ℓ) (h : Cert.Pre_AttnIdeal_finite m) : Cert.Pre_AttnIdeal m :=
  fun c => tables_of_finite _ _ _ _ _ (h c)

/-- A number of an array, at any two indices; 0 outside. -/
def entry {a b : ℕ} (f : Fin a → Fin b → EReal) (i j : ℕ) : ℝ := if h : i < a ∧ j < b then (f ⟨i, h.1⟩ ⟨j, h.2⟩).toReal else 0

theorem entry_at {a b : ℕ} (f : Fin a → Fin b → EReal) (i : Fin a) (j : Fin b) : entry f i j = (f i j).toReal := dif_pos ⟨i.2, j.2⟩

/-- and the arrays hold real numbers. -/
theorem reals (m : (ℓ : Loc AttnIdeal.nD AttnIdeal.τ AttnIdeal.sig) → Buf (Elt Ideal) ℓ) (h : Cert.Pre_AttnIdeal_finite m) (c : Dev AttnIdeal.nD) :
    Reals m c (entry fun (i j : Fin 4096) => m (c.tc.loc AttnIdeal.main_arg2) (ix2 i j)) (entry fun (i j : Fin 4096) => m (c.tc.loc AttnIdeal.main_arg3) (ix2 i j))
      (entry fun (i : Fin 4096) (j : Fin 128) => m (c.tc.loc AttnIdeal.main_arg4) (ix2 i j)) :=
  have e := reals_of _ _ _ _ _ (h c)
  ⟨fun i j => (e.1 (ix2 i j)).trans (congrArg Real.toEReal (entry_at (fun (i j : Fin 4096) => m (c.tc.loc AttnIdeal.main_arg2) (ix2 i j)) i j).symm),
    fun i j => (e.2.1 (ix2 i j)).trans (congrArg Real.toEReal (entry_at (fun (i j : Fin 4096) => m (c.tc.loc AttnIdeal.main_arg3) (ix2 i j)) i j).symm),
    fun i j => (e.2.2 (ix2 i j)).trans (congrArg Real.toEReal (entry_at (fun (i : Fin 4096) (j : Fin 128) => m (c.tc.loc AttnIdeal.main_arg4) (ix2 i j)) i j).symm)⟩

end Cert.AttnProof

end
-- ==== Proof.Attn.Final.lean ====
/- The kernel's output array is the attention's result. -/
module

public import proofs.«01_k».proof.Proof.Attn.Trace

@[expose] public section

noncomputable section

namespace Cert.AttnProof

open Cert.AttnIdeal Cert.AttnIdeal.Gen
open Idealize.ShloMosaic Idealize.ShloMosaic.TcCoe

variable (m : (ℓ : Loc nD τ sig) → Buf (Elt Ideal) ℓ) (ρ : Dev nD → PrngReg) {c : Dev nD} {q kv kr : ℕ → ℕ → ℝ}

/-- The attention's result as an array: 128 columns for each head. -/
def result (q kv kr : ℕ → ℕ → ℝ) : Vec Ideal S4096x2048 .bf16 := fun i =>
  (attn q kv kr ((i 1).val / 128) (i 0).val ((i 1).val % 128) : EReal)

variable {m} (hr : Reals m c q kv kr)

include hr

theorem out_lo (t : Fin (cfgA 0).N) (hf : ((cfgA 0).win 3).flush t = true) (a : Fin 512) (e : Fin 128) :
    (traj0 0 m ρ c t.val t.isLt).1 (ix2 a (lo e)) = (attn q kv kr (2 * hp t + 0) (512 * qi t + a) e : EReal) := by
  have hk := pt_flush t hf
  have h1 : ¬ P0_1 0 t := fun h => by have := (pt_1 t).mp h; omega
  have hc := (holds_at ρ hr t.val t.isLt).1
  rw [traj0_eq 0 m ρ c t] at hc ⊢
  by_cases h0 : P0_0 0 t
  · exact (pathA_out0 m ρ c t _ h0 h1 a e).trans (quotient_of hk (pt_le t).2.1 hc a e)
  · exact (pathC_out0 m ρ c t _ h0 h1 a e).trans (quotient_of hk (pt_le t).2.1 hc a e)

theorem out_hi (t : Fin (cfgA 0).N) (hf : ((cfgA 0).win 3).flush t = true) (a : Fin 512) (e : Fin 128) :
    (traj0 0 m ρ c t.val t.isLt).1 (ix2 a (hi e)) = (attn q kv kr (2 * hp t + 1) (512 * qi t + a) e : EReal) := by
  have hk := pt_flush t hf
  have h1 : ¬ P0_1 0 t := fun h => by have := (pt_1 t).mp h; omega
  have hc := (holds_at ρ hr t.val t.isLt).2
  rw [traj0_eq 0 m ρ c t] at hc ⊢
  by_cases h0 : P0_0 0 t
  · exact (pathA_out1 m ρ c t _ h0 h1 a e).trans (quotient_of hk (pt_le t).2.1 hc a e)
  · exact (pathC_out1 m ρ c t _ h0 h1 a e).trans (quotient_of hk (pt_le t).2.1 hc a e)

theorem final : (dats 0 m ρ 0 c).arrAt 3 (cfgA 0).N = result q kv kr := by
  refine (dats 0 m ρ 0 c).arrAt_eq_of_covers 3 _ (by decide +kernel) fun t hf y => ?_
  blk_simp
  rw [after0_3]
  obtain ⟨a, b, rfl⟩ : ∃ (a : Fin 512) (b : Fin 256), y = ix2 a b := ⟨y 0, y 1, eq_ix2 y⟩
  have hb := pt_le t
  have he : (((cfgA 0).win 3).blk t).view.emb (ix2 a b) = ix2 (⟨512 * qi t + a, by omega⟩ : Fin 4096) (⟨256 * hp t + b, by omega⟩ : Fin 2048) := by
    blk_ext []
    · rw [show (pcfg0.win (adm 0) 3).index t 0 = qi t from congrFun (pt_o t) 0]; omega
    · rw [show (pcfg0.win (adm 0) 3).index t 1 = hp t from congrFun (pt_o t) 1]; omega
  rw [he]
  show _ = (attn q kv kr ((256 * hp t + b.val) / 128) (512 * qi t + a) ((256 * hp t + b.val) % 128) : EReal)
  by_cases h : b.val < 128
  · rw [show (256 * hp t + b.val) / 128 = 2 * hp t + 0 by omega, show (256 * hp t + b.val) % 128 = b.val by omega]
    exact out_lo ρ hr t hf a ⟨b, h⟩
  · have hb' : b = hi ⟨b.val - 128, by omega⟩ := Fin.ext (by show b.val = 128 + (b.val - 128); omega)
    rw [show (256 * hp t + b.val) / 128 = 2 * hp t + 1 by omega, show (256 * hp t + b.val) % 128 = b.val - 128 by omega]
    exact (congrArg (fun b => (traj0 0 m ρ c t.val t.isLt).1 (ix2 a b)) hb').trans (out_hi ρ hr t hf a ⟨b.val - 128, by omega⟩)

end Cert.AttnProof
-- ==== Proof.Attn.Entry.lean ====
/- One entry of plain softmax attention on reals. -/
module

public import proofs.«01_k».proof.Proof.Attn.Data
public import Idealize.ShloMosaic.Lib.Pointwise
public import Idealize.ShloMosaic.Lib.WordCmp
public import proofs.«01_k».proof.Proof.Attn.Step

@[expose] public section

noncomputable section

namespace Cert.AttnProof

open Idealize.ShloMosaic Idealize.ShloMosaic.TcCoe

/-- A softmax row against a masked row of real scores, weighted by real values. -/
theorem row_at (q kv kr : ℕ → ℕ → ℝ) (h d : ℕ) (i : Fin 4096) (s v : Fin 4096 → EReal) (b : EReal) (hb : b = ⊥)
    (hs : ∀ x, s x = masked (fun j : Fin 4096 => (j : ℕ) ≤ i) (fun j => sc q kv kr h i j) x)
    (hv : ∀ x, v x = (kv x (256 * h + (128 + d)) : EReal)) :
    (∑ x, v x * Ideal.div (Ideal.exp (s x - max b (Finset.univ.fold max b s))) (∑ x', Ideal.exp (s x' - max b (Finset.univ.fold max b s))))
      = (attn q kv kr h i d : EReal) := by
  subst hb
  obtain rfl := funext hs
  obtain rfl := funext hv
  have key := softmax_row (n := 4096) (fun j : Fin 4096 => (j : ℕ) ≤ i) (fun j => sc q kv kr h i j) (fun j => kv j (256 * h + (128 + d)))
    ⟨⟨0, by omega⟩, Nat.zero_le _⟩ _ rfl
  rw [zero_add] at key
  exact key

theorem score_at (q kv kr : ℕ → ℕ → ℝ) (Q KV : Fin 4096 → Fin 4096 → EReal) (KR : Fin 4096 → Fin 128 → EReal)
    (hq : ∀ i j, Q i j = (q i j : EReal)) (hkv : ∀ i j, KV i j = (kv i j : EReal)) (hkr : ∀ i j, KR i j = (kr i j : EReal))
    (i x : Fin 4096) (j : Fin 2048) :
    (∑ d : Fin 128, Q i ⟨j / 128 * 256 + d, by omega⟩ * KV x ⟨j / 128 * 256 + d, by omega⟩)
      + (∑ d : Fin 128, KR x d * Q i ⟨j / 128 * 256 + (128 + d), by omega⟩) = (sc q kv kr (j / 128) i x : EReal) := by
  rw [sc, EReal.coe_add, ← coe_sum, ← coe_sum]
  refine congrArg₂ (· + ·) (Finset.sum_congr rfl fun d _ => ?_) (Finset.sum_congr rfl fun d _ => ?_)
  · rw [hq, hkv, EReal.coe_mul, Nat.mul_comm 256]
  · rw [hq, hkr, EReal.coe_mul, Nat.mul_comm 256, mul_comm]

end Cert.AttnProof
-- ==== Proof.Attn.Stages.lean ====
/- The reference's result, entry by entry: the printed program is cut into its stages, and each is read on its own. -/
module

public import proofs.«01_k».proof.Proof.Gen.AttnRefIdeal.Run
public import proofs.«01_k».proof.Proof.Attn.Entry
public import Idealize.ShloMosaic.Lib.Pointwise
public import Idealize.ShloMosaic.Lib.WordCmp

@[expose] public section

noncomputable section

namespace Cert.AttnProof

open Idealize.ShloMosaic Idealize.ShloMosaic.TcCoe
open Cert.AttnRefIdeal Cert.AttnRefIdeal.Gen

/-- The arrays split into heads, -/
def heads (X : Vec Ideal S4096x4096 .bf16) : Vec Ideal S4096x16x256 .f32 :=
  shapeCast S4096x16x256 (extf (F := Ideal) .f32 X bitsLt_bf16_f32) shapeCasts_S4096x4096_S4096x16x256
/-- a head's first 128 columns -/
def front (X : Vec Ideal S4096x4096 .bf16) : Vec Ideal S4096x16x128 .f32 :=
  extractStridedSlice S4096x16x128 ![0, 0, 0] (heads X) slices_S4096x16x256_S4096x16x128_0_0_0
/-- and its last, -/
def back (X : Vec Ideal S4096x4096 .bf16) : Vec Ideal S4096x16x128 .f32 :=
  extractStridedSlice S4096x16x128 ![0, 0, 128] (heads X) slices_S4096x16x256_S4096x16x128_0_0_128
/-- the scores, -/
def scores (Q KV : Vec Ideal S4096x4096 .bf16) (KR : Vec Ideal S4096x128 .bf16) : Vec Ideal S16x4096x4096 .f32 :=
  addf (F := Ideal) (Host.dotGeneral (F := Ideal) (φ₁ := .f32) (φ₂ := .f32) dot_S4096x16x128_S4096x16x128_S16x4096x4096_2_2_0_0_1_1 none (front Q) (front KV))
    (transpose S16x4096x4096 [2, 1, 0] (Host.dotGeneral (F := Ideal) (φ₁ := .f32) (φ₂ := .f32) dot_S4096x128_S4096x16x128_S4096x4096x16_1_2_0_01_n_n none
      (extf (F := Ideal) .f32 KR bitsLt_bf16_f32) (back Q)) transposes_S4096x4096x16_S16x4096x4096_2_1_0)
/-- the mask, -/
def mask (A : Vec Ideal S16x4096x4096 .f32) : Vec Ideal S16x4096x4096 .f32 :=
  select (broadcastInDim S16x4096x4096 ![0, 1, 2] bcast_S1x4096x4096_S16x4096x4096_0_1_2 (broadcastInDim S1x4096x4096 ![1, 2] bcast_S4096x4096_S1x4096x4096_1_2 (cmpi .sle (iotaInDim S4096x4096 32 1) (iotaInDim S4096x4096 32 0)))) A (broadcastInDim S16x4096x4096 ![] bcast_S_S16x4096x4096 (id (constant (F := Ideal) S_ .f32 0xFF800000#32)))
/-- a row's maximum, -/
def top (A : Vec Ideal S16x4096x4096 .f32) : Vec Ideal S16x4096 .f32 :=
  maximumf (F := Ideal) (broadcastInDim S16x4096 ![] bcast_S_S16x4096 (constant (F := Ideal) S_ .f32 0xFF800000#32))
    (Host.reduce (α := Ideal .f32) (s := S16x4096x4096) FloatOps.maximumf A (constant (F := Ideal) S_ .f32 0xFF800000#32) reducesTo_S16x4096x4096_S16x4096_d2 h_S_)
/-- the exponentials of the differences from it, -/
def expo (A : Vec Ideal S16x4096x4096 .f32) : Vec Ideal S16x4096x4096 .f32 :=
  Host.exp (F := Ideal) (subf (F := Ideal) A (broadcastInDim (α := Ideal .f32) S16x4096x4096 ![0, 1, 2] bcast_S16x4096x1_S16x4096x4096_0_1_2
    (broadcastInDim (α := Ideal .f32) S16x4096x1 ![0, 1] bcast_S16x4096_S16x4096x1_0_1 (top A))))
/-- and their shares of the row's sum. -/
def soft (A : Vec Ideal S16x4096x4096 .f32) : Vec Ideal S16x4096x4096 .f32 :=
  Host.divf (F := Ideal) (expo A) (broadcastInDim S16x4096x4096 ![0, 1, 2] bcast_S16x4096x1_S16x4096x4096_0_1_2 (broadcastInDim S16x4096x1 ![0, 1] bcast_S16x4096_S16x4096x1_0_1
    (Host.reduceAdd (F := Ideal) (expo A) (constant (F := Ideal) S_ .f32 0x00000000#32) reducesTo_S16x4096x4096_S16x4096_d2 h_S_)))

end Cert.AttnProof
-- ==== Proof.Attn.Printed.lean ====
/- The reference's result, entry by entry: the printed program is cut into its stages, and each is read on its own. -/
module

public import proofs.«01_k».proof.Proof.Gen.AttnRefIdeal.Run
public import proofs.«01_k».proof.Proof.Attn.Entry
public import proofs.«01_k».proof.Proof.Attn.Stages
public import Idealize.ShloMosaic.Lib.Pointwise
public import Idealize.ShloMosaic.Lib.WordCmp

@[expose] public section

noncomputable section

namespace Cert.AttnProof

open Idealize.ShloMosaic Idealize.ShloMosaic.TcCoe
open Cert.AttnRefIdeal Cert.AttnRefIdeal.Gen

/-- The printed program, by its stages. -/
theorem stages (m : (ℓ : Loc nD τ sig) → Buf (Elt Ideal) ℓ) (c : Dev nD) : Value.res_main_v32 m c
    = truncf (F := Ideal) .bf16 (shapeCast S4096x2048 (transpose S4096x16x128 [2, 0, 1] (Host.dotGeneral (F := Ideal) (φ₁ := .f32) (φ₂ := .f32)
        dot_S4096x16x128_S16x4096x4096_S16x128x4096_0_2_2_1_1_0 none (back (m (c.tc.loc main_arg3)))
        (soft (mask (scores (m (c.tc.loc main_arg2)) (m (c.tc.loc main_arg3)) (m (c.tc.loc main_arg4)))))) transposes_S16x128x4096_S4096x16x128_2_0_1)
      shapeCasts_S4096x16x128_S4096x2048) bitsLt_bf16_f32 := rfl

end Cert.AttnProof
-- ==== Proof.Attn.Reads.lean ====
/- The reference's result, entry by entry: the printed program is cut into its stages, and each is read on its own. -/
module

public import proofs.«01_k».proof.Proof.Gen.AttnRefIdeal.Run
public import proofs.«01_k».proof.Proof.Attn.Entry
public import proofs.«01_k».proof.Proof.Attn.Stages
public import Idealize.ShloMosaic.Lib.Pointwise
public import Idealize.ShloMosaic.Lib.WordCmp

@[expose] public section

noncomputable section

namespace Cert.AttnProof

open Idealize.ShloMosaic Idealize.ShloMosaic.TcCoe
open Cert.AttnRefIdeal Cert.AttnRefIdeal.Gen

theorem heads_at (X : Vec Ideal S4096x4096 .bf16) (i : Fin 4096) (h : Fin 16) (d : Fin 256) : heads X (ix3 i h d) = X (ix2 i ⟨h * 256 + d, by omega⟩) := by
  pointwise [heads]
theorem front_at (X : Vec Ideal S4096x4096 .bf16) (i : Fin 4096) (h : Fin 16) (d : Fin 128) : front X (ix3 i h d) = X (ix2 i ⟨h * 256 + d, by omega⟩) :=
  Eq.trans (by pointwise [front]) (heads_at X i h ⟨d, by omega⟩)
theorem back_at (X : Vec Ideal S4096x4096 .bf16) (i : Fin 4096) (h : Fin 16) (d : Fin 128) : back X (ix3 i h d) = X (ix2 i ⟨h * 256 + (128 + d), by omega⟩) :=
  Eq.trans (by pointwise [back]) (heads_at X i h ⟨128 + d, by omega⟩)

theorem r_qk (A B : Vec Ideal S4096x16x128 .f32) (h : Fin 16) (i x : Fin 4096) :
    (Host.dotGeneral (F := Ideal) (φ₁ := .f32) (φ₂ := .f32) dot_S4096x16x128_S4096x16x128_S16x4096x4096_2_2_0_0_1_1 none A B : Vec Ideal S16x4096x4096 .f32) (ix3 h i x)
      = ∑ d : Fin 128, A (ix3 i h d) * B (ix3 x h d) := by
  pointwise []

theorem r_kr (A : Vec Ideal S4096x128 .f32) (B : Vec Ideal S4096x16x128 .f32) (h : Fin 16) (i x : Fin 4096) :
    (transpose S16x4096x4096 [2, 1, 0] (Host.dotGeneral (F := Ideal) (φ₁ := .f32) (φ₂ := .f32) dot_S4096x128_S4096x16x128_S4096x4096x16_1_2_0_01_n_n none A B) transposes_S4096x4096x16_S16x4096x4096_2_1_0 : Vec Ideal S16x4096x4096 .f32) (ix3 h i x)
      = ∑ d : Fin 128, A (ix2 x d) * B (ix3 i h d) := by
  pointwise []

theorem r_max (A : Vec Ideal S16x4096x4096 .f32) (h : Fin 16) (i : Fin 4096) :
    (Host.reduce (α := Ideal .f32) (s := S16x4096x4096) FloatOps.maximumf A (constant (F := Ideal) S_ .f32 0xFF800000#32) reducesTo_S16x4096x4096_S16x4096_d2 h_S_ : Vec Ideal S16x4096 .f32) (ix2 h i)
      = Finset.univ.fold max (Ideal.ofBits .f32 0xFF800000#32) fun x : Fin 4096 => A (ix3 h i x) := by
  pointwise []

theorem r_sum (A : Vec Ideal S16x4096x4096 .f32) (h : Fin 16) (i : Fin 4096) :
    (Host.reduceAdd (F := Ideal) A (constant S_ .f32 0x00000000#32) reducesTo_S16x4096x4096_S16x4096_d2 h_S_ : Vec Ideal S16x4096 .f32) (ix2 h i)
      = ∑ x : Fin 4096, A (ix3 h i x) := by
  pointwise []

theorem r_pv (A : Vec Ideal S4096x16x128 .f32) (B : Vec Ideal S16x4096x4096 .f32) (i : Fin 4096) (h : Fin 16) (d : Fin 128) :
    (transpose S4096x16x128 [2, 0, 1] (Host.dotGeneral (F := Ideal) (φ₁ := .f32) (φ₂ := .f32) dot_S4096x16x128_S16x4096x4096_S16x128x4096_0_2_2_1_1_0 none A B) transposes_S16x128x4096_S4096x16x128_2_0_1 : Vec Ideal S4096x16x128 .f32) (ix3 i h d)
      = ∑ x : Fin 4096, A (ix3 x h d) * B (ix3 h i x) := by
  pointwise []

theorem r_join (A : Vec Ideal S4096x16x128 .f32) (i : Fin 4096) (j : Fin 2048) :
    (shapeCast S4096x2048 A shapeCasts_S4096x16x128_S4096x2048 : Vec Ideal S4096x2048 .f32) (ix2 i j) = A (ix3 i ⟨j / 128, by omega⟩ ⟨j % 128, by omega⟩) := by
  pointwise []

theorem r_bc (A : Vec Ideal S16x4096 .f32) (h : Fin 16) (i x : Fin 4096) :
    (broadcastInDim S16x4096x4096 ![0, 1, 2] bcast_S16x4096x1_S16x4096x4096_0_1_2 (broadcastInDim S16x4096x1 ![0, 1] bcast_S16x4096_S16x4096x1_0_1 A) : Vec Ideal S16x4096x4096 .f32) (ix3 h i x) = A (ix2 h i) := by
  pointwise []

end Cert.AttnProof
-- ==== Proof.Attn.Scores.lean ====
/- The reference's result, entry by entry: the printed program is cut into its stages, and each is read on its own. -/
module

public import proofs.«01_k».proof.Proof.Gen.AttnRefIdeal.Run
public import proofs.«01_k».proof.Proof.Attn.Entry
public import proofs.«01_k».proof.Proof.Attn.Reads
public import Idealize.ShloMosaic.Lib.Pointwise
public import Idealize.ShloMosaic.Lib.WordCmp

@[expose] public section

noncomputable section

namespace Cert.AttnProof

open Idealize.ShloMosaic Idealize.ShloMosaic.TcCoe
open Cert.AttnRefIdeal Cert.AttnRefIdeal.Gen

theorem scores_entry (Q KV : Vec Ideal S4096x4096 .bf16) (KR : Vec Ideal S4096x128 .bf16) (h : Fin 16) (i x : Fin 4096) :
    scores Q KV KR (ix3 h i x) = (∑ d : Fin 128, Q (ix2 i ⟨h * 256 + d, by omega⟩) * KV (ix2 x ⟨h * 256 + d, by omega⟩))
      + (∑ d : Fin 128, KR (ix2 x d) * Q (ix2 i ⟨h * 256 + (128 + d), by omega⟩)) := by
  refine congrArg₂ (· + ·) ((r_qk _ _ h i x).trans (Finset.sum_congr rfl fun d _ => ?_)) ((r_kr _ _ h i x).trans (Finset.sum_congr rfl fun d _ => ?_))
  · rw [front_at, front_at]
  · rw [back_at]; rfl

theorem mask_entry (A : Vec Ideal S16x4096x4096 .f32) (h : Fin 16) (i x : Fin 4096) :
    mask A (ix3 h i x) = Scalar.select (IntOp.cmpi .sle (BitVec.ofNat 32 x) (BitVec.ofNat 32 i)) (A (ix3 h i x)) (Ideal.ofBits .f32 0xFF800000#32) := by
  pointwise [mask]
  rfl

end Cert.AttnProof
-- ==== Proof.Attn.Soft.lean ====
/- The reference's result, entry by entry: the printed program is cut into its stages, and each is read on its own. -/
module

public import proofs.«01_k».proof.Proof.Gen.AttnRefIdeal.Run
public import proofs.«01_k».proof.Proof.Attn.Entry
public import proofs.«01_k».proof.Proof.Attn.Reads
public import Idealize.ShloMosaic.Lib.Pointwise
public import Idealize.ShloMosaic.Lib.WordCmp

@[expose] public section

noncomputable section

namespace Cert.AttnProof

open Idealize.ShloMosaic Idealize.ShloMosaic.TcCoe
open Cert.AttnRefIdeal Cert.AttnRefIdeal.Gen

theorem max_at (X Y : Vec Ideal S16x4096 .f32) (i : S16x4096.Idx) : (maximumf (F := Ideal) (φ := .f32) X Y : Vec Ideal S16x4096 .f32) i = max (X i) (Y i) := rfl

theorem word_at (w : BitVec 32) (i : S16x4096.Idx) :
    broadcastInDim (α := Ideal .f32) S16x4096 ![] bcast_S_S16x4096 (constant (F := Ideal) S_ .f32 w) i = Ideal.ofBits .f32 w := rfl

theorem top_entry (A : Vec Ideal S16x4096x4096 .f32) (h : Fin 16) (i : Fin 4096) :
    top A (ix2 h i) = max (Ideal.ofBits .f32 0xFF800000#32) (Finset.univ.fold max (Ideal.ofBits .f32 0xFF800000#32) fun y : Fin 4096 => A (ix3 h i y)) := by
  unfold top
  exact (max_at _ _ (ix2 h i)).trans (congrArg₂ max (word_at 0xFF800000#32 (ix2 h i)) (r_max A h i))

theorem expo_entry (A : Vec Ideal S16x4096x4096 .f32) (h : Fin 16) (i x : Fin 4096) :
    expo A (ix3 h i x) = Ideal.exp (A (ix3 h i x) - max (Ideal.ofBits .f32 0xFF800000#32)
      (Finset.univ.fold max (Ideal.ofBits .f32 0xFF800000#32) fun y : Fin 4096 => A (ix3 h i y))) :=
  congrArg (fun y => Ideal.exp (A (ix3 h i x) - y)) ((r_bc (top A) h i x).trans (top_entry A h i))

theorem soft_entry (A : Vec Ideal S16x4096x4096 .f32) (h : Fin 16) (i x : Fin 4096) :
    soft A (ix3 h i x) = Ideal.div (expo A (ix3 h i x)) (∑ y : Fin 4096, expo A (ix3 h i y)) := by
  refine congrArg (Ideal.div (expo A (ix3 h i x))) ((r_bc _ h i x).trans (r_sum (expo A) h i))

end Cert.AttnProof
-- ==== Proof.Attn.Ref.lean ====
/- The reference's result, entry by entry: the printed program is cut into its stages, and each is read on its own. -/
module

public import proofs.«01_k».proof.Proof.Gen.AttnRefIdeal.Run
public import proofs.«01_k».proof.Proof.Attn.Entry
public import proofs.«01_k».proof.Proof.Attn.Printed
public import proofs.«01_k».proof.Proof.Attn.Scores
public import proofs.«01_k».proof.Proof.Attn.Soft
public import Idealize.ShloMosaic.Lib.Pointwise
public import Idealize.ShloMosaic.Lib.WordCmp

@[expose] public section

noncomputable section

namespace Cert.AttnProof

open Idealize.ShloMosaic Idealize.ShloMosaic.TcCoe
open Cert.AttnRefIdeal Cert.AttnRefIdeal.Gen

theorem ref_at (m : (ℓ : Loc nD τ sig) → Buf (Elt Ideal) ℓ) (c : Dev nD) (q kv kr : ℕ → ℕ → ℝ)
    (hq : ∀ i j : Fin 4096, m (c.tc.loc main_arg2) (ix2 i j) = (q i j : EReal))
    (hkv : ∀ i j : Fin 4096, m (c.tc.loc main_arg3) (ix2 i j) = (kv i j : EReal))
    (hkr : ∀ (i : Fin 4096) (j : Fin 128), m (c.tc.loc main_arg4) (ix2 i j) = (kr i j : EReal)) (i : Fin 4096) (j : Fin 2048) :
    Value.res_main_v32 m c (ix2 i j) = (attn q kv kr (j / 128) i (j % 128) : EReal) := by
  rw [stages]
  refine (r_join _ i j).trans ((r_pv _ _ i _ _).trans ?_)
  have e := score_at q kv kr (fun i j => m (c.tc.loc main_arg2) (ix2 i j)) (fun i j => m (c.tc.loc main_arg3) (ix2 i j))
    (fun i j => m (c.tc.loc main_arg4) (ix2 i j)) hq hkv hkr
  generalize hA : mask (scores (m (c.tc.loc main_arg2)) (m (c.tc.loc main_arg3)) (m (c.tc.loc main_arg4))) = A
  have hs : ∀ x : Fin 4096, A (ix3 (⟨j / 128, by omega⟩ : Fin 16) i x) = masked (fun y : Fin 4096 => (y : ℕ) ≤ i) (fun y => sc q kv kr (j / 128) i y) x := by
    intro x
    rw [← hA, mask_entry, scores_entry]
    by_cases h : (x : ℕ) ≤ i
    · rw [(WordCmp.cmpi_sle_ofNat_eq_one_iff (by omega) (by omega)).mpr h, masked, if_pos h]
      exact e i x j
    · rw [(WordCmp.cmpi_sle_ofNat_eq_zero_iff (by omega) (by omega)).mpr (by simpa using h), masked, if_neg h]
      exact ninf
  refine Eq.trans (Finset.sum_congr rfl fun x _ => ?_)
    (row_at q kv kr (j / 128) (j % 128) i (fun x => A (ix3 (⟨j / 128, by omega⟩ : Fin 16) i x)) (fun x => (kv x (256 * (j / 128) + (128 + j % 128)) : EReal))
      (Ideal.ofBits .f32 0xFF800000#32) ninf hs fun x => rfl)
  refine congrArg₂ (· * ·) ?_ ?_
  · refine (back_at _ x _ _).trans ((hkv x _).trans ?_)
    exact congrArg (fun n : ℕ => (kv x n : EReal)) (show (j : ℕ) / 128 * 256 + (128 + j % 128) = 256 * (j / 128) + (128 + j % 128) by omega)
  · rw [soft_entry]
    simp only [expo_entry]

end Cert.AttnProof
-- ==== Proof.Attn.Value.lean ====
/- The claims of the attention's forward pass: the frames under their preconditions, and the two programs' equal results. -/
module

public import proofs.«01_k».proof.Proof.Attn.Pre
public import proofs.«01_k».proof.Proof.Attn.Final
public import proofs.«01_k».proof.Proof.Attn.Ref

@[expose] public section

noncomputable section

namespace Cert.AttnProof

open Idealize.ShloMosaic Idealize.ShloMosaic.TcCoe

theorem frame : Cert.quiescent_Attn (hAttn := Cert.Attn.Gen.facts) (hPre_triangle := Cert.Pre_triangle.Gen.facts) :=
  fun m g h => Cert.Attn.Gen.frame 0 m g (pinned m h)

theorem frame_ideal : Cert.quiescent_AttnIdeal (hAttnIdeal := Cert.AttnIdeal.Gen.facts) (hPre_triangle := Cert.Pre_triangle.Gen.facts) :=
  fun m g h => Cert.AttnIdeal.Gen.frame 0 m g (pinned_ideal m h)

theorem frame_finite : Cert.quiescent_AttnIdeal_pre_finite (hAttnIdeal := Cert.AttnIdeal.Gen.facts) (hPre_finite := Cert.Pre_finite.Gen.facts) :=
  fun m g h => Cert.AttnIdeal.Gen.frame 0 m g (pinned_ideal m (triangle_of_finite m h))

theorem frame_ref : Cert.quiescent_AttnRefIdeal (hAttnRefIdeal := Cert.AttnRefIdeal.Gen.facts) := fun m g _ =>
  (θ_run Cert.AttnRefIdeal.defs _ _).mono
    (fun r h => ⟨fun c => (h c).2, sem_eq_zero_of_no_sems rfl _⟩) (Cert.AttnRefIdeal.Value.run (F := Ideal) m g)

theorem frame_ref_finite : Cert.quiescent_AttnRefIdeal_pre_finite (hAttnRefIdeal := Cert.AttnRefIdeal.Gen.facts) (hPre_finite := Cert.Pre_finite.Gen.facts) :=
  fun m g _ => frame_ref m g trivial

/-- The attention's result is the reference's, on arrays without infinities. -/
theorem algebraic : Cert.algebraic_AttnIdeal_AttnRefIdeal_pre_finite (hAttnIdeal := Cert.AttnIdeal.Gen.facts)
    (hAttnRefIdeal := Cert.AttnRefIdeal.Gen.facts) (hPre_finite := Cert.Pre_finite.Gen.facts) := by
  intro m g m' g' hp hargs
  have hpin := pinned_ideal m (triangle_of_finite m hp)
  refine ⟨fun c => result (entry fun (i j : Fin 4096) => m (c.tc.loc AttnIdeal.main_arg2) (ix2 i j)) (entry fun (i j : Fin 4096) => m (c.tc.loc AttnIdeal.main_arg3) (ix2 i j))
      (entry fun (i : Fin 4096) (j : Fin 128) => m (c.tc.loc AttnIdeal.main_arg4) (ix2 i j)), ?_, ?_⟩
  · refine (θ_run (Cert.AttnIdeal.defs (F := Ideal)) _ _).mono (fun r h c => ⟨?_, h.2 c⟩)
      (θ_run_and (Cert.AttnIdeal.Gen.run_main 0 m g hpin) (Cert.AttnIdeal.Gen.unchanged 0 m g hpin))
    exact ((h.1 c).1 (3 : Fin 5)).trans (final g (reals m hp c))
  · refine (θ_run (Cert.AttnRefIdeal.defs (F := Ideal)) _ _).mono (fun r h c => ⟨(h c).1.trans ?_, (h c).2⟩) (Cert.AttnRefIdeal.Value.run (F := Ideal) m' g')
    obtain ⟨-, -, a2, a3, a4⟩ := hargs c
    have hr := reals m hp c
    funext i
    obtain ⟨a, b, rfl⟩ : ∃ (a : Fin 4096) (b : Fin 2048), i = ix2 a b := ⟨i 0, i 1, eq_ix2 i⟩
    exact ref_at m' c _ _ _ (fun i j => (congrFun a2 (ix2 i j)).trans (hr.q i j)) (fun i j => (congrFun a3 (ix2 i j)).trans (hr.kv i j))
      (fun i j => (congrFun a4 (ix2 i j)).trans (hr.kr i j)) a b

end Cert.AttnProof

end
-- ==== Proof.Conv.Spec.lean ====
/- The gradient of the gated short convolution, one channel at a time: what both programs compute, as functions of the
   columns of their arguments over the extended reals. -/
module

public import Mathlib.Data.EReal.Operations
public import Mathlib.Algebra.BigOperators.Fin

@[expose] public section

noncomputable section

namespace Cert.Conv

/-- A sequence of 4096 positions (one channel of an array). -/
abbrev Col := Fin 4096 → EReal

/-- The sequence `n` positions earlier, zero before the start. -/
def prev (n : Nat) (f : Col) : Col := fun s => if n ≤ s.val then f ⟨s.val - n, by have := s.isLt; omega⟩ else 0

/-- The sequence `n` positions later, zero past the end. -/
def next (n : Nat) (f : Col) : Col := fun s => if h : s.val + n < 4096 then f ⟨s.val + n, h⟩ else 0

/-- The gated input of the convolution. -/
def gated (c u : Col) : Col := fun s => c s * u s

/-- The gradient of the output gate: the incoming gradient times the convolved sequence. -/
def dGate (d c u : Col) (w0 w1 w2 : EReal) : Col := fun s =>
  d s * (w0 * prev 2 (gated c u) s + w1 * prev 1 (gated c u) s + w2 * gated c u s)

/-- The gradient of the gated input: the convolution run backwards over `d * b`. -/
def dGated (d b : Col) (w0 w1 w2 : EReal) : Col := fun s =>
  w2 * gated d b s + w1 * next 1 (gated d b) s + w0 * next 2 (gated d b) s

/-- The three gradients of the projected block: of the output gate, of the input gate and of the value. -/
def dProj (d b c u : Col) (w0 w1 w2 : EReal) (q : Fin 3) : Col := fun s =>
  match q with
  | 0 => dGate d c u w0 w1 w2 s
  | 1 => dGated d b w0 w1 w2 s * u s
  | 2 => dGated d b w0 w1 w2 s * c s

/-- The tap's shifted input. -/
def tap (c u : Col) (q : Fin 3) : Col :=
  match q with
  | 0 => prev 2 (gated c u)
  | 1 => prev 1 (gated c u)
  | 2 => gated c u

/-- The gradient of the convolution's three weights of a channel. -/
def dTap (d b c u : Col) (q : Fin 3) : EReal := ∑ s : Fin 4096, gated d b s * tap c u q s

end Cert.Conv

end
-- ==== Proof.Conv.Kernel.lean ====
/- The kernel's run read channel by channel. -/
module

public import proofs.«01_k».proof.Proof.Gen.KernelIdeal.Value
public import proofs.«01_k».proof.Proof.Conv.Spec
public import Idealize.ShloMosaic.Lib.Pointwise
public import Idealize.ShloMosaic.Lib.Pipeline.ValueKit

@[expose] public section

set_option maxRecDepth 16384

noncomputable section

namespace Cert.Conv

open Cert.KernelIdeal Cert.KernelIdeal.Gen Idealize.ShloMosaic Idealize.ShloMosaic.TcCoe Idealize.SL.Sem

theorem pay7_at (v0 v3 : Vec Ideal S1x4096x128 .bf16) (s : Fin 4096) (l : Fin 128) :
    k0_pay7 v0 v3 (ix2 s l) = gated (fun s => v0 (ix3 0 s l)) (fun s => v3 (ix3 0 s l)) s := by
  pointwise [k0_pay7, k0_pay4, k0_pay5, gated]

/-- A select on "position at least `n`", read as an `if`. -/
theorem select_sge (s n : Nat) (hs : s < 4096) (hn : n < 4096) (A B : EReal) :
    Scalar.select (IntOp.cmpi .sge (BitVec.ofNat 32 s) (BitVec.ofNat 32 n)) A B = if n ≤ s then A else B := by
  have h1 : (BitVec.ofNat 32 s).toInt = s := by
    rw [BitVec.toInt_eq_toNat_of_lt (by rw [BitVec.toNat_ofNat]; omega), BitVec.toNat_ofNat]; omega
  have h2 : (BitVec.ofNat 32 n).toInt = n := by
    rw [BitVec.toInt_eq_toNat_of_lt (by rw [BitVec.toNat_ofNat]; omega), BitVec.toNat_ofNat]; omega
  unfold Scalar.select IntOp.cmpi
  simp only [BitVec.sle, h1, h2]
  by_cases h : n ≤ s <;> simp [h]

/-- A select on "position below `n`", read as an `if`. -/
theorem select_slt (s n : Nat) (hs : s < 4096) (hn : n < 4096) (A B : EReal) :
    Scalar.select (IntOp.cmpi .slt (BitVec.ofNat 32 s) (BitVec.ofNat 32 n)) A B = if s < n then A else B := by
  have h1 : (BitVec.ofNat 32 s).toInt = s := by
    rw [BitVec.toInt_eq_toNat_of_lt (by rw [BitVec.toNat_ofNat]; omega), BitVec.toNat_ofNat]; omega
  have h2 : (BitVec.ofNat 32 n).toInt = n := by
    rw [BitVec.toInt_eq_toNat_of_lt (by rw [BitVec.toNat_ofNat]; omega), BitVec.toNat_ofNat]; omega
  unfold Scalar.select IntOp.cmpi
  simp only [BitVec.slt, h1, h2]
  by_cases h : s < n <;> simp [h]

theorem pay8_at (v0 v3 : Vec Ideal S1x4096x128 .bf16) (s : Fin 4096) (l : Fin 128) :
    k0_pay8 v0 v3 (ix2 s l) = prev 1 (gated (fun s => v0 (ix3 0 s l)) (fun s => v3 (ix3 0 s l))) s := by
  pointwise [k0_pay8, k0_pay7, k0_pay4, k0_pay5, gated, prev]
  refine (select_sge s.val 1 s.isLt (by decide) _ _).trans ?_
  refine if_ctx_congr Iff.rfl (fun h => ?_) fun _ => rfl
  have e : (s.val + 4096 - 1) % 4096 = s.val - 1 := by have := s.isLt; omega
  simp only [e]

theorem pay9_at (v0 v3 : Vec Ideal S1x4096x128 .bf16) (s : Fin 4096) (l : Fin 128) :
    k0_pay9 v0 v3 (ix2 s l) = prev 2 (gated (fun s => v0 (ix3 0 s l)) (fun s => v3 (ix3 0 s l))) s := by
  pointwise [k0_pay9, k0_pay7, k0_pay4, k0_pay5, gated, prev]
  refine (select_sge s.val 2 s.isLt (by decide) _ _).trans ?_
  refine if_ctx_congr Iff.rfl (fun h => ?_) fun _ => rfl
  have e : (s.val + 4096 - 2) % 4096 = s.val - 2 := by have := s.isLt; omega
  simp only [e]

theorem pay11_at (v7 : FVec Ideal S4096x128 .f32) (v36 : Vec Ideal S1x4096x128 .bf16) (s : Fin 4096) (l : Fin 128) :
    k0_pay11 v7 v36 (ix2 s l) = gated (fun s => v7 (ix2 s l)) (fun s => v36 (ix3 0 s l)) s := by
  pointwise [k0_pay11, gated]

set_option maxRecDepth 100000 in
theorem rot1_at (x : FVec Ideal S4096x128 .f32) (s : Fin 4096) (l : Fin 128) :
    select (cmpi .slt (iota .tc S4096x128 32 [0] iota_S4096x128_d0_w32) (broadcast S4096x128 4095#32))
      (dynamicRotate 0 4095#32 none x rotates_S4096x128_d0) (broadcast S4096x128 (Scalar.ofBits (F := Ideal) .f32 0x00000000#32)) (ix2 s l)
      = next 1 (fun s => x (ix2 s l)) s := by
  pointwise []
  refine (select_slt s.val 4095 s.isLt (by decide) _ _).trans ?_
  unfold next
  by_cases h : s.val < 4095
  · rw [if_pos h, dif_pos (by omega)]
    have e : (s.val + 4096 - 4095) % 4096 = s.val + 1 := by omega
    simp only [e]
  · rw [if_neg h, dif_neg (by omega)]

set_option maxRecDepth 100000 in
theorem rot2_at (x : FVec Ideal S4096x128 .f32) (s : Fin 4096) (l : Fin 128) :
    select (cmpi .slt (iota .tc S4096x128 32 [0] iota_S4096x128_d0_w32) (broadcast S4096x128 4094#32))
      (dynamicRotate 0 4094#32 none x rotates_S4096x128_d0) (broadcast S4096x128 (Scalar.ofBits (F := Ideal) .f32 0x00000000#32)) (ix2 s l)
      = next 2 (fun s => x (ix2 s l)) s := by
  pointwise []
  refine (select_slt s.val 4094 s.isLt (by decide) _ _).trans ?_
  unfold next
  by_cases h : s.val < 4094
  · rw [if_pos h, dif_pos (by omega)]
    have e : (s.val + 4096 - 4094) % 4096 = s.val + 2 := by omega
    simp only [e]
  · rw [if_neg h, dif_neg (by omega)]

theorem pay12_at (v7 : FVec Ideal S4096x128 .f32) (v36 : Vec Ideal S1x4096x128 .bf16) (v40 v43 v52 : Vec Ideal S1x128 .f32) (s : Fin 4096) (l : Fin 128) :
    k0_pay12 v7 (iota .tc S4096x128 32 [0] iota_S4096x128_d0_w32) v36 v40 v43 v52 (ix2 s l)
      = dGated (fun s => v7 (ix2 s l)) (fun s => v36 (ix3 0 s l)) (v52 (ix2 0 l)) (v43 (ix2 0 l)) (v40 (ix2 0 l)) s := by
  unfold k0_pay12
  simp only [addf_apply, mulf_apply]
  rw [rot1_at, rot2_at]
  simp only [pay11_at]
  pointwise [dGated]

theorem ld0 (x : Vec Ideal S1x4096x128 .bf16) : View.ld x r0_0 = x := View.ld_unit_lit _ _ (by decide)
theorem ld1 (x : Vec Ideal S4096x128 .bf16) : View.ld x r0_1 = x := View.ld_unit_lit _ _ (by decide)
theorem ld2 (x : Vec Ideal S3x128 .f32) (l : Fin 128) : View.ld x r0_2 (ix2 0 l) = x (ix2 0 l) := by pointwise []
theorem ld3 (x : Vec Ideal S3x128 .f32) (l : Fin 128) : View.ld x r0_3 (ix2 0 l) = x (ix2 1 l) := by pointwise []
theorem ld4 (x : Vec Ideal S3x128 .f32) (l : Fin 128) : View.ld x r0_4 (ix2 0 l) = x (ix2 2 l) := by pointwise []

theorem emb5 (s : Fin 4096) (l : Fin 128) : r0_5.emb (ix3 0 s l) = ix3 0 s l := by
  funext a; apply Fin.ext; rw [ValueKit.rect_emb_unit_val]; match a with | ⟨0, _⟩ => rfl | ⟨1, _⟩ => exact Nat.zero_add _ | ⟨2, _⟩ => exact Nat.zero_add _
theorem emb6 (s : Fin 4096) (l : Fin 128) : r0_6.emb (ix3 0 s l) = ix3 1 s l := by
  funext a; apply Fin.ext; rw [ValueKit.rect_emb_unit_val]; match a with | ⟨0, _⟩ => rfl | ⟨1, _⟩ => exact Nat.zero_add _ | ⟨2, _⟩ => exact Nat.zero_add _
theorem emb7 (s : Fin 4096) (l : Fin 128) : r0_7.emb (ix3 0 s l) = ix3 2 s l := by
  funext a; apply Fin.ext; rw [ValueKit.rect_emb_unit_val]; match a with | ⟨0, _⟩ => rfl | ⟨1, _⟩ => exact Nat.zero_add _ | ⟨2, _⟩ => exact Nat.zero_add _

theorem pay14_at (v2 v7 : FVec Ideal S4096x128 .f32) (v36 : Vec Ideal S1x4096x128 .bf16) (v40 v43 v52 : Vec Ideal S1x128 .f32) (s : Fin 4096) (l : Fin 128) :
    k0_pay14 v2 v7 (iota .tc S4096x128 32 [0] iota_S4096x128_d0_w32) v36 v40 v43 v52 (ix3 0 s l)
      = dGated (fun s => v7 (ix2 s l)) (fun s => v36 (ix3 0 s l)) (v52 (ix2 0 l)) (v43 (ix2 0 l)) (v40 (ix2 0 l)) s * v2 (ix2 s l) := by
  unfold k0_pay14
  pointwise []
  rw [pay12_at]

theorem pay13_at (v2 v7 : FVec Ideal S4096x128 .f32) (v36 : Vec Ideal S1x4096x128 .bf16) (v40 v43 v52 : Vec Ideal S1x128 .f32) (s : Fin 4096) (l : Fin 128) :
    k0_pay13 v2 v7 (iota .tc S4096x128 32 [0] iota_S4096x128_d0_w32) v36 v40 v43 v52 (ix3 0 s l)
      = dGated (fun s => v7 (ix2 s l)) (fun s => v36 (ix3 0 s l)) (v52 (ix2 0 l)) (v43 (ix2 0 l)) (v40 (ix2 0 l)) s * v2 (ix2 s l) := by
  unfold k0_pay13
  pointwise []
  rw [pay12_at]

theorem pay10_at (v0 v3 : Vec Ideal S1x4096x128 .bf16) (v6 : Vec Ideal S4096x128 .bf16) (v20 v23 v27 : Vec Ideal S1x128 .f32) (s : Fin 4096) (l : Fin 128) :
    k0_pay10 v0 v3 v6 v20 v23 v27 (ix3 0 s l)
      = dGate (fun s => v6 (ix2 s l)) (fun s => v0 (ix3 0 s l)) (fun s => v3 (ix3 0 s l)) (v20 (ix2 0 l)) (v23 (ix2 0 l)) (v27 (ix2 0 l)) s := by
  unfold k0_pay10
  pointwise [k0_pay6, dGate]
  rw [pay7_at, pay8_at, pay9_at]

/-- What a grid point leaves in the block of the projected block's gradient. -/
theorem out5_at (x0 : Vec Ideal S4096x128 .bf16) (x1 x2 x3 : Vec Ideal S1x4096x128 .bf16) (x4 : Vec Ideal S3x128 .f32)
    (q : Fin 3) (s : Fin 4096) (l : Fin 128) :
    out0_5 x0 x1 x2 x3 x4 (ix3 q s l)
      = dProj (fun s => x0 (ix2 s l)) (fun s => x1 (ix3 0 s l)) (fun s => x2 (ix3 0 s l)) (fun s => x3 (ix3 0 s l))
          (x4 (ix2 0 l)) (x4 (ix2 1 l)) (x4 (ix2 2 l)) q s := by
  unfold out0_5 k0_pay17 k0_pay16
  rw [ld0, ld0, ld0, ld1]
  refine (View.canon_apply_of_pieces (fun y : S3x4096x128.Idx =>
      dProj (fun s => x0 (ix2 s (y 2))) (fun s => x1 (ix3 0 s (y 2))) (fun s => x2 (ix3 0 s (y 2))) (fun s => x3 (ix3 0 s (y 2)))
          (x4 (ix2 0 (y 2))) (x4 (ix2 1 (y 2))) (x4 (ix2 2 (y 2))) (y 0) (y 1)) _ ?_ (ix3 q s l) (cover0_5 _ _ _ _)).trans rfl
  intro pc hpc
  rcases List.mem_cons.mp hpc with rfl | hpc
  · intro y
    obtain ⟨a, s, l, rfl⟩ : ∃ (a : Fin 1) (s : Fin 4096) (l : Fin 128), y = ix3 a s l := ⟨y 0, y 1, y 2, eq_ix3 y⟩
    obtain rfl : a = 0 := Subsingleton.elim _ _
    refine (pay14_at _ _ _ _ _ _ _ _).trans ?_
    rw [emb7, ld2, ld3, ld4]
    pointwise [k0_pay4, k0_pay6]
    rfl
  rcases List.mem_cons.mp hpc with rfl | hpc
  · intro y
    obtain ⟨a, s, l, rfl⟩ : ∃ (a : Fin 1) (s : Fin 4096) (l : Fin 128), y = ix3 a s l := ⟨y 0, y 1, y 2, eq_ix3 y⟩
    obtain rfl : a = 0 := Subsingleton.elim _ _
    refine (pay13_at _ _ _ _ _ _ _ _).trans ?_
    rw [emb6, ld2, ld3, ld4]
    pointwise [k0_pay5, k0_pay6]
    rfl
  rcases List.mem_cons.mp hpc with rfl | hpc
  · intro y
    obtain ⟨a, s, l, rfl⟩ : ∃ (a : Fin 1) (s : Fin 4096) (l : Fin 128), y = ix3 a s l := ⟨y 0, y 1, y 2, eq_ix3 y⟩
    obtain rfl : a = 0 := Subsingleton.elim _ _
    refine (pay10_at _ _ _ _ _ _ _ _).trans ?_
    rw [emb5, ld2, ld3, ld4]
    rfl
  nomatch hpc

/-- What a grid point leaves in the block of the weights' gradient. -/
theorem out6_at (x0 : Vec Ideal S4096x128 .bf16) (x1 x2 x3 : Vec Ideal S1x4096x128 .bf16) (x4 : Vec Ideal S3x128 .f32)
    (q : Fin 3) (l : Fin 128) :
    out0_6 x0 x1 x2 x3 x4 (ix2 q l)
      = dTap (fun s => x0 (ix2 s l)) (fun s => x1 (ix3 0 s l)) (fun s => x2 (ix3 0 s l)) (fun s => x3 (ix3 0 s l)) q := by
  unfold out0_6 k0_pay18 k0_pay17
  rw [ld0, ld0, ld0, ld1]
  refine (View.canon_apply_of_pieces (fun y : S3x128.Idx =>
      dTap (fun s => x0 (ix2 s (y 1))) (fun s => x1 (ix3 0 s (y 1))) (fun s => x2 (ix3 0 s (y 1))) (fun s => x3 (ix3 0 s (y 1)))
        (y 0)) _ ?_ (ix2 q l) (cover0_6 _ _ _ _)).trans rfl
  intro pc hpc
  rcases List.mem_cons.mp hpc with rfl | hpc
  · intro y
    obtain ⟨a, l, rfl⟩ : ∃ (a : Fin 1) (l : Fin 128), y = ix2 a l := ⟨y 0, y 1, eq_ix2 y⟩
    obtain rfl : a = 0 := Subsingleton.elim _ _
    have he : r0_4.emb (ix2 0 l) = ix2 2 l := by
      funext a; apply Fin.ext; rw [ValueKit.rect_emb_unit_val]; match a with | ⟨0, _⟩ => rfl | ⟨1, _⟩ => exact Nat.zero_add _
    rw [he]
    pointwise [k0_pay3, dTap]
    refine Finset.sum_congr rfl fun s _ => ?_
    rw [pay11_at, pay7_at]; pointwise [k0_pay6]; rfl
  rcases List.mem_cons.mp hpc with rfl | hpc
  · intro y
    obtain ⟨a, l, rfl⟩ : ∃ (a : Fin 1) (l : Fin 128), y = ix2 a l := ⟨y 0, y 1, eq_ix2 y⟩
    obtain rfl : a = 0 := Subsingleton.elim _ _
    have he : r0_3.emb (ix2 0 l) = ix2 1 l := by
      funext a; apply Fin.ext; rw [ValueKit.rect_emb_unit_val]; match a with | ⟨0, _⟩ => rfl | ⟨1, _⟩ => exact Nat.zero_add _
    rw [he]
    pointwise [k0_pay2, dTap]
    refine Finset.sum_congr rfl fun s _ => ?_
    rw [pay11_at, pay8_at]; pointwise [k0_pay6]; rfl
  rcases List.mem_cons.mp hpc with rfl | hpc
  · intro y
    obtain ⟨a, l, rfl⟩ : ∃ (a : Fin 1) (l : Fin 128), y = ix2 a l := ⟨y 0, y 1, eq_ix2 y⟩
    obtain rfl : a = 0 := Subsingleton.elim _ _
    have he : r0_2.emb (ix2 0 l) = ix2 0 l := by
      funext a; apply Fin.ext; rw [ValueKit.rect_emb_unit_val]; match a with | ⟨0, _⟩ => rfl | ⟨1, _⟩ => exact Nat.zero_add _
    rw [he]
    pointwise [k0_pay1, dTap]
    refine Finset.sum_congr rfl fun s _ => ?_
    pointwise [k0_pay15, k0_pay6]; rw [pay9_at, pay11_at]; rfl
  nomatch hpc

end Cert.Conv

end
-- ==== Proof.Conv.Arrays.lean ====
/- What the convolution's backward kernel leaves in its two result arrays. -/
module

public import proofs.«01_k».proof.Proof.Gen.KernelIdeal.Value
public import proofs.«01_k».proof.Proof.Conv.Kernel
public import Idealize.ShloMosaic.Lib.Pipeline.ValueKit

@[expose] public section

noncomputable section

namespace Cert.Conv

open Cert.KernelIdeal Cert.KernelIdeal.Gen Idealize.ShloMosaic Idealize.ShloMosaic.TcCoe

variable (m : (ℓ : Loc nD τ sig) → Buf (Elt Ideal) ℓ)

/-- The projected block's gradient, of the three argument arrays. -/
def dProjArr (d : Vec Ideal S4096x2048 .bf16) (p : Vec Ideal S3x4096x2048 .bf16) (w : Vec Ideal S3x2048 .f32) :
    Vec Ideal S3x4096x2048 .bf16 := fun i =>
  dProj (fun s => d (ix2 s (i 2))) (fun s => p (ix3 0 s (i 2))) (fun s => p (ix3 1 s (i 2))) (fun s => p (ix3 2 s (i 2)))
    (w (ix2 0 (i 2))) (w (ix2 1 (i 2))) (w (ix2 2 (i 2))) (i 0) (i 1)

/-- The weights' gradient, of the two argument arrays it needs. -/
def dTapArr (d : Vec Ideal S4096x2048 .bf16) (p : Vec Ideal S3x4096x2048 .bf16) : Vec Ideal S3x2048 .f32 := fun i =>
  dTap (fun s => d (ix2 s (i 1))) (fun s => p (ix3 0 s (i 1))) (fun s => p (ix3 1 s (i 1))) (fun s => p (ix3 2 s (i 1))) (i 0)

theorem e0 : ∀ t : Fin cfg0.N, win0_0.index t = ![0, (grid0.coords t 0).val] := (by decide +kernel : ∀ t : Fin grid0.N, _)
theorem e1 : ∀ t : Fin cfg0.N, win0_1.index t = ![0, 0, (grid0.coords t 0).val] := (by decide +kernel : ∀ t : Fin grid0.N, _)
theorem e2 : ∀ t : Fin cfg0.N, win0_2.index t = ![1, 0, (grid0.coords t 0).val] := (by decide +kernel : ∀ t : Fin grid0.N, _)
theorem e3 : ∀ t : Fin cfg0.N, win0_3.index t = ![2, 0, (grid0.coords t 0).val] := (by decide +kernel : ∀ t : Fin grid0.N, _)
theorem e4 : ∀ t : Fin cfg0.N, win0_4.index t = ![0, (grid0.coords t 0).val] := (by decide +kernel : ∀ t : Fin grid0.N, _)
theorem e5 : ∀ t : Fin cfg0.N, win0_5.index t = ![0, 0, (grid0.coords t 0).val] := (by decide +kernel : ∀ t : Fin grid0.N, _)
theorem e6 : ∀ t : Fin cfg0.N, win0_6.index t = ![0, (grid0.coords t 0).val] := (by decide +kernel : ∀ t : Fin grid0.N, _)

/-- Column `l` of a point's strip, in the whole array. -/
def col (t : Fin cfg0.N) (l : Fin 128) : Fin 2048 :=
  ⟨(grid0.coords t 0).val * 128 + l.val, by have : (grid0.coords t 0).val < 16 := (grid0.coords t 0).isLt; have := l.isLt; omega⟩

theorem in0 (c : Dev nD) (t : Fin cfg0.N) (s : Fin 4096) (l : Fin 128) :
    iblk m c 0 t (ix2 s l) = m ((c : Thread nD τ).loc main_arg0) (ix2 s (col t l)) := by
  blk_simp [iblk]
  refine (congrFun (V_main_arg0 m c) _).trans (congrArg (m ((c : Thread nD τ).loc main_arg0)) ?_)
  blk_ext [e0, col]
theorem in1 (c : Dev nD) (t : Fin cfg0.N) (s : Fin 4096) (l : Fin 128) :
    iblk m c 1 t (ix3 0 s l) = m ((c : Thread nD τ).loc main_arg1) (ix3 0 s (col t l)) := by
  blk_simp [iblk]
  refine (congrFun (V_main_arg1 m c) _).trans (congrArg (m ((c : Thread nD τ).loc main_arg1)) ?_)
  blk_ext [e1, col]
theorem in2 (c : Dev nD) (t : Fin cfg0.N) (s : Fin 4096) (l : Fin 128) :
    iblk m c 2 t (ix3 0 s l) = m ((c : Thread nD τ).loc main_arg1) (ix3 1 s (col t l)) := by
  blk_simp [iblk]
  refine (congrFun (V_main_arg1 m c) _).trans (congrArg (m ((c : Thread nD τ).loc main_arg1)) ?_)
  blk_ext [e2, col]
theorem in3 (c : Dev nD) (t : Fin cfg0.N) (s : Fin 4096) (l : Fin 128) :
    iblk m c 3 t (ix3 0 s l) = m ((c : Thread nD τ).loc main_arg1) (ix3 2 s (col t l)) := by
  blk_simp [iblk]
  refine (congrFun (V_main_arg1 m c) _).trans (congrArg (m ((c : Thread nD τ).loc main_arg1)) ?_)
  blk_ext [e3, col]
theorem in4 (c : Dev nD) (t : Fin cfg0.N) (q : Fin 3) (l : Fin 128) :
    iblk m c 4 t (ix2 q l) = m ((c : Thread nD τ).loc main_arg2) (ix2 q (col t l)) := by
  blk_simp [iblk]
  refine (congrFun (V_main_arg2 m c) _).trans (congrArg (m ((c : Thread nD τ).loc main_arg2)) ?_)
  blk_ext [e4, col]

theorem final5 (c : Dev nD) : (dats m 0 c).arrAt 5 cfg0.N
    = dProjArr (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨q, s, l, rfl⟩ : ∃ (a : Fin 3) (s : Fin 4096) (l : Fin 128), y = ix3 a s l := ⟨y 0, y 1, y 2, eq_ix3 y⟩
  have he : (win0_5.blk t).view.emb (ix3 q s l) = ix3 q s (col t l) := by blk_ext [e5, col]
  rw [he]
  refine (out5_at _ _ _ _ _ q s l).trans ?_
  simp only [in0, in1, in2, in3, in4]
  rfl

theorem final6 (c : Dev nD) : (dats m 0 c).arrAt 6 cfg0.N
    = dTapArr (m ((c : Thread nD τ).loc main_arg0)) (m ((c : Thread nD τ).loc main_arg1)) := by
  refine (dats m 0 c).arrAt_eq_of_covers 6 _ (by decide +kernel) fun t hf y => ?_
  blk_simp
  rw [after0_6]
  obtain ⟨q, l, rfl⟩ : ∃ (a : Fin 3) (l : Fin 128), y = ix2 a l := ⟨y 0, y 1, eq_ix2 y⟩
  have he : (win0_6.blk t).view.emb (ix2 q l) = ix2 q (col t l) := by blk_ext [e6, col]
  rw [he]
  refine (out6_at _ _ _ _ _ q l).trans ?_
  simp only [in0, in1, in2, in3]
  rfl

end Cert.Conv

end
-- ==== Proof.Conv.Ref.lean ====
/- The reference's gradients read channel by channel. -/
module

public import proofs.«01_k».proof.Proof.Gen.ReferenceIdeal.Read
public import proofs.«01_k».proof.Proof.Conv.Spec
public import Idealize.ShloMosaic.Lib.Pointwise

@[expose] public section

set_option maxRecDepth 16384

noncomputable section

namespace Cert.Conv

open Cert.ReferenceIdeal Cert.ReferenceIdeal.Gen Cert.ReferenceIdeal.Value Cert.ReferenceIdeal.Read Idealize.ShloMosaic Idealize.ShloMosaic.TcCoe

variable (d : Vec Ideal S4096x2048 .bf16) (p : Vec Ideal S3x4096x2048 .bf16) (w : Vec Ideal S3x2048 .f32)

theorem ref_b (s : Fin 4096) (c : Fin 2048) : val_main_v2 (F := Ideal) p (ix2 s c) = p (ix3 0 s c) := by
  pointwise [val_main_v2, val_main_v1, val_main_v0]
theorem ref_c (s : Fin 4096) (c : Fin 2048) : val_main_v4 (F := Ideal) p (ix2 s c) = p (ix3 1 s c) := by
  pointwise [val_main_v4, val_main_v3, val_main_v0]
theorem ref_u (s : Fin 4096) (c : Fin 2048) : val_main_v6 (F := Ideal) p (ix2 s c) = p (ix3 2 s c) := by
  pointwise [val_main_v6, val_main_v5, val_main_v0]
theorem ref_z (s : Fin 4096) (c : Fin 2048) : val_main_v7 (F := Ideal) p (ix2 s c)
    = gated (fun s => p (ix3 1 s c)) (fun s => p (ix3 2 s c)) s := by
  pointwise [val_main_v7]
  rw [ref_c, ref_u]; rfl
theorem ref_z2 (s : Fin 4096) (c : Fin 2048) : val_main_v12 (F := Ideal) p (ix2 s c)
    = prev 2 (gated (fun s => p (ix3 1 s c)) (fun s => p (ix3 2 s c))) s := by
  pointwise [val_main_v12, val_main_v11, val_main_v10, val_main_cst, ref_z]
  unfold prev
  by_cases h : s.val < 2
  · rw [dif_pos h, if_neg (by omega)]
  · rw [dif_neg h]
    exact (if_pos (by omega)).symm
theorem ref_z1 (s : Fin 4096) (c : Fin 2048) : val_main_v21 (F := Ideal) p (ix2 s c)
    = prev 1 (gated (fun s => p (ix3 1 s c)) (fun s => p (ix3 2 s c))) s := by
  pointwise [val_main_v21, val_main_v20, val_main_v19, val_main_cst_1, ref_z]
  unfold prev
  by_cases h : s.val < 1
  · rw [dif_pos h, if_neg (by omega)]
  · rw [dif_neg h]
    exact (if_pos (by omega)).symm
theorem ref_d (s : Fin 4096) (c : Fin 2048) : val_main_v34 (F := Ideal) d (ix2 s c) = d (ix2 s c) := by
  pointwise [val_main_v34]
theorem ref_g (s : Fin 4096) (c : Fin 2048) : val_main_v35 (F := Ideal) d p (ix2 s c)
    = gated (fun s => d (ix2 s c)) (fun s => p (ix3 0 s c)) s := by
  pointwise [val_main_v35]
  rw [ref_b, ref_d, mul_comm]; rfl
theorem ref_t0 (c : Fin 2048) : val_main_v63 (F := Ideal) d p (ix1 c)
    = dTap (fun s => d (ix2 s c)) (fun s => p (ix3 0 s c)) (fun s => p (ix3 1 s c)) (fun s => p (ix3 2 s c)) 0 := by
  pointwise [val_main_v63, val_main_v62, val_main_v61, val_main_v60, val_main_cst_10, val_main_cst_11, ref_g, ref_z2]
  simp only [Finset.univ_unique, Finset.sum_singleton, zero_add]; rfl
theorem ref_t1 (c : Fin 2048) : val_main_v50 (F := Ideal) d p (ix1 c)
    = dTap (fun s => d (ix2 s c)) (fun s => p (ix3 0 s c)) (fun s => p (ix3 1 s c)) (fun s => p (ix3 2 s c)) 1 := by
  pointwise [val_main_v50, val_main_v49, val_main_v48, val_main_v47, val_main_cst_6, val_main_cst_7, ref_g, ref_z1]
  simp only [Finset.univ_unique, Finset.sum_singleton, zero_add]; rfl
theorem ref_t2 (c : Fin 2048) : val_main_v42 (F := Ideal) d p (ix1 c)
    = dTap (fun s => d (ix2 s c)) (fun s => p (ix3 0 s c)) (fun s => p (ix3 1 s c)) (fun s => p (ix3 2 s c)) 2 := by
  pointwise [val_main_v42, val_main_v41, val_main_v40, val_main_v39, val_main_cst_3, val_main_cst_4, ref_g, ref_z]
  simp only [Finset.univ_unique, Finset.sum_singleton, zero_add]; rfl

/-- The reference's gradient of the convolution's weights. -/
theorem ref_dw (q : Fin 3) (c : Fin 2048) : val_main_v70 (F := Ideal) d p (ix2 q c)
    = dTap (fun s => d (ix2 s c)) (fun s => p (ix3 0 s c)) (fun s => p (ix3 1 s c)) (fun s => p (ix3 2 s c)) q := by
  match q with
  | 0 =>
    pointwise [val_main_v70, val_main_v57, val_main_v69, val_main_v68, val_main_v56, val_main_v55, val_main_v44, val_main_v43, val_main_cst_5, val_main_cst_9, val_main_cst_13]
    simp [ref_t0]
  | 1 =>
    pointwise [val_main_v70, val_main_v57, val_main_v69, val_main_v68, val_main_v56, val_main_v55, val_main_v44, val_main_v43, val_main_cst_5, val_main_cst_9, val_main_cst_13]
    simp [ref_t1]
  | 2 =>
    pointwise [val_main_v70, val_main_v57, val_main_v69, val_main_v68, val_main_v56, val_main_v55, val_main_v44, val_main_v43, val_main_cst_5, val_main_cst_9, val_main_cst_13]
    simp [ref_t2]

theorem ref_n1 (s : Fin 4096) (c : Fin 2048) : val_main_v53 (F := Ideal) d p w (ix2 s c)
    = w (ix2 1 c) * next 1 (gated (fun s => d (ix2 s c)) (fun s => p (ix3 0 s c))) s := by
  pointwise [val_main_v53, val_main_v52, val_main_v46, val_main_v45, val_main_v23, val_main_v18, val_main_v17, val_main_cst_8, ref_g]
  unfold next
  by_cases h : s.val < 4095
  · rw [dif_pos h, dif_pos (by omega)]
    exact congrArg (w (ix2 1 c) * gated _ _ ·) (Fin.ext (Nat.add_comm 1 s.val))
  · rw [dif_neg h, dif_neg (by omega), mul_zero]
theorem ref_n2 (s : Fin 4096) (c : Fin 2048) : val_main_v66 (F := Ideal) d p w (ix2 s c)
    = w (ix2 0 c) * next 2 (gated (fun s => d (ix2 s c)) (fun s => p (ix3 0 s c))) s := by
  pointwise [val_main_v66, val_main_v65, val_main_v59, val_main_v58, val_main_v14, val_main_v9, val_main_v8, val_main_cst_12, ref_g]
  unfold next
  by_cases h : s.val < 4094
  · rw [dif_pos h, dif_pos (by omega)]
    exact congrArg (w (ix2 0 c) * gated _ _ ·) (Fin.ext (Nat.add_comm 2 s.val))
  · rw [dif_neg h, dif_neg (by omega), mul_zero]
theorem ref_n0 (s : Fin 4096) (c : Fin 2048) : val_main_v38 (F := Ideal) d p w (ix2 s c)
    = w (ix2 2 c) * gated (fun s => d (ix2 s c)) (fun s => p (ix3 0 s c)) s := by
  pointwise [val_main_v38, val_main_v37, val_main_v29, val_main_v28, val_main_v27, ref_g]
theorem ref_dz (s : Fin 4096) (c : Fin 2048) : val_main_v67 (F := Ideal) d p w (ix2 s c)
    = dGated (fun s => d (ix2 s c)) (fun s => p (ix3 0 s c)) (w (ix2 0 c)) (w (ix2 1 c)) (w (ix2 2 c)) s := by
  pointwise [val_main_v67, val_main_v54, ref_n1, ref_n2, ref_n0]
  rfl
theorem ref_db (s : Fin 4096) (c : Fin 2048) : val_main_v36 (F := Ideal) d p w (ix2 s c)
    = dGate (fun s => d (ix2 s c)) (fun s => p (ix3 1 s c)) (fun s => p (ix3 2 s c)) (w (ix2 0 c)) (w (ix2 1 c)) (w (ix2 2 c)) s := by
  pointwise [val_main_v36, val_main_v32, val_main_v26, val_main_v31, val_main_v16, val_main_v25, val_main_v15, val_main_v14, val_main_v9, val_main_v8,
    val_main_v24, val_main_v23, val_main_v18, val_main_v17, val_main_v30, val_main_v29, val_main_v28, val_main_v27, ref_d, ref_z, ref_z1, ref_z2]
  rfl

/-- The reference's gradient of the projected block. -/
theorem ref_dproj (q : Fin 3) (s : Fin 4096) (c : Fin 2048) : val_main_v77 (F := Ideal) d p w (ix3 q s c)
    = dProj (fun s => d (ix2 s c)) (fun s => p (ix3 0 s c)) (fun s => p (ix3 1 s c)) (fun s => p (ix3 2 s c))
        (w (ix2 0 c)) (w (ix2 1 c)) (w (ix2 2 c)) q s := by
  match q with
  | 0 =>
    pointwise [val_main_v77, val_main_v76, val_main_v73, ref_db]
    rfl
  | 1 =>
    pointwise [val_main_v77, val_main_v76, val_main_v74, val_main_v72, ref_dz, ref_u]
    rfl
  | 2 =>
    pointwise [val_main_v77, val_main_v76, val_main_v75, val_main_v71, ref_dz, ref_c]
    rw [mul_comm]
    rfl

end Cert.Conv

end
-- ==== Proof.lean ====
/- The proof of the claim: the generated frames of the kernels, the references' runs, and for each kernel and reference the
   equation of their result arrays, which the modules beside this one prove. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.DownDx0
public import proofs.«01_k».proof.Proof.Gen.DownDx0.Frame
public import proofs.«01_k».proof.Proof.Gen.DownDx0Ideal
public import proofs.«01_k».proof.Proof.Gen.DownDx0Ideal.Frame
public import proofs.«01_k».proof.Proof.Gen.DownDx0Ideal.Value
public import proofs.«01_k».proof.Proof.Gen.DownDx0RefIdeal
public import proofs.«01_k».proof.Proof.Gen.DownDx0RefIdeal.Run
public import proofs.«01_k».proof.Proof.Gen.DownDx0RefIdeal.Read
public import proofs.«01_k».proof.Proof.Gen.UpDx0
public import proofs.«01_k».proof.Proof.Gen.UpDx0.Frame
public import proofs.«01_k».proof.Proof.Gen.UpDx0Ideal
public import proofs.«01_k».proof.Proof.Gen.UpDx0Ideal.Frame
public import proofs.«01_k».proof.Proof.Gen.UpDx0Ideal.Value
public import proofs.«01_k».proof.Proof.Gen.UpDx0RefIdeal
public import proofs.«01_k».proof.Proof.Gen.UpDx0RefIdeal.Run
public import proofs.«01_k».proof.Proof.Gen.UpDx0RefIdeal.Read
public import proofs.«01_k».proof.Proof.Gen.MlpUp0
public import proofs.«01_k».proof.Proof.Gen.MlpUp0.Frame
public import proofs.«01_k».proof.Proof.Gen.MlpUp0Ideal
public import proofs.«01_k».proof.Proof.Gen.MlpUp0Ideal.Frame
public import proofs.«01_k».proof.Proof.Gen.MlpUp0Ideal.Value
public import proofs.«01_k».proof.Proof.Gen.MlpUp0RefIdeal
public import proofs.«01_k».proof.Proof.Gen.MlpUp0RefIdeal.Run
public import proofs.«01_k».proof.Proof.Gen.MlpUp0RefIdeal.Read
public import proofs.«01_k».proof.Proof.Gen.MlpUp1
public import proofs.«01_k».proof.Proof.Gen.MlpUp1.Frame
public import proofs.«01_k».proof.Proof.Gen.MlpUp1Ideal
public import proofs.«01_k».proof.Proof.Gen.MlpUp1Ideal.Frame
public import proofs.«01_k».proof.Proof.Gen.MlpUp1Ideal.Value
public import proofs.«01_k».proof.Proof.Gen.MlpUp1RefIdeal
public import proofs.«01_k».proof.Proof.Gen.MlpUp1RefIdeal.Run
public import proofs.«01_k».proof.Proof.Gen.MlpUp1RefIdeal.Read
public import proofs.«01_k».proof.Proof.Gen.MlpDown0
public import proofs.«01_k».proof.Proof.Gen.MlpDown0.Frame
public import proofs.«01_k».proof.Proof.Gen.MlpDown0Ideal
public import proofs.«01_k».proof.Proof.Gen.MlpDown0Ideal.Frame
public import proofs.«01_k».proof.Proof.Gen.MlpDown0Ideal.Value
public import proofs.«01_k».proof.Proof.Gen.MlpDown0RefIdeal
public import proofs.«01_k».proof.Proof.Gen.MlpDown0RefIdeal.Run
public import proofs.«01_k».proof.Proof.Gen.MlpDown0RefIdeal.Read
public import proofs.«01_k».proof.Proof.Gen.MlpDown1
public import proofs.«01_k».proof.Proof.Gen.MlpDown1.Frame
public import proofs.«01_k».proof.Proof.Gen.MlpDown1Ideal
public import proofs.«01_k».proof.Proof.Gen.MlpDown1Ideal.Frame
public import proofs.«01_k».proof.Proof.Gen.MlpDown1Ideal.Value
public import proofs.«01_k».proof.Proof.Gen.MlpDown1RefIdeal
public import proofs.«01_k».proof.Proof.Gen.MlpDown1RefIdeal.Run
public import proofs.«01_k».proof.Proof.Gen.MlpDown1RefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.ConvIn
public import proofs.«01_k».proof.Proof.Gen.ConvIn.Frame
public import proofs.«01_k».proof.Proof.Gen.ConvInIdeal
public import proofs.«01_k».proof.Proof.Gen.ConvInIdeal.Frame
public import proofs.«01_k».proof.Proof.Gen.ConvInIdeal.Value
public import proofs.«01_k».proof.Proof.Gen.ConvInRefIdeal
public import proofs.«01_k».proof.Proof.Gen.ConvInRefIdeal.Run
public import proofs.«01_k».proof.Proof.Gen.ConvInRefIdeal.Read
public import proofs.«01_k».proof.Proof.Gen.ConvInDx
public import proofs.«01_k».proof.Proof.Gen.ConvInDx.Frame
public import proofs.«01_k».proof.Proof.Gen.ConvInDxIdeal
public import proofs.«01_k».proof.Proof.Gen.ConvInDxIdeal.Frame
public import proofs.«01_k».proof.Proof.Gen.ConvInDxIdeal.Value
public import proofs.«01_k».proof.Proof.Gen.ConvInDxRefIdeal
public import proofs.«01_k».proof.Proof.Gen.ConvInDxRefIdeal.Run
public import proofs.«01_k».proof.Proof.Gen.ConvInDxRefIdeal.Read
public import proofs.«01_k».proof.Proof.Gen.ConvInDw
public import proofs.«01_k».proof.Proof.Gen.ConvInDw.Frame
public import proofs.«01_k».proof.Proof.Gen.ConvInDwIdeal
public import proofs.«01_k».proof.Proof.Gen.ConvInDwIdeal.Frame
public import proofs.«01_k».proof.Proof.Gen.ConvInDwIdeal.Value
public import proofs.«01_k».proof.Proof.Gen.ConvInDwRefIdeal
public import proofs.«01_k».proof.Proof.Gen.ConvInDwRefIdeal.Run
public import proofs.«01_k».proof.Proof.Gen.ConvInDwRefIdeal.Read
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.KvDx
public import proofs.«01_k».proof.Proof.Gen.KvDx.Frame
public import proofs.«01_k».proof.Proof.Gen.KvDxIdeal
public import proofs.«01_k».proof.Proof.Gen.KvDxIdeal.Frame
public import proofs.«01_k».proof.Proof.Gen.KvDxIdeal.Value
public import proofs.«01_k».proof.Proof.Gen.KvDxRefIdeal
public import proofs.«01_k».proof.Proof.Gen.KvDxRefIdeal.Run
public import proofs.«01_k».proof.Proof.Gen.KvDxRefIdeal.Read
public import proofs.«01_k».proof.Proof.Gen.KvDw
public import proofs.«01_k».proof.Proof.Gen.KvDw.Frame
public import proofs.«01_k».proof.Proof.Gen.KvDwIdeal
public import proofs.«01_k».proof.Proof.Gen.KvDwIdeal.Frame
public import proofs.«01_k».proof.Proof.Gen.KvDwIdeal.Value
public import proofs.«01_k».proof.Proof.Gen.KvDwRefIdeal
public import proofs.«01_k».proof.Proof.Gen.KvDwRefIdeal.Run
public import proofs.«01_k».proof.Proof.Gen.KvDwRefIdeal.Read
public import proofs.«01_k».proof.Proof.Gen.Lat
public import proofs.«01_k».proof.Proof.Gen.Lat.Frame
public import proofs.«01_k».proof.Proof.Gen.LatIdeal
public import proofs.«01_k».proof.Proof.Gen.LatIdeal.Frame
public import proofs.«01_k».proof.Proof.Gen.LatIdeal.Value
public import proofs.«01_k».proof.Proof.Gen.LatRefIdeal
public import proofs.«01_k».proof.Proof.Gen.LatRefIdeal.Run
public import proofs.«01_k».proof.Proof.Gen.LatRefIdeal.Read
public import proofs.«01_k».proof.Proof.Gen.LatDx
public import proofs.«01_k».proof.Proof.Gen.LatDx.Frame
public import proofs.«01_k».proof.Proof.Gen.LatDxIdeal
public import proofs.«01_k».proof.Proof.Gen.LatDxIdeal.Frame
public import proofs.«01_k».proof.Proof.Gen.LatDxIdeal.Value
public import proofs.«01_k».proof.Proof.Gen.LatDxRefIdeal
public import proofs.«01_k».proof.Proof.Gen.LatDxRefIdeal.Run
public import proofs.«01_k».proof.Proof.Gen.LatDxRefIdeal.Read
public import proofs.«01_k».proof.Proof.Gen.LatDw
public import proofs.«01_k».proof.Proof.Gen.LatDw.Frame
public import proofs.«01_k».proof.Proof.Gen.LatDwIdeal
public import proofs.«01_k».proof.Proof.Gen.LatDwIdeal.Frame
public import proofs.«01_k».proof.Proof.Gen.LatDwIdeal.Value
public import proofs.«01_k».proof.Proof.Gen.LatDwRefIdeal
public import proofs.«01_k».proof.Proof.Gen.LatDwRefIdeal.Run
public import proofs.«01_k».proof.Proof.Gen.LatDwRefIdeal.Read
public import proofs.«01_k».proof.Proof.Gen.Bound
public import proofs.«01_k».proof.Proof.Gen.Bound.Frame
public import proofs.«01_k».proof.Proof.Gen.BoundIdeal
public import proofs.«01_k».proof.Proof.Gen.BoundIdeal.Frame
public import proofs.«01_k».proof.Proof.Gen.BoundIdeal.Value
public import proofs.«01_k».proof.Proof.Gen.BoundRefIdeal
public import proofs.«01_k».proof.Proof.Gen.BoundRefIdeal.Run
public import proofs.«01_k».proof.Proof.Gen.BoundRefIdeal.Read
public import proofs.«01_k».proof.Proof.Gen.Bound0
public import proofs.«01_k».proof.Proof.Gen.Bound0.Frame
public import proofs.«01_k».proof.Proof.Gen.Bound0Ideal
public import proofs.«01_k».proof.Proof.Gen.Bound0Ideal.Frame
public import proofs.«01_k».proof.Proof.Gen.Bound0Ideal.Value
public import proofs.«01_k».proof.Proof.Gen.Bound0RefIdeal
public import proofs.«01_k».proof.Proof.Gen.Bound0RefIdeal.Run
public import proofs.«01_k».proof.Proof.Gen.Bound0RefIdeal.Read
public import proofs.«01_k».proof.Proof.Gen.Fwd
public import proofs.«01_k».proof.Proof.Gen.Fwd.Frame
public import proofs.«01_k».proof.Proof.Gen.FwdIdeal
public import proofs.«01_k».proof.Proof.Gen.FwdIdeal.Frame
public import proofs.«01_k».proof.Proof.Gen.FwdIdeal.Value
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.Fwd0
public import proofs.«01_k».proof.Proof.Gen.Fwd0.Frame
public import proofs.«01_k».proof.Proof.Gen.Fwd0Ideal
public import proofs.«01_k».proof.Proof.Gen.Fwd0Ideal.Frame
public import proofs.«01_k».proof.Proof.Gen.Fwd0Ideal.Value
public import proofs.«01_k».proof.Proof.Gen.Fwd0RefIdeal
public import proofs.«01_k».proof.Proof.Gen.Fwd0RefIdeal.Run
public import proofs.«01_k».proof.Proof.Gen.Fwd0RefIdeal.Read
public import proofs.«01_k».proof.Proof.Gen.MlaQ
public import proofs.«01_k».proof.Proof.Gen.MlaQ.Frame
public import proofs.«01_k».proof.Proof.Gen.MlaQIdeal
public import proofs.«01_k».proof.Proof.Gen.MlaQIdeal.Frame
public import proofs.«01_k».proof.Proof.Gen.MlaQIdeal.Value
public import proofs.«01_k».proof.Proof.Gen.MlaQRefIdeal
public import proofs.«01_k».proof.Proof.Gen.MlaQRefIdeal.Run
public import proofs.«01_k».proof.Proof.Gen.MlaQRefIdeal.Read
public import proofs.«01_k».proof.Proof.Mlp.DownDx
public import proofs.«01_k».proof.Proof.Mlp.DownDw
public import proofs.«01_k».proof.Proof.Mlp.UpDx
public import proofs.«01_k».proof.Proof.Mlp.UpDw
public import proofs.«01_k».proof.Proof.Mlp.DownDx0
public import proofs.«01_k».proof.Proof.Mlp.UpDx0
public import proofs.«01_k».proof.Proof.Mlp.MlpUp0
public import proofs.«01_k».proof.Proof.Mlp.MlpUp1
public import proofs.«01_k».proof.Proof.Mlp.MlpDown0
public import proofs.«01_k».proof.Proof.Mlp.MlpDown1
public import proofs.«01_k».proof.Proof.Proj.Out
public import proofs.«01_k».proof.Proof.Proj.OutDx
public import proofs.«01_k».proof.Proof.Proj.OutDw
public import proofs.«01_k».proof.Proof.Proj.ConvIn
public import proofs.«01_k».proof.Proof.Proj.ConvInDx
public import proofs.«01_k».proof.Proof.Proj.ConvInDw
public import proofs.«01_k».proof.Proof.Proj.Kv
public import proofs.«01_k».proof.Proof.Proj.KvDx
public import proofs.«01_k».proof.Proof.Proj.KvDw
public import proofs.«01_k».proof.Proof.Proj.Lat
public import proofs.«01_k».proof.Proof.Proj.LatDx
public import proofs.«01_k».proof.Proof.Proj.LatDw
public import proofs.«01_k».proof.Proof.Norm.Bound
public import proofs.«01_k».proof.Proof.Norm.Bound0
public import proofs.«01_k».proof.Proof.Norm.Fwd
public import proofs.«01_k».proof.Proof.Norm.Fwd0
public import proofs.«01_k».proof.Proof.Gen.Attn
public import proofs.«01_k».proof.Proof.Gen.Attn.Flash
public import proofs.«01_k».proof.Proof.Gen.AttnIdeal
public import proofs.«01_k».proof.Proof.Gen.AttnIdeal.Flash
public import proofs.«01_k».proof.Proof.Gen.AttnRefIdeal
public import proofs.«01_k».proof.Proof.Gen.AttnRefIdeal.Run
public import proofs.«01_k».proof.Proof.Gen.Pre_triangle
public import proofs.«01_k».proof.Proof.Gen.Pre_finite
public import proofs.«01_k».proof.Proof.Proj.MlaQ
public import proofs.«01_k».proof.Proof.Attn.Value
public import proofs.«01_k».proof.Proof.Conv.Arrays
public import proofs.«01_k».proof.Proof.Conv.Ref
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference of the convolution's backward pass runs and leaves its arguments as they were. -/
theorem frame_reference : Cert.quiescent_ReferenceIdeal (hReferenceIdeal := Cert.ReferenceIdeal.Gen.facts) := fun m g _ =>
  (θ_run Cert.ReferenceIdeal.defs _ _).mono
    (fun r h => ⟨fun c => (h c).2.2, sem_eq_zero_of_no_sems rfl _⟩) (Cert.ReferenceIdeal.Value.run (F := Ideal) m g)

/-- The kernel's two gradients of the convolution are the reference's. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, Cert.KernelIdeal.Value.run_blocks (F := Ideal) m g, ?_⟩
  refine (θ_run (Cert.ReferenceIdeal.defs (F := Ideal)) _ _).mono (fun r h c => ?_) (Cert.ReferenceIdeal.Value.run (F := Ideal) m' g')
  obtain ⟨h1, h2, h3⟩ := h c
  obtain ⟨a0, a1, a2⟩ := hargs c
  refine ⟨h1.trans ?_, h2.trans ?_, h3⟩
  · rw [Cert.ReferenceIdeal.Read.val_main_v77_eq, a0, a1, a2]
    refine Eq.trans (funext fun i => ?_) (Cert.Conv.final5 m c).symm
    rw [eq_ix3 i]
    exact Cert.Conv.ref_dproj _ _ _ _ _ _
  · refine (Cert.ReferenceIdeal.Read.val_main_v70_eq _ _).trans ?_
    rw [a0, a1]
    refine Eq.trans (funext fun i => ?_) (Cert.Conv.final6 m c).symm
    rw [eq_ix2 i]
    exact Cert.Conv.ref_dw _ _ _ _

theorem claim : Cert.Claim :=
  ⟨Cert.Kernel.Gen.facts, Cert.KernelIdeal.Gen.facts, Cert.ReferenceIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.DownDx0.Gen.facts, Cert.DownDx0Ideal.Gen.facts, Cert.DownDx0RefIdeal.Gen.facts,
    Cert.UpDx0.Gen.facts, Cert.UpDx0Ideal.Gen.facts, Cert.UpDx0RefIdeal.Gen.facts,
    Cert.MlpUp0.Gen.facts, Cert.MlpUp0Ideal.Gen.facts, Cert.MlpUp0RefIdeal.Gen.facts,
    Cert.MlpUp1.Gen.facts, Cert.MlpUp1Ideal.Gen.facts, Cert.MlpUp1RefIdeal.Gen.facts,
    Cert.MlpDown0.Gen.facts, Cert.MlpDown0Ideal.Gen.facts, Cert.MlpDown0RefIdeal.Gen.facts,
    Cert.MlpDown1.Gen.facts, Cert.MlpDown1Ideal.Gen.facts, Cert.MlpDown1RefIdeal.Gen.facts,
    Cert.Out.Gen.facts, Cert.OutIdeal.Gen.facts, Cert.OutRefIdeal.Gen.facts,
    Cert.OutDx.Gen.facts, Cert.OutDxIdeal.Gen.facts, Cert.OutDxRefIdeal.Gen.facts,
    Cert.OutDw.Gen.facts, Cert.OutDwIdeal.Gen.facts, Cert.OutDwRefIdeal.Gen.facts,
    Cert.ConvIn.Gen.facts, Cert.ConvInIdeal.Gen.facts, Cert.ConvInRefIdeal.Gen.facts,
    Cert.ConvInDx.Gen.facts, Cert.ConvInDxIdeal.Gen.facts, Cert.ConvInDxRefIdeal.Gen.facts,
    Cert.ConvInDw.Gen.facts, Cert.ConvInDwIdeal.Gen.facts, Cert.ConvInDwRefIdeal.Gen.facts,
    Cert.Kv.Gen.facts, Cert.KvIdeal.Gen.facts, Cert.KvRefIdeal.Gen.facts,
    Cert.KvDx.Gen.facts, Cert.KvDxIdeal.Gen.facts, Cert.KvDxRefIdeal.Gen.facts,
    Cert.KvDw.Gen.facts, Cert.KvDwIdeal.Gen.facts, Cert.KvDwRefIdeal.Gen.facts,
    Cert.Lat.Gen.facts, Cert.LatIdeal.Gen.facts, Cert.LatRefIdeal.Gen.facts,
    Cert.LatDx.Gen.facts, Cert.LatDxIdeal.Gen.facts, Cert.LatDxRefIdeal.Gen.facts,
    Cert.LatDw.Gen.facts, Cert.LatDwIdeal.Gen.facts, Cert.LatDwRefIdeal.Gen.facts,
    Cert.Bound.Gen.facts, Cert.BoundIdeal.Gen.facts, Cert.BoundRefIdeal.Gen.facts,
    Cert.Bound0.Gen.facts, Cert.Bound0Ideal.Gen.facts, Cert.Bound0RefIdeal.Gen.facts,
    Cert.Fwd.Gen.facts, Cert.FwdIdeal.Gen.facts, Cert.FwdRefIdeal.Gen.facts,
    Cert.Fwd0.Gen.facts, Cert.Fwd0Ideal.Gen.facts, Cert.Fwd0RefIdeal.Gen.facts,
    Cert.Attn.Gen.facts, Cert.AttnIdeal.Gen.facts, Cert.AttnRefIdeal.Gen.facts, Cert.MlaQ.Gen.facts, Cert.MlaQIdeal.Gen.facts, Cert.MlaQRefIdeal.Gen.facts, Cert.Pre_triangle.Gen.facts, Cert.Pre_finite.Gen.facts,
    fun m g _ => Cert.Kernel.Gen.frame m g, fun m g _ => Cert.KernelIdeal.Gen.frame m g, frame_reference,
    fun m g _ => Cert.DownDx.Gen.frame m g, fun m g _ => Cert.DownDxIdeal.Gen.frame m g, Cert.DownDxProof.frame_ref,
    fun m g _ => Cert.DownDw.Gen.frame m g, fun m g _ => Cert.DownDwIdeal.Gen.frame m g, Cert.DownDwProof.frame_ref,
    fun m g _ => Cert.UpDx.Gen.frame m g, fun m g _ => Cert.UpDxIdeal.Gen.frame m g, Cert.UpDxProof.frame_ref,
    fun m g _ => Cert.UpDw.Gen.frame m g, fun m g _ => Cert.UpDwIdeal.Gen.frame m g, Cert.UpDwProof.frame_ref,
    fun m g _ => Cert.DownDx0.Gen.frame m g, fun m g _ => Cert.DownDx0Ideal.Gen.frame m g, Cert.DownDx0Proof.frame_ref,
    fun m g _ => Cert.UpDx0.Gen.frame m g, fun m g _ => Cert.UpDx0Ideal.Gen.frame m g, Cert.UpDx0Proof.frame_ref,
    fun m g _ => Cert.MlpUp0.Gen.frame m g, fun m g _ => Cert.MlpUp0Ideal.Gen.frame m g, Cert.MlpUp0Proof.frame_ref,
    fun m g _ => Cert.MlpUp1.Gen.frame m g, fun m g _ => Cert.MlpUp1Ideal.Gen.frame m g, Cert.MlpUp1Proof.frame_ref,
    fun m g _ => Cert.MlpDown0.Gen.frame m g, fun m g _ => Cert.MlpDown0Ideal.Gen.frame m g, Cert.MlpDown0Proof.frame_ref,
    fun m g _ => Cert.MlpDown1.Gen.frame m g, fun m g _ => Cert.MlpDown1Ideal.Gen.frame m g, Cert.MlpDown1Proof.frame_ref,
    fun m g _ => Cert.Out.Gen.frame m g, fun m g _ => Cert.OutIdeal.Gen.frame m g, Cert.OutProof.frame_ref,
    fun m g _ => Cert.OutDx.Gen.frame m g, fun m g _ => Cert.OutDxIdeal.Gen.frame m g, Cert.OutDxProof.frame_ref,
    fun m g _ => Cert.OutDw.Gen.frame m g, fun m g _ => Cert.OutDwIdeal.Gen.frame m g, Cert.OutDwProof.frame_ref,
    fun m g _ => Cert.ConvIn.Gen.frame m g, fun m g _ => Cert.ConvInIdeal.Gen.frame m g, Cert.ConvInProof.frame_ref,
    fun m g _ => Cert.ConvInDx.Gen.frame m g, fun m g _ => Cert.ConvInDxIdeal.Gen.frame m g, Cert.ConvInDxProof.frame_ref,
    fun m g _ => Cert.ConvInDw.Gen.frame m g, fun m g _ => Cert.ConvInDwIdeal.Gen.frame m g, Cert.ConvInDwProof.frame_ref,
    fun m g _ => Cert.Kv.Gen.frame m g, fun m g _ => Cert.KvIdeal.Gen.frame m g, Cert.KvProof.frame_ref,
    fun m g _ => Cert.KvDx.Gen.frame m g, fun m g _ => Cert.KvDxIdeal.Gen.frame m g, Cert.KvDxProof.frame_ref,
    fun m g _ => Cert.KvDw.Gen.frame m g, fun m g _ => Cert.KvDwIdeal.Gen.frame m g, Cert.KvDwProof.frame_ref,
    fun m g _ => Cert.Lat.Gen.frame m g, fun m g _ => Cert.LatIdeal.Gen.frame m g, Cert.LatProof.frame_ref,
    fun m g _ => Cert.LatDx.Gen.frame m g, fun m g _ => Cert.LatDxIdeal.Gen.frame m g, Cert.LatDxProof.frame_ref,
    fun m g _ => Cert.LatDw.Gen.frame m g, fun m g _ => Cert.LatDwIdeal.Gen.frame m g, Cert.LatDwProof.frame_ref,
    fun m g _ => Cert.Bound.Gen.frame m g, fun m g _ => Cert.BoundIdeal.Gen.frame m g, Cert.BoundProof.frame_ref,
    fun m g _ => Cert.Bound0.Gen.frame m g, fun m g _ => Cert.Bound0Ideal.Gen.frame m g, Cert.Bound0Proof.frame_ref,
    fun m g _ => Cert.Fwd.Gen.frame m g, fun m g _ => Cert.FwdIdeal.Gen.frame m g, Cert.FwdProof.frame_ref,
    fun m g _ => Cert.Fwd0.Gen.frame m g, fun m g _ => Cert.Fwd0Ideal.Gen.frame m g, Cert.Fwd0Proof.frame_ref,
    Cert.AttnProof.frame, Cert.AttnProof.frame_ideal, Cert.AttnProof.frame_finite, Cert.AttnProof.frame_ref, Cert.AttnProof.frame_ref_finite,
    fun m g _ => Cert.MlaQ.Gen.frame m g, fun m g _ => Cert.MlaQIdeal.Gen.frame m g, Cert.MlaQProof.frame_ref,
    trivial, algebraic,
    trivial, Cert.DownDxProof.algebraic,
    trivial, Cert.DownDwProof.algebraic,
    trivial, Cert.UpDxProof.algebraic,
    trivial, Cert.UpDwProof.algebraic,
    trivial, Cert.DownDx0Proof.algebraic,
    trivial, Cert.UpDx0Proof.algebraic,
    trivial, Cert.MlpUp0Proof.algebraic,
    trivial, Cert.MlpUp1Proof.algebraic,
    trivial, Cert.MlpDown0Proof.algebraic,
    trivial, Cert.MlpDown1Proof.algebraic,
    trivial, Cert.OutProof.algebraic,
    trivial, Cert.OutDxProof.algebraic,
    trivial, Cert.OutDwProof.algebraic,
    trivial, Cert.ConvInProof.algebraic,
    trivial, Cert.ConvInDxProof.algebraic,
    trivial, Cert.ConvInDwProof.algebraic,
    trivial, Cert.KvProof.algebraic,
    trivial, Cert.KvDxProof.algebraic,
    trivial, Cert.KvDwProof.algebraic,
    trivial, Cert.LatProof.algebraic,
    trivial, Cert.LatDxProof.algebraic,
    trivial, Cert.LatDwProof.algebraic,
    trivial, Cert.BoundProof.algebraic,
    trivial, Cert.Bound0Proof.algebraic,
    trivial, Cert.FwdProof.algebraic,
    trivial, Cert.Fwd0Proof.algebraic,
    trivial, Cert.AttnProof.algebraic,
    trivial, Cert.MlaQProof.algebraic⟩

end Cert.Proof

end
